-- ==== Defs.lean ====
def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardIdeal_finite_feed_forward [hPre_finite_feed_forward : Cert.Pre_finite_feed_forward.Facts] (m : (ℓ : Loc Cert.FeedForwardIdeal.nD Cert.FeedForwardIdeal.τ Cert.FeedForwardIdeal.sig) → Buf (Elt Ideal) ℓ) : Prop :=
  ∀ c : Dev Cert.FeedForwardIdeal.nD,
    (Cert.Pre_finite_feed_forward.fn (F := Ideal) (m ((c.tc : Thread Cert.FeedForwardIdeal.nD Cert.FeedForwardIdeal.τ).loc Cert.FeedForwardIdeal.main_arg0)) (m ((c.tc : Thread Cert.FeedForwardIdeal.nD Cert.FeedForwardIdeal.τ).loc Cert.FeedForwardIdeal.main_arg1)) (m ((c.tc : Thread Cert.FeedForwardIdeal.nD Cert.FeedForwardIdeal.τ).loc Cert.FeedForwardIdeal.main_arg2)) (m ((c.tc : Thread Cert.FeedForwardIdeal.nD Cert.FeedForwardIdeal.τ).loc Cert.FeedForwardIdeal.main_arg3))) = (fun _ => 1#1)

def Pre_FeedForwardReferenceIdeal (m : (ℓ : Loc Cert.FeedForwardReferenceIdeal.nD Cert.FeedForwardReferenceIdeal.τ Cert.FeedForwardReferenceIdeal.sig) → Buf (Elt Ideal) ℓ) : Prop :=
  True

def Pre_FeedForwardReferenceIdeal_finite_feed_forward [hPre_finite_feed_forward : Cert.Pre_finite_feed_forward.Facts] (m : (ℓ : Loc Cert.FeedForwardReferenceIdeal.nD Cert.FeedForwardReferenceIdeal.τ Cert.FeedForwardReferenceIdeal.sig) → Buf (Elt Ideal) ℓ) : Prop :=
  ∀ c : Dev Cert.FeedForwardReferenceIdeal.nD,
    (Cert.Pre_finite_feed_forward.fn (F := Ideal) (m ((c.tc : Thread Cert.FeedForwardReferenceIdeal.nD Cert.FeedForwardReferenceIdeal.τ).loc Cert.FeedForwardReferenceIdeal.main_arg0)) (m ((c.tc : Thread Cert.FeedForwardReferenceIdeal.nD Cert.FeedForwardReferenceIdeal.τ).loc Cert.FeedForwardReferenceIdeal.main_arg1)) (m ((c.tc : Thread Cert.FeedForwardReferenceIdeal.nD Cert.FeedForwardReferenceIdeal.τ).loc Cert.FeedForwardReferenceIdeal.main_arg2)) (m ((c.tc : Thread Cert.FeedForwardReferenceIdeal.nD Cert.FeedForwardReferenceIdeal.τ).loc Cert.FeedForwardReferenceIdeal.main_arg3))) = (fun _ => 1#1)

def Pre_FeedForwardDh (m : (ℓ : Loc Cert.FeedForwardDh.nD Cert.FeedForwardDh.τ Cert.FeedForwardDh.sig) → Buf (Elt Bits) ℓ) : Prop :=
  True

def Pre_FeedForwardDhIdeal (m : (ℓ : Loc Cert.FeedForwardDhIdeal.nD Cert.FeedForwardDhIdeal.τ Cert.FeedForwardDhIdeal.sig) → Buf (Elt Ideal) ℓ) : Prop :=
  True

def Pre_FeedForwardDhReferenceIdeal (m : (ℓ : Loc Cert.FeedForwardDhReferenceIdeal.nD Cert.FeedForwardDhReferenceIdeal.τ Cert.FeedForwardDhReferenceIdeal.sig) → Buf (Elt Ideal) ℓ) : Prop :=
  True

def Pre_CrossAttention (m : (ℓ : Loc Cert.CrossAttention.nD Cert.CrossAttention.τ Cert.CrossAttention.sig) → Buf (Elt Bits) ℓ) : Prop :=
  True

def Pre_CrossAttentionIdeal (m : (ℓ : Loc Cert.CrossAttentionIdeal.nD Cert.CrossAttentionIdeal.τ Cert.CrossAttentionIdeal.sig) → Buf (Elt Ideal) ℓ) : Prop :=
  True

def Pre_CrossAttentionIdeal_finite_attention_inputs [hPre_finite_attention_inputs : Cert.Pre_finite_attention_inputs.Facts] (m : (ℓ : Loc Cert.CrossAttentionIdeal.nD Cert.CrossAttentionIdeal.τ Cert.CrossAttentionIdeal.sig) → Buf (Elt Ideal) ℓ) : Prop :=
  ∀ c : Dev Cert.CrossAttentionIdeal.nD,
    (Cert.Pre_finite_attention_inputs.fn (F := Ideal) (m ((c.tc : Thread Cert.CrossAttentionIdeal.nD Cert.CrossAttentionIdeal.τ).loc Cert.CrossAttentionIdeal.main_arg0)) (m ((c.tc : Thread Cert.CrossAttentionIdeal.nD Cert.CrossAttentionIdeal.τ).loc Cert.CrossAttentionIdeal.main_arg1)) (m ((c.tc : Thread Cert.CrossAttentionIdeal.nD Cert.CrossAttentionIdeal.τ).loc Cert.CrossAttentionIdeal.main_arg2)) (m ((c.tc : Thread Cert.CrossAttentionIdeal.nD Cert.CrossAttentionIdeal.τ).loc Cert.CrossAttentionIdeal.main_arg3)) (m ((c.tc : Thread Cert.CrossAttentionIdeal.nD Cert.CrossAttentionIdeal.τ).loc Cert.CrossAttentionIdeal.main_arg4)) (m ((c.tc : Thread Cert.CrossAttentionIdeal.nD Cert.CrossAttentionIdeal.τ).loc Cert.CrossAttentionIdeal.main_arg5))) = (fun _ => 1#1)

def Pre_CrossAttentionReferenceIdeal (m : (ℓ : Loc Cert.CrossAttentionReferenceIdeal.nD Cert.CrossAttentionReferenceIdeal.τ Cert.CrossAttentionReferenceIdeal.sig) → Buf (Elt Ideal) ℓ) : Prop :=
  True

def Pre_CrossAttentionReferenceIdeal_finite_attention_inputs [hPre_finite_attention_inputs : Cert.Pre_finite_attention_inputs.Facts] (m : (ℓ : Loc Cert.CrossAttentionReferenceIdeal.nD Cert.CrossAttentionReferenceIdeal.τ Cert.CrossAttentionReferenceIdeal.sig) → Buf (Elt Ideal) ℓ) : Prop :=
  ∀ c : Dev Cert.CrossAttentionReferenceIdeal.nD,
    (Cert.Pre_finite_attention_inputs.fn (F := Ideal) (m ((c.tc : Thread Cert.CrossAttentionReferenceIdeal.nD Cert.CrossAttentionReferenceIdeal.τ).loc Cert.CrossAttentionReferenceIdeal.main_arg0)) (m ((c.tc : Thread Cert.CrossAttentionReferenceIdeal.nD Cert.CrossAttentionReferenceIdeal.τ).loc Cert.CrossAttentionReferenceIdeal.main_arg1)) (m ((c.tc : Thread Cert.CrossAttentionReferenceIdeal.nD Cert.CrossAttentionReferenceIdeal.τ).loc Cert.CrossAttentionReferenceIdeal.main_arg2)) (m ((c.tc : Thread Cert.CrossAttentionReferenceIdeal.nD Cert.CrossAttentionReferenceIdeal.τ).loc Cert.CrossAttentionReferenceIdeal.main_arg3)) (m ((c.tc : Thread Cert.CrossAttentionReferenceIdeal.nD Cert.CrossAttentionReferenceIdeal.τ).loc Cert.CrossAttentionReferenceIdeal.main_arg4)) (m ((c.tc : Thread Cert.CrossAttentionReferenceIdeal.nD Cert.CrossAttentionReferenceIdeal.τ).loc Cert.CrossAttentionReferenceIdeal.main_arg5))) = (fun _ => 1#1)

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvReferenceIdeal (m : (ℓ : Loc Cert.ShortConvReferenceIdeal.nD Cert.ShortConvReferenceIdeal.τ Cert.ShortConvReferenceIdeal.sig) → Buf (Elt Ideal) ℓ) : Prop :=
  True

def Pre_MixerProducts (m : (ℓ : Loc Cert.MixerProducts.nD Cert.MixerProducts.τ Cert.MixerProducts.sig) → Buf (Elt Bits) ℓ) : Prop :=
  True

def Pre_MixerProductsIdeal (m : (ℓ : Loc Cert.MixerProductsIdeal.nD Cert.MixerProductsIdeal.τ Cert.MixerProductsIdeal.sig) → Buf (Elt Ideal) ℓ) : Prop :=
  True

def Pre_MixerProductsReferenceIdeal (m : (ℓ : Loc Cert.MixerProductsReferenceIdeal.nD Cert.MixerProductsReferenceIdeal.τ Cert.MixerProductsReferenceIdeal.sig) → Buf (Elt Ideal) ℓ) : Prop :=
  True

def Pre_UpdateOne (m : (ℓ : Loc Cert.UpdateOne.nD Cert.UpdateOne.τ Cert.UpdateOne.sig) → Buf (Elt Bits) ℓ) : Prop :=
  True

def Pre_UpdateOneIdeal (m : (ℓ : Loc Cert.UpdateOneIdeal.nD Cert.UpdateOneIdeal.τ Cert.UpdateOneIdeal.sig) → Buf (Elt Ideal) ℓ) : Prop :=
  True

def Pre_UpdateOneReferenceIdeal (m : (ℓ : Loc Cert.UpdateOneReferenceIdeal.nD Cert.UpdateOneReferenceIdeal.τ Cert.UpdateOneReferenceIdeal.sig) → Buf (Elt Ideal) ℓ) : Prop :=
  True

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3))
      ∧ r.2.sem = fun _ => 0)

def quiescent_FeedForwardIdeal_pre_finite_feed_forward [hFeedForwardIdeal : Cert.FeedForwardIdeal.Facts] [hPre_finite_feed_forward : Cert.Pre_finite_feed_forward.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal_finite_feed_forward m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3))
      ∧ r.2.sem = fun _ => 0)

def quiescent_FeedForwardReferenceIdeal [hFeedForwardReferenceIdeal : Cert.FeedForwardReferenceIdeal.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3))
      ∧ r.2.sem = fun _ => 0)

def quiescent_FeedForwardReferenceIdeal_pre_finite_feed_forward [hFeedForwardReferenceIdeal : Cert.FeedForwardReferenceIdeal.Facts] [hPre_finite_feed_forward : Cert.Pre_finite_feed_forward.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal_finite_feed_forward m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3))
      ∧ r.2.sem = fun _ => 0)

def quiescent_FeedForwardDh [hFeedForwardDh : Cert.FeedForwardDh.Facts] : Prop :=
  ∀ (m : (ℓ : Loc Cert.FeedForwardDh.nD Cert.FeedForwardDh.τ Cert.FeedForwardDh.sig) → Buf (Elt Bits) ℓ) (g : Dev Cert.FeedForwardDh.nD → PrngReg), Pre_FeedForwardDh m →
    θ_run (Cert.FeedForwardDh.defs (F := Bits)) (onTc (τ := Cert.FeedForwardDh.τ) (Cert.FeedForwardDh.main (F := Bits))) ⟨m, fun _ => 0, g⟩ (fun r => (∀ c : Dev Cert.FeedForwardDh.nD,
      r.2.mem ((c.tc : Thread Cert.FeedForwardDh.nD Cert.FeedForwardDh.τ).loc Cert.FeedForwardDh.main_arg0) = m ((c.tc : Thread Cert.FeedForwardDh.nD Cert.FeedForwardDh.τ).loc Cert.FeedForwardDh.main_arg0)
      ∧ r.2.mem ((c.tc : Thread Cert.FeedForwardDh.nD Cert.FeedForwardDh.τ).loc Cert.FeedForwardDh.main_arg1) = m ((c.tc : Thread Cert.FeedForwardDh.nD Cert.FeedForwardDh.τ).loc Cert.FeedForwardDh.main_arg1))
      ∧ r.2.sem = fun _ => 0)

def quiescent_FeedForwardDhIdeal [hFeedForwardDhIdeal : Cert.FeedForwardDhIdeal.Facts] : Prop :=
  ∀ (m : (ℓ : Loc Cert.FeedForwardDhIdeal.nD Cert.FeedForwardDhIdeal.τ Cert.FeedForwardDhIdeal.sig) → Buf (Elt Ideal) ℓ) (g : Dev Cert.FeedForwardDhIdeal.nD → PrngReg), Pre_FeedForwardDhIdeal m →
    θ_run (Cert.FeedForwardDhIdeal.defs (F := Ideal)) (onTc (τ := Cert.FeedForwardDhIdeal.τ) (Cert.FeedForwardDhIdeal.main (F := Ideal))) ⟨m, fun _ => 0, g⟩ (fun r => (∀ c : Dev Cert.FeedForwardDhIdeal.nD,
      r.2.mem ((c.tc : Thread Cert.FeedForwardDhIdeal.nD Cert.FeedForwardDhIdeal.τ).loc Cert.FeedForwardDhIdeal.main_arg0) = m ((c.tc : Thread Cert.FeedForwardDhIdeal.nD Cert.FeedForwardDhIdeal.τ).loc Cert.FeedForwardDhIdeal.main_arg0)
      ∧ r.2.mem ((c.tc : Thread Cert.FeedForwardDhIdeal.nD Cert.FeedForwardDhIdeal.τ).loc Cert.FeedForwardDhIdeal.main_arg1) = m ((c.tc : Thread Cert.FeedForwardDhIdeal.nD Cert.FeedForwardDhIdeal.τ).loc Cert.FeedForwardDhIdeal.main_arg1))
      ∧ r.2.sem = fun _ => 0)

def quiescent_FeedForwardDhReferenceIdeal [hFeedForwardDhReferenceIdeal : Cert.FeedForwardDhReferenceIdeal.Facts] : Prop :=
  ∀ (m : (ℓ : Loc Cert.FeedForwardDhReferenceIdeal.nD Cert.FeedForwardDhReferenceIdeal.τ Cert.FeedForwardDhReferenceIdeal.sig) → Buf (Elt Ideal) ℓ) (g : Dev Cert.FeedForwardDhReferenceIdeal.nD → PrngReg), Pre_FeedForwardDhReferenceIdeal m →
    θ_run (Cert.FeedForwardDhReferenceIdeal.defs (F := Ideal)) (onTc (τ := Cert.FeedForwardDhReferenceIdeal.τ) (Cert.FeedForwardDhReferenceIdeal.main (F := Ideal))) ⟨m, fun _ => 0, g⟩ (fun r => (∀ c : Dev Cert.FeedForwardDhReferenceIdeal.nD,
      r.2.mem ((c.tc : Thread Cert.FeedForwardDhReferenceIdeal.nD Cert.FeedForwardDhReferenceIdeal.τ).loc Cert.FeedForwardDhReferenceIdeal.main_arg0) = m ((c.tc : Thread Cert.FeedForwardDhReferenceIdeal.nD Cert.FeedForwardDhReferenceIdeal.τ).loc Cert.FeedForwardDhReferenceIdeal.main_arg0)
      ∧ r.2.mem ((c.tc : Thread Cert.FeedForwardDhReferenceIdeal.nD Cert.FeedForwardDhReferenceIdeal.τ).loc Cert.FeedForwardDhReferenceIdeal.main_arg1) = m ((c.tc : Thread Cert.FeedForwardDhReferenceIdeal.nD Cert.FeedForwardDhReferenceIdeal.τ).loc Cert.FeedForwardDhReferenceIdeal.main_arg1))
      ∧ r.2.sem = fun _ => 0)

def quiescent_CrossAttention [hCrossAttention : Cert.CrossAttention.Facts] : Prop :=
  ∀ (m : (ℓ : Loc Cert.CrossAttention.nD Cert.CrossAttention.τ Cert.CrossAttention.sig) → Buf (Elt Bits) ℓ) (g : Dev Cert.CrossAttention.nD → PrngReg), Pre_CrossAttention m →
    θ_run (Cert.CrossAttention.defs (F := Bits)) (onTc (τ := Cert.CrossAttention.τ) (Cert.CrossAttention.main (F := Bits))) ⟨m, fun _ => 0, g⟩ (fun r => (∀ c : Dev Cert.CrossAttention.nD,
      r.2.mem ((c.tc : Thread Cert.CrossAttention.nD Cert.CrossAttention.τ).loc Cert.CrossAttention.main_arg0) = m ((c.tc : Thread Cert.CrossAttention.nD Cert.CrossAttention.τ).loc Cert.CrossAttention.main_arg0)
      ∧ r.2.mem ((c.tc : Thread Cert.CrossAttention.nD Cert.CrossAttention.τ).loc Cert.CrossAttention.main_arg1) = m ((c.tc : Thread Cert.CrossAttention.nD Cert.CrossAttention.τ).loc Cert.CrossAttention.main_arg1)
      ∧ r.2.mem ((c.tc : Thread Cert.CrossAttention.nD Cert.CrossAttention.τ).loc Cert.CrossAttention.main_arg2) = m ((c.tc : Thread Cert.CrossAttention.nD Cert.CrossAttention.τ).loc Cert.CrossAttention.main_arg2)
      ∧ r.2.mem ((c.tc : Thread Cert.CrossAttention.nD Cert.CrossAttention.τ).loc Cert.CrossAttention.main_arg3) = m ((c.tc : Thread Cert.CrossAttention.nD Cert.CrossAttention.τ).loc Cert.CrossAttention.main_arg3)
      ∧ r.2.mem ((c.tc : Thread Cert.CrossAttention.nD Cert.CrossAttention.τ).loc Cert.CrossAttention.main_arg4) = m ((c.tc : Thread Cert.CrossAttention.nD Cert.CrossAttention.τ).loc Cert.CrossAttention.main_arg4)
      ∧ r.2.mem ((c.tc : Thread Cert.CrossAttention.nD Cert.CrossAttention.τ).loc Cert.CrossAttention.main_arg5) = m ((c.tc : Thread Cert.CrossAttention.nD Cert.CrossAttention.τ).loc Cert.CrossAttention.main_arg5))
      ∧ r.2.sem = fun _ => 0)

def quiescent_CrossAttentionIdeal [hCrossAttentionIdeal : Cert.CrossAttentionIdeal.Facts] : Prop :=
  ∀ (m : (ℓ : Loc Cert.CrossAttentionIdeal.nD Cert.CrossAttentionIdeal.τ Cert.CrossAttentionIdeal.sig) → Buf (Elt Ideal) ℓ) (g : Dev Cert.CrossAttentionIdeal.nD → PrngReg), Pre_CrossAttentionIdeal m →
    θ_run (Cert.CrossAttentionIdeal.defs (F := Ideal)) (onTc (τ := Cert.CrossAttentionIdeal.τ) (Cert.CrossAttentionIdeal.main (F := Ideal))) ⟨m, fun _ => 0, g⟩ (fun r => (∀ c : Dev Cert.CrossAttentionIdeal.nD,
      r.2.mem ((c.tc : Thread Cert.CrossAttentionIdeal.nD Cert.CrossAttentionIdeal.τ).loc Cert.CrossAttentionIdeal.main_arg0) = m ((c.tc : Thread Cert.CrossAttentionIdeal.nD Cert.CrossAttentionIdeal.τ).loc Cert.CrossAttentionIdeal.main_arg0)
      ∧ r.2.mem ((c.tc : Thread Cert.CrossAttentionIdeal.nD Cert.CrossAttentionIdeal.τ).loc Cert.CrossAttentionIdeal.main_arg1) = m ((c.tc : Thread Cert.CrossAttentionIdeal.nD Cert.CrossAttentionIdeal.τ).loc Cert.CrossAttentionIdeal.main_arg1)
      ∧ r.2.mem ((c.tc : Thread Cert.CrossAttentionIdeal.nD Cert.CrossAttentionIdeal.τ).loc Cert.CrossAttentionIdeal.main_arg2) = m ((c.tc : Thread Cert.CrossAttentionIdeal.nD Cert.CrossAttentionIdeal.τ).loc Cert.CrossAttentionIdeal.main_arg2)
      ∧ r.2.mem ((c.tc : Thread Cert.CrossAttentionIdeal.nD Cert.CrossAttentionIdeal.τ).loc Cert.CrossAttentionIdeal.main_arg3) = m ((c.tc : Thread Cert.CrossAttentionIdeal.nD Cert.CrossAttentionIdeal.τ).loc Cert.CrossAttentionIdeal.main_arg3)
      ∧ r.2.mem ((c.tc : Thread Cert.CrossAttentionIdeal.nD Cert.CrossAttentionIdeal.τ).loc Cert.CrossAttentionIdeal.main_arg4) = m ((c.tc : Thread Cert.CrossAttentionIdeal.nD Cert.CrossAttentionIdeal.τ).loc Cert.CrossAttentionIdeal.main_arg4)
      ∧ r.2.mem ((c.tc : Thread Cert.CrossAttentionIdeal.nD Cert.CrossAttentionIdeal.τ).loc Cert.CrossAttentionIdeal.main_arg5) = m ((c.tc : Thread Cert.CrossAttentionIdeal.nD Cert.CrossAttentionIdeal.τ).loc Cert.CrossAttentionIdeal.main_arg5))
      ∧ r.2.sem = fun _ => 0)

def quiescent_CrossAttentionIdeal_pre_finite_attention_inputs [hCrossAttentionIdeal : Cert.CrossAttentionIdeal.Facts] [hPre_finite_attention_inputs : Cert.Pre_finite_attention_inputs.Facts] : Prop :=
  ∀ (m : (ℓ : Loc Cert.CrossAttentionIdeal.nD Cert.CrossAttentionIdeal.τ Cert.CrossAttentionIdeal.sig) → Buf (Elt Ideal) ℓ) (g : Dev Cert.CrossAttentionIdeal.nD → PrngReg), Pre_CrossAttentionIdeal_finite_attention_inputs m →
    θ_run (Cert.CrossAttentionIdeal.defs (F := Ideal)) (onTc (τ := Cert.CrossAttentionIdeal.τ) (Cert.CrossAttentionIdeal.main (F := Ideal))) ⟨m, fun _ => 0, g⟩ (fun r => (∀ c : Dev Cert.CrossAttentionIdeal.nD,
      r.2.mem ((c.tc : Thread Cert.CrossAttentionIdeal.nD Cert.CrossAttentionIdeal.τ).loc Cert.CrossAttentionIdeal.main_arg0) = m ((c.tc : Thread Cert.CrossAttentionIdeal.nD Cert.CrossAttentionIdeal.τ).loc Cert.CrossAttentionIdeal.main_arg0)
      ∧ r.2.mem ((c.tc : Thread Cert.CrossAttentionIdeal.nD Cert.CrossAttentionIdeal.τ).loc Cert.CrossAttentionIdeal.main_arg1) = m ((c.tc : Thread Cert.CrossAttentionIdeal.nD Cert.CrossAttentionIdeal.τ).loc Cert.CrossAttentionIdeal.main_arg1)
      ∧ r.2.mem ((c.tc : Thread Cert.CrossAttentionIdeal.nD Cert.CrossAttentionIdeal.τ).loc Cert.CrossAttentionIdeal.main_arg2) = m ((c.tc : Thread Cert.CrossAttentionIdeal.nD Cert.CrossAttentionIdeal.τ).loc Cert.CrossAttentionIdeal.main_arg2)
      ∧ r.2.mem ((c.tc : Thread Cert.CrossAttentionIdeal.nD Cert.CrossAttentionIdeal.τ).loc Cert.CrossAttentionIdeal.main_arg3) = m ((c.tc : Thread Cert.CrossAttentionIdeal.nD Cert.CrossAttentionIdeal.τ).loc Cert.CrossAttentionIdeal.main_arg3)
      ∧ r.2.mem ((c.tc : Thread Cert.CrossAttentionIdeal.nD Cert.CrossAttentionIdeal.τ).loc Cert.CrossAttentionIdeal.main_arg4) = m ((c.tc : Thread Cert.CrossAttentionIdeal.nD Cert.CrossAttentionIdeal.τ).loc Cert.CrossAttentionIdeal.main_arg4)
      ∧ r.2.mem ((c.tc : Thread Cert.CrossAttentionIdeal.nD Cert.CrossAttentionIdeal.τ).loc Cert.CrossAttentionIdeal.main_arg5) = m ((c.tc : Thread Cert.CrossAttentionIdeal.nD Cert.CrossAttentionIdeal.τ).loc Cert.CrossAttentionIdeal.main_arg5))
      ∧ r.2.sem = fun _ => 0)

def quiescent_CrossAttentionReferenceIdeal [hCrossAttentionReferenceIdeal : Cert.CrossAttentionReferenceIdeal.Facts] : Prop :=
  ∀ (m : (ℓ : Loc Cert.CrossAttentionReferenceIdeal.nD Cert.CrossAttentionReferenceIdeal.τ Cert.CrossAttentionReferenceIdeal.sig) → Buf (Elt Ideal) ℓ) (g : Dev Cert.CrossAttentionReferenceIdeal.nD → PrngReg), Pre_CrossAttentionReferenceIdeal m →
    θ_run (Cert.CrossAttentionReferenceIdeal.defs (F := Ideal)) (onTc (τ := Cert.CrossAttentionReferenceIdeal.τ) (Cert.CrossAttentionReferenceIdeal.main (F := Ideal))) ⟨m, fun _ => 0, g⟩ (fun r => (∀ c : Dev Cert.CrossAttentionReferenceIdeal.nD,
      r.2.mem ((c.tc : Thread Cert.CrossAttentionReferenceIdeal.nD Cert.CrossAttentionReferenceIdeal.τ).loc Cert.CrossAttentionReferenceIdeal.main_arg0) = m ((c.tc : Thread Cert.CrossAttentionReferenceIdeal.nD Cert.CrossAttentionReferenceIdeal.τ).loc Cert.CrossAttentionReferenceIdeal.main_arg0)
      ∧ r.2.mem ((c.tc : Thread Cert.CrossAttentionReferenceIdeal.nD Cert.CrossAttentionReferenceIdeal.τ).loc Cert.CrossAttentionReferenceIdeal.main_arg1) = m ((c.tc : Thread Cert.CrossAttentionReferenceIdeal.nD Cert.CrossAttentionReferenceIdeal.τ).loc Cert.CrossAttentionReferenceIdeal.main_arg1)
      ∧ r.2.mem ((c.tc : Thread Cert.CrossAttentionReferenceIdeal.nD Cert.CrossAttentionReferenceIdeal.τ).loc Cert.CrossAttentionReferenceIdeal.main_arg2) = m ((c.tc : Thread Cert.CrossAttentionReferenceIdeal.nD Cert.CrossAttentionReferenceIdeal.τ).loc Cert.CrossAttentionReferenceIdeal.main_arg2)
      ∧ r.2.mem ((c.tc : Thread Cert.CrossAttentionReferenceIdeal.nD Cert.CrossAttentionReferenceIdeal.τ).loc Cert.CrossAttentionReferenceIdeal.main_arg3) = m ((c.tc : Thread Cert.CrossAttentionReferenceIdeal.nD Cert.CrossAttentionReferenceIdeal.τ).loc Cert.CrossAttentionReferenceIdeal.main_arg3)
      ∧ r.2.mem ((c.tc : Thread Cert.CrossAttentionReferenceIdeal.nD Cert.CrossAttentionReferenceIdeal.τ).loc Cert.CrossAttentionReferenceIdeal.main_arg4) = m ((c.tc : Thread Cert.CrossAttentionReferenceIdeal.nD Cert.CrossAttentionReferenceIdeal.τ).loc Cert.CrossAttentionReferenceIdeal.main_arg4)
      ∧ r.2.mem ((c.tc : Thread Cert.CrossAttentionReferenceIdeal.nD Cert.CrossAttentionReferenceIdeal.τ).loc Cert.CrossAttentionReferenceIdeal.main_arg5) = m ((c.tc : Thread Cert.CrossAttentionReferenceIdeal.nD Cert.CrossAttentionReferenceIdeal.τ).loc Cert.CrossAttentionReferenceIdeal.main_arg5))
      ∧ r.2.sem = fun _ => 0)

def quiescent_CrossAttentionReferenceIdeal_pre_finite_attention_inputs [hCrossAttentionReferenceIdeal : Cert.CrossAttentionReferenceIdeal.Facts] [hPre_finite_attention_inputs : Cert.Pre_finite_attention_inputs.Facts] : Prop :=
  ∀ (m : (ℓ : Loc Cert.CrossAttentionReferenceIdeal.nD Cert.CrossAttentionReferenceIdeal.τ Cert.CrossAttentionReferenceIdeal.sig) → Buf (Elt Ideal) ℓ) (g : Dev Cert.CrossAttentionReferenceIdeal.nD → PrngReg), Pre_CrossAttentionReferenceIdeal_finite_attention_inputs m →
    θ_run (Cert.CrossAttentionReferenceIdeal.defs (F := Ideal)) (onTc (τ := Cert.CrossAttentionReferenceIdeal.τ) (Cert.CrossAttentionReferenceIdeal.main (F := Ideal))) ⟨m, fun _ => 0, g⟩ (fun r => (∀ c : Dev Cert.CrossAttentionReferenceIdeal.nD,
      r.2.mem ((c.tc : Thread Cert.CrossAttentionReferenceIdeal.nD Cert.CrossAttentionReferenceIdeal.τ).loc Cert.CrossAttentionReferenceIdeal.main_arg0) = m ((c.tc : Thread Cert.CrossAttentionReferenceIdeal.nD Cert.CrossAttentionReferenceIdeal.τ).loc Cert.CrossAttentionReferenceIdeal.main_arg0)
      ∧ r.2.mem ((c.tc : Thread Cert.CrossAttentionReferenceIdeal.nD Cert.CrossAttentionReferenceIdeal.τ).loc Cert.CrossAttentionReferenceIdeal.main_arg1) = m ((c.tc : Thread Cert.CrossAttentionReferenceIdeal.nD Cert.CrossAttentionReferenceIdeal.τ).loc Cert.CrossAttentionReferenceIdeal.main_arg1)
      ∧ r.2.mem ((c.tc : Thread Cert.CrossAttentionReferenceIdeal.nD Cert.CrossAttentionReferenceIdeal.τ).loc Cert.CrossAttentionReferenceIdeal.main_arg2) = m ((c.tc : Thread Cert.CrossAttentionReferenceIdeal.nD Cert.CrossAttentionReferenceIdeal.τ).loc Cert.CrossAttentionReferenceIdeal.main_arg2)
      ∧ r.2.mem ((c.tc : Thread Cert.CrossAttentionReferenceIdeal.nD Cert.CrossAttentionReferenceIdeal.τ).loc Cert.CrossAttentionReferenceIdeal.main_arg3) = m ((c.tc : Thread Cert.CrossAttentionReferenceIdeal.nD Cert.CrossAttentionReferenceIdeal.τ).loc Cert.CrossAttentionReferenceIdeal.main_arg3)
      ∧ r.2.mem ((c.tc : Thread Cert.CrossAttentionReferenceIdeal.nD Cert.CrossAttentionReferenceIdeal.τ).loc Cert.CrossAttentionReferenceIdeal.main_arg4) = m ((c.tc : Thread Cert.CrossAttentionReferenceIdeal.nD Cert.CrossAttentionReferenceIdeal.τ).loc Cert.CrossAttentionReferenceIdeal.main_arg4)
      ∧ r.2.mem ((c.tc : Thread Cert.CrossAttentionReferenceIdeal.nD Cert.CrossAttentionReferenceIdeal.τ).loc Cert.CrossAttentionReferenceIdeal.main_arg5) = m ((c.tc : Thread Cert.CrossAttentionReferenceIdeal.nD Cert.CrossAttentionReferenceIdeal.τ).loc Cert.CrossAttentionReferenceIdeal.main_arg5))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2)
      ∧ r.2.mem ((c.tc : Thread Cert.ShortConv.nD Cert.ShortConv.τ).loc Cert.ShortConv.main_arg3) = m ((c.tc : Thread Cert.ShortConv.nD Cert.ShortConv.τ).loc Cert.ShortConv.main_arg3)
      ∧ r.2.mem ((c.tc : Thread Cert.ShortConv.nD Cert.ShortConv.τ).loc Cert.ShortConv.main_arg4) = m ((c.tc : Thread Cert.ShortConv.nD Cert.ShortConv.τ).loc Cert.ShortConv.main_arg4))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
      ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
      ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4))
      ∧ r.2.sem = fun _ => 0)

def quiescent_ShortConvReferenceIdeal [hShortConvReferenceIdeal : Cert.ShortConvReferenceIdeal.Facts] : Prop :=
  ∀ (m : (ℓ : Loc Cert.ShortConvReferenceIdeal.nD Cert.ShortConvReferenceIdeal.τ Cert.ShortConvReferenceIdeal.sig) → Buf (Elt Ideal) ℓ) (g : Dev Cert.ShortConvReferenceIdeal.nD → PrngReg), Pre_ShortConvReferenceIdeal m →
    θ_run (Cert.ShortConvReferenceIdeal.defs (F := Ideal)) (onTc (τ := Cert.ShortConvReferenceIdeal.τ) (Cert.ShortConvReferenceIdeal.main (F := Ideal))) ⟨m, fun _ => 0, g⟩ (fun r => (∀ c : Dev Cert.ShortConvReferenceIdeal.nD,
      r.2.mem ((c.tc : Thread Cert.ShortConvReferenceIdeal.nD Cert.ShortConvReferenceIdeal.τ).loc Cert.ShortConvReferenceIdeal.main_arg0) = m ((c.tc : Thread Cert.ShortConvReferenceIdeal.nD Cert.ShortConvReferenceIdeal.τ).loc Cert.ShortConvReferenceIdeal.main_arg0)
      ∧ r.2.mem ((c.tc : Thread Cert.ShortConvReferenceIdeal.nD Cert.ShortConvReferenceIdeal.τ).loc Cert.ShortConvReferenceIdeal.main_arg1) = m ((c.tc : Thread Cert.ShortConvReferenceIdeal.nD Cert.ShortConvReferenceIdeal.τ).loc Cert.ShortConvReferenceIdeal.main_arg1)
      ∧ r.2.mem ((c.tc : Thread Cert.ShortConvReferenceIdeal.nD Cert.ShortConvReferenceIdeal.τ).loc Cert.ShortConvReferenceIdeal.main_arg2) = m ((c.tc : Thread Cert.ShortConvReferenceIdeal.nD Cert.ShortConvReferenceIdeal.τ).loc Cert.ShortConvReferenceIdeal.main_arg2)
      ∧ r.2.mem ((c.tc : Thread Cert.ShortConvReferenceIdeal.nD Cert.ShortConvReferenceIdeal.τ).loc Cert.ShortConvReferenceIdeal.main_arg3) = m ((c.tc : Thread Cert.ShortConvReferenceIdeal.nD Cert.ShortConvReferenceIdeal.τ).loc Cert.ShortConvReferenceIdeal.main_arg3)
      ∧ r.2.mem ((c.tc : Thread Cert.ShortConvReferenceIdeal.nD Cert.ShortConvReferenceIdeal.τ).loc Cert.ShortConvReferenceIdeal.main_arg4) = m ((c.tc : Thread Cert.ShortConvReferenceIdeal.nD Cert.ShortConvReferenceIdeal.τ).loc Cert.ShortConvReferenceIdeal.main_arg4))
      ∧ r.2.sem = fun _ => 0)

def quiescent_MixerProducts [hMixerProducts : Cert.MixerProducts.Facts] : Prop :=
  ∀ (m : (ℓ : Loc Cert.MixerProducts.nD Cert.MixerProducts.τ Cert.MixerProducts.sig) → Buf (Elt Bits) ℓ) (g : Dev Cert.MixerProducts.nD → PrngReg), Pre_MixerProducts m →
    θ_run (Cert.MixerProducts.defs (F := Bits)) (onTc (τ := Cert.MixerProducts.τ) (Cert.MixerProducts.main (F := Bits))) ⟨m, fun _ => 0, g⟩ (fun r => (∀ c : Dev Cert.MixerProducts.nD,
      r.2.mem ((c.tc : Thread Cert.MixerProducts.nD Cert.MixerProducts.τ).loc Cert.MixerProducts.main_arg0) = m ((c.tc : Thread Cert.MixerProducts.nD Cert.MixerProducts.τ).loc Cert.MixerProducts.main_arg0)
      ∧ r.2.mem ((c.tc : Thread Cert.MixerProducts.nD Cert.MixerProducts.τ).loc Cert.MixerProducts.main_arg1) = m ((c.tc : Thread Cert.MixerProducts.nD Cert.MixerProducts.τ).loc Cert.MixerProducts.main_arg1)
      ∧ r.2.mem ((c.tc : Thread Cert.MixerProducts.nD Cert.MixerProducts.τ).loc Cert.MixerProducts.main_arg2) = m ((c.tc : Thread Cert.MixerProducts.nD Cert.MixerProducts.τ).loc Cert.MixerProducts.main_arg2)
      ∧ r.2.mem ((c.tc : Thread Cert.MixerProducts.nD Cert.MixerProducts.τ).loc Cert.MixerProducts.main_arg3) = m ((c.tc : Thread Cert.MixerProducts.nD Cert.MixerProducts.τ).loc Cert.MixerProducts.main_arg3)
      ∧ r.2.mem ((c.tc : Thread Cert.MixerProducts.nD Cert.MixerProducts.τ).loc Cert.MixerProducts.main_arg4) = m ((c.tc : Thread Cert.MixerProducts.nD Cert.MixerProducts.τ).loc Cert.MixerProducts.main_arg4)
      ∧ r.2.mem ((c.tc : Thread Cert.MixerProducts.nD Cert.MixerProducts.τ).loc Cert.MixerProducts.main_arg5) = m ((c.tc : Thread Cert.MixerProducts.nD Cert.MixerProducts.τ).loc Cert.MixerProducts.main_arg5))
      ∧ r.2.sem = fun _ => 0)

def quiescent_MixerProductsIdeal [hMixerProductsIdeal : Cert.MixerProductsIdeal.Facts] : Prop :=
  ∀ (m : (ℓ : Loc Cert.MixerProductsIdeal.nD Cert.MixerProductsIdeal.τ Cert.MixerProductsIdeal.sig) → Buf (Elt Ideal) ℓ) (g : Dev Cert.MixerProductsIdeal.nD → PrngReg), Pre_MixerProductsIdeal m →
    θ_run (Cert.MixerProductsIdeal.defs (F := Ideal)) (onTc (τ := Cert.MixerProductsIdeal.τ) (Cert.MixerProductsIdeal.main (F := Ideal))) ⟨m, fun _ => 0, g⟩ (fun r => (∀ c : Dev Cert.MixerProductsIdeal.nD,
      r.2.mem ((c.tc : Thread Cert.MixerProductsIdeal.nD Cert.MixerProductsIdeal.τ).loc Cert.MixerProductsIdeal.main_arg0) = m ((c.tc : Thread Cert.MixerProductsIdeal.nD Cert.MixerProductsIdeal.τ).loc Cert.MixerProductsIdeal.main_arg0)
      ∧ r.2.mem ((c.tc : Thread Cert.MixerProductsIdeal.nD Cert.MixerProductsIdeal.τ).loc Cert.MixerProductsIdeal.main_arg1) = m ((c.tc : Thread Cert.MixerProductsIdeal.nD Cert.MixerProductsIdeal.τ).loc Cert.MixerProductsIdeal.main_arg1)
      ∧ r.2.mem ((c.tc : Thread Cert.MixerProductsIdeal.nD Cert.MixerProductsIdeal.τ).loc Cert.MixerProductsIdeal.main_arg2) = m ((c.tc : Thread Cert.MixerProductsIdeal.nD Cert.MixerProductsIdeal.τ).loc Cert.MixerProductsIdeal.main_arg2)
      ∧ r.2.mem ((c.tc : Thread Cert.MixerProductsIdeal.nD Cert.MixerProductsIdeal.τ).loc Cert.MixerProductsIdeal.main_arg3) = m ((c.tc : Thread Cert.MixerProductsIdeal.nD Cert.MixerProductsIdeal.τ).loc Cert.MixerProductsIdeal.main_arg3)
      ∧ r.2.mem ((c.tc : Thread Cert.MixerProductsIdeal.nD Cert.MixerProductsIdeal.τ).loc Cert.MixerProductsIdeal.main_arg4) = m ((c.tc : Thread Cert.MixerProductsIdeal.nD Cert.MixerProductsIdeal.τ).loc Cert.MixerProductsIdeal.main_arg4)
      ∧ r.2.mem ((c.tc : Thread Cert.MixerProductsIdeal.nD Cert.MixerProductsIdeal.τ).loc Cert.MixerProductsIdeal.main_arg5) = m ((c.tc : Thread Cert.MixerProductsIdeal.nD Cert.MixerProductsIdeal.τ).loc Cert.MixerProductsIdeal.main_arg5))
      ∧ r.2.sem = fun _ => 0)

def quiescent_MixerProductsReferenceIdeal [hMixerProductsReferenceIdeal : Cert.MixerProductsReferenceIdeal.Facts] : Prop :=
  ∀ (m : (ℓ : Loc Cert.MixerProductsReferenceIdeal.nD Cert.MixerProductsReferenceIdeal.τ Cert.MixerProductsReferenceIdeal.sig) → Buf (Elt Ideal) ℓ) (g : Dev Cert.MixerProductsReferenceIdeal.nD → PrngReg), Pre_MixerProductsReferenceIdeal m →
    θ_run (Cert.MixerProductsReferenceIdeal.defs (F := Ideal)) (onTc (τ := Cert.MixerProductsReferenceIdeal.τ) (Cert.MixerProductsReferenceIdeal.main (F := Ideal))) ⟨m, fun _ => 0, g⟩ (fun r => (∀ c : Dev Cert.MixerProductsReferenceIdeal.nD,
      r.2.mem ((c.tc : Thread Cert.MixerProductsReferenceIdeal.nD Cert.MixerProductsReferenceIdeal.τ).loc Cert.MixerProductsReferenceIdeal.main_arg0) = m ((c.tc : Thread Cert.MixerProductsReferenceIdeal.nD Cert.MixerProductsReferenceIdeal.τ).loc Cert.MixerProductsReferenceIdeal.main_arg0)
      ∧ r.2.mem ((c.tc : Thread Cert.MixerProductsReferenceIdeal.nD Cert.MixerProductsReferenceIdeal.τ).loc Cert.MixerProductsReferenceIdeal.main_arg1) = m ((c.tc : Thread Cert.MixerProductsReferenceIdeal.nD Cert.MixerProductsReferenceIdeal.τ).loc Cert.MixerProductsReferenceIdeal.main_arg1)
      ∧ r.2.mem ((c.tc : Thread Cert.MixerProductsReferenceIdeal.nD Cert.MixerProductsReferenceIdeal.τ).loc Cert.MixerProductsReferenceIdeal.main_arg2) = m ((c.tc : Thread Cert.MixerProductsReferenceIdeal.nD Cert.MixerProductsReferenceIdeal.τ).loc Cert.MixerProductsReferenceIdeal.main_arg2)
      ∧ r.2.mem ((c.tc : Thread Cert.MixerProductsReferenceIdeal.nD Cert.MixerProductsReferenceIdeal.τ).loc Cert.MixerProductsReferenceIdeal.main_arg3) = m ((c.tc : Thread Cert.MixerProductsReferenceIdeal.nD Cert.MixerProductsReferenceIdeal.τ).loc Cert.MixerProductsReferenceIdeal.main_arg3)
      ∧ r.2.mem ((c.tc : Thread Cert.MixerProductsReferenceIdeal.nD Cert.MixerProductsReferenceIdeal.τ).loc Cert.MixerProductsReferenceIdeal.main_arg4) = m ((c.tc : Thread Cert.MixerProductsReferenceIdeal.nD Cert.MixerProductsReferenceIdeal.τ).loc Cert.MixerProductsReferenceIdeal.main_arg4)
      ∧ r.2.mem ((c.tc : Thread Cert.MixerProductsReferenceIdeal.nD Cert.MixerProductsReferenceIdeal.τ).loc Cert.MixerProductsReferenceIdeal.main_arg5) = m ((c.tc : Thread Cert.MixerProductsReferenceIdeal.nD Cert.MixerProductsReferenceIdeal.τ).loc Cert.MixerProductsReferenceIdeal.main_arg5))
      ∧ r.2.sem = fun _ => 0)

def quiescent_UpdateOne [hUpdateOne : Cert.UpdateOne.Facts] : Prop :=
  ∀ (m : (ℓ : Loc Cert.UpdateOne.nD Cert.UpdateOne.τ Cert.UpdateOne.sig) → Buf (Elt Bits) ℓ) (g : Dev Cert.UpdateOne.nD → PrngReg), Pre_UpdateOne m →
    θ_run (Cert.UpdateOne.defs (F := Bits)) (onTc (τ := Cert.UpdateOne.τ) (Cert.UpdateOne.main (F := Bits))) ⟨m, fun _ => 0, g⟩ (fun r => (∀ c : Dev Cert.UpdateOne.nD,
      r.2.mem ((c.tc : Thread Cert.UpdateOne.nD Cert.UpdateOne.τ).loc Cert.UpdateOne.main_arg0) = m ((c.tc : Thread Cert.UpdateOne.nD Cert.UpdateOne.τ).loc Cert.UpdateOne.main_arg0)
      ∧ r.2.mem ((c.tc : Thread Cert.UpdateOne.nD Cert.UpdateOne.τ).loc Cert.UpdateOne.main_arg1) = m ((c.tc : Thread Cert.UpdateOne.nD Cert.UpdateOne.τ).loc Cert.UpdateOne.main_arg1)
      ∧ r.2.mem ((c.tc : Thread Cert.UpdateOne.nD Cert.UpdateOne.τ).loc Cert.UpdateOne.main_arg2) = m ((c.tc : Thread Cert.UpdateOne.nD Cert.UpdateOne.τ).loc Cert.UpdateOne.main_arg2)
      ∧ r.2.mem ((c.tc : Thread Cert.UpdateOne.nD Cert.UpdateOne.τ).loc Cert.UpdateOne.main_arg3) = m ((c.tc : Thread Cert.UpdateOne.nD Cert.UpdateOne.τ).loc Cert.UpdateOne.main_arg3)
      ∧ r.2.mem ((c.tc : Thread Cert.UpdateOne.nD Cert.UpdateOne.τ).loc Cert.UpdateOne.main_arg4) = m ((c.tc : Thread Cert.UpdateOne.nD Cert.UpdateOne.τ).loc Cert.UpdateOne.main_arg4)
      ∧ r.2.mem ((c.tc : Thread Cert.UpdateOne.nD Cert.UpdateOne.τ).loc Cert.UpdateOne.main_arg5) = m ((c.tc : Thread Cert.UpdateOne.nD Cert.UpdateOne.τ).loc Cert.UpdateOne.main_arg5)
      ∧ r.2.mem ((c.tc : Thread Cert.UpdateOne.nD Cert.UpdateOne.τ).loc Cert.UpdateOne.main_arg6) = m ((c.tc : Thread Cert.UpdateOne.nD Cert.UpdateOne.τ).loc Cert.UpdateOne.main_arg6)
      ∧ r.2.mem ((c.tc : Thread Cert.UpdateOne.nD Cert.UpdateOne.τ).loc Cert.UpdateOne.main_arg7) = m ((c.tc : Thread Cert.UpdateOne.nD Cert.UpdateOne.τ).loc Cert.UpdateOne.main_arg7))
      ∧ r.2.sem = fun _ => 0)

def quiescent_UpdateOneIdeal [hUpdateOneIdeal : Cert.UpdateOneIdeal.Facts] : Prop :=
  ∀ (m : (ℓ : Loc Cert.UpdateOneIdeal.nD Cert.UpdateOneIdeal.τ Cert.UpdateOneIdeal.sig) → Buf (Elt Ideal) ℓ) (g : Dev Cert.UpdateOneIdeal.nD → PrngReg), Pre_UpdateOneIdeal m →
    θ_run (Cert.UpdateOneIdeal.defs (F := Ideal)) (onTc (τ := Cert.UpdateOneIdeal.τ) (Cert.UpdateOneIdeal.main (F := Ideal))) ⟨m, fun _ => 0, g⟩ (fun r => (∀ c : Dev Cert.UpdateOneIdeal.nD,
      r.2.mem ((c.tc : Thread Cert.UpdateOneIdeal.nD Cert.UpdateOneIdeal.τ).loc Cert.UpdateOneIdeal.main_arg0) = m ((c.tc : Thread Cert.UpdateOneIdeal.nD Cert.UpdateOneIdeal.τ).loc Cert.UpdateOneIdeal.main_arg0)
      ∧ r.2.mem ((c.tc : Thread Cert.UpdateOneIdeal.nD Cert.UpdateOneIdeal.τ).loc Cert.UpdateOneIdeal.main_arg1) = m ((c.tc : Thread Cert.UpdateOneIdeal.nD Cert.UpdateOneIdeal.τ).loc Cert.UpdateOneIdeal.main_arg1)
      ∧ r.2.mem ((c.tc : Thread Cert.UpdateOneIdeal.nD Cert.UpdateOneIdeal.τ).loc Cert.UpdateOneIdeal.main_arg2) = m ((c.tc : Thread Cert.UpdateOneIdeal.nD Cert.UpdateOneIdeal.τ).loc Cert.UpdateOneIdeal.main_arg2)
      ∧ r.2.mem ((c.tc : Thread Cert.UpdateOneIdeal.nD Cert.UpdateOneIdeal.τ).loc Cert.UpdateOneIdeal.main_arg3) = m ((c.tc : Thread Cert.UpdateOneIdeal.nD Cert.UpdateOneIdeal.τ).loc Cert.UpdateOneIdeal.main_arg3)
      ∧ r.2.mem ((c.tc : Thread Cert.UpdateOneIdeal.nD Cert.UpdateOneIdeal.τ).loc Cert.UpdateOneIdeal.main_arg4) = m ((c.tc : Thread Cert.UpdateOneIdeal.nD Cert.UpdateOneIdeal.τ).loc Cert.UpdateOneIdeal.main_arg4)
      ∧ r.2.mem ((c.tc : Thread Cert.UpdateOneIdeal.nD Cert.UpdateOneIdeal.τ).loc Cert.UpdateOneIdeal.main_arg5) = m ((c.tc : Thread Cert.UpdateOneIdeal.nD Cert.UpdateOneIdeal.τ).loc Cert.UpdateOneIdeal.main_arg5)
      ∧ r.2.mem ((c.tc : Thread Cert.UpdateOneIdeal.nD Cert.UpdateOneIdeal.τ).loc Cert.UpdateOneIdeal.main_arg6) = m ((c.tc : Thread Cert.UpdateOneIdeal.nD Cert.UpdateOneIdeal.τ).loc Cert.UpdateOneIdeal.main_arg6)
      ∧ r.2.mem ((c.tc : Thread Cert.UpdateOneIdeal.nD Cert.UpdateOneIdeal.τ).loc Cert.UpdateOneIdeal.main_arg7) = m ((c.tc : Thread Cert.UpdateOneIdeal.nD Cert.UpdateOneIdeal.τ).loc Cert.UpdateOneIdeal.main_arg7))
      ∧ r.2.sem = fun _ => 0)

def quiescent_UpdateOneReferenceIdeal [hUpdateOneReferenceIdeal : Cert.UpdateOneReferenceIdeal.Facts] : Prop :=
  ∀ (m : (ℓ : Loc Cert.UpdateOneReferenceIdeal.nD Cert.UpdateOneReferenceIdeal.τ Cert.UpdateOneReferenceIdeal.sig) → Buf (Elt Ideal) ℓ) (g : Dev Cert.UpdateOneReferenceIdeal.nD → PrngReg), Pre_UpdateOneReferenceIdeal m →
    θ_run (Cert.UpdateOneReferenceIdeal.defs (F := Ideal)) (onTc (τ := Cert.UpdateOneReferenceIdeal.τ) (Cert.UpdateOneReferenceIdeal.main (F := Ideal))) ⟨m, fun _ => 0, g⟩ (fun r => (∀ c : Dev Cert.UpdateOneReferenceIdeal.nD,
      r.2.mem ((c.tc : Thread Cert.UpdateOneReferenceIdeal.nD Cert.UpdateOneReferenceIdeal.τ).loc Cert.UpdateOneReferenceIdeal.main_arg0) = m ((c.tc : Thread Cert.UpdateOneReferenceIdeal.nD Cert.UpdateOneReferenceIdeal.τ).loc Cert.UpdateOneReferenceIdeal.main_arg0)
      ∧ r.2.mem ((c.tc : Thread Cert.UpdateOneReferenceIdeal.nD Cert.UpdateOneReferenceIdeal.τ).loc Cert.UpdateOneReferenceIdeal.main_arg1) = m ((c.tc : Thread Cert.UpdateOneReferenceIdeal.nD Cert.UpdateOneReferenceIdeal.τ).loc Cert.UpdateOneReferenceIdeal.main_arg1)
      ∧ r.2.mem ((c.tc : Thread Cert.UpdateOneReferenceIdeal.nD Cert.UpdateOneReferenceIdeal.τ).loc Cert.UpdateOneReferenceIdeal.main_arg2) = m ((c.tc : Thread Cert.UpdateOneReferenceIdeal.nD Cert.UpdateOneReferenceIdeal.τ).loc Cert.UpdateOneReferenceIdeal.main_arg2)
      ∧ r.2.mem ((c.tc : Thread Cert.UpdateOneReferenceIdeal.nD Cert.UpdateOneReferenceIdeal.τ).loc Cert.UpdateOneReferenceIdeal.main_arg3) = m ((c.tc : Thread Cert.UpdateOneReferenceIdeal.nD Cert.UpdateOneReferenceIdeal.τ).loc Cert.UpdateOneReferenceIdeal.main_arg3)
      ∧ r.2.mem ((c.tc : Thread Cert.UpdateOneReferenceIdeal.nD Cert.UpdateOneReferenceIdeal.τ).loc Cert.UpdateOneReferenceIdeal.main_arg4) = m ((c.tc : Thread Cert.UpdateOneReferenceIdeal.nD Cert.UpdateOneReferenceIdeal.τ).loc Cert.UpdateOneReferenceIdeal.main_arg4)
      ∧ r.2.mem ((c.tc : Thread Cert.UpdateOneReferenceIdeal.nD Cert.UpdateOneReferenceIdeal.τ).loc Cert.UpdateOneReferenceIdeal.main_arg5) = m ((c.tc : Thread Cert.UpdateOneReferenceIdeal.nD Cert.UpdateOneReferenceIdeal.τ).loc Cert.UpdateOneReferenceIdeal.main_arg5)
      ∧ r.2.mem ((c.tc : Thread Cert.UpdateOneReferenceIdeal.nD Cert.UpdateOneReferenceIdeal.τ).loc Cert.UpdateOneReferenceIdeal.main_arg6) = m ((c.tc : Thread Cert.UpdateOneReferenceIdeal.nD Cert.UpdateOneReferenceIdeal.τ).loc Cert.UpdateOneReferenceIdeal.main_arg6)
      ∧ r.2.mem ((c.tc : Thread Cert.UpdateOneReferenceIdeal.nD Cert.UpdateOneReferenceIdeal.τ).loc Cert.UpdateOneReferenceIdeal.main_arg7) = m ((c.tc : Thread Cert.UpdateOneReferenceIdeal.nD Cert.UpdateOneReferenceIdeal.τ).loc Cert.UpdateOneReferenceIdeal.main_arg7))
      ∧ r.2.sem = fun _ => 0)

def preserves_FeedForward_FeedForwardIdeal : Prop :=
  True

def algebraic_FeedForwardIdeal_FeedForwardReferenceIdeal_pre_finite_feed_forward [hFeedForwardIdeal : Cert.FeedForwardIdeal.Facts] [hFeedForwardReferenceIdeal : Cert.FeedForwardReferenceIdeal.Facts] [hPre_finite_feed_forward : Cert.Pre_finite_feed_forward.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardReferenceIdeal.nD Cert.FeedForwardReferenceIdeal.τ Cert.FeedForwardReferenceIdeal.sig) → Buf (Elt Ideal) ℓ) (g' : Dev Cert.FeedForwardReferenceIdeal.nD → PrngReg), Pre_FeedForwardIdeal_finite_feed_forward m →
    (∀ c : Dev Cert.FeedForwardIdeal.nD,
      m' ((c.tc : Thread Cert.FeedForwardReferenceIdeal.nD Cert.FeedForwardReferenceIdeal.τ).loc Cert.FeedForwardReferenceIdeal.main_arg0) = m ((c.tc : Thread Cert.FeedForwardIdeal.nD Cert.FeedForwardIdeal.τ).loc Cert.FeedForwardIdeal.main_arg0)
      ∧ m' ((c.tc : Thread Cert.FeedForwardReferenceIdeal.nD Cert.FeedForwardReferenceIdeal.τ).loc Cert.FeedForwardReferenceIdeal.main_arg1) = m ((c.tc : Thread Cert.FeedForwardIdeal.nD Cert.FeedForwardIdeal.τ).loc Cert.FeedForwardIdeal.main_arg1)
      ∧ m' ((c.tc : Thread Cert.FeedForwardReferenceIdeal.nD Cert.FeedForwardReferenceIdeal.τ).loc Cert.FeedForwardReferenceIdeal.main_arg2) = m ((c.tc : Thread Cert.FeedForwardIdeal.nD Cert.FeedForwardIdeal.τ).loc Cert.FeedForwardIdeal.main_arg2)
      ∧ m' ((c.tc : Thread Cert.FeedForwardReferenceIdeal.nD Cert.FeedForwardReferenceIdeal.τ).loc Cert.FeedForwardReferenceIdeal.main_arg3) = m ((c.tc : Thread Cert.FeedForwardIdeal.nD Cert.FeedForwardIdeal.τ).loc Cert.FeedForwardIdeal.main_arg3)) →
    ∃ (v0 : (c : Dev Cert.FeedForwardIdeal.nD) → Buf (Elt Ideal) ((c.tc : Thread Cert.FeedForwardIdeal.nD Cert.FeedForwardIdeal.τ).loc Cert.FeedForwardIdeal.main_v1)) (v1 : (c : Dev Cert.FeedForwardIdeal.nD) → Buf (Elt Ideal) ((c.tc : Thread Cert.FeedForwardIdeal.nD Cert.FeedForwardIdeal.τ).loc Cert.FeedForwardIdeal.main_v2)) (v2 : (c : Dev Cert.FeedForwardIdeal.nD) → Buf (Elt Ideal) ((c.tc : Thread Cert.FeedForwardIdeal.nD Cert.FeedForwardIdeal.τ).loc Cert.FeedForwardIdeal.main_v3)) (v3 : (c : Dev Cert.FeedForwardIdeal.nD) → Buf (Elt Ideal) ((c.tc : Thread Cert.FeedForwardIdeal.nD Cert.FeedForwardIdeal.τ).loc Cert.FeedForwardIdeal.main_v4)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v1) = v0 c
          ∧ r.2.mem ((c.tc : Thread Cert.FeedForwardIdeal.nD Cert.FeedForwardIdeal.τ).loc Cert.FeedForwardIdeal.main_v2) = v1 c
          ∧ r.2.mem ((c.tc : Thread Cert.FeedForwardIdeal.nD Cert.FeedForwardIdeal.τ).loc Cert.FeedForwardIdeal.main_v3) = v2 c
          ∧ r.2.mem ((c.tc : Thread Cert.FeedForwardIdeal.nD Cert.FeedForwardIdeal.τ).loc Cert.FeedForwardIdeal.main_v4) = v3 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3))
      ∧ θ_run (Cert.FeedForwardReferenceIdeal.defs (F := Ideal)) (onTc (τ := Cert.FeedForwardReferenceIdeal.τ) (Cert.FeedForwardReferenceIdeal.main (F := Ideal))) ⟨m', fun _ => 0, g'⟩ (fun r => ∀ c : Dev Cert.FeedForwardReferenceIdeal.nD,
          r.2.mem ((c.tc : Thread Cert.FeedForwardReferenceIdeal.nD Cert.FeedForwardReferenceIdeal.τ).loc Cert.FeedForwardReferenceIdeal.main_v29) = v0 c
          ∧ r.2.mem ((c.tc : Thread Cert.FeedForwardReferenceIdeal.nD Cert.FeedForwardReferenceIdeal.τ).loc Cert.FeedForwardReferenceIdeal.main_v30) = v1 c
          ∧ r.2.mem ((c.tc : Thread Cert.FeedForwardReferenceIdeal.nD Cert.FeedForwardReferenceIdeal.τ).loc Cert.FeedForwardReferenceIdeal.main_v31) = v2 c
          ∧ r.2.mem ((c.tc : Thread Cert.FeedForwardReferenceIdeal.nD Cert.FeedForwardReferenceIdeal.τ).loc Cert.FeedForwardReferenceIdeal.main_v32) = v3 c
          ∧ r.2.mem ((c.tc : Thread Cert.FeedForwardReferenceIdeal.nD Cert.FeedForwardReferenceIdeal.τ).loc Cert.FeedForwardReferenceIdeal.main_arg0) = m' ((c.tc : Thread Cert.FeedForwardReferenceIdeal.nD Cert.FeedForwardReferenceIdeal.τ).loc Cert.FeedForwardReferenceIdeal.main_arg0)
          ∧ r.2.mem ((c.tc : Thread Cert.FeedForwardReferenceIdeal.nD Cert.FeedForwardReferenceIdeal.τ).loc Cert.FeedForwardReferenceIdeal.main_arg1) = m' ((c.tc : Thread Cert.FeedForwardReferenceIdeal.nD Cert.FeedForwardReferenceIdeal.τ).loc Cert.FeedForwardReferenceIdeal.main_arg1)
          ∧ r.2.mem ((c.tc : Thread Cert.FeedForwardReferenceIdeal.nD Cert.FeedForwardReferenceIdeal.τ).loc Cert.FeedForwardReferenceIdeal.main_arg2) = m' ((c.tc : Thread Cert.FeedForwardReferenceIdeal.nD Cert.FeedForwardReferenceIdeal.τ).loc Cert.FeedForwardReferenceIdeal.main_arg2)
          ∧ r.2.mem ((c.tc : Thread Cert.FeedForwardReferenceIdeal.nD Cert.FeedForwardReferenceIdeal.τ).loc Cert.FeedForwardReferenceIdeal.main_arg3) = m' ((c.tc : Thread Cert.FeedForwardReferenceIdeal.nD Cert.FeedForwardReferenceIdeal.τ).loc Cert.FeedForwardReferenceIdeal.main_arg3))

def preserves_FeedForwardDh_FeedForwardDhIdeal : Prop :=
  True

def algebraic_FeedForwardDhIdeal_FeedForwardDhReferenceIdeal [hFeedForwardDhIdeal : Cert.FeedForwardDhIdeal.Facts] [hFeedForwardDhReferenceIdeal : Cert.FeedForwardDhReferenceIdeal.Facts] : Prop :=
  ∀ (m : (ℓ : Loc Cert.FeedForwardDhIdeal.nD Cert.FeedForwardDhIdeal.τ Cert.FeedForwardDhIdeal.sig) → Buf (Elt Ideal) ℓ) (g : Dev Cert.FeedForwardDhIdeal.nD → PrngReg)
    (m' : (ℓ : Loc Cert.FeedForwardDhReferenceIdeal.nD Cert.FeedForwardDhReferenceIdeal.τ Cert.FeedForwardDhReferenceIdeal.sig) → Buf (Elt Ideal) ℓ) (g' : Dev Cert.FeedForwardDhReferenceIdeal.nD → PrngReg), Pre_FeedForwardDhIdeal m →
    (∀ c : Dev Cert.FeedForwardDhIdeal.nD,
      m' ((c.tc : Thread Cert.FeedForwardDhReferenceIdeal.nD Cert.FeedForwardDhReferenceIdeal.τ).loc Cert.FeedForwardDhReferenceIdeal.main_arg0) = m ((c.tc : Thread Cert.FeedForwardDhIdeal.nD Cert.FeedForwardDhIdeal.τ).loc Cert.FeedForwardDhIdeal.main_arg0)
      ∧ m' ((c.tc : Thread Cert.FeedForwardDhReferenceIdeal.nD Cert.FeedForwardDhReferenceIdeal.τ).loc Cert.FeedForwardDhReferenceIdeal.main_arg1) = m ((c.tc : Thread Cert.FeedForwardDhIdeal.nD Cert.FeedForwardDhIdeal.τ).loc Cert.FeedForwardDhIdeal.main_arg1)) →
    ∃ (v0 : (c : Dev Cert.FeedForwardDhIdeal.nD) → Buf (Elt Ideal) ((c.tc : Thread Cert.FeedForwardDhIdeal.nD Cert.FeedForwardDhIdeal.τ).loc Cert.FeedForwardDhIdeal.main_v0)),
      θ_run (Cert.FeedForwardDhIdeal.defs (F := Ideal)) (onTc (τ := Cert.FeedForwardDhIdeal.τ) (Cert.FeedForwardDhIdeal.main (F := Ideal))) ⟨m, fun _ => 0, g⟩ (fun r => ∀ c : Dev Cert.FeedForwardDhIdeal.nD,
          r.2.mem ((c.tc : Thread Cert.FeedForwardDhIdeal.nD Cert.FeedForwardDhIdeal.τ).loc Cert.FeedForwardDhIdeal.main_v0) = v0 c
          ∧ r.2.mem ((c.tc : Thread Cert.FeedForwardDhIdeal.nD Cert.FeedForwardDhIdeal.τ).loc Cert.FeedForwardDhIdeal.main_arg0) = m ((c.tc : Thread Cert.FeedForwardDhIdeal.nD Cert.FeedForwardDhIdeal.τ).loc Cert.FeedForwardDhIdeal.main_arg0)
          ∧ r.2.mem ((c.tc : Thread Cert.FeedForwardDhIdeal.nD Cert.FeedForwardDhIdeal.τ).loc Cert.FeedForwardDhIdeal.main_arg1) = m ((c.tc : Thread Cert.FeedForwardDhIdeal.nD Cert.FeedForwardDhIdeal.τ).loc Cert.FeedForwardDhIdeal.main_arg1))
      ∧ θ_run (Cert.FeedForwardDhReferenceIdeal.defs (F := Ideal)) (onTc (τ := Cert.FeedForwardDhReferenceIdeal.τ) (Cert.FeedForwardDhReferenceIdeal.main (F := Ideal))) ⟨m', fun _ => 0, g'⟩ (fun r => ∀ c : Dev Cert.FeedForwardDhReferenceIdeal.nD,
          r.2.mem ((c.tc : Thread Cert.FeedForwardDhReferenceIdeal.nD Cert.FeedForwardDhReferenceIdeal.τ).loc Cert.FeedForwardDhReferenceIdeal.main_v16) = v0 c
          ∧ r.2.mem ((c.tc : Thread Cert.FeedForwardDhReferenceIdeal.nD Cert.FeedForwardDhReferenceIdeal.τ).loc Cert.FeedForwardDhReferenceIdeal.main_arg0) = m' ((c.tc : Thread Cert.FeedForwardDhReferenceIdeal.nD Cert.FeedForwardDhReferenceIdeal.τ).loc Cert.FeedForwardDhReferenceIdeal.main_arg0)
          ∧ r.2.mem ((c.tc : Thread Cert.FeedForwardDhReferenceIdeal.nD Cert.FeedForwardDhReferenceIdeal.τ).loc Cert.FeedForwardDhReferenceIdeal.main_arg1) = m' ((c.tc : Thread Cert.FeedForwardDhReferenceIdeal.nD Cert.FeedForwardDhReferenceIdeal.τ).loc Cert.FeedForwardDhReferenceIdeal.main_arg1))

def preserves_CrossAttention_CrossAttentionIdeal : Prop :=
  True

def algebraic_CrossAttentionIdeal_CrossAttentionReferenceIdeal_pre_finite_attention_inputs [hCrossAttentionIdeal : Cert.CrossAttentionIdeal.Facts] [hCrossAttentionReferenceIdeal : Cert.CrossAttentionReferenceIdeal.Facts] [hPre_finite_attention_inputs : Cert.Pre_finite_attention_inputs.Facts] : Prop :=
  ∀ (m : (ℓ : Loc Cert.CrossAttentionIdeal.nD Cert.CrossAttentionIdeal.τ Cert.CrossAttentionIdeal.sig) → Buf (Elt Ideal) ℓ) (g : Dev Cert.CrossAttentionIdeal.nD → PrngReg)
    (m' : (ℓ : Loc Cert.CrossAttentionReferenceIdeal.nD Cert.CrossAttentionReferenceIdeal.τ Cert.CrossAttentionReferenceIdeal.sig) → Buf (Elt Ideal) ℓ) (g' : Dev Cert.CrossAttentionReferenceIdeal.nD → PrngReg), Pre_CrossAttentionIdeal_finite_attention_inputs m →
    (∀ c : Dev Cert.CrossAttentionIdeal.nD,
      m' ((c.tc : Thread Cert.CrossAttentionReferenceIdeal.nD Cert.CrossAttentionReferenceIdeal.τ).loc Cert.CrossAttentionReferenceIdeal.main_arg0) = m ((c.tc : Thread Cert.CrossAttentionIdeal.nD Cert.CrossAttentionIdeal.τ).loc Cert.CrossAttentionIdeal.main_arg0)
      ∧ m' ((c.tc : Thread Cert.CrossAttentionReferenceIdeal.nD Cert.CrossAttentionReferenceIdeal.τ).loc Cert.CrossAttentionReferenceIdeal.main_arg1) = m ((c.tc : Thread Cert.CrossAttentionIdeal.nD Cert.CrossAttentionIdeal.τ).loc Cert.CrossAttentionIdeal.main_arg1)
      ∧ m' ((c.tc : Thread Cert.CrossAttentionReferenceIdeal.nD Cert.CrossAttentionReferenceIdeal.τ).loc Cert.CrossAttentionReferenceIdeal.main_arg2) = m ((c.tc : Thread Cert.CrossAttentionIdeal.nD Cert.CrossAttentionIdeal.τ).loc Cert.CrossAttentionIdeal.main_arg2)
      ∧ m' ((c.tc : Thread Cert.CrossAttentionReferenceIdeal.nD Cert.CrossAttentionReferenceIdeal.τ).loc Cert.CrossAttentionReferenceIdeal.main_arg3) = m ((c.tc : Thread Cert.CrossAttentionIdeal.nD Cert.CrossAttentionIdeal.τ).loc Cert.CrossAttentionIdeal.main_arg3)
      ∧ m' ((c.tc : Thread Cert.CrossAttentionReferenceIdeal.nD Cert.CrossAttentionReferenceIdeal.τ).loc Cert.CrossAttentionReferenceIdeal.main_arg4) = m ((c.tc : Thread Cert.CrossAttentionIdeal.nD Cert.CrossAttentionIdeal.τ).loc Cert.CrossAttentionIdeal.main_arg4)
      ∧ m' ((c.tc : Thread Cert.CrossAttentionReferenceIdeal.nD Cert.CrossAttentionReferenceIdeal.τ).loc Cert.CrossAttentionReferenceIdeal.main_arg5) = m ((c.tc : Thread Cert.CrossAttentionIdeal.nD Cert.CrossAttentionIdeal.τ).loc Cert.CrossAttentionIdeal.main_arg5)) →
    ∃ (v0 : (c : Dev Cert.CrossAttentionIdeal.nD) → Buf (Elt Ideal) ((c.tc : Thread Cert.CrossAttentionIdeal.nD Cert.CrossAttentionIdeal.τ).loc Cert.CrossAttentionIdeal.main_v3)) (v1 : (c : Dev Cert.CrossAttentionIdeal.nD) → Buf (Elt Ideal) ((c.tc : Thread Cert.CrossAttentionIdeal.nD Cert.CrossAttentionIdeal.τ).loc Cert.CrossAttentionIdeal.main_v5)) (v2 : (c : Dev Cert.CrossAttentionIdeal.nD) → Buf (Elt Ideal) ((c.tc : Thread Cert.CrossAttentionIdeal.nD Cert.CrossAttentionIdeal.τ).loc Cert.CrossAttentionIdeal.main_v8)) (v3 : (c : Dev Cert.CrossAttentionIdeal.nD) → Buf (Elt Ideal) ((c.tc : Thread Cert.CrossAttentionIdeal.nD Cert.CrossAttentionIdeal.τ).loc Cert.CrossAttentionIdeal.main_v9)) (v4 : (c : Dev Cert.CrossAttentionIdeal.nD) → Buf (Elt Ideal) ((c.tc : Thread Cert.CrossAttentionIdeal.nD Cert.CrossAttentionIdeal.τ).loc Cert.CrossAttentionIdeal.main_v10)) (v5 : (c : Dev Cert.CrossAttentionIdeal.nD) → Buf (Elt Ideal) ((c.tc : Thread Cert.CrossAttentionIdeal.nD Cert.CrossAttentionIdeal.τ).loc Cert.CrossAttentionIdeal.main_v11)),
      θ_run (Cert.CrossAttentionIdeal.defs (F := Ideal)) (onTc (τ := Cert.CrossAttentionIdeal.τ) (Cert.CrossAttentionIdeal.main (F := Ideal))) ⟨m, fun _ => 0, g⟩ (fun r => ∀ c : Dev Cert.CrossAttentionIdeal.nD,
          r.2.mem ((c.tc : Thread Cert.CrossAttentionIdeal.nD Cert.CrossAttentionIdeal.τ).loc Cert.CrossAttentionIdeal.main_v3) = v0 c
          ∧ r.2.mem ((c.tc : Thread Cert.CrossAttentionIdeal.nD Cert.CrossAttentionIdeal.τ).loc Cert.CrossAttentionIdeal.main_v5) = v1 c
          ∧ r.2.mem ((c.tc : Thread Cert.CrossAttentionIdeal.nD Cert.CrossAttentionIdeal.τ).loc Cert.CrossAttentionIdeal.main_v8) = v2 c
          ∧ r.2.mem ((c.tc : Thread Cert.CrossAttentionIdeal.nD Cert.CrossAttentionIdeal.τ).loc Cert.CrossAttentionIdeal.main_v9) = v3 c
          ∧ r.2.mem ((c.tc : Thread Cert.CrossAttentionIdeal.nD Cert.CrossAttentionIdeal.τ).loc Cert.CrossAttentionIdeal.main_v10) = v4 c
          ∧ r.2.mem ((c.tc : Thread Cert.CrossAttentionIdeal.nD Cert.CrossAttentionIdeal.τ).loc Cert.CrossAttentionIdeal.main_v11) = v5 c
          ∧ r.2.mem ((c.tc : Thread Cert.CrossAttentionIdeal.nD Cert.CrossAttentionIdeal.τ).loc Cert.CrossAttentionIdeal.main_arg0) = m ((c.tc : Thread Cert.CrossAttentionIdeal.nD Cert.CrossAttentionIdeal.τ).loc Cert.CrossAttentionIdeal.main_arg0)
          ∧ r.2.mem ((c.tc : Thread Cert.CrossAttentionIdeal.nD Cert.CrossAttentionIdeal.τ).loc Cert.CrossAttentionIdeal.main_arg1) = m ((c.tc : Thread Cert.CrossAttentionIdeal.nD Cert.CrossAttentionIdeal.τ).loc Cert.CrossAttentionIdeal.main_arg1)
          ∧ r.2.mem ((c.tc : Thread Cert.CrossAttentionIdeal.nD Cert.CrossAttentionIdeal.τ).loc Cert.CrossAttentionIdeal.main_arg2) = m ((c.tc : Thread Cert.CrossAttentionIdeal.nD Cert.CrossAttentionIdeal.τ).loc Cert.CrossAttentionIdeal.main_arg2)
          ∧ r.2.mem ((c.tc : Thread Cert.CrossAttentionIdeal.nD Cert.CrossAttentionIdeal.τ).loc Cert.CrossAttentionIdeal.main_arg3) = m ((c.tc : Thread Cert.CrossAttentionIdeal.nD Cert.CrossAttentionIdeal.τ).loc Cert.CrossAttentionIdeal.main_arg3)
          ∧ r.2.mem ((c.tc : Thread Cert.CrossAttentionIdeal.nD Cert.CrossAttentionIdeal.τ).loc Cert.CrossAttentionIdeal.main_arg4) = m ((c.tc : Thread Cert.CrossAttentionIdeal.nD Cert.CrossAttentionIdeal.τ).loc Cert.CrossAttentionIdeal.main_arg4)
          ∧ r.2.mem ((c.tc : Thread Cert.CrossAttentionIdeal.nD Cert.CrossAttentionIdeal.τ).loc Cert.CrossAttentionIdeal.main_arg5) = m ((c.tc : Thread Cert.CrossAttentionIdeal.nD Cert.CrossAttentionIdeal.τ).loc Cert.CrossAttentionIdeal.main_arg5))
      ∧ θ_run (Cert.CrossAttentionReferenceIdeal.defs (F := Ideal)) (onTc (τ := Cert.CrossAttentionReferenceIdeal.τ) (Cert.CrossAttentionReferenceIdeal.main (F := Ideal))) ⟨m', fun _ => 0, g'⟩ (fun r => ∀ c : Dev Cert.CrossAttentionReferenceIdeal.nD,
          r.2.mem ((c.tc : Thread Cert.CrossAttentionReferenceIdeal.nD Cert.CrossAttentionReferenceIdeal.τ).loc Cert.CrossAttentionReferenceIdeal.main_v88) = v0 c
          ∧ r.2.mem ((c.tc : Thread Cert.CrossAttentionReferenceIdeal.nD Cert.CrossAttentionReferenceIdeal.τ).loc Cert.CrossAttentionReferenceIdeal.main_v89) = v1 c
          ∧ r.2.mem ((c.tc : Thread Cert.CrossAttentionReferenceIdeal.nD Cert.CrossAttentionReferenceIdeal.τ).loc Cert.CrossAttentionReferenceIdeal.main_v90) = v2 c
          ∧ r.2.mem ((c.tc : Thread Cert.CrossAttentionReferenceIdeal.nD Cert.CrossAttentionReferenceIdeal.τ).loc Cert.CrossAttentionReferenceIdeal.main_v91) = v3 c
          ∧ r.2.mem ((c.tc : Thread Cert.CrossAttentionReferenceIdeal.nD Cert.CrossAttentionReferenceIdeal.τ).loc Cert.CrossAttentionReferenceIdeal.main_v92) = v4 c
          ∧ r.2.mem ((c.tc : Thread Cert.CrossAttentionReferenceIdeal.nD Cert.CrossAttentionReferenceIdeal.τ).loc Cert.CrossAttentionReferenceIdeal.main_v85) = v5 c
          ∧ r.2.mem ((c.tc : Thread Cert.CrossAttentionReferenceIdeal.nD Cert.CrossAttentionReferenceIdeal.τ).loc Cert.CrossAttentionReferenceIdeal.main_arg0) = m' ((c.tc : Thread Cert.CrossAttentionReferenceIdeal.nD Cert.CrossAttentionReferenceIdeal.τ).loc Cert.CrossAttentionReferenceIdeal.main_arg0)
          ∧ r.2.mem ((c.tc : Thread Cert.CrossAttentionReferenceIdeal.nD Cert.CrossAttentionReferenceIdeal.τ).loc Cert.CrossAttentionReferenceIdeal.main_arg1) = m' ((c.tc : Thread Cert.CrossAttentionReferenceIdeal.nD Cert.CrossAttentionReferenceIdeal.τ).loc Cert.CrossAttentionReferenceIdeal.main_arg1)
          ∧ r.2.mem ((c.tc : Thread Cert.CrossAttentionReferenceIdeal.nD Cert.CrossAttentionReferenceIdeal.τ).loc Cert.CrossAttentionReferenceIdeal.main_arg2) = m' ((c.tc : Thread Cert.CrossAttentionReferenceIdeal.nD Cert.CrossAttentionReferenceIdeal.τ).loc Cert.CrossAttentionReferenceIdeal.main_arg2)
          ∧ r.2.mem ((c.tc : Thread Cert.CrossAttentionReferenceIdeal.nD Cert.CrossAttentionReferenceIdeal.τ).loc Cert.CrossAttentionReferenceIdeal.main_arg3) = m' ((c.tc : Thread Cert.CrossAttentionReferenceIdeal.nD Cert.CrossAttentionReferenceIdeal.τ).loc Cert.CrossAttentionReferenceIdeal.main_arg3)
          ∧ r.2.mem ((c.tc : Thread Cert.CrossAttentionReferenceIdeal.nD Cert.CrossAttentionReferenceIdeal.τ).loc Cert.CrossAttentionReferenceIdeal.main_arg4) = m' ((c.tc : Thread Cert.CrossAttentionReferenceIdeal.nD Cert.CrossAttentionReferenceIdeal.τ).loc Cert.CrossAttentionReferenceIdeal.main_arg4)
          ∧ r.2.mem ((c.tc : Thread Cert.CrossAttentionReferenceIdeal.nD Cert.CrossAttentionReferenceIdeal.τ).loc Cert.CrossAttentionReferenceIdeal.main_arg5) = m' ((c.tc : Thread Cert.CrossAttentionReferenceIdeal.nD Cert.CrossAttentionReferenceIdeal.τ).loc Cert.CrossAttentionReferenceIdeal.main_arg5))

def preserves_ShortConv_ShortConvIdeal : Prop :=
  True

def algebraic_ShortConvIdeal_ShortConvReferenceIdeal [hShortConvIdeal : Cert.ShortConvIdeal.Facts] [hShortConvReferenceIdeal : Cert.ShortConvReferenceIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvReferenceIdeal.nD Cert.ShortConvReferenceIdeal.τ Cert.ShortConvReferenceIdeal.sig) → Buf (Elt Ideal) ℓ) (g' : Dev Cert.ShortConvReferenceIdeal.nD → PrngReg), Pre_ShortConvIdeal m →
    (∀ c : Dev Cert.ShortConvIdeal.nD,
      m' ((c.tc : Thread Cert.ShortConvReferenceIdeal.nD Cert.ShortConvReferenceIdeal.τ).loc Cert.ShortConvReferenceIdeal.main_arg0) = m ((c.tc : Thread Cert.ShortConvIdeal.nD Cert.ShortConvIdeal.τ).loc Cert.ShortConvIdeal.main_arg0)
      ∧ m' ((c.tc : Thread Cert.ShortConvReferenceIdeal.nD Cert.ShortConvReferenceIdeal.τ).loc Cert.ShortConvReferenceIdeal.main_arg1) = m ((c.tc : Thread Cert.ShortConvIdeal.nD Cert.ShortConvIdeal.τ).loc Cert.ShortConvIdeal.main_arg1)
      ∧ m' ((c.tc : Thread Cert.ShortConvReferenceIdeal.nD Cert.ShortConvReferenceIdeal.τ).loc Cert.ShortConvReferenceIdeal.main_arg2) = m ((c.tc : Thread Cert.ShortConvIdeal.nD Cert.ShortConvIdeal.τ).loc Cert.ShortConvIdeal.main_arg2)
      ∧ m' ((c.tc : Thread Cert.ShortConvReferenceIdeal.nD Cert.ShortConvReferenceIdeal.τ).loc Cert.ShortConvReferenceIdeal.main_arg3) = m ((c.tc : Thread Cert.ShortConvIdeal.nD Cert.ShortConvIdeal.τ).loc Cert.ShortConvIdeal.main_arg3)
      ∧ m' ((c.tc : Thread Cert.ShortConvReferenceIdeal.nD Cert.ShortConvReferenceIdeal.τ).loc Cert.ShortConvReferenceIdeal.main_arg4) = m ((c.tc : Thread Cert.ShortConvIdeal.nD Cert.ShortConvIdeal.τ).loc Cert.ShortConvIdeal.main_arg4)) →
    ∃ (v0 : (c : Dev Cert.ShortConvIdeal.nD) → Buf (Elt Ideal) ((c.tc : Thread Cert.ShortConvIdeal.nD Cert.ShortConvIdeal.τ).loc Cert.ShortConvIdeal.main_v2)) (v1 : (c : Dev Cert.ShortConvIdeal.nD) → Buf (Elt Ideal) ((c.tc : Thread Cert.ShortConvIdeal.nD Cert.ShortConvIdeal.τ).loc Cert.ShortConvIdeal.main_v4)) (v2 : (c : Dev Cert.ShortConvIdeal.nD) → Buf (Elt Ideal) ((c.tc : Thread Cert.ShortConvIdeal.nD Cert.ShortConvIdeal.τ).loc Cert.ShortConvIdeal.main_v5_1)) (v3 : (c : Dev Cert.ShortConvIdeal.nD) → Buf (Elt Ideal) ((c.tc : Thread Cert.ShortConvIdeal.nD Cert.ShortConvIdeal.τ).loc Cert.ShortConvIdeal.main_v6)) (v4 : (c : Dev Cert.ShortConvIdeal.nD) → Buf (Elt Ideal) ((c.tc : Thread Cert.ShortConvIdeal.nD Cert.ShortConvIdeal.τ).loc Cert.ShortConvIdeal.main_v7)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v2) = v0 c
          ∧ r.2.mem ((c.tc : Thread Cert.ShortConvIdeal.nD Cert.ShortConvIdeal.τ).loc Cert.ShortConvIdeal.main_v4) = v1 c
          ∧ r.2.mem ((c.tc : Thread Cert.ShortConvIdeal.nD Cert.ShortConvIdeal.τ).loc Cert.ShortConvIdeal.main_v5_1) = v2 c
          ∧ r.2.mem ((c.tc : Thread Cert.ShortConvIdeal.nD Cert.ShortConvIdeal.τ).loc Cert.ShortConvIdeal.main_v6) = v3 c
          ∧ r.2.mem ((c.tc : Thread Cert.ShortConvIdeal.nD Cert.ShortConvIdeal.τ).loc Cert.ShortConvIdeal.main_v7) = v4 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
          ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
          ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4))
      ∧ θ_run (Cert.ShortConvReferenceIdeal.defs (F := Ideal)) (onTc (τ := Cert.ShortConvReferenceIdeal.τ) (Cert.ShortConvReferenceIdeal.main (F := Ideal))) ⟨m', fun _ => 0, g'⟩ (fun r => ∀ c : Dev Cert.ShortConvReferenceIdeal.nD,
          r.2.mem ((c.tc : Thread Cert.ShortConvReferenceIdeal.nD Cert.ShortConvReferenceIdeal.τ).loc Cert.ShortConvReferenceIdeal.main_v82) = v0 c
          ∧ r.2.mem ((c.tc : Thread Cert.ShortConvReferenceIdeal.nD Cert.ShortConvReferenceIdeal.τ).loc Cert.ShortConvReferenceIdeal.main_v83) = v1 c
          ∧ r.2.mem ((c.tc : Thread Cert.ShortConvReferenceIdeal.nD Cert.ShortConvReferenceIdeal.τ).loc Cert.ShortConvReferenceIdeal.main_v69) = v2 c
          ∧ r.2.mem ((c.tc : Thread Cert.ShortConvReferenceIdeal.nD Cert.ShortConvReferenceIdeal.τ).loc Cert.ShortConvReferenceIdeal.main_v84) = v3 c
          ∧ r.2.mem ((c.tc : Thread Cert.ShortConvReferenceIdeal.nD Cert.ShortConvReferenceIdeal.τ).loc Cert.ShortConvReferenceIdeal.main_v85) = v4 c
          ∧ r.2.mem ((c.tc : Thread Cert.ShortConvReferenceIdeal.nD Cert.ShortConvReferenceIdeal.τ).loc Cert.ShortConvReferenceIdeal.main_arg0) = m' ((c.tc : Thread Cert.ShortConvReferenceIdeal.nD Cert.ShortConvReferenceIdeal.τ).loc Cert.ShortConvReferenceIdeal.main_arg0)
          ∧ r.2.mem ((c.tc : Thread Cert.ShortConvReferenceIdeal.nD Cert.ShortConvReferenceIdeal.τ).loc Cert.ShortConvReferenceIdeal.main_arg1) = m' ((c.tc : Thread Cert.ShortConvReferenceIdeal.nD Cert.ShortConvReferenceIdeal.τ).loc Cert.ShortConvReferenceIdeal.main_arg1)
          ∧ r.2.mem ((c.tc : Thread Cert.ShortConvReferenceIdeal.nD Cert.ShortConvReferenceIdeal.τ).loc Cert.ShortConvReferenceIdeal.main_arg2) = m' ((c.tc : Thread Cert.ShortConvReferenceIdeal.nD Cert.ShortConvReferenceIdeal.τ).loc Cert.ShortConvReferenceIdeal.main_arg2)
          ∧ r.2.mem ((c.tc : Thread Cert.ShortConvReferenceIdeal.nD Cert.ShortConvReferenceIdeal.τ).loc Cert.ShortConvReferenceIdeal.main_arg3) = m' ((c.tc : Thread Cert.ShortConvReferenceIdeal.nD Cert.ShortConvReferenceIdeal.τ).loc Cert.ShortConvReferenceIdeal.main_arg3)
          ∧ r.2.mem ((c.tc : Thread Cert.ShortConvReferenceIdeal.nD Cert.ShortConvReferenceIdeal.τ).loc Cert.ShortConvReferenceIdeal.main_arg4) = m' ((c.tc : Thread Cert.ShortConvReferenceIdeal.nD Cert.ShortConvReferenceIdeal.τ).loc Cert.ShortConvReferenceIdeal.main_arg4))

def preserves_MixerProducts_MixerProductsIdeal : Prop :=
  True

def algebraic_MixerProductsIdeal_MixerProductsReferenceIdeal [hMixerProductsIdeal : Cert.MixerProductsIdeal.Facts] [hMixerProductsReferenceIdeal : Cert.MixerProductsReferenceIdeal.Facts] : Prop :=
  ∀ (m : (ℓ : Loc Cert.MixerProductsIdeal.nD Cert.MixerProductsIdeal.τ Cert.MixerProductsIdeal.sig) → Buf (Elt Ideal) ℓ) (g : Dev Cert.MixerProductsIdeal.nD → PrngReg)
    (m' : (ℓ : Loc Cert.MixerProductsReferenceIdeal.nD Cert.MixerProductsReferenceIdeal.τ Cert.MixerProductsReferenceIdeal.sig) → Buf (Elt Ideal) ℓ) (g' : Dev Cert.MixerProductsReferenceIdeal.nD → PrngReg), Pre_MixerProductsIdeal m →
    (∀ c : Dev Cert.MixerProductsIdeal.nD,
      m' ((c.tc : Thread Cert.MixerProductsReferenceIdeal.nD Cert.MixerProductsReferenceIdeal.τ).loc Cert.MixerProductsReferenceIdeal.main_arg0) = m ((c.tc : Thread Cert.MixerProductsIdeal.nD Cert.MixerProductsIdeal.τ).loc Cert.MixerProductsIdeal.main_arg0)
      ∧ m' ((c.tc : Thread Cert.MixerProductsReferenceIdeal.nD Cert.MixerProductsReferenceIdeal.τ).loc Cert.MixerProductsReferenceIdeal.main_arg1) = m ((c.tc : Thread Cert.MixerProductsIdeal.nD Cert.MixerProductsIdeal.τ).loc Cert.MixerProductsIdeal.main_arg1)
      ∧ m' ((c.tc : Thread Cert.MixerProductsReferenceIdeal.nD Cert.MixerProductsReferenceIdeal.τ).loc Cert.MixerProductsReferenceIdeal.main_arg2) = m ((c.tc : Thread Cert.MixerProductsIdeal.nD Cert.MixerProductsIdeal.τ).loc Cert.MixerProductsIdeal.main_arg2)
      ∧ m' ((c.tc : Thread Cert.MixerProductsReferenceIdeal.nD Cert.MixerProductsReferenceIdeal.τ).loc Cert.MixerProductsReferenceIdeal.main_arg3) = m ((c.tc : Thread Cert.MixerProductsIdeal.nD Cert.MixerProductsIdeal.τ).loc Cert.MixerProductsIdeal.main_arg3)
      ∧ m' ((c.tc : Thread Cert.MixerProductsReferenceIdeal.nD Cert.MixerProductsReferenceIdeal.τ).loc Cert.MixerProductsReferenceIdeal.main_arg4) = m ((c.tc : Thread Cert.MixerProductsIdeal.nD Cert.MixerProductsIdeal.τ).loc Cert.MixerProductsIdeal.main_arg4)
      ∧ m' ((c.tc : Thread Cert.MixerProductsReferenceIdeal.nD Cert.MixerProductsReferenceIdeal.τ).loc Cert.MixerProductsReferenceIdeal.main_arg5) = m ((c.tc : Thread Cert.MixerProductsIdeal.nD Cert.MixerProductsIdeal.τ).loc Cert.MixerProductsIdeal.main_arg5)) →
    ∃ (v0 : (c : Dev Cert.MixerProductsIdeal.nD) → Buf (Elt Ideal) ((c.tc : Thread Cert.MixerProductsIdeal.nD Cert.MixerProductsIdeal.τ).loc Cert.MixerProductsIdeal.main_v0)) (v1 : (c : Dev Cert.MixerProductsIdeal.nD) → Buf (Elt Ideal) ((c.tc : Thread Cert.MixerProductsIdeal.nD Cert.MixerProductsIdeal.τ).loc Cert.MixerProductsIdeal.main_v1)) (v2 : (c : Dev Cert.MixerProductsIdeal.nD) → Buf (Elt Ideal) ((c.tc : Thread Cert.MixerProductsIdeal.nD Cert.MixerProductsIdeal.τ).loc Cert.MixerProductsIdeal.main_v2)) (v3 : (c : Dev Cert.MixerProductsIdeal.nD) → Buf (Elt Ideal) ((c.tc : Thread Cert.MixerProductsIdeal.nD Cert.MixerProductsIdeal.τ).loc Cert.MixerProductsIdeal.main_v3)) (v4 : (c : Dev Cert.MixerProductsIdeal.nD) → Buf (Elt Ideal) ((c.tc : Thread Cert.MixerProductsIdeal.nD Cert.MixerProductsIdeal.τ).loc Cert.MixerProductsIdeal.main_v4)) (v5 : (c : Dev Cert.MixerProductsIdeal.nD) → Buf (Elt Ideal) ((c.tc : Thread Cert.MixerProductsIdeal.nD Cert.MixerProductsIdeal.τ).loc Cert.MixerProductsIdeal.main_v5)),
      θ_run (Cert.MixerProductsIdeal.defs (F := Ideal)) (onTc (τ := Cert.MixerProductsIdeal.τ) (Cert.MixerProductsIdeal.main (F := Ideal))) ⟨m, fun _ => 0, g⟩ (fun r => ∀ c : Dev Cert.MixerProductsIdeal.nD,
          r.2.mem ((c.tc : Thread Cert.MixerProductsIdeal.nD Cert.MixerProductsIdeal.τ).loc Cert.MixerProductsIdeal.main_v0) = v0 c
          ∧ r.2.mem ((c.tc : Thread Cert.MixerProductsIdeal.nD Cert.MixerProductsIdeal.τ).loc Cert.MixerProductsIdeal.main_v1) = v1 c
          ∧ r.2.mem ((c.tc : Thread Cert.MixerProductsIdeal.nD Cert.MixerProductsIdeal.τ).loc Cert.MixerProductsIdeal.main_v2) = v2 c
          ∧ r.2.mem ((c.tc : Thread Cert.MixerProductsIdeal.nD Cert.MixerProductsIdeal.τ).loc Cert.MixerProductsIdeal.main_v3) = v3 c
          ∧ r.2.mem ((c.tc : Thread Cert.MixerProductsIdeal.nD Cert.MixerProductsIdeal.τ).loc Cert.MixerProductsIdeal.main_v4) = v4 c
          ∧ r.2.mem ((c.tc : Thread Cert.MixerProductsIdeal.nD Cert.MixerProductsIdeal.τ).loc Cert.MixerProductsIdeal.main_v5) = v5 c
          ∧ r.2.mem ((c.tc : Thread Cert.MixerProductsIdeal.nD Cert.MixerProductsIdeal.τ).loc Cert.MixerProductsIdeal.main_arg0) = m ((c.tc : Thread Cert.MixerProductsIdeal.nD Cert.MixerProductsIdeal.τ).loc Cert.MixerProductsIdeal.main_arg0)
          ∧ r.2.mem ((c.tc : Thread Cert.MixerProductsIdeal.nD Cert.MixerProductsIdeal.τ).loc Cert.MixerProductsIdeal.main_arg1) = m ((c.tc : Thread Cert.MixerProductsIdeal.nD Cert.MixerProductsIdeal.τ).loc Cert.MixerProductsIdeal.main_arg1)
          ∧ r.2.mem ((c.tc : Thread Cert.MixerProductsIdeal.nD Cert.MixerProductsIdeal.τ).loc Cert.MixerProductsIdeal.main_arg2) = m ((c.tc : Thread Cert.MixerProductsIdeal.nD Cert.MixerProductsIdeal.τ).loc Cert.MixerProductsIdeal.main_arg2)
          ∧ r.2.mem ((c.tc : Thread Cert.MixerProductsIdeal.nD Cert.MixerProductsIdeal.τ).loc Cert.MixerProductsIdeal.main_arg3) = m ((c.tc : Thread Cert.MixerProductsIdeal.nD Cert.MixerProductsIdeal.τ).loc Cert.MixerProductsIdeal.main_arg3)
          ∧ r.2.mem ((c.tc : Thread Cert.MixerProductsIdeal.nD Cert.MixerProductsIdeal.τ).loc Cert.MixerProductsIdeal.main_arg4) = m ((c.tc : Thread Cert.MixerProductsIdeal.nD Cert.MixerProductsIdeal.τ).loc Cert.MixerProductsIdeal.main_arg4)
          ∧ r.2.mem ((c.tc : Thread Cert.MixerProductsIdeal.nD Cert.MixerProductsIdeal.τ).loc Cert.MixerProductsIdeal.main_arg5) = m ((c.tc : Thread Cert.MixerProductsIdeal.nD Cert.MixerProductsIdeal.τ).loc Cert.MixerProductsIdeal.main_arg5))
      ∧ θ_run (Cert.MixerProductsReferenceIdeal.defs (F := Ideal)) (onTc (τ := Cert.MixerProductsReferenceIdeal.τ) (Cert.MixerProductsReferenceIdeal.main (F := Ideal))) ⟨m', fun _ => 0, g'⟩ (fun r => ∀ c : Dev Cert.MixerProductsReferenceIdeal.nD,
          r.2.mem ((c.tc : Thread Cert.MixerProductsReferenceIdeal.nD Cert.MixerProductsReferenceIdeal.τ).loc Cert.MixerProductsReferenceIdeal.main_v18) = v0 c
          ∧ r.2.mem ((c.tc : Thread Cert.MixerProductsReferenceIdeal.nD Cert.MixerProductsReferenceIdeal.τ).loc Cert.MixerProductsReferenceIdeal.main_v19) = v1 c
          ∧ r.2.mem ((c.tc : Thread Cert.MixerProductsReferenceIdeal.nD Cert.MixerProductsReferenceIdeal.τ).loc Cert.MixerProductsReferenceIdeal.main_v20) = v2 c
          ∧ r.2.mem ((c.tc : Thread Cert.MixerProductsReferenceIdeal.nD Cert.MixerProductsReferenceIdeal.τ).loc Cert.MixerProductsReferenceIdeal.main_v21) = v3 c
          ∧ r.2.mem ((c.tc : Thread Cert.MixerProductsReferenceIdeal.nD Cert.MixerProductsReferenceIdeal.τ).loc Cert.MixerProductsReferenceIdeal.main_v22) = v4 c
          ∧ r.2.mem ((c.tc : Thread Cert.MixerProductsReferenceIdeal.nD Cert.MixerProductsReferenceIdeal.τ).loc Cert.MixerProductsReferenceIdeal.main_v23) = v5 c
          ∧ r.2.mem ((c.tc : Thread Cert.MixerProductsReferenceIdeal.nD Cert.MixerProductsReferenceIdeal.τ).loc Cert.MixerProductsReferenceIdeal.main_arg0) = m' ((c.tc : Thread Cert.MixerProductsReferenceIdeal.nD Cert.MixerProductsReferenceIdeal.τ).loc Cert.MixerProductsReferenceIdeal.main_arg0)
          ∧ r.2.mem ((c.tc : Thread Cert.MixerProductsReferenceIdeal.nD Cert.MixerProductsReferenceIdeal.τ).loc Cert.MixerProductsReferenceIdeal.main_arg1) = m' ((c.tc : Thread Cert.MixerProductsReferenceIdeal.nD Cert.MixerProductsReferenceIdeal.τ).loc Cert.MixerProductsReferenceIdeal.main_arg1)
          ∧ r.2.mem ((c.tc : Thread Cert.MixerProductsReferenceIdeal.nD Cert.MixerProductsReferenceIdeal.τ).loc Cert.MixerProductsReferenceIdeal.main_arg2) = m' ((c.tc : Thread Cert.MixerProductsReferenceIdeal.nD Cert.MixerProductsReferenceIdeal.τ).loc Cert.MixerProductsReferenceIdeal.main_arg2)
          ∧ r.2.mem ((c.tc : Thread Cert.MixerProductsReferenceIdeal.nD Cert.MixerProductsReferenceIdeal.τ).loc Cert.MixerProductsReferenceIdeal.main_arg3) = m' ((c.tc : Thread Cert.MixerProductsReferenceIdeal.nD Cert.MixerProductsReferenceIdeal.τ).loc Cert.MixerProductsReferenceIdeal.main_arg3)
          ∧ r.2.mem ((c.tc : Thread Cert.MixerProductsReferenceIdeal.nD Cert.MixerProductsReferenceIdeal.τ).loc Cert.MixerProductsReferenceIdeal.main_arg4) = m' ((c.tc : Thread Cert.MixerProductsReferenceIdeal.nD Cert.MixerProductsReferenceIdeal.τ).loc Cert.MixerProductsReferenceIdeal.main_arg4)
          ∧ r.2.mem ((c.tc : Thread Cert.MixerProductsReferenceIdeal.nD Cert.MixerProductsReferenceIdeal.τ).loc Cert.MixerProductsReferenceIdeal.main_arg5) = m' ((c.tc : Thread Cert.MixerProductsReferenceIdeal.nD Cert.MixerProductsReferenceIdeal.τ).loc Cert.MixerProductsReferenceIdeal.main_arg5))

def preserves_UpdateOne_UpdateOneIdeal : Prop :=
  True

def algebraic_UpdateOneIdeal_UpdateOneReferenceIdeal [hUpdateOneIdeal : Cert.UpdateOneIdeal.Facts] [hUpdateOneReferenceIdeal : Cert.UpdateOneReferenceIdeal.Facts] : Prop :=
  ∀ (m : (ℓ : Loc Cert.UpdateOneIdeal.nD Cert.UpdateOneIdeal.τ Cert.UpdateOneIdeal.sig) → Buf (Elt Ideal) ℓ) (g : Dev Cert.UpdateOneIdeal.nD → PrngReg)
    (m' : (ℓ : Loc Cert.UpdateOneReferenceIdeal.nD Cert.UpdateOneReferenceIdeal.τ Cert.UpdateOneReferenceIdeal.sig) → Buf (Elt Ideal) ℓ) (g' : Dev Cert.UpdateOneReferenceIdeal.nD → PrngReg), Pre_UpdateOneIdeal m →
    (∀ c : Dev Cert.UpdateOneIdeal.nD,
      m' ((c.tc : Thread Cert.UpdateOneReferenceIdeal.nD Cert.UpdateOneReferenceIdeal.τ).loc Cert.UpdateOneReferenceIdeal.main_arg0) = m ((c.tc : Thread Cert.UpdateOneIdeal.nD Cert.UpdateOneIdeal.τ).loc Cert.UpdateOneIdeal.main_arg0)
      ∧ m' ((c.tc : Thread Cert.UpdateOneReferenceIdeal.nD Cert.UpdateOneReferenceIdeal.τ).loc Cert.UpdateOneReferenceIdeal.main_arg1) = m ((c.tc : Thread Cert.UpdateOneIdeal.nD Cert.UpdateOneIdeal.τ).loc Cert.UpdateOneIdeal.main_arg1)
      ∧ m' ((c.tc : Thread Cert.UpdateOneReferenceIdeal.nD Cert.UpdateOneReferenceIdeal.τ).loc Cert.UpdateOneReferenceIdeal.main_arg2) = m ((c.tc : Thread Cert.UpdateOneIdeal.nD Cert.UpdateOneIdeal.τ).loc Cert.UpdateOneIdeal.main_arg2)
      ∧ m' ((c.tc : Thread Cert.UpdateOneReferenceIdeal.nD Cert.UpdateOneReferenceIdeal.τ).loc Cert.UpdateOneReferenceIdeal.main_arg3) = m ((c.tc : Thread Cert.UpdateOneIdeal.nD Cert.UpdateOneIdeal.τ).loc Cert.UpdateOneIdeal.main_arg3)
      ∧ m' ((c.tc : Thread Cert.UpdateOneReferenceIdeal.nD Cert.UpdateOneReferenceIdeal.τ).loc Cert.UpdateOneReferenceIdeal.main_arg4) = m ((c.tc : Thread Cert.UpdateOneIdeal.nD Cert.UpdateOneIdeal.τ).loc Cert.UpdateOneIdeal.main_arg4)
      ∧ m' ((c.tc : Thread Cert.UpdateOneReferenceIdeal.nD Cert.UpdateOneReferenceIdeal.τ).loc Cert.UpdateOneReferenceIdeal.main_arg5) = m ((c.tc : Thread Cert.UpdateOneIdeal.nD Cert.UpdateOneIdeal.τ).loc Cert.UpdateOneIdeal.main_arg5)
      ∧ m' ((c.tc : Thread Cert.UpdateOneReferenceIdeal.nD Cert.UpdateOneReferenceIdeal.τ).loc Cert.UpdateOneReferenceIdeal.main_arg6) = m ((c.tc : Thread Cert.UpdateOneIdeal.nD Cert.UpdateOneIdeal.τ).loc Cert.UpdateOneIdeal.main_arg6)
      ∧ m' ((c.tc : Thread Cert.UpdateOneReferenceIdeal.nD Cert.UpdateOneReferenceIdeal.τ).loc Cert.UpdateOneReferenceIdeal.main_arg7) = m ((c.tc : Thread Cert.UpdateOneIdeal.nD Cert.UpdateOneIdeal.τ).loc Cert.UpdateOneIdeal.main_arg7)) →
    ∃ (v0 : (c : Dev Cert.UpdateOneIdeal.nD) → Buf (Elt Ideal) ((c.tc : Thread Cert.UpdateOneIdeal.nD Cert.UpdateOneIdeal.τ).loc Cert.UpdateOneIdeal.main_v0_0)) (v1 : (c : Dev Cert.UpdateOneIdeal.nD) → Buf (Elt Ideal) ((c.tc : Thread Cert.UpdateOneIdeal.nD Cert.UpdateOneIdeal.τ).loc Cert.UpdateOneIdeal.main_v0_1)) (v2 : (c : Dev Cert.UpdateOneIdeal.nD) → Buf (Elt Ideal) ((c.tc : Thread Cert.UpdateOneIdeal.nD Cert.UpdateOneIdeal.τ).loc Cert.UpdateOneIdeal.main_v0_2)) (v3 : (c : Dev Cert.UpdateOneIdeal.nD) → Buf (Elt Ideal) ((c.tc : Thread Cert.UpdateOneIdeal.nD Cert.UpdateOneIdeal.τ).loc Cert.UpdateOneIdeal.main_v0_3)) (v4 : (c : Dev Cert.UpdateOneIdeal.nD) → Buf (Elt Ideal) ((c.tc : Thread Cert.UpdateOneIdeal.nD Cert.UpdateOneIdeal.τ).loc Cert.UpdateOneIdeal.main_v1_0)) (v5 : (c : Dev Cert.UpdateOneIdeal.nD) → Buf (Elt Ideal) ((c.tc : Thread Cert.UpdateOneIdeal.nD Cert.UpdateOneIdeal.τ).loc Cert.UpdateOneIdeal.main_v1_1)) (v6 : (c : Dev Cert.UpdateOneIdeal.nD) → Buf (Elt Ideal) ((c.tc : Thread Cert.UpdateOneIdeal.nD Cert.UpdateOneIdeal.τ).loc Cert.UpdateOneIdeal.main_v1_2)) (v7 : (c : Dev Cert.UpdateOneIdeal.nD) → Buf (Elt Ideal) ((c.tc : Thread Cert.UpdateOneIdeal.nD Cert.UpdateOneIdeal.τ).loc Cert.UpdateOneIdeal.main_v1_3)),
      θ_run (Cert.UpdateOneIdeal.defs (F := Ideal)) (onTc (τ := Cert.UpdateOneIdeal.τ) (Cert.UpdateOneIdeal.main (F := Ideal))) ⟨m, fun _ => 0, g⟩ (fun r => ∀ c : Dev Cert.UpdateOneIdeal.nD,
          r.2.mem ((c.tc : Thread Cert.UpdateOneIdeal.nD Cert.UpdateOneIdeal.τ).loc Cert.UpdateOneIdeal.main_v0_0) = v0 c
          ∧ r.2.mem ((c.tc : Thread Cert.UpdateOneIdeal.nD Cert.UpdateOneIdeal.τ).loc Cert.UpdateOneIdeal.main_v0_1) = v1 c
          ∧ r.2.mem ((c.tc : Thread Cert.UpdateOneIdeal.nD Cert.UpdateOneIdeal.τ).loc Cert.UpdateOneIdeal.main_v0_2) = v2 c
          ∧ r.2.mem ((c.tc : Thread Cert.UpdateOneIdeal.nD Cert.UpdateOneIdeal.τ).loc Cert.UpdateOneIdeal.main_v0_3) = v3 c
          ∧ r.2.mem ((c.tc : Thread Cert.UpdateOneIdeal.nD Cert.UpdateOneIdeal.τ).loc Cert.UpdateOneIdeal.main_v1_0) = v4 c
          ∧ r.2.mem ((c.tc : Thread Cert.UpdateOneIdeal.nD Cert.UpdateOneIdeal.τ).loc Cert.UpdateOneIdeal.main_v1_1) = v5 c
          ∧ r.2.mem ((c.tc : Thread Cert.UpdateOneIdeal.nD Cert.UpdateOneIdeal.τ).loc Cert.UpdateOneIdeal.main_v1_2) = v6 c
          ∧ r.2.mem ((c.tc : Thread Cert.UpdateOneIdeal.nD Cert.UpdateOneIdeal.τ).loc Cert.UpdateOneIdeal.main_v1_3) = v7 c
          ∧ r.2.mem ((c.tc : Thread Cert.UpdateOneIdeal.nD Cert.UpdateOneIdeal.τ).loc Cert.UpdateOneIdeal.main_arg0) = m ((c.tc : Thread Cert.UpdateOneIdeal.nD Cert.UpdateOneIdeal.τ).loc Cert.UpdateOneIdeal.main_arg0)
          ∧ r.2.mem ((c.tc : Thread Cert.UpdateOneIdeal.nD Cert.UpdateOneIdeal.τ).loc Cert.UpdateOneIdeal.main_arg1) = m ((c.tc : Thread Cert.UpdateOneIdeal.nD Cert.UpdateOneIdeal.τ).loc Cert.UpdateOneIdeal.main_arg1)
          ∧ r.2.mem ((c.tc : Thread Cert.UpdateOneIdeal.nD Cert.UpdateOneIdeal.τ).loc Cert.UpdateOneIdeal.main_arg2) = m ((c.tc : Thread Cert.UpdateOneIdeal.nD Cert.UpdateOneIdeal.τ).loc Cert.UpdateOneIdeal.main_arg2)
          ∧ r.2.mem ((c.tc : Thread Cert.UpdateOneIdeal.nD Cert.UpdateOneIdeal.τ).loc Cert.UpdateOneIdeal.main_arg3) = m ((c.tc : Thread Cert.UpdateOneIdeal.nD Cert.UpdateOneIdeal.τ).loc Cert.UpdateOneIdeal.main_arg3)
          ∧ r.2.mem ((c.tc : Thread Cert.UpdateOneIdeal.nD Cert.UpdateOneIdeal.τ).loc Cert.UpdateOneIdeal.main_arg4) = m ((c.tc : Thread Cert.UpdateOneIdeal.nD Cert.UpdateOneIdeal.τ).loc Cert.UpdateOneIdeal.main_arg4)
          ∧ r.2.mem ((c.tc : Thread Cert.UpdateOneIdeal.nD Cert.UpdateOneIdeal.τ).loc Cert.UpdateOneIdeal.main_arg5) = m ((c.tc : Thread Cert.UpdateOneIdeal.nD Cert.UpdateOneIdeal.τ).loc Cert.UpdateOneIdeal.main_arg5)
          ∧ r.2.mem ((c.tc : Thread Cert.UpdateOneIdeal.nD Cert.UpdateOneIdeal.τ).loc Cert.UpdateOneIdeal.main_arg6) = m ((c.tc : Thread Cert.UpdateOneIdeal.nD Cert.UpdateOneIdeal.τ).loc Cert.UpdateOneIdeal.main_arg6)
          ∧ r.2.mem ((c.tc : Thread Cert.UpdateOneIdeal.nD Cert.UpdateOneIdeal.τ).loc Cert.UpdateOneIdeal.main_arg7) = m ((c.tc : Thread Cert.UpdateOneIdeal.nD Cert.UpdateOneIdeal.τ).loc Cert.UpdateOneIdeal.main_arg7))
      ∧ θ_run (Cert.UpdateOneReferenceIdeal.defs (F := Ideal)) (onTc (τ := Cert.UpdateOneReferenceIdeal.τ) (Cert.UpdateOneReferenceIdeal.main (F := Ideal))) ⟨m', fun _ => 0, g'⟩ (fun r => ∀ c : Dev Cert.UpdateOneReferenceIdeal.nD,
          r.2.mem ((c.tc : Thread Cert.UpdateOneReferenceIdeal.nD Cert.UpdateOneReferenceIdeal.τ).loc Cert.UpdateOneReferenceIdeal.main_v2) = v0 c
          ∧ r.2.mem ((c.tc : Thread Cert.UpdateOneReferenceIdeal.nD Cert.UpdateOneReferenceIdeal.τ).loc Cert.UpdateOneReferenceIdeal.main_v29) = v1 c
          ∧ r.2.mem ((c.tc : Thread Cert.UpdateOneReferenceIdeal.nD Cert.UpdateOneReferenceIdeal.τ).loc Cert.UpdateOneReferenceIdeal.main_v10) = v2 c
          ∧ r.2.mem ((c.tc : Thread Cert.UpdateOneReferenceIdeal.nD Cert.UpdateOneReferenceIdeal.τ).loc Cert.UpdateOneReferenceIdeal.main_v16) = v3 c
          ∧ r.2.mem ((c.tc : Thread Cert.UpdateOneReferenceIdeal.nD Cert.UpdateOneReferenceIdeal.τ).loc Cert.UpdateOneReferenceIdeal.main_v5) = v4 c
          ∧ r.2.mem ((c.tc : Thread Cert.UpdateOneReferenceIdeal.nD Cert.UpdateOneReferenceIdeal.τ).loc Cert.UpdateOneReferenceIdeal.main_v53) = v5 c
          ∧ r.2.mem ((c.tc : Thread Cert.UpdateOneReferenceIdeal.nD Cert.UpdateOneReferenceIdeal.τ).loc Cert.UpdateOneReferenceIdeal.main_v34) = v6 c
          ∧ r.2.mem ((c.tc : Thread Cert.UpdateOneReferenceIdeal.nD Cert.UpdateOneReferenceIdeal.τ).loc Cert.UpdateOneReferenceIdeal.main_v40) = v7 c
          ∧ r.2.mem ((c.tc : Thread Cert.UpdateOneReferenceIdeal.nD Cert.UpdateOneReferenceIdeal.τ).loc Cert.UpdateOneReferenceIdeal.main_arg0) = m' ((c.tc : Thread Cert.UpdateOneReferenceIdeal.nD Cert.UpdateOneReferenceIdeal.τ).loc Cert.UpdateOneReferenceIdeal.main_arg0)
          ∧ r.2.mem ((c.tc : Thread Cert.UpdateOneReferenceIdeal.nD Cert.UpdateOneReferenceIdeal.τ).loc Cert.UpdateOneReferenceIdeal.main_arg1) = m' ((c.tc : Thread Cert.UpdateOneReferenceIdeal.nD Cert.UpdateOneReferenceIdeal.τ).loc Cert.UpdateOneReferenceIdeal.main_arg1)
          ∧ r.2.mem ((c.tc : Thread Cert.UpdateOneReferenceIdeal.nD Cert.UpdateOneReferenceIdeal.τ).loc Cert.UpdateOneReferenceIdeal.main_arg2) = m' ((c.tc : Thread Cert.UpdateOneReferenceIdeal.nD Cert.UpdateOneReferenceIdeal.τ).loc Cert.UpdateOneReferenceIdeal.main_arg2)
          ∧ r.2.mem ((c.tc : Thread Cert.UpdateOneReferenceIdeal.nD Cert.UpdateOneReferenceIdeal.τ).loc Cert.UpdateOneReferenceIdeal.main_arg3) = m' ((c.tc : Thread Cert.UpdateOneReferenceIdeal.nD Cert.UpdateOneReferenceIdeal.τ).loc Cert.UpdateOneReferenceIdeal.main_arg3)
          ∧ r.2.mem ((c.tc : Thread Cert.UpdateOneReferenceIdeal.nD Cert.UpdateOneReferenceIdeal.τ).loc Cert.UpdateOneReferenceIdeal.main_arg4) = m' ((c.tc : Thread Cert.UpdateOneReferenceIdeal.nD Cert.UpdateOneReferenceIdeal.τ).loc Cert.UpdateOneReferenceIdeal.main_arg4)
          ∧ r.2.mem ((c.tc : Thread Cert.UpdateOneReferenceIdeal.nD Cert.UpdateOneReferenceIdeal.τ).loc Cert.UpdateOneReferenceIdeal.main_arg5) = m' ((c.tc : Thread Cert.UpdateOneReferenceIdeal.nD Cert.UpdateOneReferenceIdeal.τ).loc Cert.UpdateOneReferenceIdeal.main_arg5)
          ∧ r.2.mem ((c.tc : Thread Cert.UpdateOneReferenceIdeal.nD Cert.UpdateOneReferenceIdeal.τ).loc Cert.UpdateOneReferenceIdeal.main_arg6) = m' ((c.tc : Thread Cert.UpdateOneReferenceIdeal.nD Cert.UpdateOneReferenceIdeal.τ).loc Cert.UpdateOneReferenceIdeal.main_arg6)
          ∧ r.2.mem ((c.tc : Thread Cert.UpdateOneReferenceIdeal.nD Cert.UpdateOneReferenceIdeal.τ).loc Cert.UpdateOneReferenceIdeal.main_arg7) = m' ((c.tc : Thread Cert.UpdateOneReferenceIdeal.nD Cert.UpdateOneReferenceIdeal.τ).loc Cert.UpdateOneReferenceIdeal.main_arg7))

def Claim : Prop :=
  ∃ (hFeedForward : Cert.FeedForward.Facts) (hFeedForwardIdeal : Cert.FeedForwardIdeal.Facts) (hFeedForwardReferenceIdeal : Cert.FeedForwardReferenceIdeal.Facts) (hFeedForwardDh : Cert.FeedForwardDh.Facts) (hFeedForwardDhIdeal : Cert.FeedForwardDhIdeal.Facts) (hFeedForwardDhReferenceIdeal : Cert.FeedForwardDhReferenceIdeal.Facts) (hCrossAttention : Cert.CrossAttention.Facts) (hCrossAttentionIdeal : Cert.CrossAttentionIdeal.Facts) (hCrossAttentionReferenceIdeal : Cert.CrossAttentionReferenceIdeal.Facts) (hShortConv : Cert.ShortConv.Facts) (hShortConvIdeal : Cert.ShortConvIdeal.Facts) (hShortConvReferenceIdeal : Cert.ShortConvReferenceIdeal.Facts) (hMixerProducts : Cert.MixerProducts.Facts) (hMixerProductsIdeal : Cert.MixerProductsIdeal.Facts) (hMixerProductsReferenceIdeal : Cert.MixerProductsReferenceIdeal.Facts) (hUpdateOne : Cert.UpdateOne.Facts) (hUpdateOneIdeal : Cert.UpdateOneIdeal.Facts) (hUpdateOneReferenceIdeal : Cert.UpdateOneReferenceIdeal.Facts) (hPre_finite_feed_forward : Cert.Pre_finite_feed_forward.Facts) (hPre_finite_attention_inputs : Cert.Pre_finite_attention_inputs.Facts),
    quiescent_FeedForward (hFeedForward := hFeedForward)
    ∧ quiescent_FeedForwardIdeal (hFeedForwardIdeal := hFeedForwardIdeal)
    ∧ quiescent_FeedForwardIdeal_pre_finite_feed_forward (hFeedForwardIdeal := hFeedForwardIdeal) (hPre_finite_feed_forward := hPre_finite_feed_forward)
    ∧ quiescent_FeedForwardReferenceIdeal (hFeedForwardReferenceIdeal := hFeedForwardReferenceIdeal)
    ∧ quiescent_FeedForwardReferenceIdeal_pre_finite_feed_forward (hFeedForwardReferenceIdeal := hFeedForwardReferenceIdeal) (hPre_finite_feed_forward := hPre_finite_feed_forward)
    ∧ quiescent_FeedForwardDh (hFeedForwardDh := hFeedForwardDh)
    ∧ quiescent_FeedForwardDhIdeal (hFeedForwardDhIdeal := hFeedForwardDhIdeal)
    ∧ quiescent_FeedForwardDhReferenceIdeal (hFeedForwardDhReferenceIdeal := hFeedForwardDhReferenceIdeal)
    ∧ quiescent_CrossAttention (hCrossAttention := hCrossAttention)
    ∧ quiescent_CrossAttentionIdeal (hCrossAttentionIdeal := hCrossAttentionIdeal)
    ∧ quiescent_CrossAttentionIdeal_pre_finite_attention_inputs (hCrossAttentionIdeal := hCrossAttentionIdeal) (hPre_finite_attention_inputs := hPre_finite_attention_inputs)
    ∧ quiescent_CrossAttentionReferenceIdeal (hCrossAttentionReferenceIdeal := hCrossAttentionReferenceIdeal)
    ∧ quiescent_CrossAttentionReferenceIdeal_pre_finite_attention_inputs (hCrossAttentionReferenceIdeal := hCrossAttentionReferenceIdeal) (hPre_finite_attention_inputs := hPre_finite_attention_inputs)
    ∧ quiescent_ShortConv (hShortConv := hShortConv)
    ∧ quiescent_ShortConvIdeal (hShortConvIdeal := hShortConvIdeal)
    ∧ quiescent_ShortConvReferenceIdeal (hShortConvReferenceIdeal := hShortConvReferenceIdeal)
    ∧ quiescent_MixerProducts (hMixerProducts := hMixerProducts)
    ∧ quiescent_MixerProductsIdeal (hMixerProductsIdeal := hMixerProductsIdeal)
    ∧ quiescent_MixerProductsReferenceIdeal (hMixerProductsReferenceIdeal := hMixerProductsReferenceIdeal)
    ∧ quiescent_UpdateOne (hUpdateOne := hUpdateOne)
    ∧ quiescent_UpdateOneIdeal (hUpdateOneIdeal := hUpdateOneIdeal)
    ∧ quiescent_UpdateOneReferenceIdeal (hUpdateOneReferenceIdeal := hUpdateOneReferenceIdeal)
    ∧ preserves_FeedForward_FeedForwardIdeal
    ∧ algebraic_FeedForwardIdeal_FeedForwardReferenceIdeal_pre_finite_feed_forward (hFeedForwardIdeal := hFeedForwardIdeal) (hFeedForwardReferenceIdeal := hFeedForwardReferenceIdeal) (hPre_finite_feed_forward := hPre_finite_feed_forward)
    ∧ preserves_FeedForwardDh_FeedForwardDhIdeal
    ∧ algebraic_FeedForwardDhIdeal_FeedForwardDhReferenceIdeal (hFeedForwardDhIdeal := hFeedForwardDhIdeal) (hFeedForwardDhReferenceIdeal := hFeedForwardDhReferenceIdeal)
    ∧ preserves_CrossAttention_CrossAttentionIdeal
    ∧ algebraic_CrossAttentionIdeal_CrossAttentionReferenceIdeal_pre_finite_attention_inputs (hCrossAttentionIdeal := hCrossAttentionIdeal) (hCrossAttentionReferenceIdeal := hCrossAttentionReferenceIdeal) (hPre_finite_attention_inputs := hPre_finite_attention_inputs)
    ∧ preserves_ShortConv_ShortConvIdeal
    ∧ algebraic_ShortConvIdeal_ShortConvReferenceIdeal (hShortConvIdeal := hShortConvIdeal) (hShortConvReferenceIdeal := hShortConvReferenceIdeal)
    ∧ preserves_MixerProducts_MixerProductsIdeal
    ∧ algebraic_MixerProductsIdeal_MixerProductsReferenceIdeal (hMixerProductsIdeal := hMixerProductsIdeal) (hMixerProductsReferenceIdeal := hMixerProductsReferenceIdeal)
    ∧ preserves_UpdateOne_UpdateOneIdeal
    ∧ algebraic_UpdateOneIdeal_UpdateOneReferenceIdeal (hUpdateOneIdeal := hUpdateOneIdeal) (hUpdateOneReferenceIdeal := hUpdateOneReferenceIdeal)
-- ==== Pre_finite_attention_inputs.lean ====
abbrev S4096x2048 : Shape := ⟨2, ![4096, 2048]⟩
abbrev S256x2048 : Shape := ⟨2, ![256, 2048]⟩
abbrev S2048x2048 : Shape := ⟨2, ![2048, 2048]⟩
abbrev S8x2048x512 : Shape := ⟨3, ![8, 2048, 512]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S8x2048x512 : S_.BroadcastsInDim S8x2048x512 (![] : Fin 0 → Fin S8x2048x512.rank)
  reducesTo_S8x2048x512_S_d0_1_2 : S8x2048x512.ReducesTo [0, 1, 2] S_

variable [Facts]

def fn_part1 {F : FTy → Type} [FloatOps F] (main_v16 : IVec S_ 1) (main_v17 : FVec F S8x2048x512 .f32) : IVec S_ 1 :=
  let main_v18 : FVec F S8x2048x512 .f32 := Host.absf main_v17
  let main_cst_4 : FVec F S_ .f32 := constant S_ .f32 0x7F800000#32
  let main_v19 : FVec F S8x2048x512 .f32 := broadcastInDim S8x2048x512 ![] bcast_S_S8x2048x512 main_cst_4
  let main_v20 : IVec S8x2048x512 1 := cmpf .olt main_v18 main_v19
  let main_c_5 : IVec S_ 1 := constantI S_ 1 1#1
  let main_v21 : IVec S_ 1 := (fun x v => Host.reduce IntOp.andi x v reducesTo_S8x2048x512_S_d0_1_2 h_S_) main_v20 main_c_5
  let main_v22 : IVec S_ 1 := andi main_v16 main_v21
  main_v22

def fn {F : FTy → Type} [FloatOps F] (main_arg0 : FVec F S4096x2048 .bf16) (main_arg1 : FVec F S256x2048 .bf16) (main_arg2 : FVec F S2048x2048 .bf16) (main_arg3 : FVec F S8x2048x512 .bf16) (main_arg4 : FVec F S2048x2048 .bf16) (main_arg5 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S2048x2048 .f32 := (extf .f32 · bitsLt_bf16_f32) main_arg2
  let main_v12 : FVec F S2048x2048 .f32 := Host.absf main_v11
  let main_cst_2 : FVec F S_ .f32 := constant S_ .f32 0x7F800000#32
  let main_v13 : FVec F S2048x2048 .f32 := broadcastInDim S2048x2048 ![] bcast_S_S2048x2048 main_cst_2
  let main_v14 : IVec S2048x2048 1 := cmpf .olt main_v12 main_v13
  let main_c_3 : IVec S_ 1 := constantI S_ 1 1#1
  let main_v15 : IVec S_ 1 := (fun x v => Host.reduce IntOp.andi x v reducesTo_S2048x2048_S_d0_1 h_S_) main_v14 main_c_3
  let main_v16 : IVec S_ 1 := andi main_v10 main_v15
  let main_v17 : FVec F S8x2048x512 .f32 := (extf .f32 · bitsLt_bf16_f32) main_arg3
  fn_part1 (F := F) main_v16 main_v17
-- ==== Pre_finite_feed_forward.lean ====
abbrev S4096x2048 : Shape := ⟨2, ![4096, 2048]⟩
abbrev S8x2048x1408 : Shape := ⟨3, ![8, 2048, 1408]⟩
abbrev S5632x2048 : Shape := ⟨2, ![5632, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x2048x1408 : S_.BroadcastsInDim S8x2048x1408 (![] : Fin 0 → Fin S8x2048x1408.rank)
  reducesTo_S8x2048x1408_S_d0_1_2 : S8x2048x1408.ReducesTo [0, 1, 2] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v16 : IVec S_ 1) (main_v17 : FVec F S4096x2048 .f32) : IVec S_ 1 :=
  let main_v18 : FVec F S4096x2048 .f32 := Host.absf main_v17
  let main_cst_4 : FVec F S_ .f32 := constant S_ .f32 0x7F800000#32
  let main_v19 : FVec F S4096x2048 .f32 := broadcastInDim S4096x2048 ![] bcast_S_S4096x2048 main_cst_4
  let main_v20 : IVec S4096x2048 1 := cmpf .olt main_v18 main_v19
  let main_c_5 : IVec S_ 1 := constantI S_ 1 1#1
  let main_v21 : IVec S_ 1 := (fun x v => Host.reduce IntOp.andi x v reducesTo_S4096x2048_S_d0_1 h_S_) main_v20 main_c_5
  let main_v22 : IVec S_ 1 := andi main_v16 main_v21
  main_v22

def fn {F : FTy → Type} [FloatOps F] (main_arg0 : FVec F S4096x2048 .bf16) (main_arg1 : FVec F S8x2048x1408 .bf16) (main_arg2 : FVec F S5632x2048 .bf16) (main_arg3 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S8x2048x1408 .f32 := (extf .f32 · bitsLt_bf16_f32) main_arg1
  let main_v6 : FVec F S8x2048x1408 .f32 := Host.absf main_v5
  let main_cst_0 : FVec F S_ .f32 := constant S_ .f32 0x7F800000#32
  let main_v7 : FVec F S8x2048x1408 .f32 := broadcastInDim S8x2048x1408 ![] bcast_S_S8x2048x1408 main_cst_0
  let main_v8 : IVec S8x2048x1408 1 := cmpf .olt main_v6 main_v7
  let main_c_1 : IVec S_ 1 := constantI S_ 1 1#1
  let main_v9 : IVec S_ 1 := (fun x v => Host.reduce IntOp.andi x v reducesTo_S8x2048x1408_S_d0_1_2 h_S_) main_v8 main_c_1
  let main_v10 : IVec S_ 1 := andi main_v4 main_v9
  let main_v11 : FVec F S5632x2048 .f32 := (extf .f32 · bitsLt_bf16_f32) main_arg2
  let main_v12 : FVec F S5632x2048 .f32 := Host.absf main_v11
  let main_cst_2 : FVec F S_ .f32 := constant S_ .f32 0x7F800000#32
  let main_v13 : FVec F S5632x2048 .f32 := broadcastInDim S5632x2048 ![] bcast_S_S5632x2048 main_cst_2
  let main_v14 : IVec S5632x2048 1 := cmpf .olt main_v12 main_v13
  let main_c_3 : IVec S_ 1 := constantI S_ 1 1#1
  let main_v15 : IVec S_ 1 := (fun x v => Host.reduce IntOp.andi x v reducesTo_S5632x2048_S_d0_1 h_S_) main_v14 main_c_3
  let main_v16 : IVec S_ 1 := andi main_v10 main_v15
  let main_v17 : FVec F S4096x2048 .f32 := (extf .f32 · bitsLt_bf16_f32) main_arg3
  fn_part1 (F := F) main_v16 main_v17
-- ==== FeedForward.lean ====
abbrev S4096x2048 : Shape := ⟨2, ![4096, 2048]⟩
abbrev S8x2048x1408 : Shape := ⟨3, ![8, 2048, 1408]⟩
abbrev S5632x2048 : Shape := ⟨2, ![5632, 2048]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S512x5632 : Shape := ⟨2, ![512, 5632]⟩
abbrev S5632x1024 : Shape := ⟨2, ![5632, 1024]⟩
abbrev S512x1024 : Shape := ⟨2, ![512, 1024]⟩
abbrev S2x4096x5632 : Shape := ⟨3, ![2, 4096, 5632]⟩
abbrev S1024x2048 : Shape := ⟨2, ![1024, 2048]⟩
abbrev S1024x512 : Shape := ⟨2, ![1024, 512]⟩
abbrev S2x1024x512 : Shape := ⟨3, ![2, 1024, 512]⟩
abbrev S256x2048 : Shape := ⟨2, ![256, 2048]⟩
abbrev S1024x256 : Shape := ⟨2, ![1024, 256]⟩
abbrev S1x1024x256 : Shape := ⟨3, ![1, 1024, 256]⟩
abbrev S4096x512 : Shape := ⟨2, ![4096, 512]⟩
abbrev S4096x1024 : Shape := ⟨2, ![4096, 1024]⟩
abbrev S1x4096x1408 : Shape := ⟨3, ![1, 4096, 1408]⟩
abbrev S1x512x1408 : Shape := ⟨3, ![1, 512, 1408]⟩
abbrev S4096x1408 : Shape := ⟨2, ![4096, 1408]⟩

abbrev nBuf : Space → Nat
  | .hbm => 11
  | .vmem => 40
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S5632x2048, .bf16⟩
  | .hbm, ⟨3, _⟩ => ⟨S4096x2048, .bf16⟩
  | .hbm, ⟨4, _⟩ => ⟨S4096x5632, .bf16⟩
  | .hbm, ⟨5, _⟩ => ⟨S4096x5632, .bf16⟩
  | .hbm, ⟨6, _⟩ => ⟨S4096x5632, .bf16⟩
  | .hbm, ⟨7, _⟩ => ⟨S4096x2048, .bf16⟩
  | .hbm, ⟨8, _⟩ => ⟨S2x4096x5632, .bf16⟩
  | .hbm, ⟨9, _⟩ => ⟨S5632x2048, .bf16⟩
  | .hbm, ⟨10, _⟩ => ⟨S8x2048x1408, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x5632, .bf16⟩
  | .local _ .vmem, ⟨13, _⟩ => ⟨S512x5632, .bf16⟩
  | .local _ .vmem, ⟨14, _⟩ => ⟨S5632x1024, .bf16⟩
  | .local _ .vmem, ⟨15, _⟩ => ⟨S5632x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x2048, .bf16⟩
  | .local _ .vmem, ⟨19, _⟩ => ⟨S1024x2048, .bf16⟩
  | .local _ .vmem, ⟨20, _⟩ => ⟨S512x2048, .bf16⟩
  | .local _ .vmem, ⟨21, _⟩ => ⟨S512x2048, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S2x1024x512, .bf16⟩
  | .local _ .vmem, ⟨27, _⟩ => ⟨S2x1024x512, .bf16⟩
  | .local _ .vmem, ⟨28, _⟩ => ⟨S4096x512, .bf16⟩
  | .local _ .vmem, ⟨29, _⟩ => ⟨S4096x512, .bf16⟩
  | .local _ .vmem, ⟨30, _⟩ => ⟨S4096x1024, .bf16⟩
  | .local _ .vmem, ⟨31, _⟩ => ⟨S4096x1024, .bf16⟩
  | .local _ .vmem, ⟨32, _⟩ => ⟨S512x1024, .bf16⟩
  | .local _ .vmem, ⟨33, _⟩ => ⟨S512x1024, .bf16⟩
  | .local _ .vmem, ⟨34, _⟩ => ⟨S4096x512, .bf16⟩
  | .local _ .vmem, ⟨35, _⟩ => ⟨S4096x512, .bf16⟩
  | .local _ .vmem, ⟨36, _⟩ => ⟨S1x4096x1408, .bf16⟩
  | .local _ .vmem, ⟨37, _⟩ => ⟨S1x4096x1408, .bf16⟩
  | .local _ .vmem, ⟨38, _⟩ => ⟨S1x512x1408, .bf16⟩
  | .local _ .vmem, ⟨39, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let c0_i32_14 : BitVec 32 := 0#32
  ![v17.toNat, c0_i32_13.toNat, v28.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c4_i32_5 : BitVec 32 := 4#32
  let v18 : BitVec 32 := Scalar.addi arg1 c4_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S5632x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2x1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨3, ![11, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1x4096x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== FeedForwardReferenceIdeal.lean ====
abbrev S4096x2048 : Shape := ⟨2, ![4096, 2048]⟩
abbrev S8x2048x1408 : Shape := ⟨3, ![8, 2048, 1408]⟩
abbrev S5632x2048 : Shape := ⟨2, ![5632, 2048]⟩
abbrev S2048x8x1408 : Shape := ⟨3, ![2048, 8, 1408]⟩
abbrev S2048x11264 : Shape := ⟨2, ![2048, 11264]⟩
abbrev S4096x11264 : Shape := ⟨2, ![4096, 11264]⟩
abbrev S4096x5632 : Shape := ⟨2, ![4096, 5632]⟩
abbrev S_ : Shape := ⟨0, ![]⟩
abbrev S2048x5632 : Shape := ⟨2, ![2048, 5632]⟩
abbrev S11264x2048 : Shape := ⟨2, ![11264, 2048]⟩
abbrev S1x4096x5632 : Shape := ⟨3, ![1, 4096, 5632]⟩
abbrev S2x4096x5632 : Shape := ⟨3, ![2, 4096, 5632]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S5632x2048, .bf16⟩
  | .hbm, ⟨3, _⟩ => ⟨S4096x2048, .bf16⟩
  | .hbm, ⟨4, _⟩ => ⟨S4096x2048, .f32⟩
  | .hbm, ⟨5, _⟩ => ⟨S8x2048x1408, .f32⟩
  | .hbm, ⟨6, _⟩ => ⟨S2048x8x1408, .f32⟩
  | .hbm, ⟨7, _⟩ => ⟨S2048x11264, .f32⟩
  | .hbm, ⟨8, _⟩ => ⟨S4096x11264, .f32⟩
  | .hbm, ⟨9, _⟩ => ⟨S5632x2048, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2048, .f32⟩
  | .hbm, ⟨27, _⟩ => ⟨S4096x2048, .f32⟩
  | .hbm, ⟨28, _⟩ => ⟨S2048x5632, .f32⟩
  | .hbm, ⟨29, _⟩ => ⟨S5632x2048, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x11264, .f32⟩
  | .hbm, ⟨38, _⟩ => ⟨S11264x2048, .f32⟩
  | .hbm, ⟨39, _⟩ => ⟨S2048x11264, .f32⟩
  | .hbm, ⟨40, _⟩ => ⟨S4096x2048, .f32⟩
  | .hbm, ⟨41, _⟩ => ⟨S2048x8x1408, .f32⟩
  | .hbm, ⟨42, _⟩ => ⟨S8x2048x1408, .f32⟩
  | .hbm, ⟨43, _⟩ => ⟨S4096x5632, .f32⟩
  | .hbm, ⟨44, _⟩ => ⟨S4096x5632, .f32⟩
  | .hbm, ⟨45, _⟩ => ⟨S1x4096x5632, .f32⟩
  | .hbm, ⟨46, _⟩ => ⟨S1x4096x5632, .f32⟩
  | .hbm, ⟨47, _⟩ => ⟨S2x4096x5632, .f32⟩
  | .hbm, ⟨48, _⟩ => ⟨S4096x2048, .bf16⟩
  | .hbm, ⟨49, _⟩ => ⟨S2x4096x5632, .bf16⟩
  | .hbm, ⟨50, _⟩ => ⟨S5632x2048, .bf16⟩
  | .hbm, ⟨51, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== FeedForwardDh.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S1x512x5632 : Shape := ⟨3, ![1, 512, 5632]⟩
abbrev S4x1024x1408 : Shape := ⟨3, ![4, 1024, 1408]⟩
abbrev S512x1024 : Shape := ⟨2, ![512, 1024]⟩
abbrev S1x512x1408 : Shape := ⟨3, ![1, 512, 1408]⟩
abbrev S512x1408 : Shape := ⟨2, ![512, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .bf16⟩
  | .local _ .vmem, ⟨0, _⟩ => ⟨S1x512x5632, .bf16⟩
  | .local _ .vmem, ⟨1, _⟩ => ⟨S1x512x5632, .bf16⟩
  | .local _ .vmem, ⟨2, _⟩ => ⟨S4x1024x1408, .bf16⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_23 : BitVec 32 := 0#32
  let v31 : BitVec 1 := Scalar.cmpi .ne v30 c0_i32_23
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FeedForwardDhReferenceIdeal.lean ====
abbrev S2x4096x5632 : Shape := ⟨3, ![2, 4096, 5632]⟩
abbrev S8x2048x1408 : Shape := ⟨3, ![8, 2048, 1408]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S4096x2048 : Shape := ⟨2, ![4096, 2048]⟩
abbrev S2048x8x1408 : Shape := ⟨3, ![2048, 8, 1408]⟩
abbrev S2048x11264 : Shape := ⟨2, ![2048, 11264]⟩
abbrev S11264x2048 : Shape := ⟨2, ![11264, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S_, .f32⟩
  | .hbm, ⟨8, _⟩ => ⟨S4096x2048, .f32⟩
  | .hbm, ⟨9, _⟩ => ⟨S8x2048x1408, .f32⟩
  | .hbm, ⟨10, _⟩ => ⟨S2048x8x1408, .f32⟩
  | .hbm, ⟨11, _⟩ => ⟨S2048x11264, .f32⟩
  | .hbm, ⟨12, _⟩ => ⟨S4096x11264, .f32⟩
  | .hbm, ⟨13, _⟩ => ⟨S4096x11264, .f32⟩
  | .hbm, ⟨14, _⟩ => ⟨S11264x2048, .f32⟩
  | .hbm, ⟨15, _⟩ => ⟨S2048x11264, .f32⟩
  | .hbm, ⟨16, _⟩ => ⟨S4096x2048, .f32⟩
  | .hbm, ⟨17, _⟩ => ⟨S2048x8x1408, .f32⟩
  | .hbm, ⟨18, _⟩ => ⟨S8x2048x1408, .f32⟩
  | .hbm, ⟨19, _⟩ => ⟨S4096x2048, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== CrossAttention.lean ====
abbrev S4096x2048 : Shape := ⟨2, ![4096, 2048]⟩
abbrev S256x2048 : Shape := ⟨2, ![256, 2048]⟩
abbrev S2048x2048 : Shape := ⟨2, ![2048, 2048]⟩
abbrev S8x2048x512 : Shape := ⟨3, ![8, 2048, 512]⟩
abbrev S1024x2048 : Shape := ⟨2, ![1024, 2048]⟩
abbrev S2048x1024 : Shape := ⟨2, ![2048, 1024]⟩
abbrev S1024x1024 : Shape := ⟨2, ![1024, 1024]⟩
abbrev S256x4096 : Shape := ⟨2, ![256, 4096]⟩
abbrev S1x2048x512 : Shape := ⟨3, ![1, 2048, 512]⟩
abbrev S256x512 : Shape := ⟨2, ![256, 512]⟩
abbrev S2048x512 : Shape := ⟨2, ![2048, 512]⟩
abbrev S256x256 : Shape := ⟨2, ![256, 256]⟩
abbrev S256 : Shape := ⟨1, ![256]⟩
abbrev S256x1 : Shape := ⟨2, ![256, 1]⟩
abbrev S4096x1024 : Shape := ⟨2, ![4096, 1024]⟩
abbrev S256x1024 : Shape := ⟨2, ![256, 1024]⟩
abbrev S1x1024x512 : Shape := ⟨3, ![1, 1024, 512]⟩
abbrev S1024x512 : Shape := ⟨2, ![1024, 512]⟩
abbrev S8x1024x512 : Shape := ⟨3, ![8, 1024, 512]⟩

abbrev nBuf : Space → Nat
  | .hbm => 19
  | .vmem => 67
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S2048x2048, .bf16⟩
  | .hbm, ⟨3, _⟩ => ⟨S8x2048x512, .bf16⟩
  | .hbm, ⟨4, _⟩ => ⟨S2048x2048, .bf16⟩
  | .hbm, ⟨5, _⟩ => ⟨S4096x2048, .bf16⟩
  | .hbm, ⟨6, _⟩ => ⟨S4096x2048, .bf16⟩
  | .hbm, ⟨7, _⟩ => ⟨S256x4096, .bf16⟩
  | .hbm, ⟨8, _⟩ => ⟨S4096x2048, .bf16⟩
  | .hbm, ⟨9, _⟩ => ⟨S4096x2048, .bf16⟩
  | .hbm, ⟨10, _⟩ => ⟨S4096x2048, .bf16⟩
  | .hbm, ⟨11, _⟩ => ⟨S2048x2048, .bf16⟩
  | .hbm, ⟨12, _⟩ => ⟨S4096x2048, .bf16⟩
  | .hbm, ⟨13, _⟩ => ⟨S256x4096, .f32⟩
  | .hbm, ⟨14, _⟩ => ⟨S256x4096, .bf16⟩
  | .hbm, ⟨15, _⟩ => ⟨S4096x2048, .bf16⟩
  | .hbm, ⟨16, _⟩ => ⟨S2048x2048, .bf16⟩
  | .hbm, ⟨17, _⟩ => ⟨S8x2048x512, .bf16⟩
  | .hbm, ⟨18, _⟩ => ⟨S256x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x2048, .bf16⟩
  | .local _ .vmem, ⟨7, _⟩ => ⟨S1x2048x512, .bf16⟩
  | .local _ .vmem, ⟨8, _⟩ => ⟨S1x2048x512, .bf16⟩
  | .local _ .vmem, ⟨9, _⟩ => ⟨S256x512, .bf16⟩
  | .local _ .vmem, ⟨10, _⟩ => ⟨S256x512, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S1024x2048, .bf16⟩
  | .local _ .vmem, ⟨18, _⟩ => ⟨S1024x2048, .bf16⟩
  | .local _ .vmem, ⟨19, _⟩ => ⟨S2048x1024, .bf16⟩
  | .local _ .vmem, ⟨20, _⟩ => ⟨S2048x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x2048, .bf16⟩
  | .local _ .vmem, ⟨24, _⟩ => ⟨S1024x2048, .bf16⟩
  | .local _ .vmem, ⟨25, _⟩ => ⟨S1024x2048, .bf16⟩
  | .local _ .vmem, ⟨26, _⟩ => ⟨S1024x2048, .bf16⟩
  | .local _ .vmem, ⟨27, _⟩ => ⟨S1024x1024, .bf16⟩
  | .local _ .vmem, ⟨28, _⟩ => ⟨S1024x1024, .bf16⟩
  | .local _ .vmem, ⟨29, _⟩ => ⟨S4096x1024, .bf16⟩
  | .local _ .vmem, ⟨30, _⟩ => ⟨S4096x1024, .bf16⟩
  | .local _ .vmem, ⟨31, _⟩ => ⟨S4096x1024, .bf16⟩
  | .local _ .vmem, ⟨32, _⟩ => ⟨S4096x1024, .bf16⟩
  | .local _ .vmem, ⟨33, _⟩ => ⟨S1024x1024, .bf16⟩
  | .local _ .vmem, ⟨34, _⟩ => ⟨S1024x1024, .bf16⟩
  | .local _ .vmem, ⟨35, _⟩ => ⟨S256x2048, .bf16⟩
  | .local _ .vmem, ⟨36, _⟩ => ⟨S256x2048, .bf16⟩
  | .local _ .vmem, ⟨37, _⟩ => ⟨S256x2048, .bf16⟩
  | .local _ .vmem, ⟨38, _⟩ => ⟨S256x2048, .bf16⟩
  | .local _ .vmem, ⟨39, _⟩ => ⟨S256x2048, .bf16⟩
  | .local _ .vmem, ⟨40, _⟩ => ⟨S256x2048, .bf16⟩
  | .local _ .vmem, ⟨41, _⟩ => ⟨S256x2048, .bf16⟩
  | .local _ .vmem, ⟨42, _⟩ => ⟨S256x2048, .bf16⟩
  | .local _ .vmem, ⟨43, _⟩ => ⟨S256x4096, .f32⟩
  | .local _ .vmem, ⟨44, _⟩ => ⟨S1024x2048, .bf16⟩
  | .local _ .vmem, ⟨45, _⟩ => ⟨S1024x2048, .bf16⟩
  | .local _ .vmem, ⟨46, _⟩ => ⟨S1024x2048, .bf16⟩
  | .local _ .vmem, ⟨47, _⟩ => ⟨S1024x2048, .bf16⟩
  | .local _ .vmem, ⟨48, _⟩ => ⟨S1024x1024, .bf16⟩
  | .local _ .vmem, ⟨49, _⟩ => ⟨S1024x1024, .bf16⟩
  | .local _ .vmem, ⟨50, _⟩ => ⟨S4096x1024, .bf16⟩
  | .local _ .vmem, ⟨51, _⟩ => ⟨S4096x1024, .bf16⟩
  | .local _ .vmem, ⟨52, _⟩ => ⟨S4096x1024, .bf16⟩
  | .local _ .vmem, ⟨53, _⟩ => ⟨S4096x1024, .bf16⟩
  | .local _ .vmem, ⟨54, _⟩ => ⟨S1024x1024, .bf16⟩
  | .local _ .vmem, ⟨55, _⟩ => ⟨S1024x1024, .bf16⟩
  | .local _ .vmem, ⟨56, _⟩ => ⟨S256x1024, .bf16⟩
  | .local _ .vmem, ⟨57, _⟩ => ⟨S256x1024, .bf16⟩
  | .local _ .vmem, ⟨58, _⟩ => ⟨S256x512, .bf16⟩
  | .local _ .vmem, ⟨59, _⟩ => ⟨S256x512, .bf16⟩
  | .local _ .vmem, ⟨60, _⟩ => ⟨S1x1024x512, .bf16⟩
  | .local _ .vmem, ⟨61, _⟩ => ⟨S1x1024x512, .bf16⟩
  | .local _ .vmem, ⟨62, _⟩ => ⟨S256x4096, .bf16⟩
  | .local _ .vmem, ⟨63, _⟩ => ⟨S8x1024x512, .bf16⟩
  | .local _ .vmem, ⟨64, _⟩ => ⟨S8x1024x512, .bf16⟩
  | .local _ .vmem, ⟨65, _⟩ => ⟨S256x1024, .f32⟩
  | .local _ .vmem, ⟨66, _⟩ => ⟨S256x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg3_1 : Ref sig .tc := ⟨.vmem, 40, rfl⟩
abbrev cc6_stg4_0 : Ref sig .tc := ⟨.vmem, 41, rfl⟩
abbrev cc6_stg4_1 : Ref sig .tc := ⟨.vmem, 42, rfl⟩
abbrev cc6_stg5_0 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg1_0 : Ref sig .tc := ⟨.vmem, 63, rfl⟩
abbrev cc10_stg1_1 : Ref sig .tc := ⟨.vmem, 64, rfl⟩
abbrev cc10_stg2_0 : Ref sig .tc := ⟨.vmem, 65, rfl⟩
abbrev cc10_stg2_1 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem3_0 : DmaSem sig := 39
abbrev cc6_sem3_1 : DmaSem sig := 40
abbrev cc6_sem4_0 : DmaSem sig := 41
abbrev cc6_sem4_1 : DmaSem sig := 42
abbrev cc6_sem5_0 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61
abbrev cc10_sem0_0 : DmaSem sig := 62
abbrev cc10_sem1_0 : DmaSem sig := 63
abbrev cc10_sem1_1 : DmaSem sig := 64
abbrev cc10_sem2_0 : DmaSem sig := 65
abbrev cc10_sem2_1 : DmaSem sig := 66

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S256x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256x2048 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S256x2048 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x2048 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S256x4096 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨3, ![4, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S4096x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![2, 8, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage9_0 : Fin 2 → Memref sig .tc .vmem S256x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S256x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1x1024x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![1, 2, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 1 → Memref sig .tc .vmem S256x4096 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false, true]

abbrev stage10_1 : Fin 2 → Memref sig .tc .vmem S8x1024x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S256x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== CrossAttentionReferenceIdeal.lean ====
abbrev S4096x2048 : Shape := ⟨2, ![4096, 2048]⟩
abbrev S256x2048 : Shape := ⟨2, ![256, 2048]⟩
abbrev S2048x2048 : Shape := ⟨2, ![2048, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S256x4096 : Shape := ⟨2, ![256, 4096]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩
abbrev S4x512x256 : Shape := ⟨3, ![4, 512, 256]⟩
abbrev S4x256x512 : Shape := ⟨3, ![4, 256, 512]⟩
abbrev S4x4096x512 : Shape := ⟨3, ![4, 4096, 512]⟩

abbrev nBuf : Space → Nat
  | .hbm => 113
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S2048x2048, .bf16⟩
  | .hbm, ⟨3, _⟩ => ⟨S8x2048x512, .bf16⟩
  | .hbm, ⟨4, _⟩ => ⟨S2048x2048, .bf16⟩
  | .hbm, ⟨5, _⟩ => ⟨S4096x2048, .bf16⟩
  | .hbm, ⟨6, _⟩ => ⟨S4096x2048, .f32⟩
  | .hbm, ⟨7, _⟩ => ⟨S256x2048, .f32⟩
  | .hbm, ⟨8, _⟩ => ⟨S2048x2048, .f32⟩
  | .hbm, ⟨9, _⟩ => ⟨S8x2048x512, .f32⟩
  | .hbm, ⟨10, _⟩ => ⟨S2048x2048, .f32⟩
  | .hbm, ⟨11, _⟩ => ⟨S2048x8x512, .f32⟩
  | .hbm, ⟨12, _⟩ => ⟨S2048x4096, .f32⟩
  | .hbm, ⟨13, _⟩ => ⟨S256x4096, .f32⟩
  | .hbm, ⟨14, _⟩ => ⟨S4096x2048, .f32⟩
  | .hbm, ⟨15, _⟩ => ⟨S256x2048, .f32⟩
  | .hbm, ⟨16, _⟩ => ⟨S256x2048, .f32⟩
  | .hbm, ⟨17, _⟩ => ⟨S4096x4x512, .f32⟩
  | .hbm, ⟨18, _⟩ => ⟨S256x4x512, .f32⟩
  | .hbm, ⟨19, _⟩ => ⟨S256x4x512, .f32⟩
  | .hbm, ⟨20, _⟩ => ⟨S4x4096x256, .f32⟩
  | .hbm, ⟨21, _⟩ => ⟨S_, .f32⟩
  | .hbm, ⟨22, _⟩ => ⟨S4x4096x256, .f32⟩
  | .hbm, ⟨23, _⟩ => ⟨S4x4096x256, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S4x4096x256, .f32⟩
  | .hbm, ⟨28, _⟩ => ⟨S4x4096x256, .i1⟩
  | .hbm, ⟨29, _⟩ => ⟨S4x4096x256, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .i1⟩
  | .hbm, ⟨38, _⟩ => ⟨S_, .f32⟩
  | .hbm, ⟨39, _⟩ => ⟨S4x4096, .f32⟩
  | .hbm, ⟨40, _⟩ => ⟨S4x4096, .i1⟩
  | .hbm, ⟨41, _⟩ => ⟨S_, .f32⟩
  | .hbm, ⟨42, _⟩ => ⟨S4x4096, .f32⟩
  | .hbm, ⟨43, _⟩ => ⟨S_, .f32⟩
  | .hbm, ⟨44, _⟩ => ⟨S4x4096, .f32⟩
  | .hbm, ⟨45, _⟩ => ⟨S_, .f32⟩
  | .hbm, ⟨46, _⟩ => ⟨S4x4096, .f32⟩
  | .hbm, ⟨47, _⟩ => ⟨S4x4096, .f32⟩
  | .hbm, ⟨48, _⟩ => ⟨S4x4096, .f32⟩
  | .hbm, ⟨49, _⟩ => ⟨S4x4096x1, .f32⟩
  | .hbm, ⟨50, _⟩ => ⟨S4x4096x256, .f32⟩
  | .hbm, ⟨51, _⟩ => ⟨S4x4096x256, .f32⟩
  | .hbm, ⟨52, _⟩ => ⟨S4x4096x256, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S4x4096x256, .f32⟩
  | .hbm, ⟨57, _⟩ => ⟨S4x4096x256, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x512x4096, .f32⟩
  | .hbm, ⟨63, _⟩ => ⟨S4096x4x512, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S2048x2048, .f32⟩
  | .hbm, ⟨68, _⟩ => ⟨S2048x2048, .f32⟩
  | .hbm, ⟨69, _⟩ => ⟨S4096x2048, .f32⟩
  | .hbm, ⟨70, _⟩ => ⟨S4096x4x512, .f32⟩
  | .hbm, ⟨71, _⟩ => ⟨S4x512x4096, .f32⟩
  | .hbm, ⟨72, _⟩ => ⟨S4x4096x256, .f32⟩
  | .hbm, ⟨73, _⟩ => ⟨S4x512x256, .f32⟩
  | .hbm, ⟨74, _⟩ => ⟨S256x4x512, .f32⟩
  | .hbm, ⟨75, _⟩ => ⟨S4x4096x256, .f32⟩
  | .hbm, ⟨76, _⟩ => ⟨S4x4096x256, .f32⟩
  | .hbm, ⟨77, _⟩ => ⟨S4x4096x256, .f32⟩
  | .hbm, ⟨78, _⟩ => ⟨S_, .f32⟩
  | .hbm, ⟨79, _⟩ => ⟨S4x4096, .f32⟩
  | .hbm, ⟨80, _⟩ => ⟨S4x4096x1, .f32⟩
  | .hbm, ⟨81, _⟩ => ⟨S4x4096x1, .f32⟩
  | .hbm, ⟨82, _⟩ => ⟨S4x4096x256, .f32⟩
  | .hbm, ⟨83, _⟩ => ⟨S4x4096x256, .f32⟩
  | .hbm, ⟨84, _⟩ => ⟨S_, .f32⟩
  | .hbm, ⟨85, _⟩ => ⟨S4x4096, .f32⟩
  | .hbm, ⟨86, _⟩ => ⟨S4x4096x256, .f32⟩
  | .hbm, ⟨87, _⟩ => ⟨S4x4096x256, .f32⟩
  | .hbm, ⟨88, _⟩ => ⟨S4x4096x256, .f32⟩
  | .hbm, ⟨89, _⟩ => ⟨S_, .f32⟩
  | .hbm, ⟨90, _⟩ => ⟨S4x4096x256, .f32⟩
  | .hbm, ⟨91, _⟩ => ⟨S4x4096x256, .f32⟩
  | .hbm, ⟨92, _⟩ => ⟨S4x256x512, .f32⟩
  | .hbm, ⟨93, _⟩ => ⟨S256x4x512, .f32⟩
  | .hbm, ⟨94, _⟩ => ⟨S4x4096x512, .f32⟩
  | .hbm, ⟨95, _⟩ => ⟨S4096x4x512, .f32⟩
  | .hbm, ⟨96, _⟩ => ⟨S256x2048, .f32⟩
  | .hbm, ⟨97, _⟩ => ⟨S256x2048, .f32⟩
  | .hbm, ⟨98, _⟩ => ⟨S4096x2048, .f32⟩
  | .hbm, ⟨99, _⟩ => ⟨S256x4096, .f32⟩
  | .hbm, ⟨100, _⟩ => ⟨S2048x2048, .f32⟩
  | .hbm, ⟨101, _⟩ => ⟨S2048x2048, .f32⟩
  | .hbm, ⟨102, _⟩ => ⟨S4096x2048, .f32⟩
  | .hbm, ⟨103, _⟩ => ⟨S4096x2048, .f32⟩
  | .hbm, ⟨104, _⟩ => ⟨S2048x4096, .f32⟩
  | .hbm, ⟨105, _⟩ => ⟨S256x2048, .f32⟩
  | .hbm, ⟨106, _⟩ => ⟨S2048x8x512, .f32⟩
  | .hbm, ⟨107, _⟩ => ⟨S8x2048x512, .f32⟩
  | .hbm, ⟨108, _⟩ => ⟨S4096x2048, .bf16⟩
  | .hbm, ⟨109, _⟩ => ⟨S2048x2048, .bf16⟩
  | .hbm, ⟨110, _⟩ => ⟨S4096x2048, .bf16⟩
  | .hbm, ⟨111, _⟩ => ⟨S2048x2048, .bf16⟩
  | .hbm, ⟨112, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩

abbrev nD : Nat := 1
abbrev τ : Topo := Topo.v7x

variable {F : FTy → Type} [FloatOps F]
-- ==== ShortConv.lean ====
abbrev S4096x2048 : Shape := ⟨2, ![4096, 2048]⟩
abbrev S8x2048x768 : Shape := ⟨3, ![8, 2048, 768]⟩
abbrev S3x2048 : Shape := ⟨2, ![3, 2048]⟩
abbrev S2048x2048 : Shape := ⟨2, ![2048, 2048]⟩
abbrev S4096x6144 : Shape := ⟨2, ![4096, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩
abbrev S256x2048 : Shape := ⟨2, ![256, 2048]⟩
abbrev S32x2048 : Shape := ⟨2, ![32, 2048]⟩
abbrev S288x512 : Shape := ⟨2, ![288, 512]⟩
abbrev S32x512 : Shape := ⟨2, ![32, 512]⟩
abbrev S256x512 : Shape := ⟨2, ![256, 512]⟩
abbrev S1x512 : Shape := ⟨2, ![1, 512]⟩
abbrev S2048x1024 : Shape := ⟨2, ![2048, 1024]⟩
abbrev S1024x1024 : Shape := ⟨2, ![1024, 1024]⟩
abbrev S4096x1024 : Shape := ⟨2, ![4096, 1024]⟩
abbrev S256x6144 : Shape := ⟨2, ![256, 6144]⟩
abbrev S512 : Shape := ⟨1, ![512]⟩
abbrev S512x6144 : Shape := ⟨2, ![512, 6144]⟩
abbrev S8x1024x768 : Shape := ⟨3, ![8, 1024, 768]⟩
abbrev S512x1024 : Shape := ⟨2, ![512, 1024]⟩
abbrev S512x768 : Shape := ⟨2, ![512, 768]⟩
abbrev S1x1024x768 : Shape := ⟨3, ![1, 1024, 768]⟩
abbrev S4096x768 : Shape := ⟨2, ![4096, 768]⟩

abbrev nBuf : Space → Nat
  | .hbm => 14
  | .vmem => 72
  | .smem => 0
  | _ => 0

abbrev bufTy : (tb : Table) → Fin (tcTables nBuf tb) → BufTy
  | .hbm, ⟨0, _⟩ => ⟨S4096x2048, .bf16⟩
  | .hbm, ⟨1, _⟩ => ⟨S8x2048x768, .bf16⟩
  | .hbm, ⟨2, _⟩ => ⟨S3x2048, .f32⟩
  | .hbm, ⟨3, _⟩ => ⟨S2048x2048, .bf16⟩
  | .hbm, ⟨4, _⟩ => ⟨S4096x2048, .bf16⟩
  | .hbm, ⟨5, _⟩ => ⟨S4096x6144, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S2048x2048, .bf16⟩
  | .hbm, ⟨10, _⟩ => ⟨S4096x6144, .bf16⟩
  | .hbm, ⟨11, _⟩ => ⟨S3x2048, .f32⟩
  | .hbm, ⟨12, _⟩ => ⟨S4096x2048, .bf16⟩
  | .hbm, ⟨13, _⟩ => ⟨S8x2048x768, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S32x2048, .bf16⟩
  | .local _ .vmem, ⟨13, _⟩ => ⟨S32x2048, .bf16⟩
  | .local _ .vmem, ⟨14, _⟩ => ⟨S32x2048, .bf16⟩
  | .local _ .vmem, ⟨15, _⟩ => ⟨S32x2048, .bf16⟩
  | .local _ .vmem, ⟨16, _⟩ => ⟨S3x2048, .f32⟩
  | .local _ .vmem, ⟨17, _⟩ => ⟨S256x2048, .bf16⟩
  | .local _ .vmem, ⟨18, _⟩ => ⟨S256x2048, .bf16⟩
  | .local _ .vmem, ⟨19, _⟩ => ⟨S288x512, .f32⟩
  | .local _ .vmem, ⟨20, _⟩ => ⟨S1024x2048, .bf16⟩
  | .local _ .vmem, ⟨21, _⟩ => ⟨S1024x2048, .bf16⟩
  | .local _ .vmem, ⟨22, _⟩ => ⟨S2048x1024, .bf16⟩
  | .local _ .vmem, ⟨23, _⟩ => ⟨S2048x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x2048, .bf16⟩
  | .local _ .vmem, ⟨27, _⟩ => ⟨S1024x2048, .bf16⟩
  | .local _ .vmem, ⟨28, _⟩ => ⟨S1024x2048, .bf16⟩
  | .local _ .vmem, ⟨29, _⟩ => ⟨S1024x2048, .bf16⟩
  | .local _ .vmem, ⟨30, _⟩ => ⟨S1024x1024, .bf16⟩
  | .local _ .vmem, ⟨31, _⟩ => ⟨S1024x1024, .bf16⟩
  | .local _ .vmem, ⟨32, _⟩ => ⟨S4096x1024, .bf16⟩
  | .local _ .vmem, ⟨33, _⟩ => ⟨S4096x1024, .bf16⟩
  | .local _ .vmem, ⟨34, _⟩ => ⟨S4096x1024, .bf16⟩
  | .local _ .vmem, ⟨35, _⟩ => ⟨S4096x1024, .bf16⟩
  | .local _ .vmem, ⟨36, _⟩ => ⟨S1024x1024, .bf16⟩
  | .local _ .vmem, ⟨37, _⟩ => ⟨S1024x1024, .bf16⟩
  | .local _ .vmem, ⟨38, _⟩ => ⟨S256x2048, .bf16⟩
  | .local _ .vmem, ⟨39, _⟩ => ⟨S256x2048, .bf16⟩
  | .local _ .vmem, ⟨40, _⟩ => ⟨S256x2048, .bf16⟩
  | .local _ .vmem, ⟨41, _⟩ => ⟨S256x2048, .bf16⟩
  | .local _ .vmem, ⟨42, _⟩ => ⟨S256x2048, .bf16⟩
  | .local _ .vmem, ⟨43, _⟩ => ⟨S256x2048, .bf16⟩
  | .local _ .vmem, ⟨44, _⟩ => ⟨S32x2048, .bf16⟩
  | .local _ .vmem, ⟨45, _⟩ => ⟨S32x2048, .bf16⟩
  | .local _ .vmem, ⟨46, _⟩ => ⟨S32x2048, .bf16⟩
  | .local _ .vmem, ⟨47, _⟩ => ⟨S32x2048, .bf16⟩
  | .local _ .vmem, ⟨48, _⟩ => ⟨S32x2048, .bf16⟩
  | .local _ .vmem, ⟨49, _⟩ => ⟨S32x2048, .bf16⟩
  | .local _ .vmem, ⟨50, _⟩ => ⟨S256x2048, .bf16⟩
  | .local _ .vmem, ⟨51, _⟩ => ⟨S256x2048, .bf16⟩
  | .local _ .vmem, ⟨52, _⟩ => ⟨S32x2048, .bf16⟩
  | .local _ .vmem, ⟨53, _⟩ => ⟨S32x2048, .bf16⟩
  | .local _ .vmem, ⟨54, _⟩ => ⟨S3x2048, .f32⟩
  | .local _ .vmem, ⟨55, _⟩ => ⟨S256x6144, .bf16⟩
  | .local _ .vmem, ⟨56, _⟩ => ⟨S256x6144, .bf16⟩
  | .local _ .vmem, ⟨57, _⟩ => ⟨S3x2048, .f32⟩
  | .local _ .vmem, ⟨58, _⟩ => ⟨S288x512, .f32⟩
  | .local _ .vmem, ⟨59, _⟩ => ⟨S288x512, .f32⟩
  | .local _ .vmem, ⟨60, _⟩ => ⟨S512x6144, .bf16⟩
  | .local _ .vmem, ⟨61, _⟩ => ⟨S512x6144, .bf16⟩
  | .local _ .vmem, ⟨62, _⟩ => ⟨S8x1024x768, .bf16⟩
  | .local _ .vmem, ⟨63, _⟩ => ⟨S8x1024x768, .bf16⟩
  | .local _ .vmem, ⟨64, _⟩ => ⟨S512x1024, .bf16⟩
  | .local _ .vmem, ⟨65, _⟩ => ⟨S512x1024, .bf16⟩
  | .local _ .vmem, ⟨66, _⟩ => ⟨S4096x1024, .bf16⟩
  | .local _ .vmem, ⟨67, _⟩ => ⟨S4096x1024, .bf16⟩
  | .local _ .vmem, ⟨68, _⟩ => ⟨S4096x768, .bf16⟩
  | .local _ .vmem, ⟨69, _⟩ => ⟨S4096x768, .bf16⟩
  | .local _ .vmem, ⟨70, _⟩ => ⟨S1x1024x768, .bf16⟩
  | .local _ .vmem, ⟨71, _⟩ => ⟨S1x1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg6_1 : Ref sig .tc := ⟨.vmem, 51, rfl⟩
abbrev cc5_stg7_0 : Ref sig .tc := ⟨.vmem, 52, rfl⟩
abbrev cc5_stg7_1 : Ref sig .tc := ⟨.vmem, 53, rfl⟩
abbrev cc5_stg8_0 : Ref sig .tc := ⟨.vmem, 54, rfl⟩
abbrev cc5_stg9_0 : Ref sig .tc := ⟨.vmem, 55, rfl⟩
abbrev cc5_stg9_1 : Ref sig .tc := ⟨.vmem, 56, rfl⟩
abbrev cc5_stg10_0 : Ref sig .tc := ⟨.vmem, 57, rfl⟩
abbrev cc5_scratch0 : Ref sig .tc := ⟨.vmem, 58, rfl⟩
abbrev cc5_scratch1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg1_1 : Ref sig .tc := ⟨.vmem, 69, rfl⟩
abbrev cc7_stg2_0 : Ref sig .tc := ⟨.vmem, 70, rfl⟩
abbrev cc7_stg2_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem3_1 : DmaSem sig := 44
abbrev cc5_sem4_0 : DmaSem sig := 45
abbrev cc5_sem4_1 : DmaSem sig := 46
abbrev cc5_sem5_0 : DmaSem sig := 47
abbrev cc5_sem5_1 : DmaSem sig := 48
abbrev cc5_sem6_0 : DmaSem sig := 49
abbrev cc5_sem6_1 : DmaSem sig := 50
abbrev cc5_sem7_0 : DmaSem sig := 51
abbrev cc5_sem7_1 : DmaSem sig := 52
abbrev cc5_sem8_0 : DmaSem sig := 53
abbrev cc5_sem9_0 : DmaSem sig := 54
abbrev cc5_sem9_1 : DmaSem sig := 55
abbrev cc5_sem10_0 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem2_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem2_1 : DmaSem sig := 68

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc1_transform_4 (i : grid1.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c1_i32 : BitVec 32 := 1#32
  let c0_i32 : BitVec 32 := 0#32
  ![arg0.toNat, c1_i32.toNat]

def cc5_transform_2 (i : grid5.Coords) : Fin 2 → Nat :=
  let arg0 : BitVec 32 := BitVec.ofNat 32 (i 0).val
  let c2_i32 : BitVec 32 := 2#32
  let c0_i32 : BitVec 32 := 0#32
  ![arg0.toNat, c2_i32.toNat]

def cc5_transform_3 (i : grid5.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc5_transform_4 (i : grid5.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc5_transform_5 (i : grid5.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S256x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S32x2048 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S32x2048 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S32x2048 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x2048 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S32x2048 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S3x2048 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S256x6144 .bf16 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 1 → Memref sig .tc .vmem S3x2048 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev grid6 : Pipeline.Grid := ⟨3, ![8, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x6144 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S8x1024x768 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 8, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage7_0 : Fin 2 → Memref sig .tc .vmem S4096x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S4096x768 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1x1024x768 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== ShortConvReferenceIdeal.lean ====
abbrev S4096x2048 : Shape := ⟨2, ![4096, 2048]⟩
abbrev S8x2048x768 : Shape := ⟨3, ![8, 2048, 768]⟩
abbrev S3x2048 : Shape := ⟨2, ![3, 2048]⟩
abbrev S2048x2048 : Shape := ⟨2, ![2048, 2048]⟩
abbrev S2048x8x768 : Shape := ⟨3, ![2048, 8, 768]⟩
abbrev S2048x6144 : Shape := ⟨2, ![2048, 6144]⟩
abbrev S4096x6144 : Shape := ⟨2, ![4096, 6144]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩
abbrev S6144x2048 : Shape := ⟨2, ![6144, 2048]⟩

abbrev nBuf : Space → Nat
  | .hbm => 105
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x768, .bf16⟩
  | .hbm, ⟨2, _⟩ => ⟨S3x2048, .f32⟩
  | .hbm, ⟨3, _⟩ => ⟨S2048x2048, .bf16⟩
  | .hbm, ⟨4, _⟩ => ⟨S4096x2048, .bf16⟩
  | .hbm, ⟨5, _⟩ => ⟨S4096x2048, .f32⟩
  | .hbm, ⟨6, _⟩ => ⟨S8x2048x768, .f32⟩
  | .hbm, ⟨7, _⟩ => ⟨S2048x2048, .f32⟩
  | .hbm, ⟨8, _⟩ => ⟨S2048x8x768, .f32⟩
  | .hbm, ⟨9, _⟩ => ⟨S2048x6144, .f32⟩
  | .hbm, ⟨10, _⟩ => ⟨S4096x6144, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S2x2048, .f32⟩
  | .hbm, ⟨16, _⟩ => ⟨S4096x2048, .f32⟩
  | .hbm, ⟨17, _⟩ => ⟨S4098x2048, .f32⟩
  | .hbm, ⟨18, _⟩ => ⟨S_, .f32⟩
  | .hbm, ⟨19, _⟩ => ⟨S2x2048, .f32⟩
  | .hbm, ⟨20, _⟩ => ⟨S4096x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S2048x2048, .f32⟩
  | .hbm, ⟨44, _⟩ => ⟨S2048x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S3x2048, .f32⟩
  | .hbm, ⟨59, _⟩ => ⟨S_, .f32⟩
  | .hbm, ⟨60, _⟩ => ⟨S4098x2048, .f32⟩
  | .hbm, ⟨61, _⟩ => ⟨S4096x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S_, .f32⟩
  | .hbm, ⟨71, _⟩ => ⟨S3x2048, .f32⟩
  | .hbm, ⟨72, _⟩ => ⟨S3x2048, .f32⟩
  | .hbm, ⟨73, _⟩ => ⟨S_, .f32⟩
  | .hbm, ⟨74, _⟩ => ⟨S4098x2048, .f32⟩
  | .hbm, ⟨75, _⟩ => ⟨S4098x2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S_, .f32⟩
  | .hbm, ⟨86, _⟩ => ⟨S3x2048, .f32⟩
  | .hbm, ⟨87, _⟩ => ⟨S3x2048, .f32⟩
  | .hbm, ⟨88, _⟩ => ⟨S_, .f32⟩
  | .hbm, ⟨89, _⟩ => ⟨S4098x2048, .f32⟩
  | .hbm, ⟨90, _⟩ => ⟨S4098x2048, .f32⟩
  | .hbm, ⟨91, _⟩ => ⟨S2x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S4096x6144, .f32⟩
  | .hbm, ⟨96, _⟩ => ⟨S6144x2048, .f32⟩
  | .hbm, ⟨97, _⟩ => ⟨S2048x6144, .f32⟩
  | .hbm, ⟨98, _⟩ => ⟨S4096x2048, .f32⟩
  | .hbm, ⟨99, _⟩ => ⟨S2048x8x768, .f32⟩
  | .hbm, ⟨100, _⟩ => ⟨S8x2048x768, .f32⟩
  | .hbm, ⟨101, _⟩ => ⟨S4096x2048, .bf16⟩
  | .hbm, ⟨102, _⟩ => ⟨S2048x2048, .bf16⟩
  | .hbm, ⟨103, _⟩ => ⟨S4096x2048, .bf16⟩
  | .hbm, ⟨104, _⟩ => ⟨S8x2048x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_1 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_cst_4 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_cst_12 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩

abbrev nD : Nat := 1
abbrev τ : Topo := Topo.v7x

variable {F : FTy → Type} [FloatOps F]
-- ==== MixerProducts.lean ====
abbrev S4096x2048 : Shape := ⟨2, ![4096, 2048]⟩
abbrev S8x2048x512 : Shape := ⟨3, ![8, 2048, 512]⟩
abbrev S2048x2048 : Shape := ⟨2, ![2048, 2048]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S2048x1024 : Shape := ⟨2, ![2048, 1024]⟩
abbrev S1024x1024 : Shape := ⟨2, ![1024, 1024]⟩
abbrev S4096x1024 : Shape := ⟨2, ![4096, 1024]⟩
abbrev S1024x4096 : Shape := ⟨2, ![1024, 4096]⟩
abbrev S8x1024x512 : Shape := ⟨3, ![8, 1024, 512]⟩
abbrev S1x1024x512 : Shape := ⟨3, ![1, 1024, 512]⟩
abbrev S4096x512 : Shape := ⟨2, ![4096, 512]⟩

abbrev nBuf : Space → Nat
  | .hbm => 12
  | .vmem => 36
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x2048, .bf16⟩
  | .hbm, ⟨3, _⟩ => ⟨S2048x2048, .bf16⟩
  | .hbm, ⟨4, _⟩ => ⟨S4096x2048, .bf16⟩
  | .hbm, ⟨5, _⟩ => ⟨S4096x4096, .bf16⟩
  | .hbm, ⟨6, _⟩ => ⟨S4096x4096, .bf16⟩
  | .hbm, ⟨7, _⟩ => ⟨S4096x2048, .bf16⟩
  | .hbm, ⟨8, _⟩ => ⟨S4096x2048, .bf16⟩
  | .hbm, ⟨9, _⟩ => ⟨S2048x2048, .bf16⟩
  | .hbm, ⟨10, _⟩ => ⟨S4096x2048, .bf16⟩
  | .hbm, ⟨11, _⟩ => ⟨S8x2048x512, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | .local _ .vmem, ⟨16, _⟩ => ⟨S1024x1024, .bf16⟩
  | .local _ .vmem, ⟨17, _⟩ => ⟨S1024x1024, .bf16⟩
  | .local _ .vmem, ⟨18, _⟩ => ⟨S4096x1024, .bf16⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x4096, .bf16⟩
  | .local _ .vmem, ⟨25, _⟩ => ⟨S1024x4096, .bf16⟩
  | .local _ .vmem, ⟨26, _⟩ => ⟨S8x1024x512, .bf16⟩
  | .local _ .vmem, ⟨27, _⟩ => ⟨S8x1024x512, .bf16⟩
  | .local _ .vmem, ⟨28, _⟩ => ⟨S1024x1024, .bf16⟩
  | .local _ .vmem, ⟨29, _⟩ => ⟨S1024x1024, .bf16⟩
  | .local _ .vmem, ⟨30, _⟩ => ⟨S4096x1024, .bf16⟩
  | .local _ .vmem, ⟨31, _⟩ => ⟨S4096x1024, .bf16⟩
  | .local _ .vmem, ⟨32, _⟩ => ⟨S4096x512, .bf16⟩
  | .local _ .vmem, ⟨33, _⟩ => ⟨S4096x512, .bf16⟩
  | .local _ .vmem, ⟨34, _⟩ => ⟨S1x1024x512, .bf16⟩
  | .local _ .vmem, ⟨35, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S8x1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== MixerProductsReferenceIdeal.lean ====
abbrev S4096x2048 : Shape := ⟨2, ![4096, 2048]⟩
abbrev S8x2048x512 : Shape := ⟨3, ![8, 2048, 512]⟩
abbrev S2048x2048 : Shape := ⟨2, ![2048, 2048]⟩
abbrev S4096x4096 : Shape := ⟨2, ![4096, 4096]⟩
abbrev S2048x8x512 : Shape := ⟨3, ![2048, 8, 512]⟩
abbrev S2048x4096 : Shape := ⟨2, ![2048, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x2048, .bf16⟩
  | .hbm, ⟨3, _⟩ => ⟨S2048x2048, .bf16⟩
  | .hbm, ⟨4, _⟩ => ⟨S4096x2048, .bf16⟩
  | .hbm, ⟨5, _⟩ => ⟨S4096x4096, .bf16⟩
  | .hbm, ⟨6, _⟩ => ⟨S4096x2048, .f32⟩
  | .hbm, ⟨7, _⟩ => ⟨S8x2048x512, .f32⟩
  | .hbm, ⟨8, _⟩ => ⟨S2048x8x512, .f32⟩
  | .hbm, ⟨9, _⟩ => ⟨S2048x4096, .f32⟩
  | .hbm, ⟨10, _⟩ => ⟨S4096x4096, .f32⟩
  | .hbm, ⟨11, _⟩ => ⟨S4096x2048, .f32⟩
  | .hbm, ⟨12, _⟩ => ⟨S2048x2048, .f32⟩
  | .hbm, ⟨13, _⟩ => ⟨S4096x2048, .f32⟩
  | .hbm, ⟨14, _⟩ => ⟨S4096x2048, .f32⟩
  | .hbm, ⟨15, _⟩ => ⟨S2048x2048, .f32⟩
  | .hbm, ⟨16, _⟩ => ⟨S2048x2048, .f32⟩
  | .hbm, ⟨17, _⟩ => ⟨S4096x2048, .f32⟩
  | .hbm, ⟨18, _⟩ => ⟨S4096x4096, .f32⟩
  | .hbm, ⟨19, _⟩ => ⟨S4096x2048, .f32⟩
  | .hbm, ⟨20, _⟩ => ⟨S2048x4096, .f32⟩
  | .hbm, ⟨21, _⟩ => ⟨S4096x2048, .f32⟩
  | .hbm, ⟨22, _⟩ => ⟨S2048x8x512, .f32⟩
  | .hbm, ⟨23, _⟩ => ⟨S8x2048x512, .f32⟩
  | .hbm, ⟨24, _⟩ => ⟨S4096x4096, .bf16⟩
  | .hbm, ⟨25, _⟩ => ⟨S4096x2048, .bf16⟩
  | .hbm, ⟨26, _⟩ => ⟨S4096x2048, .bf16⟩
  | .hbm, ⟨27, _⟩ => ⟨S2048x2048, .bf16⟩
  | .hbm, ⟨28, _⟩ => ⟨S4096x2048, .bf16⟩
  | .hbm, ⟨29, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== UpdateOne.lean ====
abbrev S8x2048x512 : Shape := ⟨3, ![8, 2048, 512]⟩
abbrev S1x2048x512 : Shape := ⟨3, ![1, 2048, 512]⟩
abbrev S8x256x2048 : Shape := ⟨3, ![8, 256, 2048]⟩
abbrev S1x256x2048 : Shape := ⟨3, ![1, 256, 2048]⟩
abbrev S8x512x512 : Shape := ⟨3, ![8, 512, 512]⟩
abbrev S1x512x512 : Shape := ⟨3, ![1, 512, 512]⟩
abbrev S512x512 : Shape := ⟨2, ![512, 512]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 16
  | .vmem => 32
  | .smem => 0
  | _ => 0

abbrev bufTy : (tb : Table) → Fin (tcTables nBuf tb) → BufTy
  | .hbm, ⟨0, _⟩ => ⟨S8x2048x512, .bf16⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S8x256x2048, .bf16⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S1x2048x512, .f32⟩
  | .hbm, ⟨9, _⟩ => ⟨S1x2048x512, .f32⟩
  | .hbm, ⟨10, _⟩ => ⟨S1x2048x512, .f32⟩
  | .hbm, ⟨11, _⟩ => ⟨S1x2048x512, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S1x256x2048, .f32⟩
  | .local _ .vmem, ⟨0, _⟩ => ⟨S8x512x512, .bf16⟩
  | .local _ .vmem, ⟨1, _⟩ => ⟨S8x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S8x128x2048, .bf16⟩
  | .local _ .vmem, ⟨17, _⟩ => ⟨S8x128x2048, .bf16⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 2], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== UpdateOneReferenceIdeal.lean ====
abbrev S8x2048x512 : Shape := ⟨3, ![8, 2048, 512]⟩
abbrev S1x2048x512 : Shape := ⟨3, ![1, 2048, 512]⟩
abbrev S8x256x2048 : Shape := ⟨3, ![8, 256, 2048]⟩
abbrev S1x256x2048 : Shape := ⟨3, ![1, 256, 2048]⟩
abbrev S_ : Shape := ⟨0, ![]⟩
abbrev S2048x512 : Shape := ⟨2, ![2048, 512]⟩
abbrev S256x2048 : Shape := ⟨2, ![256, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S8x256x2048, .bf16⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S8x2048x512, .f32⟩
  | .hbm, ⟨9, _⟩ => ⟨S_, .f32⟩
  | .hbm, ⟨10, _⟩ => ⟨S2048x512, .f32⟩
  | .hbm, ⟨11, _⟩ => ⟨S1x2048x512, .f32⟩
  | .hbm, ⟨12, _⟩ => ⟨S8x256x2048, .f32⟩
  | .hbm, ⟨13, _⟩ => ⟨S_, .f32⟩
  | .hbm, ⟨14, _⟩ => ⟨S256x2048, .f32⟩
  | .hbm, ⟨15, _⟩ => ⟨S1x256x2048, .f32⟩
  | .hbm, ⟨16, _⟩ => ⟨S_, .f32⟩
  | .hbm, ⟨17, _⟩ => ⟨S1x2048x512, .f32⟩
  | .hbm, ⟨18, _⟩ => ⟨S1x2048x512, .f32⟩
  | .hbm, ⟨19, _⟩ => ⟨S_, .f32⟩
  | .hbm, ⟨20, _⟩ => ⟨S1x2048x512, .f32⟩
  | .hbm, ⟨21, _⟩ => ⟨S1x2048x512, .f32⟩
  | .hbm, ⟨22, _⟩ => ⟨S1x2048x512, .f32⟩
  | .hbm, ⟨23, _⟩ => ⟨S_, .f32⟩
  | .hbm, ⟨24, _⟩ => ⟨S1x2048x512, .f32⟩
  | .hbm, ⟨25, _⟩ => ⟨S1x2048x512, .f32⟩
  | .hbm, ⟨26, _⟩ => ⟨S1x2048x512, .f32⟩
  | .hbm, ⟨27, _⟩ => ⟨S_, .f32⟩
  | .hbm, ⟨28, _⟩ => ⟨S1x2048x512, .f32⟩
  | .hbm, ⟨29, _⟩ => ⟨S1x2048x512, .f32⟩
  | .hbm, ⟨30, _⟩ => ⟨S1x2048x512, .f32⟩
  | .hbm, ⟨31, _⟩ => ⟨S_, .f32⟩
  | .hbm, ⟨32, _⟩ => ⟨S1x2048x512, .f32⟩
  | .hbm, ⟨33, _⟩ => ⟨S1x2048x512, .f32⟩
  | .hbm, ⟨34, _⟩ => ⟨S_, .f32⟩
  | .hbm, ⟨35, _⟩ => ⟨S1x2048x512, .f32⟩
  | .hbm, ⟨36, _⟩ => ⟨S1x2048x512, .f32⟩
  | .hbm, ⟨37, _⟩ => ⟨S1x2048x512, .f32⟩
  | .hbm, ⟨38, _⟩ => ⟨S_, .f32⟩
  | .hbm, ⟨39, _⟩ => ⟨S1x2048x512, .f32⟩
  | .hbm, ⟨40, _⟩ => ⟨S1x2048x512, .f32⟩
  | .hbm, ⟨41, _⟩ => ⟨S1x2048x512, .f32⟩
  | .hbm, ⟨42, _⟩ => ⟨S_, .f32⟩
  | .hbm, ⟨43, _⟩ => ⟨S1x2048x512, .f32⟩
  | .hbm, ⟨44, _⟩ => ⟨S1x2048x512, .f32⟩
  | .hbm, ⟨45, _⟩ => ⟨S1x2048x512, .f32⟩
  | .hbm, ⟨46, _⟩ => ⟨S_, .f32⟩
  | .hbm, ⟨47, _⟩ => ⟨S1x2048x512, .f32⟩
  | .hbm, ⟨48, _⟩ => ⟨S1x2048x512, .f32⟩
  | .hbm, ⟨49, _⟩ => ⟨S_, .f32⟩
  | .hbm, ⟨50, _⟩ => ⟨S1x256x2048, .f32⟩
  | .hbm, ⟨51, _⟩ => ⟨S1x256x2048, .f32⟩
  | .hbm, ⟨52, _⟩ => ⟨S_, .f32⟩
  | .hbm, ⟨53, _⟩ => ⟨S1x256x2048, .f32⟩
  | .hbm, ⟨54, _⟩ => ⟨S1x256x2048, .f32⟩
  | .hbm, ⟨55, _⟩ => ⟨S1x256x2048, .f32⟩
  | .hbm, ⟨56, _⟩ => ⟨S_, .f32⟩
  | .hbm, ⟨57, _⟩ => ⟨S1x256x2048, .f32⟩
  | .hbm, ⟨58, _⟩ => ⟨S1x256x2048, .f32⟩
  | .hbm, ⟨59, _⟩ => ⟨S1x256x2048, .f32⟩
  | .hbm, ⟨60, _⟩ => ⟨S_, .f32⟩
  | .hbm, ⟨61, _⟩ => ⟨S1x256x2048, .f32⟩
  | .hbm, ⟨62, _⟩ => ⟨S1x256x2048, .f32⟩
  | .hbm, ⟨63, _⟩ => ⟨S1x256x2048, .f32⟩
  | .hbm, ⟨64, _⟩ => ⟨S_, .f32⟩
  | .hbm, ⟨65, _⟩ => ⟨S1x256x2048, .f32⟩
  | .hbm, ⟨66, _⟩ => ⟨S1x256x2048, .f32⟩
  | .hbm, ⟨67, _⟩ => ⟨S_, .f32⟩
  | .hbm, ⟨68, _⟩ => ⟨S1x256x2048, .f32⟩
  | .hbm, ⟨69, _⟩ => ⟨S1x256x2048, .f32⟩
  | .hbm, ⟨70, _⟩ => ⟨S1x256x2048, .f32⟩
  | .hbm, ⟨71, _⟩ => ⟨S_, .f32⟩
  | .hbm, ⟨72, _⟩ => ⟨S1x256x2048, .f32⟩
  | .hbm, ⟨73, _⟩ => ⟨S1x256x2048, .f32⟩
  | .hbm, ⟨74, _⟩ => ⟨S1x256x2048, .f32⟩
  | .hbm, ⟨75, _⟩ => ⟨S_, .f32⟩
  | .hbm, ⟨76, _⟩ => ⟨S1x256x2048, .f32⟩
  | .hbm, ⟨77, _⟩ => ⟨S1x256x2048, .f32⟩
  | .hbm, ⟨78, _⟩ => ⟨S1x256x2048, .f32⟩
  | .hbm, ⟨79, _⟩ => ⟨S_, .f32⟩
  | .hbm, ⟨80, _⟩ => ⟨S1x256x2048, .f32⟩
  | .hbm, ⟨81, _⟩ => ⟨S1x256x2048, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_cst_10 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_13 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_14 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_17 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_18 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== Proof.Attention.Spec.lean ====
/-
  What the attention and its backward pass compute, as plain functions on extended reals: one query row `q` and its
  cotangent row `g` against the 256 keys `k` and values `v` of a head, then the rows of all four heads side by side.
-/
module

public import Idealize.ShloMosaic.PureOps.Ideal
public import Idealize.ShloMosaic.Lib.Pointwise

@[expose] public section

noncomputable section

namespace Cert.Attention

open Idealize.ShloMosaic

/-- A row of one head. -/
abbrev Seg : Type := Fin 512 → EReal
/-- A row of all four heads side by side. -/
abbrev Row : Type := Fin 2048 → EReal

/-- The scaled score of a query row against key `j`. -/
def score (q : Seg) (k : Fin 256 → Seg) (j : Fin 256) : EReal :=
  (∑ d, q d * k j d) * Ideal.ofBits .f32 0x3D3504F3#32

/-- The greatest score of the row. -/
def top (q : Seg) (k : Fin 256 → Seg) : EReal :=
  Finset.univ.fold max (Ideal.ofBits .f32 0xFF800000#32) (score q k)

/-- The exponential of a score less the greatest one. -/
def expo (q : Seg) (k : Fin 256 → Seg) (j : Fin 256) : EReal := Ideal.exp (score q k j - top q k)

/-- The sum of the row's exponentials. -/
def total (q : Seg) (k : Fin 256 → Seg) : EReal := ∑ j, expo q k j

/-- The attention's probability of key `j`. -/
def prob (q : Seg) (k : Fin 256 → Seg) (j : Fin 256) : EReal := Ideal.div (expo q k j) (total q k)

/-- The cotangent of the probability of key `j`. -/
def dprob (g : Seg) (v : Fin 256 → Seg) (j : Fin 256) : EReal := ∑ d, g d * v j d

/-- The cotangent of the unscaled score of key `j`. -/
def dscore (q : Seg) (k v : Fin 256 → Seg) (g : Seg) (j : Fin 256) : EReal :=
  prob q k j * (dprob g v j - ∑ i, dprob g v i * prob q k i) * Ideal.ofBits .f32 0x3D3504F3#32

/-! ## Four heads side by side -/

/-- The head a lane belongs to. -/
def headOf (l : Fin 2048) : Fin 4 := ⟨l.val / 512, by omega⟩
/-- Lane `d` of head `h`. -/
def lane (h : Fin 4) (d : Fin 512) : Fin 2048 := ⟨512 * h.val + d.val, by omega⟩

@[simp] theorem headOf_lane (h : Fin 4) (d : Fin 512) : headOf (lane h d) = h :=
  Fin.ext (show (512 * h.val + d.val) / 512 = h.val by omega)

/-- A lane from its head and its place in it. -/
theorem lane_headOf (l : Fin 2048) : lane (headOf l) ⟨l.val % 512, by omega⟩ = l :=
  Fin.ext (show 512 * (l.val / 512) + l.val % 512 = l.val by omega)

/-- Every lane is a lane of some head. -/
theorem exists_lane (l : Fin 2048) : ∃ h d, l = lane h d := ⟨_, _, (lane_headOf l).symm⟩

/-- Head `h` of a row. -/
def seg (h : Fin 4) (x : Row) : Seg := fun d => x (lane h d)

/-- The cotangent of the score of key `j` in head `h`. -/
def dscoreAt (q g : Row) (k v : Fin 256 → Row) (h : Fin 4) (j : Fin 256) : EReal :=
  dscore (seg h q) (fun i => seg h (k i)) (fun i => seg h (v i)) (seg h g) j

/-- The probability of key `j` in head `h`. -/
def probAt (q : Row) (k : Fin 256 → Row) (h : Fin 4) (j : Fin 256) : EReal :=
  prob (seg h q) (fun i => seg h (k i)) j

/-- The attention's result for one query row. -/
def attnRow (q : Row) (k v : Fin 256 → Row) (l : Fin 2048) : EReal := ∑ j, probAt q k (headOf l) j * v j l

/-- The gradient of one query row. -/
def dqRow (q g : Row) (k v : Fin 256 → Row) (l : Fin 2048) : EReal :=
  ∑ j, dscoreAt q g k v (headOf l) j * k j l

/-- What one query row adds to the gradient of key `j`. -/
def dkTerm (q g : Row) (k v : Fin 256 → Row) (j : Fin 256) (l : Fin 2048) : EReal :=
  dscoreAt q g k v (headOf l) j * q l

/-- What one query row adds to the gradient of value `j`. -/
def dvTerm (q g : Row) (k : Fin 256 → Row) (j : Fin 256) (l : Fin 2048) : EReal :=
  probAt q k (headOf l) j * g l

/-- What one query row adds to the joint array: the keys' gradients in the lower lanes, the values' in the upper. -/
def dkvTerm (q g : Row) (k v : Fin 256 → Row) (j : Fin 256) (l : Fin 4096) : EReal :=
  if h : l.val < 2048 then dkTerm q g k v j ⟨l.val, h⟩ else dvTerm q g k j ⟨l.val - 2048, by omega⟩

theorem dkvTerm_low (q g : Row) (k v : Fin 256 → Row) (j : Fin 256) (l : Fin 4096) (i : Fin 2048) (e : l.val = i.val) :
    dkvTerm q g k v j l = dkTerm q g k v j i := by
  unfold dkvTerm
  rw [dif_pos (by omega)]
  exact congrArg _ (Fin.ext e)

theorem dkvTerm_high (q g : Row) (k v : Fin 256 → Row) (j : Fin 256) (l : Fin 4096) (i : Fin 2048)
    (e : l.val = 2048 + i.val) : dkvTerm q g k v j l = dvTerm q g k j i := by
  unfold dkvTerm
  rw [dif_neg (by omega)]
  exact congrArg _ (Fin.ext (show l.val - 2048 = i.val by omega))

end Cert.Attention
-- ==== Proof.Attention.Grad.lean ====
/-
  The softmax's gradient on extended reals: with finite queries and keys a row's exponentials are positive and finite,
  and the gradient through the quotient `e / ∑ e`, as the chain rule writes it, is `p · (dp - ∑ dp · p)`.
-/
module

public import proofs.«01_k».proof.Proof.Attention.Spec
public import Mathlib.Data.EReal.Inv

@[expose] public section

noncomputable section

namespace Cert.Attention

open Idealize.ShloMosaic

/-- Neither infinity. -/
def Finite (x : EReal) : Prop := ∃ r : ℝ, x = r

theorem Finite.mul {x y : EReal} (hx : Finite x) (hy : Finite y) : Finite (x * y) := by
  obtain ⟨a, rfl⟩ := hx
  obtain ⟨b, rfl⟩ := hy
  exact ⟨a * b, (EReal.coe_mul a b).symm⟩

theorem Finite.add {x y : EReal} (hx : Finite x) (hy : Finite y) : Finite (x + y) := by
  obtain ⟨a, rfl⟩ := hx
  obtain ⟨b, rfl⟩ := hy
  exact ⟨a + b, (EReal.coe_add a b).symm⟩

theorem Finite.sub {x y : EReal} (hx : Finite x) (hy : Finite y) : Finite (x - y) := by
  obtain ⟨a, rfl⟩ := hx
  obtain ⟨b, rfl⟩ := hy
  exact ⟨a - b, (EReal.coe_sub a b).symm⟩

theorem Finite.sum {ι : Type} (s : Finset ι) {f : ι → EReal} (h : ∀ i, Finite (f i)) : Finite (∑ i ∈ s, f i) := by
  classical
  induction s using Finset.induction_on with
  | empty => exact ⟨0, by simp⟩
  | insert a s ha ih => rw [Finset.sum_insert ha]; exact (h a).add ih

/-- What lies strictly between the infinities in absolute value is finite. -/
theorem finite_of_abs_lt {x : EReal} (h : max x (-x) < ⊤) : Finite x := by
  induction x using EReal.rec with
  | bot => simp at h
  | top => simp at h
  | coe r => exact ⟨r, rfl⟩

theorem finite_scale : Finite (Ideal.ofBits .f32 0x3D3504F3#32) := by
  simp only [Ideal.ofBits, Ideal.ieee]
  rw [if_neg (by decide), if_neg (by decide)]
  exact ⟨_, rfl⟩

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

/-- The greatest of finitely many finite numbers, at least one of them, is finite. -/
theorem finite_fold_max {n : ℕ} {f : Fin (n + 1) → EReal} (h : ∀ i, Finite (f i)) :
    Finite (Finset.univ.fold max ⊥ f) := by
  classical
  have key : ∀ s : Finset (Fin (n + 1)), s.fold max ⊥ f = ⊥ ∨ Finite (s.fold max ⊥ f) := by
    intro s
    induction s using Finset.induction_on with
    | empty => exact Or.inl Finset.fold_empty
    | insert a s ha ih =>
      rw [Finset.fold_insert ha]
      rcases ih with e | e
      · exact Or.inr (by rw [e, max_eq_left bot_le]; exact h a)
      · rcases max_choice (f a) (s.fold max ⊥ f) with q | q <;> rw [q]
        · exact Or.inr (h a)
        · exact Or.inr e
  rcases key Finset.univ with e | e
  · exfalso
    have hle : f 0 ≤ Finset.univ.fold max ⊥ f := (Finset.le_fold_max _).2 (Or.inr ⟨0, Finset.mem_univ _, le_rfl⟩)
    obtain ⟨r, hr⟩ := h 0
    rw [e, hr] at hle
    exact absurd (le_bot_iff.1 hle) (EReal.coe_ne_bot r)
  · exact e

/-- Positive and finite. -/
def Pos (x : EReal) : Prop := ∃ r : ℝ, 0 < r ∧ x = r

theorem Pos.sum {n : ℕ} {f : Fin (n + 1) → EReal} (h : ∀ i, Pos (f i)) : Pos (∑ i, f i) := by
  choose r hr e using h
  refine ⟨∑ i, r i, Finset.sum_pos (fun i _ => hr i) Finset.univ_nonempty, ?_⟩
  classical
  have key : ∀ s : Finset (Fin (n + 1)), ∑ i ∈ s, f i = ((∑ i ∈ s, r i : ℝ) : EReal) := by
    intro s
    induction s using Finset.induction_on with
    | empty => simp
    | insert a s ha ih => rw [Finset.sum_insert ha, Finset.sum_insert ha, EReal.coe_add, ih, e a]
  exact key _

theorem pos_exp {x : EReal} (h : Finite x) : Pos (Ideal.exp x) := by
  obtain ⟨r, rfl⟩ := h
  exact ⟨Real.exp r, Real.exp_pos r, rfl⟩

theorem Pos.ne_zero {x : EReal} (h : Pos x) : x ≠ 0 := by
  obtain ⟨r, hr, rfl⟩ := h
  exact_mod_cast hr.ne'

theorem Pos.inv {x : EReal} (h : Pos x) : Pos x⁻¹ := by
  obtain ⟨r, hr, rfl⟩ := h
  exact ⟨r⁻¹, inv_pos.2 hr, (EReal.coe_inv r).symm⟩

theorem Pos.mul {x y : EReal} (hx : Pos x) (hy : Pos y) : Pos (x * y) := by
  obtain ⟨r, hr, rfl⟩ := hx
  obtain ⟨s, hs, rfl⟩ := hy
  exact ⟨r * s, mul_pos hr hs, (EReal.coe_mul r s).symm⟩

theorem Pos.mul_add {a : EReal} (h : Pos a) (x y : EReal) : a * (x + y) = a * x + a * y := by
  obtain ⟨r, hr, rfl⟩ := h
  exact EReal.left_distrib_of_nonneg_of_ne_top (by exact_mod_cast hr.le) (EReal.coe_ne_top r) x y

theorem Pos.mul_sum {ι : Type} {a : EReal} (h : Pos a) (s : Finset ι) (f : ι → EReal) :
    a * ∑ i ∈ s, f i = ∑ i ∈ s, a * f i := by
  classical
  induction s using Finset.induction_on with
  | empty => simp
  | insert b s hb ih => rw [Finset.sum_insert hb, Finset.sum_insert hb, h.mul_add, ih]

theorem div_pos_eq {y : EReal} (h : Pos y) (x : EReal) : Ideal.div x y = x * y⁻¹ := if_neg h.ne_zero

/-- The chain rule through the quotient, and the softmax's gradient. -/
theorem softmax_grad {ι : Type} [Fintype ι] {t s : EReal} {e : ι → EReal} (ht : Pos t) (d : ι → EReal) (j : ι) :
    (Ideal.div (d j) t + -∑ i, d i * Ideal.div 1 (t * t) * e i) * e j * s
      = Ideal.div (e j) t * (d j - ∑ i, d i * Ideal.div (e i) t) * s := by
  have hb := ht.inv
  have e1 : ∀ x, Ideal.div x t = t⁻¹ * x := fun x => by rw [div_pos_eq ht, mul_comm]
  have e2 : Ideal.div 1 (t * t) = t⁻¹ * t⁻¹ := by
    rw [div_pos_eq (ht.mul ht), one_mul]
    obtain ⟨r, hr, rfl⟩ := ht
    rw [← EReal.coe_mul, ← EReal.coe_inv, ← EReal.coe_inv, ← EReal.coe_mul, mul_inv]
  have e3 : ∑ i, d i * (t⁻¹ * t⁻¹) * e i = t⁻¹ * ∑ i, d i * (t⁻¹ * e i) := by
    rw [hb.mul_sum]
    refine Finset.sum_congr rfl fun i _ => ?_
    ac_rfl
  simp only [e1, e2]
  rw [e3, ← mul_neg, ← hb.mul_add, ← sub_eq_add_neg]
  ac_rfl

variable {q : Seg} {k : Fin 256 → Seg}

theorem finite_score (hq : ∀ d, Finite (q d)) (hk : ∀ j d, Finite (k j d)) (j : Fin 256) : Finite (score q k j) :=
  (Finite.sum _ fun d => (hq d).mul (hk j d)).mul finite_scale

theorem finite_top (hq : ∀ d, Finite (q d)) (hk : ∀ j d, Finite (k j d)) : Finite (top q k) := by
  unfold top
  rw [ofBits_neg_inf]
  exact finite_fold_max (finite_score hq hk)

/-- A row's exponentials are positive and finite. -/
theorem pos_expo (hq : ∀ d, Finite (q d)) (hk : ∀ j d, Finite (k j d)) (j : Fin 256) : Pos (expo q k j) :=
  pos_exp ((finite_score hq hk j).sub (finite_top hq hk))

/-- So is their sum. -/
theorem pos_total (hq : ∀ d, Finite (q d)) (hk : ∀ j d, Finite (k j d)) : Pos (total q k) :=
  Pos.sum (pos_expo hq hk)

/-- A comparison with infinity that holds. -/
theorem finite_of_cmp {x : EReal} (h : Ideal.cmp .olt (max x (-x)) (Ideal.ofBits .f32 0x7F800000#32) = 1#1) : Finite x := by
  rw [ofBits_inf] at h
  by_contra hx
  have hn : ¬max x (-x) < ⊤ := fun l => hx (finite_of_abs_lt l)
  simp only [Ideal.cmp, hn, decide_false] at h
  exact absurd h (by decide)

end Cert.Attention
-- ==== Proof.FeedForward.Spec.lean ====
/-
  The feed-forward layer and its gradients as functions of the four arrays, one element at a time. The gate's and the
  up projection's weights lie side by side in eight blocks of columns: four of the gate, then four of the up projection.
-/
module

public import Idealize.ShloMosaic.Lib.Pointwise

@[expose] public section

noncomputable section

namespace Cert.Ffn

open Idealize.ShloMosaic

/-- Rows of features: the activations and the cotangent. -/
abbrev Feat : Type := Vec Ideal ⟨2, ![4096, 2048]⟩ .bf16
/-- The projection's weights in eight blocks of columns. -/
abbrev WGu : Type := Vec Ideal ⟨3, ![8, 2048, 1408]⟩ .bf16
/-- The weights of the way down. -/
abbrev WDown : Type := Vec Ideal ⟨2, ![5632, 2048]⟩ .bf16
/-- Rows of hidden units. -/
abbrev Hidden : Type := Vec Ideal ⟨2, ![4096, 5632]⟩ .bf16
/-- The gradients of the gate and of the up projection. -/
abbrev Pair : Type := Vec Ideal ⟨3, ![2, 4096, 5632]⟩ .bf16

/-- The block of columns in which hidden unit `n` of the gate lies. -/
def gateBlock (n : Fin 5632) : Fin 8 := ⟨n.val / 1408, by omega⟩
/-- The block of columns in which hidden unit `n` of the up projection lies. -/
def upBlock (n : Fin 5632) : Fin 8 := ⟨4 + n.val / 1408, by omega⟩
/-- The place of hidden unit `n` in its block. -/
def place (n : Fin 5632) : Fin 1408 := ⟨n.val % 1408, by omega⟩
/-- Whether block `b` is one of the gate's (0) or of the up projection's (1). -/
def half (b : Fin 8) : Fin 2 := ⟨b.val / 4, by omega⟩
/-- The hidden unit at place `l` of block `b`. -/
def unitOf (b : Fin 8) (l : Fin 1408) : Fin 5632 := ⟨b.val % 4 * 1408 + l.val, by omega⟩

/-- One column of the projection. -/
def column (h : Feat) (w : WGu) (t : Fin 4096) (b : Fin 8) (l : Fin 1408) : EReal := ∑ k : Fin 2048, h (ix2 t k) * w (ix3 b k l)
/-- The gate of row `t`. -/
def gate (h : Feat) (w : WGu) (t : Fin 4096) (n : Fin 5632) : EReal := column h w t (gateBlock n) (place n)
/-- The up projection of row `t`. -/
def up (h : Feat) (w : WGu) (t : Fin 4096) (n : Fin 5632) : EReal := column h w t (upBlock n) (place n)

/-- `x` times its logistic. -/
def silu (x : EReal) : EReal := x * Ideal.logistic x
/-- The slope of `silu`, as the kernel writes it. -/
def slope (x : EReal) : EReal := Ideal.logistic x + silu x * (1 - Ideal.logistic x)

/-- The hidden units. -/
def act (h : Feat) (w : WGu) : Hidden := fun i => silu (gate h w (i 0) (i 1)) * up h w (i 0) (i 1)
/-- What the gate's gradient is per unit of the hidden unit's. -/
def perGate (h : Feat) (w : WGu) : Hidden := fun i => up h w (i 0) (i 1) * slope (gate h w (i 0) (i 1))
/-- What the up projection's gradient is per unit of the hidden unit's. -/
def perUp (h : Feat) (w : WGu) : Hidden := fun i => silu (gate h w (i 0) (i 1))

/-- The layer's output. -/
def down (a : Hidden) (wd : WDown) : Feat := fun i => ∑ n : Fin 5632, a (ix2 (i 0) n) * wd (ix2 n (i 1))
/-- The hidden units' gradient. -/
def dact (dy : Feat) (wd : WDown) (t : Fin 4096) (n : Fin 5632) : EReal := ∑ k : Fin 2048, dy (ix2 t k) * wd (ix2 n k)
/-- The gradients of the gate (0) and of the up projection (1). -/
def dgu (dy : Feat) (wd : WDown) (pg pu : Hidden) : Pair := fun i =>
  dact dy wd (i 1) (i 2) * if (i 0).val = 0 then pg (ix2 (i 1) (i 2)) else pu (ix2 (i 1) (i 2))
/-- The gradient of the weights of the way down. -/
def dwDown (a : Hidden) (dy : Feat) : WDown := fun i => ∑ t : Fin 4096, a (ix2 t (i 0)) * dy (ix2 t (i 1))
/-- The gradient of the projection's weights. -/
def dwGu (h : Feat) (d : Pair) : WGu := fun i => ∑ t : Fin 4096, h (ix2 t (i 1)) * d (ix3 (half (i 0)) t (unitOf (i 0) (i 2)))

end Cert.Ffn
-- ==== Proof.FeedForward.Slope.lean ====
/-
  The slope of `x · logistic x` on extended reals: on finite numbers the chain rule's two terms gather into the one
  product the kernel forms.
-/
module

public import proofs.«01_k».proof.Proof.FeedForward.Spec
public import proofs.«01_k».proof.Proof.Attention.Grad

@[expose] public section

noncomputable section

namespace Cert.Ffn

open Idealize.ShloMosaic
open Cert.Attention (Finite Pos pos_exp div_pos_eq)

theorem finite_neg {x : EReal} (h : Finite x) : Finite (-x) := by
  obtain ⟨r, rfl⟩ := h
  exact ⟨-r, (EReal.coe_neg r).symm⟩

/-- The logistic of a finite number is finite. -/
theorem finite_logistic {x : EReal} (h : Finite x) : Finite (Ideal.logistic x) := by
  have hp : Pos (1 + Ideal.exp (-x)) := by
    obtain ⟨r, hr, e⟩ := pos_exp (finite_neg h)
    exact ⟨1 + r, by positivity, by rw [e, EReal.coe_add, EReal.coe_one]⟩
  obtain ⟨r, -, e⟩ := hp.inv
  refine ⟨r, ?_⟩
  unfold Ideal.logistic
  rw [div_pos_eq hp, one_mul, e]

/-- The chain rule through `x · logistic x · u`, gathered. -/
theorem gate_grad {d g u : EReal} (hd : Finite d) (hg : Finite g) (hu : Finite u) :
    d * u * Ideal.logistic g + g * (d * u) * (Ideal.logistic g * (1 - Ideal.logistic g)) = d * (u * slope g) := by
  unfold slope silu
  obtain ⟨s, hs⟩ := finite_logistic hg
  obtain ⟨d, rfl⟩ := hd
  obtain ⟨g, rfl⟩ := hg
  obtain ⟨u, rfl⟩ := hu
  rw [hs]
  norm_cast
  ring

variable {h : Feat} {w : WGu} {dy : Feat} {wd : WDown}

theorem finite_column (hh : ∀ t k, Finite (h (ix2 t k))) (hw : ∀ b k l, Finite (w (ix3 b k l))) (t : Fin 4096) (b : Fin 8)
    (l : Fin 1408) : Finite (column h w t b l) := Finite.sum _ fun k => (hh t k).mul (hw b k l)

theorem finite_dact (hy : ∀ t k, Finite (dy (ix2 t k))) (hw : ∀ n k, Finite (wd (ix2 n k))) (t : Fin 4096) (n : Fin 5632) :
    Finite (dact dy wd t n) := Finite.sum _ fun k => (hy t k).mul (hw n k)

end Cert.Ffn
-- ==== Proof.FeedForward.Pre.lean ====
/-
  The precondition of the feed-forward's claim, read back: every element of the four arguments is finite.
-/
module

public import proofs.«01_k».proof.Defs
public import proofs.«01_k».proof.Proof.Attention.Grad
public import proofs.«01_k».proof.Proof.FeedForward.Slope
public import Idealize.ShloMosaic.Lib.ReduceAll
public import Idealize.ShloMosaic.Lib.Pointwise

@[expose] public section

set_option maxRecDepth 16384

noncomputable section

namespace Cert.Ffn

open Idealize.ShloMosaic Idealize.ShloMosaic.TcCoe Idealize.SL.Sem Cert.Pre_finite_feed_forward
open Cert.Attention (Finite finite_of_cmp)

/-- The side conditions of the precondition's operations. -/
theorem preFacts : Cert.Pre_finite_feed_forward.Facts where
  bitsLt_bf16_f32 := by decide
  bcast_S_S4096x2048 := by decide
  reducesTo_S4096x2048_S_d0_1 := by decide
  h_S_ := by decide
  bcast_S_S8x2048x1408 := by decide
  reducesTo_S8x2048x1408_S_d0_1_2 := by decide
  bcast_S_S5632x2048 := by decide
  reducesTo_S5632x2048_S_d0_1 := by decide

variable [Facts]

theorem fn_finite {h : Feat} {w : WGu} {wd : WDown} {dy : Feat} (hf : fn (F := Ideal) h w wd dy = fun _ => 1#1) :
    (∀ t k, Finite (h (ix2 t k))) ∧ (∀ b k l, Finite (w (ix3 b k l))) ∧ (∀ n k, Finite (wd (ix2 n k)))
      ∧ ∀ t k, Finite (dy (ix2 t k)) := by
  have h0 := congrFun hf ix0
  dsimp only [fn, fn_part1] at h0
  obtain ⟨h1, hy⟩ := IntOp.andi_eq_one.1 h0
  obtain ⟨h2, hd⟩ := IntOp.andi_eq_one.1 h1
  obtain ⟨hh, hw⟩ := IntOp.andi_eq_one.1 h2
  refine ⟨fun t k => ?_, fun b k l => ?_, fun n k => ?_, fun t k => ?_⟩
  · have e := Host.reduce_andi_all _ _ _ _ _ hh (ix2 t k)
    pointwise at e
    exact finite_of_cmp e
  · have e := Host.reduce_andi_all _ _ _ _ _ hw (ix3 b k l)
    pointwise at e
    exact finite_of_cmp e
  · have e := Host.reduce_andi_all _ _ _ _ _ hd (ix2 n k)
    pointwise at e
    exact finite_of_cmp e
  · have e := Host.reduce_andi_all _ _ _ _ _ hy (ix2 t k)
    pointwise at e
    exact finite_of_cmp e

end Cert.Ffn
-- ==== Proof.FeedForward.Ref.lean ====
/-
  The reference's four results, read at an index. Its term is cut into the layers of the feed-forward and the steps of
  its chain rule; each is read over the one before it.
-/
module

public import proofs.«01_k».proof.Proof.Gen.FeedForwardReferenceIdeal.Run
public import proofs.«01_k».proof.Proof.FeedForward.Slope
public import Idealize.ShloMosaic.Lib.Pointwise

@[expose] public section

set_option maxRecDepth 16384

noncomputable section

namespace Cert.Ffn.Ref

open Cert.FeedForwardReferenceIdeal Cert.FeedForwardReferenceIdeal.Gen Cert.FeedForwardReferenceIdeal.Value
open Idealize.ShloMosaic Idealize.ShloMosaic.TcCoe Idealize.SL.Sem
open Cert.Attention (Finite)

variable (h : Feat) (w : WGu) (wd : WDown) (dy : Feat)

/-- The weights of the projection, column by column. -/
def wide : FVec Ideal S2048x11264 .f32 :=
  shapeCast _ (transpose S2048x8x1408 [1, 0, 2] (extf .f32 w bitsLt_bf16_f32) transposes_S8x2048x1408_S2048x8x1408_1_0_2) shapeCasts_S2048x8x1408_S2048x11264
/-- The projection. -/
def both : FVec Ideal S4096x11264 .f32 :=
  Host.dotGeneral dot_S4096x2048_S2048x11264_S4096x11264_1_0_0_1_n_n none (extf .f32 h bitsLt_bf16_f32) (wide w)
/-- The gate's columns. -/
def gates : FVec Ideal S4096x5632 .f32 := extractStridedSlice S4096x5632 ![0, 0] (both h w) slices_S4096x11264_S4096x5632_0_0
/-- The up projection's columns. -/
def ups : FVec Ideal S4096x5632 .f32 := extractStridedSlice S4096x5632 ![0, 5632] (both h w) slices_S4096x11264_S4096x5632_0_5632
/-- Ones. -/
def ones : FVec Ideal S4096x5632 .f32 := broadcastInDim S4096x5632 ![] bcast_S_S4096x5632 (constant S_ .f32 0x3F800000#32)
/-- The gates' logistic. -/
def sigs : FVec Ideal S4096x5632 .f32 := Host.divf ones (addf ones (Host.exp (Host.negf (gates h w))))
/-- The gates times their logistic. -/
def silus : FVec Ideal S4096x5632 .f32 := mulf (gates h w) (sigs h w)
/-- The hidden units. -/
def acts : FVec Ideal S4096x5632 .f32 := mulf (silus h w) (ups h w)
/-- The output. -/
def outs : FVec Ideal S4096x2048 .bf16 :=
  truncf .bf16 (Host.dotGeneral dot_S4096x5632_S5632x2048_S4096x2048_1_0_0_1_n_n none (acts h w) (extf .f32 wd bitsLt_bf16_f32)) bitsLt_bf16_f32
/-- The hidden units' gradient. -/
def dacts : FVec Ideal S4096x5632 .f32 :=
  Host.dotGeneral dot_S4096x2048_S5632x2048_S4096x5632_1_1_0_0_n_n none (extf .f32 dy bitsLt_bf16_f32) (extf .f32 wd bitsLt_bf16_f32)
/-- The gates' gradient. -/
def dgates : FVec Ideal S4096x5632 .f32 :=
  addf (mulf (mulf (dacts wd dy) (ups h w)) (sigs h w)) (mulf (mulf (gates h w) (mulf (dacts wd dy) (ups h w))) (mulf (sigs h w) (subf ones (sigs h w))))
/-- The up projection's gradient. -/
def dups : FVec Ideal S4096x5632 .f32 := mulf (silus h w) (dacts wd dy)
/-- Both gradients, column by column. -/
def dboth : FVec Ideal S4096x11264 .f32 :=
  concatenate S4096x11264 1 [⟨S4096x5632, dgates h w wd dy⟩, ⟨S4096x5632, dups h w wd dy⟩] concatenates_S4096x5632_S4096x5632_S4096x11264_d1
/-- Both gradients, one after the other. -/
def pair : FVec Ideal S2x4096x5632 .bf16 :=
  truncf .bf16 (concatenate S2x4096x5632 0
    [⟨S1x4096x5632, broadcastInDim S1x4096x5632 ![1, 2] bcast_S4096x5632_S1x4096x5632_1_2
      (extractStridedSlice S4096x5632 ![0, 0] (dboth h w wd dy) slices_S4096x11264_S4096x5632_0_0)⟩,
     ⟨S1x4096x5632, broadcastInDim S1x4096x5632 ![1, 2] bcast_S4096x5632_S1x4096x5632_1_2
      (extractStridedSlice S4096x5632 ![0, 5632] (dboth h w wd dy) slices_S4096x11264_S4096x5632_0_5632)⟩]
    concatenates_S1x4096x5632_S1x4096x5632_S2x4096x5632_d0) bitsLt_bf16_f32
/-- The gradient of the weights of the way down. -/
def wdGrad : FVec Ideal S5632x2048 .bf16 :=
  truncf .bf16 (transpose S5632x2048 [1, 0] (Host.dotGeneral dot_S4096x2048_S4096x5632_S2048x5632_0_0_1_1_n_n none
    (extf .f32 dy bitsLt_bf16_f32) (acts h w)) transposes_S2048x5632_S5632x2048_1_0) bitsLt_bf16_f32
/-- The gradient of the projection's weights. -/
def wGrad : FVec Ideal S8x2048x1408 .bf16 :=
  truncf .bf16 (transpose S8x2048x1408 [1, 0, 2] (shapeCast _ (transpose S2048x11264 [1, 0]
    (Host.dotGeneral dot_S4096x11264_S4096x2048_S11264x2048_0_0_1_1_n_n none (dboth h w wd dy) (extf .f32 h bitsLt_bf16_f32))
    transposes_S11264x2048_S2048x11264_1_0) shapeCasts_S2048x11264_S2048x8x1408) transposes_S2048x8x1408_S8x2048x1408_1_0_2) bitsLt_bf16_f32

variable (m : (ℓ : Loc nD τ sig) → Buf (Elt Ideal) ℓ) (c : Dev nD)

theorem res1_eq : res_out1 m c = pair (m ((c : Thread nD τ).loc main_arg0)) (m ((c : Thread nD τ).loc main_arg1))
    (m ((c : Thread nD τ).loc main_arg2)) (m ((c : Thread nD τ).loc main_arg3)) := rfl
theorem res3_eq : res_out3 m c = wGrad (m ((c : Thread nD τ).loc main_arg0)) (m ((c : Thread nD τ).loc main_arg1))
    (m ((c : Thread nD τ).loc main_arg2)) (m ((c : Thread nD τ).loc main_arg3)) := rfl

variable (t : Fin 4096) (n : Fin 5632)

/-- Column `x` of the projection. -/
theorem both_at (x : Fin 11264) : both h w (ix2 t x) = column h w t ⟨x.val / 1408, by omega⟩ ⟨x.val % 1408, by omega⟩ := by
  pointwise [both, wide]
  rfl
theorem gates_at : gates h w (ix2 t n) = gate h w t n := by
  pointwise [gates]
  rw [both_at]
  rfl
theorem ups_at : ups h w (ix2 t n) = up h w t n := by
  pointwise [ups]
  rw [both_at]
  unfold up
  congr 1
  · exact Fin.ext (show (5632 + n.val) / 1408 = 4 + n.val / 1408 by omega)
  · exact Fin.ext (show (5632 + n.val) % 1408 = n.val % 1408 by omega)
theorem sigs_at : sigs h w (ix2 t n) = Ideal.logistic (gate h w t n) := by
  pointwise [sigs, ones]
  rw [gates_at]
  rfl
theorem silus_at : silus h w (ix2 t n) = silu (gate h w t n) := by
  pointwise [silus]
  rw [gates_at, sigs_at]
  rfl
theorem acts_at : acts h w (ix2 t n) = act h w (ix2 t n) := by
  pointwise [acts]
  rw [silus_at, ups_at]
  rfl
theorem dacts_at : dacts wd dy (ix2 t n) = dact dy wd t n := by
  pointwise [dacts]
  rfl
theorem outs_at (k : Fin 2048) : outs h w wd (ix2 t k) = down (act h w) wd (ix2 t k) := by
  pointwise [outs]
  simp only [acts_at]
  rfl
theorem wdGrad_at (k : Fin 2048) : wdGrad h w dy (ix2 n k) = dwDown (act h w) dy (ix2 n k) := by
  pointwise [wdGrad]
  simp only [acts_at]
  exact Finset.sum_congr rfl fun _ _ => mul_comm _ _

/-- Two arrays of columns side by side. -/
theorem beside (a b : FVec Ideal S4096x5632 .f32) (x : Fin 11264) :
    (concatenate S4096x11264 1 [⟨S4096x5632, a⟩, ⟨S4096x5632, b⟩] concatenates_S4096x5632_S4096x5632_S4096x11264_d1 : FVec Ideal S4096x11264 .f32) (ix2 t x)
      = if p : x.val < 5632 then a (ix2 t ⟨x.val, p⟩) else b (ix2 t ⟨x.val - 5632, by omega⟩) := by
  pointwise
/-- Two arrays of columns one after the other. -/
theorem stacked (a b : FVec Ideal S1x4096x5632 .f32) (z : Fin 2) :
    (concatenate S2x4096x5632 0 [⟨S1x4096x5632, a⟩, ⟨S1x4096x5632, b⟩] concatenates_S1x4096x5632_S1x4096x5632_S2x4096x5632_d0 : FVec Ideal S2x4096x5632 .f32) (ix3 z t n)
      = if z.val = 0 then a (ix3 0 t n) else b (ix3 0 t n) := by
  pointwise
  by_cases p : z.val = 0
  · rw [dif_pos (by omega), if_pos p]
    exact congrArg (fun y => a (ix3 y t n)) (Subsingleton.elim _ _)
  · rw [dif_neg (by omega), if_neg p]
    exact congrArg (fun y => b (ix3 y t n)) (Subsingleton.elim _ _)

theorem ix3_congr {z z' : Fin 2} {n n' : Fin 5632} (hz : z = z') (hn : n = n') : ix3 z t n = ix3 z' t n' := by rw [hz, hn]

section Fin
variable {h w wd dy} (hh : ∀ t k, Finite (h (ix2 t k))) (hw : ∀ b k l, Finite (w (ix3 b k l)))
  (hd : ∀ n k, Finite (wd (ix2 n k))) (hy : ∀ t k, Finite (dy (ix2 t k)))
include hh hw hd hy

theorem dgates_at : dgates h w wd dy (ix2 t n) = dact dy wd t n * perGate h w (ix2 t n) := by
  pointwise [dgates, ones]
  rw [dacts_at, ups_at, sigs_at, gates_at]
  exact gate_grad (finite_dact hy hd t n) (finite_column hh hw _ _ _) (finite_column hh hw _ _ _)
omit hh hw hd hy in
theorem dups_at : dups h w wd dy (ix2 t n) = dact dy wd t n * perUp h w (ix2 t n) := by
  pointwise [dups]
  rw [dacts_at, silus_at]
  exact mul_comm _ _
/-- Column `x` of both gradients. -/
theorem dboth_at (x : Fin 11264) : dboth h w wd dy (ix2 t x)
    = dgu dy wd (perGate h w) (perUp h w) (ix3 ⟨x.val / 5632, by omega⟩ t ⟨x.val % 5632, by omega⟩) := by
  unfold dboth
  rw [beside]
  by_cases p : x.val < 5632
  · rw [dif_pos p, dgates_at t _ hh hw hd hy]
    have e : (⟨x.val, p⟩ : Fin 5632) = ⟨x.val % 5632, by omega⟩ := Fin.ext (show x.val = x.val % 5632 by omega)
    rw [e]
    exact congrArg (fun b : EReal => dact dy wd t ⟨x.val % 5632, by omega⟩ * b) (if_pos (show x.val / 5632 = 0 by omega)).symm
  · rw [dif_neg p, dups_at]
    have e : (⟨x.val - 5632, by omega⟩ : Fin 5632) = ⟨x.val % 5632, by omega⟩ := Fin.ext (show x.val - 5632 = x.val % 5632 by omega)
    rw [e]
    exact congrArg (fun b : EReal => dact dy wd t ⟨x.val % 5632, by omega⟩ * b) (if_neg (show ¬x.val / 5632 = 0 by omega)).symm
theorem pair_at (z : Fin 2) : pair h w wd dy (ix3 z t n) = dgu dy wd (perGate h w) (perUp h w) (ix3 z t n) := by
  unfold pair
  refine (stacked t n _ _ z).trans ?_
  by_cases p : z.val = 0
  · rw [if_pos p]
    pointwise
    rw [dboth_at t hh hw hd hy]
    exact congrArg (dgu dy wd (perGate h w) (perUp h w)) (ix3_congr t (Fin.ext (show n.val / 5632 = z.val by omega)) (Fin.ext (show n.val % 5632 = n.val by omega)))
  · rw [if_neg p]
    pointwise
    rw [dboth_at t hh hw hd hy]
    exact congrArg (dgu dy wd (perGate h w) (perUp h w)) (ix3_congr t (Fin.ext (show (5632 + n.val) / 5632 = z.val by omega)) (Fin.ext (show (5632 + n.val) % 5632 = n.val by omega)))
theorem wGrad_at (b : Fin 8) (k : Fin 2048) (l : Fin 1408) :
    wGrad h w wd dy (ix3 b k l) = dwGu h (dgu dy wd (perGate h w) (perUp h w)) (ix3 b k l) := by
  pointwise [wGrad]
  refine Finset.sum_congr (M := EReal) rfl fun t _ => ?_
  rw [dboth_at t hh hw hd hy, mul_comm]
  exact congrArg (fun e : EReal => h (ix2 t k) * e) (congrArg (dgu dy wd (perGate h w) (perUp h w)) (ix3_congr t
    (Fin.ext (show (b.val * 1408 + l.val) / 5632 = b.val / 4 by omega))
    (Fin.ext (show (b.val * 1408 + l.val) % 5632 = b.val % 4 * 1408 + l.val by omega))))
end Fin

end Cert.Ffn.Ref
-- ==== Proof.FeedForward.Hidden.lean ====
/-
  The kernel's first call: the hidden units and the two factors of their gradient, block by block and then whole.
-/
module

public import proofs.«01_k».proof.Proof.Gen.FeedForwardIdeal.Frame
public import Idealize.ShloMosaic.Lib.Pipeline.ValueKit
public import Idealize.ShloMosaic.Lib.Pipeline.ReadBack
public import proofs.«01_k».proof.Proof.FeedForward.Spec

@[expose] public section

set_option maxRecDepth 16384

noncomputable section

namespace Cert.Ffn

open Cert.FeedForwardIdeal Cert.FeedForwardIdeal.Gen Idealize.ShloMosaic Idealize.ShloMosaic.TcCoe Idealize.SL.Sem
open Idealize.ShloMosaic.Pipeline (Dat)

section Block
variable (x : Vec Ideal S512x2048 .bf16) (a b : Vec Ideal S1x2048x1408 .bf16) (r : Fin 512) (l : Fin 1408)

/-- One column of a block of the projection. -/
def columnBlk (x : Vec Ideal S512x2048 .bf16) (a : Vec Ideal S1x2048x1408 .bf16) (r : Fin 512) (l : Fin 1408) : EReal :=
  ∑ k : Fin 2048, x (ix2 r k) * a (ix3 0 k l)

theorem column_pay : k0_pay1 (F := Ideal) x a (ix2 r l) = columnBlk x a r l := by
  pointwise [k0_pay1]; rfl

theorem perUp_pay : k0_pay4 (F := Ideal) x a (ix2 r l) = silu (columnBlk x a r l) := by
  pointwise [k0_pay4, k0_pay3, k0_pay2, column_pay]; rfl
theorem act_pay : k0_pay7 (F := Ideal) x a b (ix2 r l) = silu (columnBlk x a r l) * columnBlk x b r l := by
  pointwise [k0_pay7, k0_pay5, k0_pay3, k0_pay2, k0_pay1]; rfl
theorem perGate_pay : k0_pay6 (F := Ideal) x a b (ix2 r l) = columnBlk x b r l * slope (columnBlk x a r l) := by
  pointwise [k0_pay6, k0_pay5, k0_pay3, k0_pay2, k0_pay1]; rfl
end Block

variable (V : (c : Dev nD) → (b : Ref sig .tc) → Buf (Elt Ideal) ((c : Thread nD τ).loc b)) (c : Dev nD)

theorem idx0 : ∀ t : Fin cfg0.N, win0_0.index t = ![t.val / 4, 0] ∧ win0_1.index t = ![t.val % 4, 0, 0]
    ∧ win0_2.index t = ![4 + t.val % 4, 0, 0] ∧ win0_3.index t = ![t.val / 4, t.val % 4]
    ∧ win0_4.index t = ![t.val / 4, t.val % 4] ∧ win0_5.index t = ![t.val / 4, t.val % 4] :=
  (by decide +kernel : ∀ t : Fin grid0.N, win0_0.index t = ![t.val / 4, 0] ∧ win0_1.index t = ![t.val % 4, 0, 0]
    ∧ win0_2.index t = ![4 + t.val % 4, 0, 0] ∧ win0_3.index t = ![t.val / 4, t.val % 4]
    ∧ win0_4.index t = ![t.val / 4, t.val % 4] ∧ win0_5.index t = ![t.val / 4, t.val % 4])

/-- Row `r` of point `t`'s block of rows. -/
def row0 (t : Fin cfg0.N) (r : Fin 512) : Fin 4096 := ⟨t.val / 4 * 512 + r.val, by have : t.val < 32 := t.isLt; omega⟩
/-- Hidden unit `l` of point `t`'s block of units. -/
def unit0 (t : Fin cfg0.N) (l : Fin 1408) : Fin 5632 := ⟨t.val % 4 * 1408 + l.val, by omega⟩

theorem gate_blk (t : Fin cfg0.N) (r : Fin 512) (l : Fin 1408) :
    columnBlk (iblk0 V c 0 t) (iblk0 V c 1 t) r l = gate (V c main_arg0) (V c main_arg1) (row0 t r) (unit0 t l) := by
  unfold columnBlk gate column
  refine Finset.sum_congr rfl fun k _ => congrArg₂ (· * ·) ?_ ?_
  · unfold row0; blk_ext [iblk0, idx0 t]
  · unfold unit0 gateBlock place
    have : l.val < 1408 := l.isLt
    blk_ext [iblk0, idx0 t]

theorem up_blk (t : Fin cfg0.N) (r : Fin 512) (l : Fin 1408) :
    columnBlk (iblk0 V c 0 t) (iblk0 V c 2 t) r l = up (V c main_arg0) (V c main_arg1) (row0 t r) (unit0 t l) := by
  unfold columnBlk up column
  refine Finset.sum_congr rfl fun k _ => congrArg₂ (· * ·) ?_ ?_
  · unfold row0; blk_ext [iblk0, idx0 t]
  · unfold unit0 upBlock place
    have : l.val < 1408 := l.isLt
    blk_ext [iblk0, idx0 t]

section Outs
variable (x0 : Vec Ideal S512x2048 .bf16) (x1 x2 : Vec Ideal S1x2048x1408 .bf16) (y : S512x1408.Idx)

theorem perGate_out : out0_3 x0 x1 x2 y = columnBlk x0 x2 (y 0) (y 1) * slope (columnBlk x0 x1 (y 0) (y 1)) := by
  frame_out
  exact (congrArg _ (ix2_eta y).symm).trans (perGate_pay ..)
theorem perUp_out : out0_4 x0 x1 x2 y = silu (columnBlk x0 x1 (y 0) (y 1)) := by
  frame_out
  exact (congrArg _ (ix2_eta y).symm).trans (perUp_pay ..)
theorem act_out : out0_5 x0 x1 x2 y = silu (columnBlk x0 x1 (y 0) (y 1)) * columnBlk x0 x2 (y 0) (y 1) := by
  frame_out
  exact (congrArg _ (ix2_eta y).symm).trans (act_pay ..)
end Outs

/-- THE FACTOR OF THE GATE'S GRADIENT as the first call leaves it. -/
theorem perGate_array : (dat0 V c).arrAt 3 cfg0.N = perGate (V c main_arg0) (V c main_arg1) := by
  refine (dat0 V c).arrAt_eq_of_covers 3 _ (by decide +kernel) fun t hf y => ?_
  blk_simp
  rw [after0_3]
  refine (perGate_out _ _ _ y).trans ((congrArg₂ (fun u g : EReal => u * slope g) (up_blk V c t _ _) (gate_blk V c t _ _)).trans ?_)
  have e0 : (win0_3.blk t).view.emb y 0 = row0 t (y 0) := Fin.ext (by unfold row0; blk_simp [idx0 t])
  have e1 : (win0_3.blk t).view.emb y 1 = unit0 t (y 1) := Fin.ext (by unfold unit0; blk_simp [idx0 t])
  unfold perGate
  rw [e0, e1]

/-- THE FACTOR OF THE UP PROJECTION'S GRADIENT as the first call leaves it. -/
theorem perUp_array : (dat0 V c).arrAt 4 cfg0.N = perUp (V c main_arg0) (V c main_arg1) := by
  refine (dat0 V c).arrAt_eq_of_covers 4 _ (by decide +kernel) fun t hf y => ?_
  blk_simp
  rw [after0_4]
  refine (perUp_out _ _ _ y).trans ((congrArg silu (gate_blk V c t _ _)).trans ?_)
  have e0 : (win0_4.blk t).view.emb y 0 = row0 t (y 0) := Fin.ext (by unfold row0; blk_simp [idx0 t])
  have e1 : (win0_4.blk t).view.emb y 1 = unit0 t (y 1) := Fin.ext (by unfold unit0; blk_simp [idx0 t])
  unfold perUp
  rw [e0, e1]

/-- THE HIDDEN UNITS as the first call leaves them. -/
theorem act_array : (dat0 V c).arrAt 5 cfg0.N = act (V c main_arg0) (V c main_arg1) := by
  refine (dat0 V c).arrAt_eq_of_covers 5 _ (by decide +kernel) fun t hf y => ?_
  blk_simp
  rw [after0_5]
  refine (act_out _ _ _ y).trans ((congrArg₂ (fun g u : EReal => silu g * u) (gate_blk V c t _ _) (up_blk V c t _ _)).trans ?_)
  have e0 : (win0_5.blk t).view.emb y 0 = row0 t (y 0) := Fin.ext (by unfold row0; blk_simp [idx0 t])
  have e1 : (win0_5.blk t).view.emb y 1 = unit0 t (y 1) := Fin.ext (by unfold unit0; blk_simp [idx0 t])
  unfold act
  rw [e0, e1]

end Cert.Ffn
-- ==== Proof.FeedForward.Products.lean ====
/-
  The kernel's products: the layer's output, the gradients of the weights, each block by block and then whole.
-/
module

public import proofs.«01_k».proof.Proof.Gen.FeedForwardIdeal.Frame
public import Idealize.ShloMosaic.Lib.Pipeline.ValueKit
public import Idealize.ShloMosaic.Lib.Pipeline.ReadBack
public import proofs.«01_k».proof.Proof.FeedForward.Spec

@[expose] public section

set_option maxRecDepth 16384

noncomputable section

namespace Cert.Ffn

open Cert.FeedForwardIdeal Cert.FeedForwardIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ### The output -/

theorem down_pay (x : Vec Ideal S512x5632 .bf16) (w : Vec Ideal S5632x1024 .bf16) (r : Fin 512) (l : Fin 1024) :
    k1_pay1 (F := Ideal) x w (ix2 r l) = ∑ n : Fin 5632, (x (ix2 r n) * w (ix2 n l) : EReal) := by
  pointwise [k1_pay1]

theorem down_out (x : Vec Ideal S512x5632 .bf16) (w : Vec Ideal S5632x1024 .bf16) (y : S512x1024.Idx) :
    out1_2 x w y = ∑ n : Fin 5632, (x (ix2 (y 0) n) * w (ix2 n (y 1)) : EReal) := by
  frame_out
  exact (congrArg _ (ix2_eta y).symm).trans (down_pay ..)

theorem idx1 : ∀ t : Fin cfg1.N, win1_0.index t = ![t.val / 2, 0] ∧ win1_1.index t = ![0, t.val % 2]
    ∧ win1_2.index t = ![t.val / 2, t.val % 2] :=
  (by decide +kernel : ∀ t : Fin grid1.N, win1_0.index t = ![t.val / 2, 0] ∧ win1_1.index t = ![0, t.val % 2]
    ∧ win1_2.index t = ![t.val / 2, t.val % 2])

/-- THE LAYER'S OUTPUT as the second call leaves it. -/
theorem down_array : (dat1 V c).arrAt 2 cfg1.N = down (V c main_v0_2) (V c main_arg2) := by
  refine (dat1 V c).arrAt_eq_of_covers 2 _ (by decide +kernel) fun t hf y => ?_
  blk_simp
  rw [after1_2]
  refine (down_out _ _ y).trans (Finset.sum_congr (M := EReal) rfl fun n _ => congrArg₂ (· * ·) ?_ ?_)
  · blk_ext [iblk1, idx1 t]
  · blk_ext [iblk1, idx1 t]

/-! ### The gradient of the weights of the way down -/

theorem dwDown_pay (x : Vec Ideal S4096x512 .bf16) (g : Vec Ideal S4096x1024 .bf16) (r : Fin 512) (l : Fin 1024) :
    k3_pay1 (F := Ideal) x g (ix2 r l) = ∑ t : Fin 4096, (x (ix2 t r) * g (ix2 t l) : EReal) := by
  pointwise [k3_pay1]

theorem dwDown_out (x : Vec Ideal S4096x512 .bf16) (g : Vec Ideal S4096x1024 .bf16) (y : S512x1024.Idx) :
    out3_2 x g y = ∑ t : Fin 4096, (x (ix2 t (y 0)) * g (ix2 t (y 1)) : EReal) := by
  frame_out
  exact (congrArg _ (ix2_eta y).symm).trans (dwDown_pay ..)

theorem idx3 : ∀ t : Fin cfg3.N, win3_0.index t = ![0, t.val / 2] ∧ win3_1.index t = ![0, t.val % 2]
    ∧ win3_2.index t = ![t.val / 2, t.val % 2] :=
  (by decide +kernel : ∀ t : Fin grid3.N, win3_0.index t = ![0, t.val / 2] ∧ win3_1.index t = ![0, t.val % 2]
    ∧ win3_2.index t = ![t.val / 2, t.val % 2])

/-- THE GRADIENT OF THE WEIGHTS OF THE WAY DOWN as the fourth call leaves it. -/
theorem dwDown_array : (dat3 V c).arrAt 2 cfg3.N = dwDown (V c main_v0_2) (V c main_arg3) := by
  refine (dat3 V c).arrAt_eq_of_covers 2 _ (by decide +kernel) fun t hf y => ?_
  blk_simp
  rw [after3_2]
  refine (dwDown_out _ _ y).trans (Finset.sum_congr (M := EReal) rfl fun n _ => congrArg₂ (· * ·) ?_ ?_)
  · blk_ext [iblk3, idx3 t]
  · blk_ext [iblk3, idx3 t]

/-! ### The gradient of the projection's weights -/

theorem dwGu_pay (x : Vec Ideal S4096x512 .bf16) (g : Vec Ideal S1x4096x1408 .bf16) (z : Fin 1) (r : Fin 512) (l : Fin 1408) :
    k4_pay1 (F := Ideal) x g (ix3 z r l) = ∑ t : Fin 4096, (x (ix2 t r) * g (ix3 0 t l) : EReal) := by
  pointwise [k4_pay1]

theorem dwGu_out (x : Vec Ideal S4096x512 .bf16) (g : Vec Ideal S1x4096x1408 .bf16) (y : S1x512x1408.Idx) :
    out4_2 x g y = ∑ t : Fin 4096, (x (ix2 t (y 1)) * g (ix3 0 t (y 2)) : EReal) := by
  frame_out
  exact (congrArg _ (ix3_eta y).symm).trans (dwGu_pay ..)

theorem idx4 : ∀ t : Fin cfg4.N, win4_0.index t = ![0, t.val / 8] ∧ win4_1.index t = ![t.val % 8 / 4, 0, t.val % 8 % 4]
    ∧ win4_2.index t = ![t.val % 8, t.val / 8, 0] :=
  (by decide +kernel : ∀ t : Fin grid4.N, win4_0.index t = ![0, t.val / 8] ∧ win4_1.index t = ![t.val % 8 / 4, 0, t.val % 8 % 4]
    ∧ win4_2.index t = ![t.val % 8, t.val / 8, 0])

/-- THE GRADIENT OF THE PROJECTION'S WEIGHTS as the last call leaves it. -/
theorem dwGu_array : (dat4 V c).arrAt 2 cfg4.N = dwGu (V c main_arg0) (V c main_v2) := by
  refine (dat4 V c).arrAt_eq_of_covers 2 _ (by decide +kernel) fun t hf y => ?_
  blk_simp
  rw [after4_2]
  refine (dwGu_out _ _ y).trans (Finset.sum_congr (M := EReal) rfl fun n _ => congrArg₂ (· * ·) ?_ ?_)
  · blk_ext [iblk4, idx4 t]
  · unfold half unitOf
    blk_ext [iblk4, idx4 t]

end Cert.Ffn
-- ==== Proof.FeedForward.Grads.lean ====
/-
  The kernel's third call: the gradients of the gate and of the up projection, block by block and then whole.
-/
module

public import proofs.«01_k».proof.Proof.Gen.FeedForwardIdeal.Frame
public import Idealize.ShloMosaic.Lib.Pipeline.ValueKit
public import Idealize.ShloMosaic.Lib.Pipeline.ReadBack
public import proofs.«01_k».proof.Proof.FeedForward.Spec

@[expose] public section

set_option maxRecDepth 16384

noncomputable section

namespace Cert.Ffn

open Cert.FeedForwardIdeal Cert.FeedForwardIdeal.Gen Idealize.ShloMosaic Idealize.ShloMosaic.TcCoe Idealize.SL.Sem
open Idealize.ShloMosaic.Pipeline (Dat)

section Block

/-- What a quarter of a block holds: the hidden unit's gradient times the factor. -/
def quarter (x : Vec Ideal S1024x2048 .bf16) (w : Vec Ideal S256x2048 .bf16) (p : Vec Ideal S1024x256 .bf16) (r : Fin 1024) (l : Fin 256) : EReal :=
  (∑ k : Fin 2048, x (ix2 r k) * w (ix2 l k)) * p (ix2 r l)

variable (x : Vec Ideal S1024x2048 .bf16) (w : Vec Ideal S256x2048 .bf16) (p : Vec Ideal S1024x256 .bf16) (z : Fin 1) (r : Fin 1024) (l : Fin 256)

theorem gate_low : k2_pay3 (F := Ideal) x w p (ix3 z r l) = quarter x w p r l := by
  pointwise [k2_pay3, k2_pay2]; rfl
theorem up_low : k2_pay4 (F := Ideal) x w p (ix3 z r l) = quarter x w p r l := by
  pointwise [k2_pay4, k2_pay2]; rfl
theorem gate_high : k2_pay6 (F := Ideal) x w p (ix3 z r l) = quarter x w p r l := by
  pointwise [k2_pay6, k2_pay5]; rfl
theorem up_high : k2_pay1 (F := Ideal) (k2_pay5 x w) p (ix3 z r l) = quarter x w p r l := by
  pointwise [k2_pay1, k2_pay5]; rfl

/-- A block of the two gradients. -/
def dguBlk (x0 : Vec Ideal S1024x2048 .bf16) (x1 : Vec Ideal S512x2048 .bf16) (x2 x3 : Vec Ideal S1024x512 .bf16) (h : Fin 2) (r : Fin 1024) (l : Fin 512) : EReal :=
  (∑ k : Fin 2048, x0 (ix2 r k) * x1 (ix2 l k)) * if h.val = 0 then x2 (ix2 r l) else x3 (ix2 r l)

variable (x0 : Vec Ideal S1024x2048 .bf16) (x1 : Vec Ideal S512x2048 .bf16) (x2 x3 : Vec Ideal S1024x512 .bf16)

/-- A quarter read off the loads of a block, where it lies. -/
theorem quarter_ld (off : Nat) (i1) (i2) (q : Vec Ideal S1024x512 .bf16) (r' : Fin 1024) (l' : Fin 512) (hr : r'.val = r.val) (hl : l'.val = off + l.val) :
    quarter x0 (View.ld x1 (Rect.unit ![off, 0] ![256, 2048] i1)) (View.ld q (Rect.unit ![0, off] ![1024, 256] i2)) r l
      = (∑ k : Fin 2048, x0 (ix2 r' k) * x1 (ix2 l' k)) * q (ix2 r' l') := by
  obtain rfl : r' = r := Fin.ext hr
  refine congrArg₂ (fun a b : EReal => a * b) (Finset.sum_congr rfl fun k _ => congrArg (_ * ·) ?_) ?_
  · exact View.ld_unit_apply_of x1 _ _ i1 _ (ix2 l' k) fun a => by fin_cases a <;> simp [hl]
  · exact View.ld_unit_apply_of q _ _ i2 _ (ix2 r' l') fun a => by fin_cases a <;> simp [hl]

/-- A block of the two gradients is its four quarters. -/
theorem dgu_out (y : S2x1024x512.Idx) : out2_4 x0 x1 x2 x3 y = dguBlk x0 x1 x2 x3 (y 0) (y 1) (y 2) := by
  frame_out
  unfold dguBlk
  canon_tiles v h
  · rw [if_neg (by omega), ← ix3_eta v]
    exact (up_high ..).trans (quarter_ld _ _ _ _ 256 _ _ _ _ _ h1 h2)
  · rw [if_pos (by omega), ← ix3_eta v]
    exact (gate_high ..).trans (quarter_ld _ _ _ _ 256 _ _ _ _ _ h1 h2)
  · rw [if_neg (by omega), ← ix3_eta v]
    exact (up_low ..).trans (quarter_ld _ _ _ _ 0 _ _ _ _ _ h1 (h2.trans (Nat.zero_add _).symm))
  · rw [if_pos (by omega), ← ix3_eta v]
    exact (gate_low ..).trans (quarter_ld _ _ _ _ 0 _ _ _ _ _ h1 (h2.trans (Nat.zero_add _).symm))
end Block

variable (V : (c : Dev nD) → (b : Ref sig .tc) → Buf (Elt Ideal) ((c : Thread nD τ).loc b)) (c : Dev nD)

theorem idx2 : ∀ t : Fin cfg2.N, win2_0.index t = ![t.val / 11, 0] ∧ win2_1.index t = ![t.val % 11, 0]
    ∧ win2_2.index t = ![t.val / 11, t.val % 11] ∧ win2_3.index t = ![t.val / 11, t.val % 11]
    ∧ win2_4.index t = ![0, t.val / 11, t.val % 11] :=
  (by decide +kernel : ∀ t : Fin grid2.N, win2_0.index t = ![t.val / 11, 0] ∧ win2_1.index t = ![t.val % 11, 0]
    ∧ win2_2.index t = ![t.val / 11, t.val % 11] ∧ win2_3.index t = ![t.val / 11, t.val % 11]
    ∧ win2_4.index t = ![0, t.val / 11, t.val % 11])

/-- THE TWO GRADIENTS as the third call leaves them. -/
theorem dgu_array : (dat2 V c).arrAt 4 cfg2.N = dgu (V c main_arg3) (V c main_arg2) (V c main_v0_0) (V c main_v0_1) := by
  refine (dat2 V c).arrAt_eq_of_covers 4 _ (by decide +kernel) fun t hf y => ?_
  blk_simp
  rw [after2_4]
  refine (dgu_out _ _ _ _ y).trans ?_
  unfold dguBlk dgu dact
  have e : ((win2_4.blk t).view.emb y 0).val = (y 0).val := by blk_simp [idx2 t]
  refine congrArg₂ (fun a b : EReal => a * b) (Finset.sum_congr rfl fun k _ => congrArg₂ (fun a b : EReal => a * b) ?_ ?_) ?_
  · blk_ext [iblk2, idx2 t]
  · blk_ext [iblk2, idx2 t]
  · refine if_congr (by rw [e]) ?_ ?_
    · blk_ext [iblk2, idx2 t]
    · blk_ext [iblk2, idx2 t]

end Cert.Ffn
-- ==== Proof.FeedForward.Run.lean ====
/-
  The whole run of the kernel's five calls: what each result array holds at the end, over the arguments.
-/
module

public import proofs.«01_k».proof.Proof.FeedForward.Hidden
public import proofs.«01_k».proof.Proof.FeedForward.Products
public import proofs.«01_k».proof.Proof.FeedForward.Grads

@[expose] public section

set_option maxRecDepth 16384

noncomputable section

namespace Cert.Ffn

open Cert.FeedForwardIdeal Cert.FeedForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- Every array of a device ends as the last call's exit leaves it. -/
theorem run_exit : θ_run defs (onTc (τ := τ) (main (F := Ideal))) ⟨m, fun _ => 0, ρ⟩ (fun r => ∀ c : Dev nD,
    ∀ b ∈ Pipeline.ucRefs τ sig, r.2.mem ((c : Thread nD τ).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

variable (c : Dev nD)

/-- The activations of device `c`. -/
abbrev argH : Feat := m ((c : Thread nD τ).loc main_arg0)
/-- The projection's weights. -/
abbrev argGu : WGu := m ((c : Thread nD τ).loc main_arg1)
/-- The weights of the way down. -/
abbrev argDown : WDown := m ((c : Thread nD τ).loc main_arg2)
/-- The output's cotangent. -/
abbrev argDy : Feat := m ((c : Thread nD τ).loc main_arg3)

/-! ### What the first call leaves for the later ones -/

theorem exit0_perGate : V1 m ρ c main_v0_0 = perGate (argH m c) (argGu m c) :=
  (W1_arr m ρ c 3).trans (perGate_array (V0 m ρ) c)
theorem exit0_perUp : V1 m ρ c main_v0_1 = perUp (argH m c) (argGu m c) :=
  (W1_arr m ρ c 4).trans (perUp_array (V0 m ρ) c)
theorem exit0_act : V1 m ρ c main_v0_2 = act (argH m c) (argGu m c) :=
  (W1_arr m ρ c 5).trans (act_array (V0 m ρ) c)

/-! ### The four results where they are written -/

theorem exit1_down : V2 m ρ c main_v1 = down (act (argH m c) (argGu m c)) (argDown m c) := by
  refine (W2_arr m ρ c 2).trans ((down_array (V1 m ρ) c).trans ?_)
  rw [exit0_act, show V1 m ρ c main_arg2 = argDown m c from W1_args m ρ c main_arg2 (by decide)]

theorem exit2_dgu : V3 m ρ c main_v2
    = dgu (argDy m c) (argDown m c) (perGate (argH m c) (argGu m c)) (perUp (argH m c) (argGu m c)) := by
  refine (W3_arr m ρ c 4).trans ((dgu_array (V2 m ρ) c).trans ?_)
  rw [show V2 m ρ c main_arg3 = argDy m c from W2_args m ρ c main_arg3 (by decide),
    show V2 m ρ c main_arg2 = argDown m c from W2_args m ρ c main_arg2 (by decide),
    show V2 m ρ c main_v0_0 = _ from (W2_of m ρ c main_v0_0 (by decide)).trans (exit0_perGate m ρ c),
    show V2 m ρ c main_v0_1 = _ from (W2_of m ρ c main_v0_1 (by decide)).trans (exit0_perUp m ρ c)]

theorem exit3_dwDown : V4 m ρ c main_v3 = dwDown (act (argH m c) (argGu m c)) (argDy m c) := by
  refine (W4_arr m ρ c 2).trans ((dwDown_array (V3 m ρ) c).trans ?_)
  rw [show V3 m ρ c main_arg3 = argDy m c from W3_args m ρ c main_arg3 (by decide),
    show V3 m ρ c main_v0_2 = _ from (W3_of m ρ c main_v0_2 (by decide)).trans
      ((W2_of m ρ c main_v0_2 (by decide)).trans (exit0_act m ρ c))]

theorem exit4_dwGu : V5 m ρ c main_v4 = dwGu (argH m c)
    (dgu (argDy m c) (argDown m c) (perGate (argH m c) (argGu m c)) (perUp (argH m c) (argGu m c))) := by
  refine (W5_arr m ρ c 2).trans ((dwGu_array (V4 m ρ) c).trans ?_)
  rw [show V4 m ρ c main_arg0 = argH m c from W4_args m ρ c main_arg0 (by decide),
    show V4 m ρ c main_v2 = _ from (W4_of m ρ c main_v2 (by decide)).trans (exit2_dgu m ρ c)]

/-! ### The same at the end -/

theorem end_down : W5 m ρ c (Proc.devRef .tc main_v1) = down (act (argH m c) (argGu m c)) (argDown m c) :=
  (W5_of m ρ c main_v1 (by decide)).trans ((W4_of m ρ c main_v1 (by decide)).trans
    ((W3_of m ρ c main_v1 (by decide)).trans (exit1_down m ρ c)))
theorem end_dgu : W5 m ρ c (Proc.devRef .tc main_v2)
    = dgu (argDy m c) (argDown m c) (perGate (argH m c) (argGu m c)) (perUp (argH m c) (argGu m c)) :=
  (W5_of m ρ c main_v2 (by decide)).trans ((W4_of m ρ c main_v2 (by decide)).trans (exit2_dgu m ρ c))
theorem end_dwDown : W5 m ρ c (Proc.devRef .tc main_v3) = dwDown (act (argH m c) (argGu m c)) (argDy m c) :=
  (W5_of m ρ c main_v3 (by decide)).trans (exit3_dwDown m ρ c)

end Cert.Ffn
-- ==== Proof.FeedForward.Claims.lean ====
/-
  The claims about the feed-forward layer: the reference's frame, and the equality of the two programs' four results
  where the arguments are finite.
-/
module

public import proofs.«01_k».proof.Proof.FeedForward.Pre
public import proofs.«01_k».proof.Proof.FeedForward.Ref
public import proofs.«01_k».proof.Proof.FeedForward.Run

@[expose] public section

set_option maxRecDepth 16384

noncomputable section

namespace Cert.Ffn

open Idealize.ShloMosaic Idealize.ShloMosaic.TcCoe Idealize.SL.Sem
open Cert.Attention (Finite)

/-- The reference leaves its arguments and has no semaphore. -/
theorem ref_frame : Cert.quiescent_FeedForwardReferenceIdeal := fun m ρ _ =>
  (θ_run Cert.FeedForwardReferenceIdeal.defs _ _).mono
    (fun r h => ⟨fun c => (h c).2.2.2.2, sem_eq_zero_of_no_sems (by decide) r.2⟩) (Cert.FeedForwardReferenceIdeal.Value.run m ρ)

/-- An array with two axes from its elements. -/
theorem ext2 {n k : ℕ} {f g : (⟨2, ![n, k]⟩ : Shape).Idx → EReal} (h : ∀ r d, f (ix2 r d) = g (ix2 r d)) : f = g :=
  funext fun i => by
    obtain ⟨r, d, rfl⟩ : ∃ r d, i = ix2 r d := ⟨_, _, eq_ix2 i⟩
    exact h r d

/-- An array with three axes from its elements. -/
theorem ext3 {n k l : ℕ} {f g : (⟨3, ![n, k, l]⟩ : Shape).Idx → EReal} (h : ∀ r d e, f (ix3 r d e) = g (ix3 r d e)) : f = g :=
  funext fun i => by
    obtain ⟨r, d, e, rfl⟩ : ∃ r d e, i = ix3 r d e := ⟨_, _, _, eq_ix3 i⟩
    exact h r d e

section Kernel
open Cert.FeedForwardIdeal Cert.FeedForwardIdeal.Gen
variable (m : (ℓ : Loc nD τ sig) → Buf (Elt Ideal) ℓ) (ρ : Dev nD → PrngReg)

/-- The kernel's run: its four results over the arguments, and the arguments unchanged. -/
theorem kernel_run : θ_run defs (onTc (τ := τ) (main (F := Ideal))) ⟨m, fun _ => 0, ρ⟩ (fun r => ∀ c : Dev nD,
    r.2.mem ((c : Thread nD τ).loc main_v1) = down (act (argH m c) (argGu m c)) (argDown m c)
    ∧ r.2.mem ((c : Thread nD τ).loc main_v2) = dgu (argDy m c) (argDown m c) (perGate (argH m c) (argGu m c)) (perUp (argH m c) (argGu m c))
    ∧ r.2.mem ((c : Thread nD τ).loc main_v3) = dwDown (act (argH m c) (argGu m c)) (argDy m c)
    ∧ r.2.mem ((c : Thread nD τ).loc main_v4) = dwGu (argH m c)
      (dgu (argDy m c) (argDown m c) (perGate (argH m c) (argGu m c)) (perUp (argH m c) (argGu m c)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun r h c => ⟨(h c _ (mem_uc main_v1 (by decide))).trans (end_down m ρ c),
    (h c _ (mem_uc main_v2 (by decide))).trans (end_dgu m ρ c),
    (h c _ (mem_uc main_v3 (by decide))).trans (end_dwDown m ρ c),
    (h c _ (mem_uc main_v4 (by decide))).trans (exit4_dwGu m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c)⟩) (run_exit m ρ)
end Kernel

theorem algebraic : Cert.algebraic_FeedForwardIdeal_FeedForwardReferenceIdeal_pre_finite_feed_forward
    (hPre_finite_feed_forward := preFacts) := by
  intro m ρ m' ρ' hpre hagree
  have hfin := fun c => @fn_finite preFacts _ _ _ _ (hpre c)
  refine ⟨_, _, _, _, kernel_run m ρ, ?_⟩
  refine (θ_run Cert.FeedForwardReferenceIdeal.defs _ _).mono (fun r h c => ?_) (Cert.FeedForwardReferenceIdeal.Value.run m' ρ')
  obtain ⟨a0, a1, a2, a3⟩ := hagree c
  obtain ⟨fh, fw, fd, fy⟩ := hfin c
  obtain ⟨r0, r1, r2, r3, rest⟩ := h c
  refine ⟨r0.trans ?_, r1.trans ?_, r2.trans ?_, r3.trans ?_, rest⟩
  · rw [a0, a1, a2]
    exact ext2 fun t k => Ref.outs_at _ _ _ t k
  · refine (Ref.res1_eq m' c).trans ?_
    rw [a0, a1, a2, a3]
    exact ext3 fun z t n => Ref.pair_at t n fh fw fd fy z
  · rw [a0, a1, a3]
    exact ext2 fun n k => Ref.wdGrad_at _ _ _ n k
  · refine (Ref.res3_eq m' c).trans ?_
    rw [a0, a1, a2, a3]
    exact ext3 fun b k l => Ref.wGrad_at fh fw fd fy b k l

end Cert.Ffn
-- ==== Proof.FeedForwardDh.Kernel.lean ====
/-
  The gradient of the layer's input through the projection, as the kernel accumulates it: at each of two points four
  blocks of 1408 columns, the first point's sum carried to the second.
-/
module

public import proofs.«01_k».proof.Proof.Gen.FeedForwardDhIdeal.Value
public import Idealize.ShloMosaic.Lib.Pipeline.ValueKit
public import Idealize.ShloMosaic.Lib.Pipeline.ReadBack
public import proofs.«01_k».proof.Proof.FeedForward.Spec

@[expose] public section

set_option maxRecDepth 16384

noncomputable section

namespace Cert.FfnDh

open Cert.FeedForwardDhIdeal Cert.FeedForwardDhIdeal.Gen Idealize.ShloMosaic Idealize.ShloMosaic.TcCoe Idealize.SL.Sem
open Idealize.ShloMosaic.Pipeline (Dat)
open Cert.Ffn (Feat WGu Pair half unitOf)

/-- One block of columns' part of an element of the input's gradient. -/
def part (d : Pair) (w : WGu) (t : Fin 4096) (k : Fin 2048) (b : Fin 8) : EReal :=
  ∑ l : Fin 1408, d (ix3 (half b) t (unitOf b l)) * w (ix3 b k l)

/-- The gradient of the layer's input. -/
def dh (d : Pair) (w : WGu) : Feat := fun i => ∑ b : Fin 8, part d w (i 0) (i 1) b

/-- The place of column `l` of chunk `q`. -/
def chunk (q : Fin 4) (l : Fin 1408) : Fin 5632 := ⟨q.val * 1408 + l.val, by omega⟩

/-- One chunk's part of a block's element. -/
def partBlk (x0 : Vec Ideal S1x512x5632 .bf16) (x1 : Vec Ideal S4x1024x1408 .bf16) (r : Fin 512) (j : Fin 1024) (q : Fin 4) : EReal :=
  ∑ l : Fin 1408, x0 (ix3 0 r (chunk q l)) * x1 (ix3 q j l)

/-- What a point adds to a block's element. -/
def sumBlk (x0 : Vec Ideal S1x512x5632 .bf16) (x1 : Vec Ideal S4x1024x1408 .bf16) (r : Fin 512) (j : Fin 1024) : EReal :=
  ∑ q : Fin 4, partBlk x0 x1 r j q

section Pay
variable (a0 a1 a2 a3 : Vec Ideal S1x512x1408 .bf16) (b0 b1 b2 b3 : Vec Ideal S1x1024x1408 .bf16)

theorem four_pay (r : Fin 512) (j : Fin 1024) : k0_pay3 (F := Ideal) a0 b0 a1 b1 a2 b2 a3 b3 (ix2 r j)
    = (((∑ l : Fin 1408, (a0 (ix3 0 r l) * b0 (ix3 0 j l) : EReal)) + ∑ l : Fin 1408, (a1 (ix3 0 r l) * b1 (ix3 0 j l) : EReal))
      + ∑ l : Fin 1408, (a2 (ix3 0 r l) * b2 (ix3 0 j l) : EReal)) + ∑ l : Fin 1408, (a3 (ix3 0 r l) * b3 (ix3 0 j l) : EReal) := by
  pointwise [k0_pay3]
theorem first_pay (r : Fin 512) (j : Fin 1024) : k0_pay4 (F := Ideal) a0 b0 a1 b1 a2 b2 a3 b3 (ix2 r j)
    = (k0_pay3 (F := Ideal) a0 b0 a1 b1 a2 b2 a3 b3 (ix2 r j) : EReal) := by
  pointwise [k0_pay4]
theorem second_pay (v s : Vec Ideal S512x1024 .f32) (r : Fin 512) (j : Fin 1024) :
    k0_pay2 (F := Ideal) (k0_pay1 (F := Ideal) v s) (ix2 r j) = (s (ix2 r j) + v (ix2 r j) : EReal) := by
  pointwise [k0_pay1, k0_pay2]
end Pay

/-- A chunk's part over what was loaded of the two blocks. -/
theorem part_ld (x0 : Vec Ideal S1x512x5632 .bf16) (x1 : Vec Ideal S4x1024x1408 .bf16) (r : Fin 512) (j : Fin 1024) (q : Fin 4)
    (o p : Nat) (i1) (i2) (ho : o = q.val * 1408) (hp : p = q.val) :
    ∑ l : Fin 1408, (View.ld x0 (Rect.unit ![0, 0, o] ![1, 512, 1408] i1) (ix3 0 r l)
      * View.ld x1 (Rect.unit ![p, 0, 0] ![1, 1024, 1408] i2) (ix3 0 j l) : EReal) = partBlk x0 x1 r j q := by
  subst ho hp
  refine Finset.sum_congr (M := EReal) rfl fun l _ => congrArg₂ (fun a b : EReal => a * b) ?_ ?_
  · exact View.ld_unit_apply_of x0 _ _ i1 _ (ix3 0 r (chunk q l)) fun a => by fin_cases a <;> simp [chunk]
  · exact View.ld_unit_apply_of x1 _ _ i2 _ (ix3 q j l) fun a => by fin_cases a <;> simp

/-- What a point forms of its two blocks. -/
theorem four_ld (x0 : Vec Ideal S1x512x5632 .bf16) (x1 : Vec Ideal S4x1024x1408 .bf16) (r : Fin 512) (j : Fin 1024) (i0 i1 i2 i3 k0 k1 k2 k3) :
    k0_pay3 (F := Ideal) (View.ld x0 (Rect.unit ![0, 0, 0] ![1, 512, 1408] i0)) (View.ld x1 (Rect.unit ![0, 0, 0] ![1, 1024, 1408] k0))
      (View.ld x0 (Rect.unit ![0, 0, 1408] ![1, 512, 1408] i1)) (View.ld x1 (Rect.unit ![1, 0, 0] ![1, 1024, 1408] k1))
      (View.ld x0 (Rect.unit ![0, 0, 2816] ![1, 512, 1408] i2)) (View.ld x1 (Rect.unit ![2, 0, 0] ![1, 1024, 1408] k2))
      (View.ld x0 (Rect.unit ![0, 0, 4224] ![1, 512, 1408] i3)) (View.ld x1 (Rect.unit ![3, 0, 0] ![1, 1024, 1408] k3)) (ix2 r j)
    = sumBlk x0 x1 r j := by
  refine (four_pay ..).trans ?_
  unfold sumBlk
  rw [Fin.sum_univ_four, part_ld x0 x1 r j 0 0 0 _ _ rfl rfl, part_ld x0 x1 r j 1 1408 1 _ _ rfl rfl,
    part_ld x0 x1 r j 2 2816 2 _ _ rfl rfl, part_ld x0 x1 r j 3 4224 3 _ _ rfl rfl]

section Cases
variable (c : Dev nD) (i : grid0.Coords) (m0 : Memref sig .tc .vmem S1x512x5632 .bf16) (h0 : m0.IsWhole)
  (m1 : Memref sig .tc .vmem S4x1024x1408 .bf16) (h1 : m1.IsWhole) (m2 : Memref sig .tc .vmem S512x1024 .bf16) (h2 : m2.IsWhole)
  (m3 : Memref sig .tc .vmem S512x1024 .f32) (h3 : m3.IsWhole)
  (x0 : Vec Ideal S1x512x5632 .bf16) (x1 : Vec Ideal S4x1024x1408 .bf16)

/-- The first point of a block leaves its sum in the scratch. -/
theorem first_out (p0 : cond0_0 i) (p1 : ¬cond0_1 i) (p2 : ¬cond0_2 i) (r : Fin 512) (j : Fin 1024) :
    sout0_A_0 c i m0 h0 m1 h1 m2 h2 m3 h3 p0 p1 p2 x0 x1 (ix2 r j) = sumBlk x0 x1 r j := by
  frame_open
  simp (disch := decide) only [↓ View.readCov_skip, ↓ View.readCov_cons_toLoadRect, ↓ View.readCov_fill]
  frame_out
  exact (first_pay ..).trans (four_ld ..)

/-- The second adds its own and writes the block. -/
theorem second_out (p0 : ¬cond0_0 i) (p1 : cond0_1 i) (p2 : cond0_2 i) (s : Vec Ideal S512x1024 .f32) (r : Fin 512) (j : Fin 1024) :
    out0_B_2 c i m0 h0 m1 h1 m2 h2 m3 h3 p0 p1 p2 x0 x1 s (ix2 r j) = s (ix2 r j) + sumBlk x0 x1 r j := by
  frame_open
  simp (disch := decide) only [↓ View.readCov_skip, ↓ View.readCov_cons_toLoadRect, ↓ View.readCov_fill]
  frame_out
  exact (second_pay ..).trans (congrArg (fun e : EReal => s (ix2 r j) + e) (four_ld ..))
end Cases

variable (m : (ℓ : Loc nD τ sig) → Buf (Elt Ideal) ℓ) (c : Dev nD)

theorem idx : ∀ t : Fin cfg0.N, win0_0.index t = ![t.val % 2, t.val / 4, 0] ∧ win0_1.index t = ![t.val % 2, t.val % 4 / 2, 0]
    ∧ win0_2.index t = ![t.val / 4, t.val % 4 / 2] :=
  (by decide +kernel : ∀ t : Fin grid0.N, win0_0.index t = ![t.val % 2, t.val / 4, 0] ∧ win0_1.index t = ![t.val % 2, t.val % 4 / 2, 0]
    ∧ win0_2.index t = ![t.val / 4, t.val % 4 / 2])

/-- The row of the array that is row `r` of the block at `t`. -/
def rowOf (t : Fin cfg0.N) (r : Fin 512) : Fin 4096 :=
  ⟨t.val / 4 * 512 + r.val, by have := t.isLt; have : t.val < 32 := lt_of_lt_of_eq t.isLt N_0; omega⟩
/-- The column of the array that is column `j` of the block at `t`. -/
def colOf (t : Fin cfg0.N) (j : Fin 1024) : Fin 2048 := ⟨t.val % 4 / 2 * 1024 + j.val, by omega⟩
/-- The block of columns that is chunk `q` at `t`. -/
def blockOf (t : Fin cfg0.N) (q : Fin 4) : Fin 8 := ⟨t.val % 2 * 4 + q.val, by omega⟩

/-- What point `t` adds, over the two arrays. -/
theorem sumBlk_at (t : Fin cfg0.N) (r : Fin 512) (j : Fin 1024) :
    sumBlk (iblk m c 0 t) (iblk m c 1 t) r j
      = ∑ q : Fin 4, part (m ((c : Thread nD τ).loc main_arg0)) (m ((c : Thread nD τ).loc main_arg1)) (rowOf t r) (colOf t j) (blockOf t q) := by
  refine Finset.sum_congr rfl fun q _ => Finset.sum_congr rfl fun l _ => congrArg₂ (fun a b : EReal => a * b) ?_ ?_
  · unfold half unitOf chunk rowOf blockOf
    blk_ext [iblk, idx t]
  · unfold colOf blockOf
    blk_ext [iblk, idx t]

/-- What the first point of a block carries over. -/
theorem carried (t : Fin cfg0.N) (hm : t.val % 2 = 0) (r : Fin 512) (j : Fin 1024) :
    (outsAt0 m c t.val t.isLt).2 (ix2 r j) = (sumBlk (iblk m c 0 t) (iblk m c 1 t) r j : EReal) := by
  rw [outsAt0_A m c t hm (by omega) (by omega)]
  dsimp only
  rw [first_out]

/-- What the second writes, over what the first carried. -/
theorem written (t : Fin cfg0.N) (hm : t.val % 2 = 1) (r : Fin 512) (j : Fin 1024) :
    (outsAt0 m c t.val t.isLt).1 (ix2 r j)
      = ((outsAt0 m c (t.val - 1) (Nat.lt_of_le_of_lt (Nat.sub_le _ _) t.isLt)).2 (ix2 r j) : EReal)
        + sumBlk (iblk m c 0 t) (iblk m c 1 t) r j := by
  rw [outsAt0_B m c t (by omega) hm hm]
  dsimp only
  rw [second_out]

/-- A finished block over the two arrays. -/
theorem finished (t : Fin cfg0.N) (hm : t.val % 2 = 1) (r : Fin 512) (j : Fin 1024) :
    (outsAt0 m c t.val t.isLt).1 (ix2 r j)
      = dh (m ((c : Thread nD τ).loc main_arg0)) (m ((c : Thread nD τ).loc main_arg1)) (ix2 (rowOf t r) (colOf t j)) := by
  have hN : t.val < 32 := lt_of_lt_of_eq t.isLt N_0
  have h1 : t.val - 1 < cfg0.N := Nat.lt_of_le_of_lt (Nat.sub_le _ _) t.isLt
  have hr : rowOf ⟨t.val - 1, h1⟩ r = rowOf t r := Fin.ext (show (t.val - 1) / 4 * 512 + r.val = t.val / 4 * 512 + r.val by omega)
  have hj : colOf ⟨t.val - 1, h1⟩ j = colOf t j := Fin.ext (show (t.val - 1) % 4 / 2 * 1024 + j.val = t.val % 4 / 2 * 1024 + j.val by omega)
  have hb : ∀ q : Fin 4, blockOf ⟨t.val - 1, h1⟩ q = q.castAdd 4 := fun q => Fin.ext (show (t.val - 1) % 2 * 4 + q.val = q.val by omega)
  have hc : ∀ q : Fin 4, blockOf t q = q.natAdd 4 := fun q => Fin.ext (show t.val % 2 * 4 + q.val = 4 + q.val by omega)
  rw [written m c t hm, carried m c ⟨t.val - 1, h1⟩ (show (t.val - 1) % 2 = 0 by omega), sumBlk_at, sumBlk_at, hr, hj]
  simp only [hb, hc]
  exact (Fin.sum_univ_add (a := 4) (b := 4) (M := EReal) _).symm

/-- THE INPUT'S GRADIENT as the kernel leaves it. -/
theorem dh_array : (dats m 0 c).arrAt 2 cfg0.N = dh (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ r j, y = ix2 r j := ⟨_, _, eq_ix2 y⟩
  refine (finished m c t ((flush0_2 t).mp hf) r j).trans ?_
  unfold rowOf colOf
  blk_ext [idx t]

end Cert.FfnDh
-- ==== Proof.FeedForwardDh.Ref.lean ====
/-
  The reference's gradient of the layer's input: one sum over all 11264 columns, gathered into the eight blocks.
-/
module

public import proofs.«01_k».proof.Proof.Gen.FeedForwardDhReferenceIdeal.Run
public import proofs.«01_k».proof.Proof.FeedForwardDh.Kernel
public import Idealize.ShloMosaic.Lib.Pointwise

@[expose] public section

set_option maxRecDepth 16384

noncomputable section

namespace Cert.FfnDh.Ref

open Cert.FeedForwardDhReferenceIdeal Cert.FeedForwardDhReferenceIdeal.Gen
open Idealize.ShloMosaic Idealize.ShloMosaic.TcCoe Idealize.SL.Sem
open Cert.Ffn (Feat WGu Pair half unitOf)

variable (d : Pair) (w : WGu)

/-- The gates' gradient. -/
def first : FVec Ideal S4096x5632 .bf16 :=
  shapeCast _ (extractStridedSlice S1x4096x5632 ![0, 0, 0] d slices_S2x4096x5632_S1x4096x5632_0_0_0) shapeCasts_S1x4096x5632_S4096x5632
/-- The up projection's gradient. -/
def second : FVec Ideal S4096x5632 .bf16 :=
  shapeCast _ (extractStridedSlice S1x4096x5632 ![1, 0, 0] d slices_S2x4096x5632_S1x4096x5632_1_0_0) shapeCasts_S1x4096x5632_S4096x5632
/-- Both, column by column. -/
def both : FVec Ideal S4096x11264 .bf16 :=
  concatenate S4096x11264 1 [⟨S4096x5632, first d⟩, ⟨S4096x5632, second d⟩] concatenates_S4096x5632_S4096x5632_S4096x11264_d1
/-- The weights of the projection, column by column. -/
def wide : FVec Ideal S2048x11264 .f32 :=
  shapeCast _ (transpose S2048x8x1408 [1, 0, 2] (extf .f32 w bitsLt_bf16_f32) transposes_S8x2048x1408_S2048x8x1408_1_0_2) shapeCasts_S2048x8x1408_S2048x11264
/-- The input's gradient. -/
def res : FVec Ideal S4096x2048 .bf16 :=
  truncf .bf16 (Host.dotGeneral dot_S4096x11264_S2048x11264_S4096x2048_1_1_0_0_n_n none (extf .f32 (both d) bitsLt_bf16_f32) (wide w)) bitsLt_bf16_f32

variable (t : Fin 4096) (n : Fin 5632) (k : Fin 2048)

theorem first_at : first d (ix2 t n) = d (ix3 0 t n) := by pointwise [first]
theorem second_at : second d (ix2 t n) = d (ix3 1 t n) := by pointwise [second]
/-- Two arrays of columns side by side. -/
theorem beside (a b : FVec Ideal S4096x5632 .bf16) (x : Fin 11264) :
    (concatenate S4096x11264 1 [⟨S4096x5632, a⟩, ⟨S4096x5632, b⟩] concatenates_S4096x5632_S4096x5632_S4096x11264_d1 : FVec Ideal S4096x11264 .bf16) (ix2 t x)
      = if p : x.val < 5632 then a (ix2 t ⟨x.val, p⟩) else b (ix2 t ⟨x.val - 5632, by omega⟩) := by
  pointwise

/-- The column at place `l` of block `b`. -/
def colAt (b : Fin 8) (l : Fin 1408) : Fin 11264 := ⟨b.val * 1408 + l.val, by omega⟩

theorem both_at (b : Fin 8) (l : Fin 1408) : both d (ix2 t (colAt b l)) = d (ix3 (half b) t (unitOf b l)) := by
  unfold both
  rw [beside]
  by_cases p : (colAt b l).val < 5632
  · rw [dif_pos p, first_at]
    have p' : b.val * 1408 + l.val < 5632 := p
    congr 1
    exact congrArg₂ (fun z n => ix3 z t n) (Fin.ext (show 0 = b.val / 4 by omega)) (Fin.ext (show b.val * 1408 + l.val = b.val % 4 * 1408 + l.val by omega))
  · rw [dif_neg p, second_at]
    have p' : ¬b.val * 1408 + l.val < 5632 := p
    congr 1
    exact congrArg₂ (fun z n => ix3 z t n) (Fin.ext (show 1 = b.val / 4 by omega)) (Fin.ext (show b.val * 1408 + l.val - 5632 = b.val % 4 * 1408 + l.val by omega))

theorem wide_at (b : Fin 8) (l : Fin 1408) : wide w (ix2 k (colAt b l)) = w (ix3 b k l) := by
  pointwise [wide]
  have e : ∀ (p q), (ix3 (⟨(colAt b l).val / 1408, p⟩ : Fin 8) k (⟨(colAt b l).val % 1408, q⟩ : Fin 1408)) = ix3 b k l := fun p q =>
    congrArg₂ (fun z n => ix3 z k n) (Fin.ext (show (b.val * 1408 + l.val) / 1408 = b.val by omega)) (Fin.ext (show (b.val * 1408 + l.val) % 1408 = l.val by omega))
  rw [e]

/-- A sum over all columns, block by block. -/
theorem sum_cols (f : Fin 11264 → EReal) : ∑ x, f x = ∑ b : Fin 8, ∑ l : Fin 1408, f (colAt b l) := by
  rw [← Fintype.sum_prod_type' (fun b l => f (colAt b l))]
  refine ((finProdFinEquiv (m := 8) (n := 1408)).sum_comp f).symm.trans (Finset.sum_congr rfl fun p _ => congrArg f (Fin.ext ?_))
  show p.2.val + 1408 * p.1.val = p.1.val * 1408 + p.2.val
  omega

theorem res_at : res d w (ix2 t k) = dh d w (ix2 t k) := by
  pointwise [res]
  refine (sum_cols _).trans (Finset.sum_congr rfl fun b _ => Finset.sum_congr rfl fun l _ => ?_)
  rw [both_at, wide_at]
  rfl

/-- THE REFERENCE'S RESULT. -/
theorem res_eq : res d w = dh d w := funext fun i => by
  obtain ⟨t, k, rfl⟩ : ∃ t k, i = ix2 t k := ⟨_, _, eq_ix2 i⟩
  exact res_at d w t k

end Cert.FfnDh.Ref
-- ==== Proof.FeedForwardDh.Claims.lean ====
/-
  The claims about the gradient of the layer's input: the reference's frame, and the equality of the two results.
-/
module

public import proofs.«01_k».proof.Defs
public import proofs.«01_k».proof.Proof.FeedForwardDh.Ref

@[expose] public section

set_option maxRecDepth 16384

noncomputable section

namespace Cert.FfnDh

open Idealize.ShloMosaic Idealize.ShloMosaic.TcCoe Idealize.SL.Sem

/-- The reference leaves its arguments and has no semaphore. -/
theorem ref_frame : Cert.quiescent_FeedForwardDhReferenceIdeal := fun m ρ _ =>
  (θ_run Cert.FeedForwardDhReferenceIdeal.defs _ _).mono
    (fun r h => ⟨fun c => (h c).2, sem_eq_zero_of_no_sems (by decide) r.2⟩) (Cert.FeedForwardDhReferenceIdeal.Value.run m ρ)

theorem algebraic : Cert.algebraic_FeedForwardDhIdeal_FeedForwardDhReferenceIdeal := by
  intro m ρ m' ρ' _ hagree
  refine ⟨fun c => (Cert.FeedForwardDhIdeal.Gen.dats m 0 c).arrAt 2 Cert.FeedForwardDhIdeal.cfg0.N,
    Cert.FeedForwardDhIdeal.Value.run_blocks m ρ, ?_⟩
  refine (θ_run Cert.FeedForwardDhReferenceIdeal.defs _ _).mono (fun r h c => ?_) (Cert.FeedForwardDhReferenceIdeal.Value.run m' ρ')
  obtain ⟨a0, a1⟩ := hagree c
  refine ⟨(h c).1.trans ?_, (h c).2⟩
  refine (Ref.res_eq _ _).trans ?_
  rw [a0, a1]
  exact (dh_array m c).symm

end Cert.FfnDh
-- ==== Proof.Attention.Dense.lean ====
/-
  What the products around the attention compute, and the attention on whole arrays, as plain functions of arrays of
  extended reals.
-/
module

public import proofs.«01_k».proof.Proof.Attention.Spec

@[expose] public section

set_option maxRecDepth 16384

noncomputable section

namespace Cert.Attention

open Idealize.ShloMosaic

/-- An array of `m` rows and `n` columns. -/
abbrev Mat (m n : ℕ) : Type := (⟨2, ![m, n]⟩ : Shape).Idx → EReal
/-- The joint projection's weights, in eight blocks of columns. -/
abbrev Blocks : Type := (⟨3, ![8, 2048, 512]⟩ : Shape).Idx → EReal

/-- The product of two arrays. -/
def mul {m n k : ℕ} (x : Mat m n) (w : Mat n k) : Mat m k := fun i => ∑ j : Fin n, x (ix2 (i 0) j) * w (ix2 j (i 1))
/-- The product with the second array transposed. -/
def mulT {m n k : ℕ} (x : Mat m n) (w : Mat k n) : Mat m k := fun i => ∑ j : Fin n, x (ix2 (i 0) j) * w (ix2 (i 1) j)
/-- The product with the first array transposed. -/
def tMul {m n k : ℕ} (x : Mat n m) (w : Mat n k) : Mat m k := fun i => ∑ j : Fin n, x (ix2 j (i 0)) * w (ix2 j (i 1))

/-- The block a column of the joint projection lies in. -/
def blockOf (n : Fin 4096) : Fin 8 := ⟨n.val / 512, by omega⟩
/-- Its place in the block. -/
def placeOf (n : Fin 4096) : Fin 512 := ⟨n.val % 512, by omega⟩
/-- The column at place `l` of block `b`. -/
def colOf (b : Fin 8) (l : Fin 512) : Fin 4096 := ⟨b.val * 512 + l.val, by omega⟩

/-- The joint projection of the memory rows. -/
def joint {m : ℕ} (x : Mat m 2048) (w : Blocks) : Mat m 4096 := fun i =>
  ∑ k : Fin 2048, x (ix2 (i 0) k) * w (ix3 (blockOf (i 1)) k (placeOf (i 1)))
/-- The gradient of its weights. -/
def jointW {m : ℕ} (x : Mat m 2048) (d : Mat m 4096) : Blocks := fun i =>
  ∑ j : Fin m, x (ix2 j (i 1)) * d (ix2 j (colOf (i 0) (i 2)))
/-- The gradient of the memory rows. -/
def jointX {m : ℕ} (d : Mat m 4096) (w : Blocks) : Mat m 2048 := fun i =>
  ∑ b : Fin 8, ∑ l : Fin 512, d (ix2 (i 0) (colOf b l)) * w (ix3 b (i 1) l)

/-! ## The attention on whole arrays -/

/-- A lane of the keys in the joint array. -/
def keyLane (l : Fin 2048) : Fin 4096 := ⟨l.val, by omega⟩
/-- A lane of the values in the joint array. -/
def valLane (l : Fin 2048) : Fin 4096 := ⟨2048 + l.val, by omega⟩

/-- The rows of a [4096, 2048] array. -/
def rows (x : Mat 4096 2048) (t : Fin 4096) : Row := fun l => x (ix2 t l)
/-- The keys in the joint array. -/
def keys (x : Mat 256 4096) (j : Fin 256) : Row := fun l => x (ix2 j (keyLane l))
/-- The values in the joint array. -/
def vals (x : Mat 256 4096) (j : Fin 256) : Row := fun l => x (ix2 j (valLane l))

/-- The attention's result. -/
def attn (q : Mat 4096 2048) (kv : Mat 256 4096) : Mat 4096 2048 := fun i => attnRow (rows q (i 0)) (keys kv) (vals kv) (i 1)
/-- The queries' gradient. -/
def attnDq (q : Mat 4096 2048) (kv : Mat 256 4096) (g : Mat 4096 2048) : Mat 4096 2048 := fun i =>
  dqRow (rows q (i 0)) (rows g (i 0)) (keys kv) (vals kv) (i 1)
/-- The keys' and values' gradient. -/
def attnDkv (q : Mat 4096 2048) (kv : Mat 256 4096) (g : Mat 4096 2048) : Mat 256 4096 := fun i =>
  ∑ t, dkvTerm (rows q t) (rows g t) (keys kv) (vals kv) (i 0) (i 1)

end Cert.Attention
-- ==== Proof.Attention.Pre.lean ====
/-
  The precondition of the attention layer's claim, read back: every element of the input, of the memory rows and of the two
  projections' weights is finite; so every query and every key is.
-/
module

public import proofs.«01_k».proof.Defs
public import proofs.«01_k».proof.Proof.Attention.Grad
public import proofs.«01_k».proof.Proof.Attention.Dense
public import Idealize.ShloMosaic.Lib.ReduceAll
public import Idealize.ShloMosaic.Lib.Pointwise

@[expose] public section

set_option maxRecDepth 16384

noncomputable section

namespace Cert.Attention

open Idealize.ShloMosaic Idealize.ShloMosaic.TcCoe Idealize.SL.Sem Cert.Pre_finite_attention_inputs

/-- The side conditions of the precondition's operations. -/
theorem preFacts : Cert.Pre_finite_attention_inputs.Facts where
  bitsLt_bf16_f32 := by decide
  bcast_S_S4096x2048 := by decide
  reducesTo_S4096x2048_S_d0_1 := by decide
  h_S_ := by decide
  bcast_S_S256x2048 := by decide
  reducesTo_S256x2048_S_d0_1 := by decide
  bcast_S_S2048x2048 := by decide
  reducesTo_S2048x2048_S_d0_1 := by decide
  bcast_S_S8x2048x512 := by decide
  reducesTo_S8x2048x512_S_d0_1_2 := by decide

section
variable [Facts]

theorem fn_finite {h : FVec Ideal S4096x2048 .bf16} {memn : FVec Ideal S256x2048 .bf16} {wq : FVec Ideal S2048x2048 .bf16}
    {wkv : FVec Ideal S8x2048x512 .bf16} {wo : FVec Ideal S2048x2048 .bf16} {dy : FVec Ideal S4096x2048 .bf16}
    (hf : fn (F := Ideal) h memn wq wkv wo dy = fun _ => 1#1) :
    (∀ t k, Finite (h (ix2 t k))) ∧ (∀ j k, Finite (memn (ix2 j k))) ∧ (∀ k l, Finite (wq (ix2 k l)))
      ∧ ∀ b k l, Finite (wkv (ix3 b k l)) := by
  have h0 := congrFun hf ix0
  dsimp only [fn, fn_part1] at h0
  obtain ⟨h1, hkv⟩ := IntOp.andi_eq_one.1 h0
  obtain ⟨h2, hq⟩ := IntOp.andi_eq_one.1 h1
  obtain ⟨hh, hm⟩ := IntOp.andi_eq_one.1 h2
  refine ⟨fun t k => ?_, fun j k => ?_, fun k l => ?_, fun b k l => ?_⟩
  · have e := Host.reduce_andi_all _ _ _ _ _ hh (ix2 t k)
    pointwise at e
    exact finite_of_cmp e
  · have e := Host.reduce_andi_all _ _ _ _ _ hm (ix2 j k)
    pointwise at e
    exact finite_of_cmp e
  · have e := Host.reduce_andi_all _ _ _ _ _ hq (ix2 k l)
    pointwise at e
    exact finite_of_cmp e
  · have e := Host.reduce_andi_all _ _ _ _ _ hkv (ix3 b k l)
    pointwise at e
    exact finite_of_cmp e
end

/-- The queries are finite. -/
theorem queries_finite {h : Mat 4096 2048} {wq : Mat 2048 2048} (fh : ∀ t k, Finite (h (ix2 t k))) (fq : ∀ k l, Finite (wq (ix2 k l)))
    (t : Fin 4096) (l : Fin 2048) : Finite (rows (mul h wq) t l) :=
  Finite.sum Finset.univ fun k => (fh t k).mul (fq k l)
/-- The keys are finite. -/
theorem keys_finite {memn : Mat 256 2048} {wkv : Blocks} (fm : ∀ j k, Finite (memn (ix2 j k))) (fk : ∀ b k l, Finite (wkv (ix3 b k l)))
    (j : Fin 256) (l : Fin 2048) : Finite (keys (joint memn wkv) j l) :=
  Finite.sum Finset.univ fun k => (fm j k).mul (fk _ k _)

end Cert.Attention
-- ==== Proof.Attention.Softmax.lean ====
/-
  The attention inside the reference, read at an index. Its term is cut into the steps of the chain rule through the
  softmax; each step is read over the one before it.
-/
module

public import proofs.«01_k».proof.Proof.Gen.CrossAttentionReferenceIdeal.Run
public import proofs.«01_k».proof.Proof.Attention.Grad
public import proofs.«01_k».proof.Proof.Attention.Dense
public import Idealize.ShloMosaic.Lib.Pointwise

@[expose] public section

set_option maxRecDepth 16384

noncomputable section

namespace Cert.Attention.Ref

open Cert.CrossAttentionReferenceIdeal Cert.CrossAttentionReferenceIdeal.Gen Cert.CrossAttentionReferenceIdeal.Value
open Idealize.ShloMosaic Idealize.ShloMosaic.TcCoe Idealize.SL.Sem

variable (q : FVec Ideal S4096x2048 .f32) (kv : FVec Ideal S256x4096 .f32) (g : FVec Ideal S4096x2048 .f32)

/-- The queries by head. -/
def qs : FVec Ideal S4096x4x512 .f32 := shapeCast _ q shapeCasts_S4096x2048_S4096x4x512
/-- The keys by head. -/
def ks : FVec Ideal S256x4x512 .f32 := shapeCast _ (extractStridedSlice S256x2048 ![0, 0] kv slices_S256x4096_S256x2048_0_0) shapeCasts_S256x2048_S256x4x512
/-- The values by head. -/
def vs : FVec Ideal S256x4x512 .f32 := shapeCast _ (extractStridedSlice S256x2048 ![0, 2048] kv slices_S256x4096_S256x2048_0_2048) shapeCasts_S256x2048_S256x4x512
/-- The cotangents by head, transposed. -/
def gs : FVec Ideal S4x512x4096 .f32 := transpose S4x512x4096 [1, 2, 0] (shapeCast _ g shapeCasts_S4096x2048_S4096x4x512) transposes_S4096x4x512_S4x512x4096_1_2_0

/-- The scores. -/
def scores : FVec Ideal S4x4096x256 .f32 :=
  mulf (Host.dotGeneral dot_S4096x4x512_S256x4x512_S4x4096x256_2_2_0_0_1_1 none (qs q) (ks kv))
    (broadcastInDim S4x4096x256 ![] bcast_S_S4x4096x256 (constant S_ .f32 0x3D3504F3#32))
/-- The exponentials. -/
def expos : FVec Ideal S4x4096x256 .f32 :=
  Host.exp (subf (scores q kv) (broadcastInDim S4x4096x256 ![0, 1, 2] bcast_S4x4096x1_S4x4096x256_0_1_2
    (broadcastInDim S4x4096x1 ![0, 1] bcast_S4x4096_S4x4096x1_0_1
      (maximumf (broadcastInDim S4x4096 ![] bcast_S_S4x4096 (constant S_ .f32 0xFF800000#32))
        (Host.reduce FloatOps.maximumf (scores q kv) (constant S_ .f32 0xFF800000#32) reducesTo_S4x4096x256_S4x4096_d2 h_S_)))))
/-- The sums of the exponentials. -/
def totals : FVec Ideal S4x4096x1 .f32 :=
  broadcastInDim S4x4096x1 ![0, 1] bcast_S4x4096_S4x4096x1_0_1
    (Host.reduceAdd (expos q kv) (constant S_ .f32 0x00000000#32) reducesTo_S4x4096x256_S4x4096_d2 h_S_)
/-- The probabilities. -/
def probs : FVec Ideal S4x4096x256 .f32 :=
  Host.divf (expos q kv) (broadcastInDim S4x4096x256 ![0, 1, 2] bcast_S4x4096x1_S4x4096x256_0_1_2 (totals q kv))
/-- The cotangents of the probabilities. -/
def dprobs : FVec Ideal S4x4096x256 .f32 :=
  Host.dotGeneral dot_S4x512x4096_S256x4x512_S4x4096x256_1_2_2_0_0_1 none (gs g) (vs kv)
/-- The cotangents of the totals, through the quotient. -/
def dtotals : FVec Ideal S4x4096 .f32 :=
  Host.reduceAdd (Host.negf (shapeCast _ (Host.reduceAdd (mulf (mulf (dprobs kv g)
    (broadcastInDim S4x4096x256 ![0, 1, 2] bcast_S4x4096x1_S4x4096x256_0_1_2
      (Host.divf (broadcastInDim S4x4096x1 ![] bcast_S_S4x4096x1 (constant S_ .f32 0x3F800000#32)) (mulf (totals q kv) (totals q kv)))))
      (expos q kv)) (constant S_ .f32 0x00000000#32) reducesTo_S4x4096x256_S4x4096_d2 h_S_) shapeCasts_S4x4096_S4x4096x1))
    (constant S_ .f32 0x00000000#32) reducesTo_S4x4096x1_S4x4096_d2 h_S_
/-- The cotangents of the unscaled scores. -/
def dscores : FVec Ideal S4x4096x256 .f32 :=
  mulf (mulf (addf (Host.divf (dprobs kv g) (broadcastInDim S4x4096x256 ![0, 1, 2] bcast_S4x4096x1_S4x4096x256_0_1_2 (totals q kv)))
    (broadcastInDim S4x4096x256 ![0, 1] bcast_S4x4096_S4x4096x256_0_1 (dtotals q kv g))) (expos q kv))
    (broadcastInDim S4x4096x256 ![] bcast_S_S4x4096x256 (constant S_ .f32 0x3D3504F3#32))

/-- The queries' gradient. -/
def dq : FVec Ideal S4096x2048 .f32 :=
  shapeCast _ (transpose S4096x4x512 [1, 0, 2] (Host.dotGeneral dot_S4x4096x256_S256x4x512_S4x4096x512_2_0_1_2_0_1 none
    (dscores q kv g) (ks kv)) transposes_S4x4096x512_S4096x4x512_1_0_2) shapeCasts_S4096x4x512_S4096x2048
/-- The keys' gradient. -/
def dk : FVec Ideal S256x2048 .f32 :=
  shapeCast _ (transpose S256x4x512 [1, 0, 2] (Host.dotGeneral dot_S4x4096x256_S4096x4x512_S4x256x512_1_0_2_2_0_1 none
    (dscores q kv g) (qs q)) transposes_S4x256x512_S256x4x512_1_0_2) shapeCasts_S256x4x512_S256x2048
/-- The values' gradient. -/
def dv : FVec Ideal S256x2048 .f32 :=
  shapeCast _ (transpose S256x4x512 [2, 0, 1] (Host.dotGeneral dot_S4x512x4096_S4x4096x256_S4x512x256_2_1_1_2_0_0 none
    (gs g) (probs q kv)) transposes_S4x512x256_S256x4x512_2_0_1) shapeCasts_S256x4x512_S256x2048

/-- The keys' and values' gradients side by side. -/
def dkv : FVec Ideal S256x4096 .f32 :=
  concatenate S256x4096 1 [⟨S256x2048, dk q kv g⟩, ⟨S256x2048, dv q kv g⟩] concatenates_S256x2048_S256x2048_S256x4096_d1
/-- The attention's result. -/
def out : FVec Ideal S4096x2048 .f32 :=
  shapeCast _ (transpose S4096x4x512 [2, 0, 1] (Host.dotGeneral dot_S256x4x512_S4x4096x256_S4x512x4096_0_2_2_1_1_0 none
    (vs kv) (probs q kv)) transposes_S4x512x4096_S4096x4x512_2_0_1) shapeCasts_S4096x4x512_S4096x2048

variable (h : Fin 4) (t : Fin 4096) (j : Fin 256)

/-- Row `t`'s queries of head `h`. -/
abbrev sq : Seg := seg h (rows q t)
/-- Row `t`'s cotangents of head `h`. -/
abbrev sg : Seg := seg h (rows g t)
/-- The keys of head `h`. -/
abbrev sk : Fin 256 → Seg := fun i => seg h (keys kv i)
/-- The values of head `h`. -/
abbrev sv : Fin 256 → Seg := fun i => seg h (vals kv i)

theorem lane_eq (d : Fin 512) (p : h.val * 512 + d.val < 2048) : (⟨h.val * 512 + d.val, p⟩ : Fin 2048) = lane h d :=
  Fin.ext (show h.val * 512 + d.val = 512 * h.val + d.val by omega)

theorem qs_at (d : Fin 512) : qs q (ix3 t h d) = sq q h t d := by
  pointwise [qs]
  rw [lane_eq]; rfl
theorem ks_at (d : Fin 512) : ks kv (ix3 j h d) = sk kv h j d := by
  pointwise [ks]
  exact congrArg (fun l : Fin 4096 => kv (ix2 j l)) (Fin.ext (show h.val * 512 + d.val = 512 * h.val + d.val by omega))
theorem vs_at (d : Fin 512) : vs kv (ix3 j h d) = sv kv h j d := by
  pointwise [vs]
  exact congrArg (fun l : Fin 4096 => kv (ix2 j l)) (Fin.ext (show 2048 + (h.val * 512 + d.val) = 2048 + (512 * h.val + d.val) by omega))
theorem gs_at (d : Fin 512) : gs g (ix3 h d t) = sg g h t d := by
  pointwise [gs]
  rw [lane_eq]; rfl

theorem scores_at : scores q kv (ix3 h t j) = score (sq q h t) (sk kv h) j := by
  pointwise [scores]
  simp only [qs_at, ks_at]
  rfl
/-- The greatest score. -/
def tops : FVec Ideal S4x4096 .f32 :=
  maximumf (broadcastInDim S4x4096 ![] bcast_S_S4x4096 (constant S_ .f32 0xFF800000#32))
    (Host.reduce FloatOps.maximumf (scores q kv) (constant S_ .f32 0xFF800000#32) reducesTo_S4x4096x256_S4x4096_d2 h_S_)
theorem max_at (x : FVec Ideal S4x4096x256 .f32) (w : FVec Ideal S_ .f32) :
    Host.reduce FloatOps.maximumf x w reducesTo_S4x4096x256_S4x4096_d2 h_S_ (ix2 h t)
      = (Finset.univ.fold max (w (Shape.Idx.first h_S_)) fun k : Fin 256 => x (ix3 h t k) : EReal) := by
  simp only [pointwise]
theorem max_bot_at (y : FVec Ideal S4x4096 .f32) :
    maximumf (broadcastInDim S4x4096 ![] bcast_S_S4x4096 (constant S_ .f32 0xFF800000#32)) y (ix2 h t) = (y (ix2 h t) : EReal) := by
  pointwise
  rw [ofBits_neg_inf, max_eq_right bot_le]
theorem tops_at : tops q kv (ix2 h t) = top (sq q h t) (sk kv h) := by
  unfold tops
  rw [max_bot_at, max_at]
  exact congrArg (Finset.univ.fold max (Ideal.ofBits .f32 0xFF800000#32)) (funext fun k => scores_at q kv h t k)
theorem expos_tops : expos q kv = (Host.exp (subf (scores q kv) (broadcastInDim S4x4096x256 ![0, 1, 2] bcast_S4x4096x1_S4x4096x256_0_1_2
    (broadcastInDim S4x4096x1 ![0, 1] bcast_S4x4096_S4x4096x1_0_1 (tops q kv)))) : FVec Ideal S4x4096x256 .f32) := rfl
theorem expos_at : expos q kv (ix3 h t j) = expo (sq q h t) (sk kv h) j := by
  rw [expos_tops]
  pointwise
  rw [scores_at, tops_at]
  rfl
theorem totals_at (i : Fin 1) : totals q kv (ix3 h t i) = total (sq q h t) (sk kv h) := by
  pointwise [totals]
  simp only [expos_at]
  rfl
theorem probs_at : probs q kv (ix3 h t j) = prob (sq q h t) (sk kv h) j := by
  pointwise [probs]
  rw [expos_at, totals_at]
  rfl
theorem dprobs_at : dprobs kv g (ix3 h t j) = dprob (sg g h t) (sv kv h) j := by
  pointwise [dprobs]
  simp only [gs_at, vs_at]
  rfl
theorem dtotals_at : dtotals q kv g (ix2 h t) = -∑ i, dprob (sg g h t) (sv kv h) i
    * Ideal.div 1 (total (sq q h t) (sk kv h) * total (sq q h t) (sk kv h)) * expo (sq q h t) (sk kv h) i := by
  pointwise [dtotals]
  simp only [expos_at, totals_at, dprobs_at, Finset.univ_unique, Finset.sum_singleton]

/-- With finite queries and keys the chain rule gives the softmax's gradient. -/
theorem dscores_at (hq : ∀ t l, Finite (rows q t l)) (hk : ∀ i l, Finite (keys kv i l)) :
    dscores q kv g (ix3 h t j) = dscoreAt (rows q t) (rows g t) (keys kv) (vals kv) h j := by
  pointwise [dscores]
  rw [expos_at, totals_at, dprobs_at, dtotals_at]
  exact softmax_grad (pos_total (fun d => hq t _) fun i d => hk i _) _ j

theorem dq_at (hq : ∀ t l, Finite (rows q t l)) (hk : ∀ i l, Finite (keys kv i l)) (l : Fin 2048) :
    dq q kv g (ix2 t l) = dqRow (rows q t) (rows g t) (keys kv) (vals kv) l := by
  pointwise [dq, ks]
  simp only [dscores_at q kv g _ _ _ hq hk]
  rfl
theorem dk_at (hq : ∀ t l, Finite (rows q t l)) (hk : ∀ i l, Finite (keys kv i l)) (l : Fin 2048) :
    dk q kv g (ix2 j l) = ∑ t, dkTerm (rows q t) (rows g t) (keys kv) (vals kv) j l := by
  pointwise [dk, qs]
  simp only [dscores_at q kv g _ _ _ hq hk]
  rfl
theorem dv_at (l : Fin 2048) : dv q kv g (ix2 j l) = ∑ t, dvTerm (rows q t) (rows g t) (keys kv) j l := by
  pointwise [dv, gs]
  simp only [probs_at]
  exact Finset.sum_congr rfl fun t _ => mul_comm _ _

/-- Two arrays side by side. -/
theorem joined_at (a b : FVec Ideal S256x2048 .f32) (l : Fin 4096) :
    (concatenate S256x4096 1 [⟨S256x2048, a⟩, ⟨S256x2048, b⟩] concatenates_S256x2048_S256x2048_S256x4096_d1 : FVec Ideal S256x4096 .f32) (ix2 j l)
      = if p : l.val < 2048 then a (ix2 j ⟨l.val, p⟩) else b (ix2 j ⟨l.val - 2048, by omega⟩) := by
  pointwise

theorem dkv_at (hq : ∀ t l, Finite (rows q t l)) (hk : ∀ i l, Finite (keys kv i l)) (l : Fin 4096) :
    dkv q kv g (ix2 j l) = ∑ t, dkvTerm (rows q t) (rows g t) (keys kv) (vals kv) j l := by
  unfold dkv
  rw [joined_at]
  split_ifs with p
  · rw [dk_at _ _ _ _ hq hk]
    exact Finset.sum_congr rfl fun t _ => (dkvTerm_low _ _ _ _ _ _ _ rfl).symm
  · rw [dv_at]
    exact Finset.sum_congr rfl fun t _ => (dkvTerm_high _ _ _ _ _ _ _ (show l.val = 2048 + (l.val - 2048) by omega)).symm

theorem out_at (l : Fin 2048) : out q kv (ix2 t l) = attnRow (rows q t) (keys kv) (vals kv) l := by
  pointwise [out, vs]
  simp only [probs_at]
  exact Finset.sum_congr rfl fun j _ => mul_comm _ _

/-- An array from its elements. -/
theorem ext2 {n k : ℕ} {f g : Mat n k} (h : ∀ r d, f (ix2 r d) = g (ix2 r d)) : f = g :=
  funext fun i => by
    obtain ⟨r, d, rfl⟩ : ∃ r d, i = ix2 r d := ⟨_, _, eq_ix2 i⟩
    exact h r d

theorem out_eq : out q kv = attn q kv := ext2 fun t l => out_at q kv t l
theorem dq_eq (hq : ∀ t l, Finite (rows q t l)) (hk : ∀ i l, Finite (keys kv i l)) : dq q kv g = attnDq q kv g :=
  ext2 fun t l => dq_at q kv g t hq hk l
theorem dkv_eq (hq : ∀ t l, Finite (rows q t l)) (hk : ∀ i l, Finite (keys kv i l)) : dkv q kv g = attnDkv q kv g :=
  ext2 fun j l => dkv_at q kv g j hq hk l

end Cert.Attention.Ref
-- ==== Proof.Attention.Ref.lean ====
/-
  The reference's six results: the dense products around the attention, each read at an index and equal to the same
  function of the arguments as the kernel's.
-/
module

public import proofs.«01_k».proof.Proof.Attention.Softmax

@[expose] public section

set_option maxRecDepth 16384

noncomputable section

namespace Cert.Attention.Ref

open Cert.CrossAttentionReferenceIdeal Cert.CrossAttentionReferenceIdeal.Value Cert.CrossAttentionReferenceIdeal.Gen
open Idealize.ShloMosaic Idealize.ShloMosaic.TcCoe Idealize.SL.Sem

variable (h : FVec Ideal S4096x2048 .bf16) (memn : FVec Ideal S256x2048 .bf16) (wq : FVec Ideal S2048x2048 .bf16)
  (wkv : FVec Ideal S8x2048x512 .bf16) (wo : FVec Ideal S2048x2048 .bf16) (dy : FVec Ideal S4096x2048 .bf16)

/-! ## The terms -/

/-- The joint projection's weights with their blocks side by side. -/
def wide : FVec Ideal S2048x4096 .f32 :=
  shapeCast _ (transpose S2048x8x512 [1, 0, 2] (extf .f32 wkv bitsLt_bf16_f32) transposes_S8x2048x512_S2048x8x512_1_0_2) shapeCasts_S2048x8x512_S2048x4096
/-- The keys and values. -/
def kvr : FVec Ideal S256x4096 .f32 :=
  Host.dotGeneral dot_S256x2048_S2048x4096_S256x4096_1_0_0_1_n_n none (extf .f32 memn bitsLt_bf16_f32) (wide wkv)
/-- The queries. -/
def qr : FVec Ideal S4096x2048 .f32 :=
  Host.dotGeneral dot_S4096x2048_S2048x2048_S4096x2048_1_0_0_1_n_n none (extf .f32 h bitsLt_bf16_f32) (extf .f32 wq bitsLt_bf16_f32)
/-- The cotangent of the attention's result. -/
def gr : FVec Ideal S4096x2048 .f32 :=
  Host.dotGeneral dot_S4096x2048_S2048x2048_S4096x2048_1_1_0_0_n_n none (extf .f32 dy bitsLt_bf16_f32) (extf .f32 wo bitsLt_bf16_f32)

section Around
variable (o d : FVec Ideal S4096x2048 .f32) (dj : FVec Ideal S256x4096 .f32)
/-- The layer's output. -/
def yr : FVec Ideal S4096x2048 .bf16 :=
  truncf .bf16 (Host.dotGeneral dot_S4096x2048_S2048x2048_S4096x2048_1_0_0_1_n_n none o (extf .f32 wo bitsLt_bf16_f32)) bitsLt_bf16_f32
/-- The gradient of the output's weights. -/
def dwOr : FVec Ideal S2048x2048 .bf16 :=
  truncf .bf16 (transpose S2048x2048 [1, 0] (Host.dotGeneral dot_S4096x2048_S4096x2048_S2048x2048_0_0_1_1_n_n none (extf .f32 dy bitsLt_bf16_f32) o) transposes_S2048x2048_S2048x2048_1_0) bitsLt_bf16_f32
/-- The gradient of the queries' weights. -/
def dwQr : FVec Ideal S2048x2048 .bf16 :=
  truncf .bf16 (transpose S2048x2048 [1, 0] (Host.dotGeneral dot_S4096x2048_S4096x2048_S2048x2048_0_0_1_1_n_n none d (extf .f32 h bitsLt_bf16_f32)) transposes_S2048x2048_S2048x2048_1_0) bitsLt_bf16_f32
/-- The gradient of the layer's input. -/
def dhr : FVec Ideal S4096x2048 .bf16 :=
  truncf .bf16 (Host.dotGeneral dot_S4096x2048_S2048x2048_S4096x2048_1_1_0_0_n_n none d (extf .f32 wq bitsLt_bf16_f32)) bitsLt_bf16_f32
/-- The gradient of the joint projection's weights. -/
def dwKvr : FVec Ideal S8x2048x512 .bf16 :=
  truncf .bf16 (transpose S8x2048x512 [1, 0, 2] (shapeCast _ (transpose S2048x4096 [1, 0]
    (Host.dotGeneral dot_S256x4096_S256x2048_S4096x2048_0_0_1_1_n_n none dj (extf .f32 memn bitsLt_bf16_f32))
    transposes_S4096x2048_S2048x4096_1_0) shapeCasts_S2048x4096_S2048x8x512) transposes_S2048x8x512_S8x2048x512_1_0_2) bitsLt_bf16_f32
/-- The gradient of the memory rows. -/
def dmemr : FVec Ideal S256x2048 .f32 :=
  Host.dotGeneral dot_S256x4096_S2048x4096_S256x2048_1_1_0_0_n_n none dj (wide wkv)

/-! ## The products at an index -/

theorem qr_eq : qr h wq = mul h wq := ext2 fun t l => by pointwise [qr]; rfl
theorem gr_eq : gr wo dy = mulT dy wo := ext2 fun t l => by pointwise [gr]; rfl
theorem yr_eq : yr wo o = mul o wo := ext2 fun t l => by pointwise [yr]; rfl
theorem dhr_eq : dhr wq d = mulT d wq := ext2 fun t l => by pointwise [dhr]; rfl
theorem dwOr_eq : dwOr dy o = tMul o dy := ext2 fun n l => by
  pointwise [dwOr]
  exact Finset.sum_congr rfl fun t _ => mul_comm _ _
theorem dwQr_eq : dwQr h d = tMul h d := ext2 fun n l => by
  pointwise [dwQr]
  exact Finset.sum_congr rfl fun t _ => mul_comm _ _

theorem wide_at (k : Fin 2048) (n : Fin 4096) : wide wkv (ix2 k n) = wkv (ix3 (blockOf n) k (placeOf n)) := by
  pointwise [wide]
  rfl
theorem kvr_eq : kvr memn wkv = joint memn wkv := ext2 fun j n => by
  pointwise [kvr]
  simp only [wide_at]
  rfl
theorem dwKvr_eq : dwKvr memn dj = jointW memn dj := funext fun i => by
  obtain ⟨b, k, l, rfl⟩ : ∃ b k l, i = ix3 b k l := ⟨_, _, _, eq_ix3 i⟩
  pointwise [dwKvr]
  exact Finset.sum_congr rfl fun t _ => mul_comm _ _

/-- A sum over all columns, block by block. -/
theorem sum_cols (f : Fin 4096 → EReal) : ∑ x, f x = ∑ b : Fin 8, ∑ l : Fin 512, f (colOf b l) := by
  rw [← Fintype.sum_prod_type' (fun b l => f (colOf b l))]
  refine ((finProdFinEquiv (m := 8) (n := 512)).sum_comp f).symm.trans (Finset.sum_congr rfl fun p _ => congrArg f (Fin.ext ?_))
  show p.2.val + 512 * p.1.val = p.1.val * 512 + p.2.val
  omega

theorem wide_col (k : Fin 2048) (b : Fin 8) (l : Fin 512) : wide wkv (ix2 k (colOf b l)) = wkv (ix3 b k l) :=
  (wide_at wkv k (colOf b l)).trans (congrArg₂ (fun z n => wkv (ix3 z k n)) (Fin.ext (show (b.val * 512 + l.val) / 512 = b.val by omega))
    (Fin.ext (show (b.val * 512 + l.val) % 512 = l.val by omega)))
theorem dmemr_eq : dmemr wkv dj = jointX dj wkv := ext2 fun j k => by
  pointwise [dmemr]
  refine (sum_cols _).trans (Finset.sum_congr rfl fun b _ => Finset.sum_congr rfl fun l _ => ?_)
  rw [wide_col]
  rfl
end Around

/-! ## The results over the arguments -/

section Results
variable (m : (ℓ : Loc nD τ sig) → Buf (Elt Ideal) ℓ) (c : Dev nD)
/-- The layer's input. -/
abbrev a0 : FVec Ideal S4096x2048 .bf16 := m ((c.tc : Thread nD τ).loc main_arg0)
/-- The memory rows. -/
abbrev a1 : FVec Ideal S256x2048 .bf16 := m ((c.tc : Thread nD τ).loc main_arg1)
/-- The queries' weights. -/
abbrev a2 : FVec Ideal S2048x2048 .bf16 := m ((c.tc : Thread nD τ).loc main_arg2)
/-- The joint projection's weights. -/
abbrev a3 : FVec Ideal S8x2048x512 .bf16 := m ((c.tc : Thread nD τ).loc main_arg3)
/-- The output's weights. -/
abbrev a4 : FVec Ideal S2048x2048 .bf16 := m ((c.tc : Thread nD τ).loc main_arg4)
/-- The output's cotangent. -/
abbrev a5 : FVec Ideal S4096x2048 .bf16 := m ((c.tc : Thread nD τ).loc main_arg5)

theorem res0_eq : res_out0 m c = yr (a4 m c) (out (qr (a0 m c) (a2 m c)) (kvr (a1 m c) (a3 m c))) := rfl
theorem res1_eq : res_out1 m c = dwOr (a5 m c) (out (qr (a0 m c) (a2 m c)) (kvr (a1 m c) (a3 m c))) := rfl
theorem res2_eq : res_out2 m c = dhr (a2 m c) (dq (qr (a0 m c) (a2 m c)) (kvr (a1 m c) (a3 m c)) (gr (a4 m c) (a5 m c))) := rfl
theorem res3_eq : res_out3 m c = dwQr (a0 m c) (dq (qr (a0 m c) (a2 m c)) (kvr (a1 m c) (a3 m c)) (gr (a4 m c) (a5 m c))) := rfl
theorem res4_eq : res_out4 m c = dwKvr (a1 m c) (dkv (qr (a0 m c) (a2 m c)) (kvr (a1 m c) (a3 m c)) (gr (a4 m c) (a5 m c))) := rfl
theorem res5_eq : res_out5 m c = dmemr (a3 m c) (dkv (qr (a0 m c) (a2 m c)) (kvr (a1 m c) (a3 m c)) (gr (a4 m c) (a5 m c))) := rfl
end Results

/-! ## The results as functions of the arguments -/

theorem y_eq : yr wo (out (qr h wq) (kvr memn wkv)) = mul (attn (mul h wq) (joint memn wkv)) wo := by
  rw [yr_eq, out_eq, qr_eq, kvr_eq]
theorem dwO_eq : dwOr dy (out (qr h wq) (kvr memn wkv)) = tMul (attn (mul h wq) (joint memn wkv)) dy := by
  rw [dwOr_eq, out_eq, qr_eq, kvr_eq]

variable {h memn wq wkv}
variable (hq : ∀ t l, Finite (rows (mul h wq) t l)) (hk : ∀ i l, Finite (keys (joint memn wkv) i l))
include hq hk

theorem dqr_eq : dq (qr h wq) (kvr memn wkv) (gr wo dy) = attnDq (mul h wq) (joint memn wkv) (mulT dy wo) := by
  rw [qr_eq, kvr_eq, gr_eq]
  exact dq_eq _ _ _ hq hk
theorem dkvr_eq : dkv (qr h wq) (kvr memn wkv) (gr wo dy) = attnDkv (mul h wq) (joint memn wkv) (mulT dy wo) := by
  rw [qr_eq, kvr_eq, gr_eq]
  exact dkv_eq _ _ _ hq hk

end Cert.Attention.Ref
-- ==== Proof.Attention.Head.lean ====
/-
  What the bodies of the attention's two calls store for each head, read at an index: the functions of `Spec` on that
  head's rows. Regions 2 and 6 of the kernel.
-/
module

public import proofs.«01_k».proof.Proof.Gen.CrossAttentionIdeal.Skeleton
public import proofs.«01_k».proof.Proof.Attention.Spec

@[expose] public section

set_option maxRecDepth 16384

noncomputable section

namespace Cert.Attention

open Cert.CrossAttentionIdeal Cert.CrossAttentionIdeal.Gen Idealize.ShloMosaic

/-- A head of a block of rows. -/
abbrev Half : Type := Vec Ideal S256x512 .bf16
/-- The accumulated head of the joint gradient. -/
abbrev Acc : Type := Vec Ideal S256x512 .f32

/-- Row `r` of a head of a block. -/
def rowOf (x : Half) (r : Fin 256) : Seg := fun d => x (ix2 r d)

variable (q k v g : Half) (a : Acc) (r : Fin 256) (d : Fin 512)

/-! ## Forward -/

/-- The attention's result for row `r` in one head. -/
def outHead : EReal := ∑ j, prob (rowOf q r) (rowOf k) j * v (ix2 j d)

theorem out_head0 : k2_pay2 (F := Ideal) q k v (ix2 r d) = outHead q k v r d := by
  pointwise [k2_pay2]; rfl
theorem out_head1 : k2_pay5 (F := Ideal) (k2_pay3 q k) (k2_pay4 q k) v (ix2 r d) = outHead q k v r d := by
  pointwise [k2_pay5, k2_pay4, k2_pay3]; rfl
theorem out_head2 : k2_pay6 (F := Ideal) q k v (ix2 r d) = outHead q k v r d := by
  pointwise [k2_pay6]; rfl
theorem out_head3 : k2_pay1 (F := Ideal) (k2_pay7 q k) (Scalar.ofBits .f32 0x3D3504F3#32) v (ix2 r d) = outHead q k v r d := by
  pointwise [k2_pay1, k2_pay7]; rfl

/-! ## Backward -/

/-- The gradient of row `r` of the queries in one head. -/
def dqHead : EReal := ∑ j, dscore (rowOf q r) (rowOf k) (rowOf v) (rowOf g r) j * k (ix2 j d)
/-- The gradient of key `r` in one head: what was there and this block's rows. -/
def dkHead : EReal := a (ix2 r d) + ∑ i, dscore (rowOf q i) (rowOf k) (rowOf v) (rowOf g i) r * q (ix2 i d)
/-- The gradient of value `r` in one head: what was there and this block's rows. -/
def dvHead : EReal := a (ix2 r d) + ∑ i, prob (rowOf q i) (rowOf k) r * g (ix2 i d)

/-- What the body stores for the keys of head 0. -/
abbrev dk0 : Acc := k6_pay9 (F := Ideal) (k6_pay3 q) (k6_pay7 q k v g) a
/-- What the body stores for the values of head 0. -/
abbrev dv0 : Acc := k6_pay10 (F := Ideal) (k6_pay5 g) (k6_pay6 q k) a
/-- What the body stores for the queries of head 1. -/
abbrev dq1 : Half := k6_pay18 (F := Ideal) (k6_pay12 k) (k6_pay14 q k) (k6_pay15 v g) (k6_pay16 q k v g)
/-- What the body stores for the keys of head 1. -/
abbrev dk1 : Acc := k6_pay19 (F := Ideal) (k6_pay11 q) (k6_pay14 q k) (k6_pay15 v g) (k6_pay16 q k v g) a
/-- What the body stores for the values of head 1. -/
abbrev dv1 : Acc := k6_pay20 (F := Ideal) (k6_pay13 g) (k6_pay14 q k) a
/-- What the body stores for the queries of head 2. -/
abbrev dq2 : Half := k6_pay29 (F := Ideal) (k6_pay22 k) (k6_pay23 v) (k6_pay24 g) (k6_pay25 q k) (k6_pay26 q k)
/-- What the body stores for the keys of head 2. -/
abbrev dk2 : Acc := k6_pay30 (F := Ideal) (k6_pay21 q) (k6_pay23 v) (k6_pay24 g) (k6_pay25 q k) (k6_pay26 q k) a
/-- What the body stores for the values of head 2. -/
abbrev dv2 : Acc := k6_pay31 (F := Ideal) (k6_pay24 g) (k6_pay25 q k) (k6_pay26 q k) a
/-- What the body stores for the queries of head 3. -/
abbrev dq3 : Half := k6_pay37 (F := Ideal) (k6_pay32 q) (k6_pay33 k) v g
/-- What the body stores for the keys of head 3. -/
abbrev dk3 : Acc := k6_pay38 (F := Ideal) (k6_pay32 q) (k6_pay33 k) v g a
/-- What the body stores for the values of head 3. -/
abbrev dv3 : Acc := k6_pay1 (F := Ideal) (k6_pay34 g) (k6_pay39 a) (k6_pay40 (k6_pay32 q) (k6_pay33 k))

theorem dq_head0 : k6_pay8 (F := Ideal) q k v g (ix2 r d) = dqHead q k v g r d := by
  pointwise [k6_pay8, k6_pay7, k6_pay6, k6_pay5, k6_pay4, k6_pay3]; rfl
theorem dq_head1 : dq1 q k v g (ix2 r d) = dqHead q k v g r d := by
  pointwise [dq1, k6_pay18, k6_pay17, k6_pay16, k6_pay15, k6_pay14, k6_pay13, k6_pay12, k6_pay11]; rfl
theorem dq_head2 : dq2 q k v g (ix2 r d) = dqHead q k v g r d := by
  pointwise [dq2, k6_pay29, k6_pay28, k6_pay27, k6_pay26, k6_pay25, k6_pay24, k6_pay23, k6_pay22, k6_pay21]; rfl
theorem dq_head3 : dq3 q k v g (ix2 r d) = dqHead q k v g r d := by
  pointwise [dq3, k6_pay37, k6_pay36, k6_pay35, k6_pay34, k6_pay33, k6_pay32]; rfl

theorem dk_head0 : dk0 q k v g a (ix2 r d) = dkHead q k v g a r d := by
  pointwise [dk0, k6_pay9, k6_pay7, k6_pay6, k6_pay5, k6_pay4, k6_pay3]; rfl
theorem dk_head1 : dk1 q k v g a (ix2 r d) = dkHead q k v g a r d := by
  pointwise [dk1, k6_pay19, k6_pay17, k6_pay16, k6_pay15, k6_pay14, k6_pay13, k6_pay12, k6_pay11]; rfl
theorem dk_head2 : dk2 q k v g a (ix2 r d) = dkHead q k v g a r d := by
  pointwise [dk2, k6_pay30, k6_pay28, k6_pay27, k6_pay26, k6_pay25, k6_pay24, k6_pay23, k6_pay22, k6_pay21]; rfl
theorem dk_head3 : dk3 q k v g a (ix2 r d) = dkHead q k v g a r d := by
  pointwise [dk3, k6_pay38, k6_pay36, k6_pay35, k6_pay34, k6_pay33, k6_pay32]; rfl

theorem dv_head0 : dv0 q k g a (ix2 r d) = dvHead q k g a r d := by
  pointwise [dv0, k6_pay10, k6_pay6, k6_pay5, k6_pay4, k6_pay3]; rfl
theorem dv_head1 : dv1 q k g a (ix2 r d) = dvHead q k g a r d := by
  pointwise [dv1, k6_pay20, k6_pay14, k6_pay13, k6_pay12, k6_pay11]; rfl
theorem dv_head2 : dv2 q k g a (ix2 r d) = dvHead q k g a r d := by
  pointwise [dv2, k6_pay31, k6_pay27, k6_pay26, k6_pay25, k6_pay24, k6_pay22, k6_pay21]; rfl
theorem dv_head3 : dv3 q k g a (ix2 r d) = dvHead q k g a r d := by
  pointwise [dv3, k6_pay1, k6_pay40, k6_pay39, k6_pay35, k6_pay34, k6_pay33, k6_pay32]; rfl

end Cert.Attention
-- ==== Proof.Attention.Block.lean ====
/-
  What the attention's two calls leave in their result blocks at one grid point, at an index: the four heads' pieces
  joined. Regions 2 and 6 of the kernel.
-/
module

public import proofs.«01_k».proof.Proof.Gen.CrossAttentionIdeal.Frame
public import Idealize.ShloMosaic.Lib.Pipeline.ValueKit
public import Idealize.ShloMosaic.Lib.Pipeline.ReadBack
public import proofs.«01_k».proof.Proof.Attention.Head

@[expose] public section

set_option maxRecDepth 16384

noncomputable section

namespace Cert.Attention

open Cert.CrossAttentionIdeal Cert.CrossAttentionIdeal.Gen Idealize.ShloMosaic Idealize.ShloMosaic.TcCoe Idealize.SL.Sem

/-- A block of 256 rows of all four heads. -/
abbrev Blk : Type := Vec Ideal S256x2048 .bf16

/-- Row `r` of a block. -/
def blkRow (x : Blk) (r : Fin 256) : Row := fun l => x (ix2 r l)

/-- A function known at every pair of coordinates, at an index. -/
theorem at_idx {f : S256x512.Idx → EReal} {g : Fin 256 → Fin 512 → EReal} (h : ∀ r d, f (ix2 r d) = g r d)
    (x : S256x512.Idx) : f x = g (x 0) (x 1) :=
  (congrArg f (ix2_eta x).symm).trans (h _ _)

/-- A load of head `h`'s lanes reads the block's row at that head. -/
theorem load_head (h : Fin 4) (off : Nat) (ho : off = 512 * h.val) (inb) (x : Blk) (r : Fin 256) (d : Fin 512) :
    View.ld x (Rect.unit ![0, off] ![256, 512] inb) (ix2 r d) = blkRow x r (lane h d) :=
  View.ld_unit_apply_of x _ _ inb _ (ix2 r (lane h d)) fun a => by
    subst ho; fin_cases a <;> simp [lane]

theorem rowOf_load (h : Fin 4) (off : Nat) (ho : off = 512 * h.val) (inb) (x : Blk) :
    rowOf (View.ld x (Rect.unit ![0, off] ![256, 512] inb)) = fun r => seg h (blkRow x r) :=
  funext fun r => funext fun d => load_head h off ho inb x r d

variable (x0 x1 x2 x3 : Blk)

/-- The queries' gradient block. -/
def dqBlk (r : Fin 256) (l : Fin 2048) : EReal := dqRow (blkRow x0 r) (blkRow x3 r) (blkRow x1) (blkRow x2) l

/-- What a block of rows adds to the joint gradient. -/
def dkvBlk (j : Fin 256) (l : Fin 4096) : EReal :=
  ∑ r, dkvTerm (blkRow x0 r) (blkRow x3 r) (blkRow x1) (blkRow x2) j l

/-- A head of the attention's result is that head's lanes of the block. -/
theorem outHead_load (h : Fin 4) (off : Nat) (ho : off = 512 * h.val) (inb) (r : Fin 256) (d : Fin 512) (r' : Fin 256) (l : Fin 2048)
    (e0 : r'.val = r.val) (e1 : l.val = off + d.val) :
    outHead (View.ld x0 (Rect.unit ![0, off] ![256, 512] inb)) (View.ld x1 (Rect.unit ![0, off] ![256, 512] inb))
      (View.ld x2 (Rect.unit ![0, off] ![256, 512] inb)) r d = attnRow (blkRow x0 r') (blkRow x1) (blkRow x2) l := by
  obtain rfl : r' = r := Fin.ext e0
  obtain rfl : l = lane h d := Fin.ext (by subst ho; exact e1)
  unfold outHead attnRow probAt
  simp only [rowOf_load h off ho, headOf_lane]
  exact Finset.sum_congr rfl fun j _ => congrArg (_ * ·) (load_head h off ho inb x2 j d)

/-- The attention's result block. -/
theorem out_attn (y : S256x2048.Idx) :
    out2_3 x0 x1 x2 y = attnRow (blkRow x0 (y 0)) (blkRow x1) (blkRow x2) (y 1) := by
  frame_out
  canon_tiles x h
  · exact (at_idx (out_head3 _ _ _) x).trans (outHead_load _ _ _ 3 1536 rfl _ _ _ (y 0) (y 1) (by omega) (by omega))
  · exact (at_idx (out_head2 _ _ _) x).trans (outHead_load _ _ _ 2 1024 rfl _ _ _ (y 0) (y 1) (by omega) (by omega))
  · exact (at_idx (out_head1 _ _ _) x).trans (outHead_load _ _ _ 1 512 rfl _ _ _ (y 0) (y 1) (by omega) (by omega))
  · exact (at_idx (out_head0 _ _ _) x).trans (outHead_load _ _ _ 0 0 rfl _ _ _ (y 0) (y 1) (by omega) (by omega))

/-- One head's piece of the queries' gradient is that head's lanes of the block. -/
theorem dqHead_load (h : Fin 4) (off : Nat) (ho : off = 512 * h.val) (inb) (r : Fin 256) (d : Fin 512) (r' : Fin 256) (l : Fin 2048)
    (e0 : r'.val = r.val) (e1 : l.val = off + d.val) :
    dqHead (View.ld x0 (Rect.unit ![0, off] ![256, 512] inb)) (View.ld x1 (Rect.unit ![0, off] ![256, 512] inb))
      (View.ld x2 (Rect.unit ![0, off] ![256, 512] inb)) (View.ld x3 (Rect.unit ![0, off] ![256, 512] inb)) r d
      = dqBlk x0 x1 x2 x3 r' l := by
  obtain rfl : r' = r := Fin.ext e0
  obtain rfl : l = lane h d := Fin.ext (by subst ho; exact e1)
  unfold dqHead dqBlk dqRow dscoreAt
  simp only [rowOf_load h off ho, headOf_lane]
  exact Finset.sum_congr rfl fun j _ => congrArg (_ * ·) (load_head h off ho inb x1 j d)

/-- One head's piece of the keys' gradient: what was there and this block's rows. -/
theorem dkHead_load (h : Fin 4) (off : Nat) (ho : off = 512 * h.val) (inb) (a : Acc) (r : Fin 256) (d : Fin 512)
    (r' : Fin 256) (l : Fin 4096) (e0 : r'.val = r.val) (e1 : l.val = off + d.val) :
    dkHead (View.ld x0 (Rect.unit ![0, off] ![256, 512] inb)) (View.ld x1 (Rect.unit ![0, off] ![256, 512] inb))
      (View.ld x2 (Rect.unit ![0, off] ![256, 512] inb)) (View.ld x3 (Rect.unit ![0, off] ![256, 512] inb)) a r d
      = a (ix2 r d) + dkvBlk x0 x1 x2 x3 r' l := by
  obtain rfl : r' = r := Fin.ext e0
  unfold dkHead dkvBlk
  simp only [dkvTerm_low _ _ _ _ _ l (lane h d) (by subst ho; exact e1)]
  unfold dkTerm dscoreAt
  simp only [rowOf_load h off ho, headOf_lane]
  exact congrArg (_ + ·) (Finset.sum_congr rfl fun i _ => congrArg (_ * ·) (load_head h off ho inb x0 i d))

/-- One head's piece of the values' gradient: what was there and this block's rows. -/
theorem dvHead_load (h : Fin 4) (off : Nat) (ho : off = 512 * h.val) (inb) (a : Acc) (r : Fin 256) (d : Fin 512)
    (r' : Fin 256) (l : Fin 4096) (e0 : r'.val = r.val) (e1 : l.val = 2048 + off + d.val) :
    dvHead (View.ld x0 (Rect.unit ![0, off] ![256, 512] inb)) (View.ld x1 (Rect.unit ![0, off] ![256, 512] inb))
      (View.ld x3 (Rect.unit ![0, off] ![256, 512] inb)) a r d
      = a (ix2 r d) + dkvBlk x0 x1 x2 x3 r' l := by
  obtain rfl : r' = r := Fin.ext e0
  unfold dvHead dkvBlk
  simp only [dkvTerm_high _ _ _ _ _ l (lane h d) (by subst ho; rw [e1]; exact Nat.add_assoc ..)]
  unfold dvTerm probAt
  simp only [rowOf_load h off ho, headOf_lane]
  exact congrArg (_ + ·) (Finset.sum_congr rfl fun i _ => congrArg (_ * ·) (load_head h off ho inb x3 i d))

variable (c : Dev nD) (i : grid6.Coords) (arg1 : Memref sig .tc .vmem S256x2048 .bf16) (harg1 : arg1.IsWhole)
  (arg2 : Memref sig .tc .vmem S256x2048 .bf16) (harg2 : arg2.IsWhole) (arg3 : Memref sig .tc .vmem S256x2048 .bf16)
  (harg3 : arg3.IsWhole) (arg4 : Memref sig .tc .vmem S256x2048 .bf16) (harg4 : arg4.IsWhole)
  (arg5 : Memref sig .tc .vmem S256x2048 .bf16) (harg5 : arg5.IsWhole) (arg6 : Memref sig .tc .vmem S256x4096 .f32)
  (harg6 : arg6.IsWhole)

/-- A load of the joint gradient reads it at the placed index. -/
theorem load_acc (a : Vec Ideal S256x4096 .f32) (off : Nat) (inb) (x : S256x512.Idx) (y : S256x4096.Idx)
    (e0 : (y 0).val = (x 0).val) (e1 : (y 1).val = off + (x 1).val) :
    View.ld a (Rect.unit ![0, off] ![256, 512] inb) x = a y :=
  View.ld_unit_apply_of a _ _ inb x y fun b => by
    fin_cases b
    · exact e0.trans (Nat.zero_add _).symm
    · exact e1

/-- The queries' gradient at a later point. -/
theorem out_B_dq (hc0 : ¬cond6_0 i) (xo5 : Vec Ideal S256x4096 .f32) (y : S256x2048.Idx) :
    out6_B_4 c i arg1 harg1 arg2 harg2 arg3 harg3 arg4 harg4 arg5 harg5 arg6 harg6 hc0 x0 x1 x2 x3 xo5 y
      = dqBlk x0 x1 x2 x3 (y 0) (y 1) := by
  frame_open
  simp (disch := decide) only [↓ View.readCov_skip, ↓ View.readCov_cons_toLoadRect, ↓ View.readCov_fill]
  frame_out
  canon_tiles x h
  · exact (at_idx (dq_head3 _ _ _ _) x).trans (dqHead_load _ _ _ _ 3 1536 rfl _ _ _ (y 0) (y 1) (by omega) (by omega))
  · exact (at_idx (dq_head2 _ _ _ _) x).trans (dqHead_load _ _ _ _ 2 1024 rfl _ _ _ (y 0) (y 1) (by omega) (by omega))
  · exact (at_idx (dq_head1 _ _ _ _) x).trans (dqHead_load _ _ _ _ 1 512 rfl _ _ _ (y 0) (y 1) (by omega) (by omega))
  · exact (at_idx (dq_head0 _ _ _ _) x).trans (dqHead_load _ _ _ _ 0 0 rfl _ _ _ (y 0) (y 1) (by omega) (by omega))

/-- The queries' gradient at the first point. -/
theorem out_A_dq (hc0 : cond6_0 i) (y : S256x2048.Idx) :
    out6_A_4 c i arg1 harg1 arg2 harg2 arg3 harg3 arg4 harg4 arg5 harg5 arg6 harg6 hc0 x0 x1 x2 x3 y
      = dqBlk x0 x1 x2 x3 (y 0) (y 1) := by
  frame_open
  simp (disch := decide) only [↓ View.readCov_skip, ↓ View.readCov_cons_toLoadRect, ↓ View.readCov_fill]
  frame_out
  canon_tiles x h
  · exact (at_idx (dq_head3 _ _ _ _) x).trans (dqHead_load _ _ _ _ 3 1536 rfl _ _ _ (y 0) (y 1) (by omega) (by omega))
  · exact (at_idx (dq_head2 _ _ _ _) x).trans (dqHead_load _ _ _ _ 2 1024 rfl _ _ _ (y 0) (y 1) (by omega) (by omega))
  · exact (at_idx (dq_head1 _ _ _ _) x).trans (dqHead_load _ _ _ _ 1 512 rfl _ _ _ (y 0) (y 1) (by omega) (by omega))
  · exact (at_idx (dq_head0 _ _ _ _) x).trans (dqHead_load _ _ _ _ 0 0 rfl _ _ _ (y 0) (y 1) (by omega) (by omega))

/-- The eight pieces a point stores into the joint gradient, over the contents `a` it found there. -/
def dkvPieces (a : Vec Ideal S256x4096 .f32) : List (View.Piece (Elt Ideal) S256x4096 .f32) :=
  let A (off : Nat) (inb) : Acc := View.ld a (Rect.unit ![0, off] ![256, 512] inb)
  let L (x : Blk) (off : Nat) (inb) : Half := View.ld x (Rect.unit ![0, off] ![256, 512] inb)
  [⟨Rect.unit ![0, 3584] ![256, 512] inb_S256x4096_S256x512_0_3584,
      dv3 (L x0 1536 inb_S256x2048_S256x512_0_1536) (L x1 1536 inb_S256x2048_S256x512_0_1536)
        (L x3 1536 inb_S256x2048_S256x512_0_1536) (A 3584 inb_S256x4096_S256x512_0_3584)⟩,
    ⟨Rect.unit ![0, 1536] ![256, 512] inb_S256x4096_S256x512_0_1536,
      dk3 (L x0 1536 inb_S256x2048_S256x512_0_1536) (L x1 1536 inb_S256x2048_S256x512_0_1536)
        (L x2 1536 inb_S256x2048_S256x512_0_1536) (L x3 1536 inb_S256x2048_S256x512_0_1536) (A 1536 inb_S256x4096_S256x512_0_1536)⟩,
    ⟨Rect.unit ![0, 3072] ![256, 512] inb_S256x4096_S256x512_0_3072,
      dv2 (L x0 1024 inb_S256x2048_S256x512_0_1024) (L x1 1024 inb_S256x2048_S256x512_0_1024)
        (L x3 1024 inb_S256x2048_S256x512_0_1024) (A 3072 inb_S256x4096_S256x512_0_3072)⟩,
    ⟨Rect.unit ![0, 1024] ![256, 512] inb_S256x4096_S256x512_0_1024,
      dk2 (L x0 1024 inb_S256x2048_S256x512_0_1024) (L x1 1024 inb_S256x2048_S256x512_0_1024)
        (L x2 1024 inb_S256x2048_S256x512_0_1024) (L x3 1024 inb_S256x2048_S256x512_0_1024) (A 1024 inb_S256x4096_S256x512_0_1024)⟩,
    ⟨Rect.unit ![0, 2560] ![256, 512] inb_S256x4096_S256x512_0_2560,
      dv1 (L x0 512 inb_S256x2048_S256x512_0_512) (L x1 512 inb_S256x2048_S256x512_0_512)
        (L x3 512 inb_S256x2048_S256x512_0_512) (A 2560 inb_S256x4096_S256x512_0_2560)⟩,
    ⟨Rect.unit ![0, 512] ![256, 512] inb_S256x4096_S256x512_0_512,
      dk1 (L x0 512 inb_S256x2048_S256x512_0_512) (L x1 512 inb_S256x2048_S256x512_0_512)
        (L x2 512 inb_S256x2048_S256x512_0_512) (L x3 512 inb_S256x2048_S256x512_0_512) (A 512 inb_S256x4096_S256x512_0_512)⟩,
    ⟨Rect.unit ![0, 2048] ![256, 512] inb_S256x4096_S256x512_0_2048,
      dv0 (L x0 0 inb_S256x2048_S256x512_0_0) (L x1 0 inb_S256x2048_S256x512_0_0)
        (L x3 0 inb_S256x2048_S256x512_0_0) (A 2048 inb_S256x4096_S256x512_0_2048)⟩,
    ⟨Rect.unit ![0, 0] ![256, 512] inb_S256x4096_S256x512_0_0,
      dk0 (L x0 0 inb_S256x2048_S256x512_0_0) (L x1 0 inb_S256x2048_S256x512_0_0)
        (L x2 0 inb_S256x2048_S256x512_0_0) (L x3 0 inb_S256x2048_S256x512_0_0) (A 0 inb_S256x4096_S256x512_0_0)⟩]

/-- A piece's index, placed: the row as it is, the lane at the piece's offset. -/
theorem placed (off : Nat) (inb) (x : S256x512.Idx) :
    ((Rect.unit (s := S256x4096) ![0, off] ![256, 512] inb).emb x 0).val = (x 0).val
      ∧ ((Rect.unit (s := S256x4096) ![0, off] ![256, 512] inb).emb x 1).val = off + (x 1).val :=
  ⟨(Rect.idx_unit_val _ _ inb x 0).trans (Nat.zero_add _), Rect.idx_unit_val _ _ inb x 1⟩

/-- One stored piece of the keys' gradient, where it lies. -/
theorem dk_piece (a : Vec Ideal S256x4096 .f32) (h : Fin 4) (off : Nat) (ho : off = 512 * h.val) (inb) (inb') (f : S256x512.Idx → EReal)
    (hf : ∀ r d, f (ix2 r d) = dkHead (View.ld x0 (Rect.unit ![0, off] ![256, 512] inb)) (View.ld x1 (Rect.unit ![0, off] ![256, 512] inb))
      (View.ld x2 (Rect.unit ![0, off] ![256, 512] inb)) (View.ld x3 (Rect.unit ![0, off] ![256, 512] inb))
      (View.ld a (Rect.unit ![0, off] ![256, 512] inb')) r d) (x : S256x512.Idx) :
    f x = a ((Rect.unit (s := S256x4096) ![0, off] ![256, 512] inb').emb x)
      + dkvBlk x0 x1 x2 x3 ((Rect.unit (s := S256x4096) ![0, off] ![256, 512] inb').emb x 0)
          ((Rect.unit (s := S256x4096) ![0, off] ![256, 512] inb').emb x 1) :=
  (at_idx hf x).trans ((dkHead_load _ _ _ _ h off ho _ _ _ _ _ _ (placed off inb' x).1 (placed off inb' x).2).trans
    (congrArg (View.ld a (Rect.unit ![0, off] ![256, 512] inb') · + _) (ix2_eta x)))

/-- One stored piece of the values' gradient, where it lies. -/
theorem dv_piece (a : Vec Ideal S256x4096 .f32) (h : Fin 4) (off : Nat) (ho : off = 512 * h.val) (off' : Nat) (ho' : off' = 2048 + off)
    (inb) (inb') (f : S256x512.Idx → EReal)
    (hf : ∀ r d, f (ix2 r d) = dvHead (View.ld x0 (Rect.unit ![0, off] ![256, 512] inb)) (View.ld x1 (Rect.unit ![0, off] ![256, 512] inb))
      (View.ld x3 (Rect.unit ![0, off] ![256, 512] inb)) (View.ld a (Rect.unit ![0, off'] ![256, 512] inb')) r d) (x : S256x512.Idx) :
    f x = a ((Rect.unit (s := S256x4096) ![0, off'] ![256, 512] inb').emb x)
      + dkvBlk x0 x1 x2 x3 ((Rect.unit (s := S256x4096) ![0, off'] ![256, 512] inb').emb x 0)
          ((Rect.unit (s := S256x4096) ![0, off'] ![256, 512] inb').emb x 1) :=
  (at_idx hf x).trans ((dvHead_load _ _ _ _ h off ho _ _ _ _ _ _ (placed off' inb' x).1 (ho' ▸ (placed off' inb' x).2)).trans
    (congrArg (View.ld a (Rect.unit ![0, off'] ![256, 512] inb') · + _) (ix2_eta x)))

/-- Each piece is its block of what was there and this block's rows. -/
theorem dkvPieces_of (a : Vec Ideal S256x4096 .f32) :
    View.PiecesOf (fun y => a y + dkvBlk x0 x1 x2 x3 (y 0) (y 1)) (dkvPieces x0 x1 x2 x3 a) :=
  ⟨dv_piece _ _ _ _ _ 3 1536 rfl _ rfl _ _ _ (dv_head3 _ _ _ _), dk_piece _ _ _ _ _ 3 1536 rfl _ _ _ (dk_head3 _ _ _ _ _),
    dv_piece _ _ _ _ _ 2 1024 rfl _ rfl _ _ _ (dv_head2 _ _ _ _), dk_piece _ _ _ _ _ 2 1024 rfl _ _ _ (dk_head2 _ _ _ _ _),
    dv_piece _ _ _ _ _ 1 512 rfl _ rfl _ _ _ (dv_head1 _ _ _ _), dk_piece _ _ _ _ _ 1 512 rfl _ _ _ (dk_head1 _ _ _ _ _),
    dv_piece _ _ _ _ _ 0 0 rfl _ rfl _ _ _ (dv_head0 _ _ _ _), dk_piece _ _ _ _ _ 0 0 rfl _ _ _ (dk_head0 _ _ _ _ _), trivial⟩

/-- The eight pieces, over any earlier store, leave what was there and this block's rows. -/
theorem canon_dkvPieces (a : Vec Ideal S256x4096 .f32) (L : List (View.Piece (Elt Ideal) S256x4096 .f32)) (y : S256x4096.Idx) :
    View.canon (dkvPieces x0 x1 x2 x3 a ++ L) y = a y + dkvBlk x0 x1 x2 x3 (y 0) (y 1) :=
  View.canon_append_of_piecesOf _ L _ (dkvPieces_of x0 x1 x2 x3 a) y
    (View.cover_of_tiledL (dkvPieces x0 x1 x2 x3 a) ![256, 512] (by sl_kernel_rfl) y)

/-- The joint gradient at a later point: what was there and this block's rows. -/
theorem out_B_dkv (hc0 : ¬cond6_0 i) (xo5 : Vec Ideal S256x4096 .f32) (y : S256x4096.Idx) :
    out6_B_5 c i arg1 harg1 arg2 harg2 arg3 harg3 arg4 harg4 arg5 harg5 arg6 harg6 hc0 x0 x1 x2 x3 xo5 y
      = xo5 y + dkvBlk x0 x1 x2 x3 (y 0) (y 1) := by
  frame_open
  simp (disch := decide) only [↓ View.readCov_skip, ↓ View.readCov_cons_toLoadRect, ↓ View.readCov_fill]
  frame_out
  exact canon_dkvPieces x0 x1 x2 x3 xo5 [] y

/-- The joint gradient at the first point: this block's rows. -/
theorem out_A_dkv (hc0 : cond6_0 i) (y : S256x4096.Idx) :
    out6_A_5 c i arg1 harg1 arg2 harg2 arg3 harg3 arg4 harg4 arg5 harg5 arg6 harg6 hc0 x0 x1 x2 x3 y
      = 0 + dkvBlk x0 x1 x2 x3 (y 0) (y 1) := by
  frame_open
  simp (disch := decide) only [↓ View.readCov_skip, ↓ View.readCov_cons_toLoadRect, ↓ View.readCov_fill]
  frame_out
  have e : (k6_pay2 (F := Ideal) y : EReal) = 0 := by
    obtain ⟨r, l, rfl⟩ : ∃ r l, y = ix2 r l := ⟨_, _, eq_ix2 y⟩
    pointwise [k6_pay2]
  have h := canon_dkvPieces x0 x1 x2 x3 (k6_pay2 (F := Ideal)) [⟨Rect.unit ![0, 0] ![256, 4096] inb_S256x4096_S256x4096_0_0, k6_pay2 (F := Ideal)⟩] y
  rw [e] at h
  simp only [dkvPieces, List.cons_append, List.nil_append] at h
  exact h

end Cert.Attention
-- ==== Proof.Attention.Arrays.lean ====
/-
  What the result arrays of the attention's two calls hold after the whole grid, at an index: the sixteen row blocks
  joined.
-/
module

public import proofs.«01_k».proof.Proof.Attention.Block
public import proofs.«01_k».proof.Proof.Attention.Dense

@[expose] public section

set_option maxRecDepth 16384

noncomputable section

namespace Cert.Attention

open Cert.CrossAttentionIdeal Cert.CrossAttentionIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The queries as a region finds them. -/
abbrev inQ : Vec Ideal S4096x2048 .bf16 := V c main_v0
/-- The keys and values. -/
abbrev inKV : Vec Ideal S256x4096 .bf16 := V c main_v1
/-- The cotangents. -/
abbrev inG : Vec Ideal S4096x2048 .bf16 := V c main_v4

/-! ## Forward -/

theorem idx2 : ∀ t : Fin cfg2.N, win2_0.index t = ![t.val, 0] ∧ win2_1.index t = ![0, 0] ∧ win2_2.index t = ![0, 1]
    ∧ win2_3.index t = ![t.val, 0] :=
  (by decide +kernel : ∀ t : Fin grid2.N, win2_0.index t = ![t.val, 0] ∧ win2_1.index t = ![0, 0] ∧ win2_2.index t = ![0, 1]
    ∧ win2_3.index t = ![t.val, 0])

/-- Row `r` of point `t`'s block, in the whole array. -/
def rowFwd (t : Fin cfg2.N) (r : Fin 256) : Fin 4096 :=
  ⟨t.val * 256 + r.val, by have : t.val < 16 := t.isLt; omega⟩

theorem fwd_q (t : Fin cfg2.N) : blkRow (iblk2 V c 0 t) = fun r => rows (inQ V c) (rowFwd t r) :=
  funext fun r => funext fun l => by unfold blkRow rows inQ rowFwd; blk_ext [iblk2, idx2 t]
theorem fwd_k (t : Fin cfg2.N) : blkRow (iblk2 V c 1 t) = keys (inKV V c) :=
  funext fun r => funext fun l => by unfold blkRow keys inKV keyLane; blk_ext [iblk2, idx2 t]
theorem fwd_v (t : Fin cfg2.N) : blkRow (iblk2 V c 2 t) = vals (inKV V c) :=
  funext fun r => funext fun l => by unfold blkRow vals inKV valLane; blk_ext [iblk2, idx2 t]

/-- THE ATTENTION'S RESULT as the third call leaves it. -/
theorem attn_array :
    (dat2 V c).arrAt 3 cfg2.N = attn (inQ V c) (inKV V c) := by
  refine (dat2 V c).arrAt_eq_of_covers 3 _ (by decide +kernel) fun t hf y => ?_
  blk_simp
  rw [after2_3, out_attn, fwd_q, fwd_k, fwd_v]
  have e0 : (win2_3.blk t).view.emb y 0 = rowFwd t (y 0) := Fin.ext (by unfold rowFwd; blk_simp [idx2 t])
  have e1 : (win2_3.blk t).view.emb y 1 = y 1 := Fin.ext (by blk_simp [idx2 t])
  unfold attn
  rw [e0, e1]

/-! ## Backward -/

theorem idx6 : ∀ t : Fin cfg6.N, win6_0.index t = ![t.val, 0] ∧ win6_1.index t = ![0, 0] ∧ win6_2.index t = ![0, 1]
    ∧ win6_3.index t = ![t.val, 0] ∧ win6_4.index t = ![t.val, 0] :=
  (by decide +kernel : ∀ t : Fin grid6.N, win6_0.index t = ![t.val, 0] ∧ win6_1.index t = ![0, 0] ∧ win6_2.index t = ![0, 1]
    ∧ win6_3.index t = ![t.val, 0] ∧ win6_4.index t = ![t.val, 0])

/-- Row `r` of point `t`'s block, in the whole array. -/
def rowAt (t : Fin cfg6.N) (r : Fin 256) : Fin 4096 :=
  ⟨t.val * 256 + r.val, by have : t.val < 16 := t.isLt; omega⟩

theorem blk_q (t : Fin cfg6.N) : blkRow (iblk6 V c 0 t) = fun r => rows (inQ V c) (rowAt t r) :=
  funext fun r => funext fun l => by unfold blkRow rows inQ rowAt; blk_ext [iblk6, idx6 t]
theorem blk_g (t : Fin cfg6.N) : blkRow (iblk6 V c 3 t) = fun r => rows (inG V c) (rowAt t r) :=
  funext fun r => funext fun l => by unfold blkRow rows inG rowAt; blk_ext [iblk6, idx6 t]
theorem blk_k (t : Fin cfg6.N) : blkRow (iblk6 V c 1 t) = keys (inKV V c) :=
  funext fun r => funext fun l => by unfold blkRow keys inKV keyLane; blk_ext [iblk6, idx6 t]
theorem blk_v (t : Fin cfg6.N) : blkRow (iblk6 V c 2 t) = vals (inKV V c) :=
  funext fun r => funext fun l => by unfold blkRow vals inKV valLane; blk_ext [iblk6, idx6 t]

/-- The queries' gradient after any point. -/
theorem outs_dq (t : Fin cfg6.N) (y : S256x2048.Idx) :
    (outsAt6 V c t.val t.isLt).1 y = dqBlk (iblk6 V c 0 t) (iblk6 V c 1 t) (iblk6 V c 2 t) (iblk6 V c 3 t) (y 0) (y 1) := by
  by_cases h : t.val % 16 = 0
  · rw [outsAt6_A V c t h]; dsimp only; rw [out_A_dq]
  · rw [outsAt6_B V c t h]; dsimp only; rw [out_B_dq]

/-- The joint gradient after the first point. -/
theorem outs_dkv_first (t : Fin cfg6.N) (h : t.val % 16 = 0) (y : S256x4096.Idx) : (outsAt6 V c t.val t.isLt).2 y
    = 0 + dkvBlk (iblk6 V c 0 t) (iblk6 V c 1 t) (iblk6 V c 2 t) (iblk6 V c 3 t) (y 0) (y 1) := by
  rw [outsAt6_A V c t h]
  dsimp only
  rw [out_A_dkv]

/-- The joint gradient after a later point. -/
theorem outs_dkv_next (t : Fin cfg6.N) (h : ¬t.val % 16 = 0) (y : S256x4096.Idx) : (outsAt6 V c t.val t.isLt).2 y
    = (outsAt6 V c (t.val - 1) (Nat.lt_of_le_of_lt (Nat.sub_le _ _) t.isLt)).2 y
      + dkvBlk (iblk6 V c 0 t) (iblk6 V c 1 t) (iblk6 V c 2 t) (iblk6 V c 3 t) (y 0) (y 1) := by
  rw [outsAt6_B V c t h]
  dsimp only
  rw [out_B_dkv]

/-- THE QUERIES' GRADIENT as the kernel leaves it. -/
theorem dq_array :
    (dat6 V c).arrAt 4 cfg6.N = attnDq (inQ V c) (inKV V c) (inG V c) := by
  refine (dat6 V c).arrAt_eq_of_covers 4 _ (by decide +kernel) fun t hf y => ?_
  blk_simp
  rw [after6_4, outs_dq]
  unfold dqBlk
  rw [blk_q, blk_g, blk_k, blk_v]
  have e0 : (win6_4.blk t).view.emb y 0 = rowAt t (y 0) := Fin.ext (by unfold rowAt; blk_simp [idx6 t])
  have e1 : (win6_4.blk t).view.emb y 1 = y 1 := Fin.ext (by blk_simp [idx6 t])
  unfold attnDq
  rw [e0, e1]

/-- THE KEYS' AND VALUES' GRADIENT as the kernel leaves it. -/
theorem dkv_array :
    (dat6 V c).arrAt 5 cfg6.N = attnDkv (inQ V c) (inKV V c) (inG V c) := by
  refine (dat6 V c).arrAt_eq_of_after_last 5 t6_15 (by decide +kernel) _ fun j => ?_
  blk_simp
  rw [after6_5]
  refine (Pipeline.eq_sum_fin_of_reset_step_apply_last (fun n h => (outsAt6 V c n h).2) 16 (fun _ => (0 : EReal)) _
    (fun t h y => outs_dkv_first V c t h y) (fun t h y => outs_dkv_next V c t h y) (by decide) t6_15 rfl j).trans ?_
  rw [zero_add]
  unfold dkvBlk
  simp only [blk_q, blk_g, blk_k, blk_v]
  exact Fin.sum_mul_add_congr (fun s k hl => rfl)

end Cert.Attention
-- ==== Proof.Attention.Products.lean ====
/-
  The kernel's products, each block by block and then whole: regions 0, 1, 3, 4, 5, 7, 8, 9 and 10.
-/
module

public import proofs.«01_k».proof.Proof.Gen.CrossAttentionIdeal.Frame
public import Idealize.ShloMosaic.Lib.Pipeline.ValueKit
public import Idealize.ShloMosaic.Lib.Pipeline.ReadBack
public import proofs.«01_k».proof.Proof.Attention.Dense

@[expose] public section

set_option maxRecDepth 16384

noncomputable section

namespace Cert.Attention

open Cert.CrossAttentionIdeal Cert.CrossAttentionIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ### The queries -/

theorem q_pay (x : Vec Ideal S1024x2048 .bf16) (w : Vec Ideal S2048x1024 .bf16) (r : Fin 1024) (l : Fin 1024) :
    k0_pay1 (F := Ideal) x w (ix2 r l) = ∑ n : Fin 2048, (x (ix2 r n) * w (ix2 n l) : EReal) := by
  pointwise [k0_pay1]

theorem q_out (x : Vec Ideal S1024x2048 .bf16) (w : Vec Ideal S2048x1024 .bf16) (y : S1024x1024.Idx) :
    out0_2 x w y = ∑ n : Fin 2048, (x (ix2 (y 0) n) * w (ix2 n (y 1)) : EReal) := by
  frame_out
  exact (congrArg _ (ix2_eta y).symm).trans (q_pay ..)

theorem idx0 : ∀ t : Fin cfg0.N, win0_0.index t = ![t.val / 2, 0] ∧ win0_1.index t = ![0, t.val % 2]
    ∧ win0_2.index t = ![t.val / 2, t.val % 2] :=
  (by decide +kernel : ∀ t : Fin grid0.N, win0_0.index t = ![t.val / 2, 0] ∧ win0_1.index t = ![0, t.val % 2]
    ∧ win0_2.index t = ![t.val / 2, t.val % 2])

/-- Region 0's result array. -/
theorem q_array : (dat0 V c).arrAt 2 cfg0.N = mul (V c main_arg0) (V c main_arg2) := by
  refine (dat0 V c).arrAt_eq_of_covers 2 _ (by decide +kernel) fun t hf y => ?_
  blk_simp
  rw [after0_2]
  refine (q_out _ _ y).trans (Finset.sum_congr (M := EReal) rfl fun n _ => congrArg₂ (· * ·) ?_ ?_)
  · blk_ext [iblk0, idx0 t]
  · blk_ext [iblk0, idx0 t]

/-! ### The output -/

theorem y_pay (x : Vec Ideal S1024x2048 .bf16) (w : Vec Ideal S2048x1024 .bf16) (r : Fin 1024) (l : Fin 1024) :
    k3_pay1 (F := Ideal) x w (ix2 r l) = ∑ n : Fin 2048, (x (ix2 r n) * w (ix2 n l) : EReal) := by
  pointwise [k3_pay1]

theorem y_out (x : Vec Ideal S1024x2048 .bf16) (w : Vec Ideal S2048x1024 .bf16) (y : S1024x1024.Idx) :
    out3_2 x w y = ∑ n : Fin 2048, (x (ix2 (y 0) n) * w (ix2 n (y 1)) : EReal) := by
  frame_out
  exact (congrArg _ (ix2_eta y).symm).trans (y_pay ..)

theorem idx3 : ∀ t : Fin cfg3.N, win3_0.index t = ![t.val / 2, 0] ∧ win3_1.index t = ![0, t.val % 2]
    ∧ win3_2.index t = ![t.val / 2, t.val % 2] :=
  (by decide +kernel : ∀ t : Fin grid3.N, win3_0.index t = ![t.val / 2, 0] ∧ win3_1.index t = ![0, t.val % 2]
    ∧ win3_2.index t = ![t.val / 2, t.val % 2])

/-- Region 3's result array. -/
theorem y_array : (dat3 V c).arrAt 2 cfg3.N = mul (V c main_v2) (V c main_arg4) := by
  refine (dat3 V c).arrAt_eq_of_covers 2 _ (by decide +kernel) fun t hf y => ?_
  blk_simp
  rw [after3_2]
  refine (y_out _ _ y).trans (Finset.sum_congr (M := EReal) rfl fun n _ => congrArg₂ (· * ·) ?_ ?_)
  · blk_ext [iblk3, idx3 t]
  · blk_ext [iblk3, idx3 t]

/-! ### The cotangent of the attention's result -/

theorem do_pay (x : Vec Ideal S1024x2048 .bf16) (w : Vec Ideal S1024x2048 .bf16) (r : Fin 1024) (l : Fin 1024) :
    k4_pay1 (F := Ideal) x w (ix2 r l) = ∑ n : Fin 2048, (x (ix2 r n) * w (ix2 l n) : EReal) := by
  pointwise [k4_pay1]

theorem do_out (x : Vec Ideal S1024x2048 .bf16) (w : Vec Ideal S1024x2048 .bf16) (y : S1024x1024.Idx) :
    out4_2 x w y = ∑ n : Fin 2048, (x (ix2 (y 0) n) * w (ix2 (y 1) n) : EReal) := by
  frame_out
  exact (congrArg _ (ix2_eta y).symm).trans (do_pay ..)

theorem idx4 : ∀ t : Fin cfg4.N, win4_0.index t = ![t.val / 2, 0] ∧ win4_1.index t = ![t.val % 2, 0]
    ∧ win4_2.index t = ![t.val / 2, t.val % 2] :=
  (by decide +kernel : ∀ t : Fin grid4.N, win4_0.index t = ![t.val / 2, 0] ∧ win4_1.index t = ![t.val % 2, 0]
    ∧ win4_2.index t = ![t.val / 2, t.val % 2])

/-- Region 4's result array. -/
theorem do_array : (dat4 V c).arrAt 2 cfg4.N = mulT (V c main_arg5) (V c main_arg4) := by
  refine (dat4 V c).arrAt_eq_of_covers 2 _ (by decide +kernel) fun t hf y => ?_
  blk_simp
  rw [after4_2]
  refine (do_out _ _ y).trans (Finset.sum_congr (M := EReal) rfl fun n _ => congrArg₂ (· * ·) ?_ ?_)
  · blk_ext [iblk4, idx4 t]
  · blk_ext [iblk4, idx4 t]

/-! ### The gradient of the output's weights -/

theorem dwO_pay (x : Vec Ideal S4096x1024 .bf16) (w : Vec Ideal S4096x1024 .bf16) (r : Fin 1024) (l : Fin 1024) :
    k5_pay1 (F := Ideal) x w (ix2 r l) = ∑ n : Fin 4096, (x (ix2 n r) * w (ix2 n l) : EReal) := by
  pointwise [k5_pay1]

theorem dwO_out (x : Vec Ideal S4096x1024 .bf16) (w : Vec Ideal S4096x1024 .bf16) (y : S1024x1024.Idx) :
    out5_2 x w y = ∑ n : Fin 4096, (x (ix2 n (y 0)) * w (ix2 n (y 1)) : EReal) := by
  frame_out
  exact (congrArg _ (ix2_eta y).symm).trans (dwO_pay ..)

theorem idx5 : ∀ t : Fin cfg5.N, win5_0.index t = ![0, t.val / 2] ∧ win5_1.index t = ![0, t.val % 2]
    ∧ win5_2.index t = ![t.val / 2, t.val % 2] :=
  (by decide +kernel : ∀ t : Fin grid5.N, win5_0.index t = ![0, t.val / 2] ∧ win5_1.index t = ![0, t.val % 2]
    ∧ win5_2.index t = ![t.val / 2, t.val % 2])

/-- Region 5's result array. -/
theorem dwO_array : (dat5 V c).arrAt 2 cfg5.N = tMul (V c main_v2) (V c main_arg5) := by
  refine (dat5 V c).arrAt_eq_of_covers 2 _ (by decide +kernel) fun t hf y => ?_
  blk_simp
  rw [after5_2]
  refine (dwO_out _ _ y).trans (Finset.sum_congr (M := EReal) rfl fun n _ => congrArg₂ (· * ·) ?_ ?_)
  · blk_ext [iblk5, idx5 t]
  · blk_ext [iblk5, idx5 t]

/-! ### The gradient of the activations -/

theorem dh_pay (x : Vec Ideal S1024x2048 .bf16) (w : Vec Ideal S1024x2048 .bf16) (r : Fin 1024) (l : Fin 1024) :
    k7_pay1 (F := Ideal) x w (ix2 r l) = ∑ n : Fin 2048, (x (ix2 r n) * w (ix2 l n) : EReal) := by
  pointwise [k7_pay1]

theorem dh_out (x : Vec Ideal S1024x2048 .bf16) (w : Vec Ideal S1024x2048 .bf16) (y : S1024x1024.Idx) :
    out7_2 x w y = ∑ n : Fin 2048, (x (ix2 (y 0) n) * w (ix2 (y 1) n) : EReal) := by
  frame_out
  exact (congrArg _ (ix2_eta y).symm).trans (dh_pay ..)

theorem idx7 : ∀ t : Fin cfg7.N, win7_0.index t = ![t.val / 2, 0] ∧ win7_1.index t = ![t.val % 2, 0]
    ∧ win7_2.index t = ![t.val / 2, t.val % 2] :=
  (by decide +kernel : ∀ t : Fin grid7.N, win7_0.index t = ![t.val / 2, 0] ∧ win7_1.index t = ![t.val % 2, 0]
    ∧ win7_2.index t = ![t.val / 2, t.val % 2])

/-- Region 7's result array. -/
theorem dh_array : (dat7 V c).arrAt 2 cfg7.N = mulT (V c main_v6_0) (V c main_arg2) := by
  refine (dat7 V c).arrAt_eq_of_covers 2 _ (by decide +kernel) fun t hf y => ?_
  blk_simp
  rw [after7_2]
  refine (dh_out _ _ y).trans (Finset.sum_congr (M := EReal) rfl fun n _ => congrArg₂ (· * ·) ?_ ?_)
  · blk_ext [iblk7, idx7 t]
  · blk_ext [iblk7, idx7 t]

/-! ### The gradient of the queries' weights -/

theorem dwQ_pay (x : Vec Ideal S4096x1024 .bf16) (w : Vec Ideal S4096x1024 .bf16) (r : Fin 1024) (l : Fin 1024) :
    k8_pay1 (F := Ideal) x w (ix2 r l) = ∑ n : Fin 4096, (x (ix2 n r) * w (ix2 n l) : EReal) := by
  pointwise [k8_pay1]

theorem dwQ_out (x : Vec Ideal S4096x1024 .bf16) (w : Vec Ideal S4096x1024 .bf16) (y : S1024x1024.Idx) :
    out8_2 x w y = ∑ n : Fin 4096, (x (ix2 n (y 0)) * w (ix2 n (y 1)) : EReal) := by
  frame_out
  exact (congrArg _ (ix2_eta y).symm).trans (dwQ_pay ..)

theorem idx8 : ∀ t : Fin cfg8.N, win8_0.index t = ![0, t.val / 2] ∧ win8_1.index t = ![0, t.val % 2]
    ∧ win8_2.index t = ![t.val / 2, t.val % 2] :=
  (by decide +kernel : ∀ t : Fin grid8.N, win8_0.index t = ![0, t.val / 2] ∧ win8_1.index t = ![0, t.val % 2]
    ∧ win8_2.index t = ![t.val / 2, t.val % 2])

/-- Region 8's result array. -/
theorem dwQ_array : (dat8 V c).arrAt 2 cfg8.N = tMul (V c main_arg0) (V c main_v6_0) := by
  refine (dat8 V c).arrAt_eq_of_covers 2 _ (by decide +kernel) fun t hf y => ?_
  blk_simp
  rw [after8_2]
  refine (dwQ_out _ _ y).trans (Finset.sum_congr (M := EReal) rfl fun n _ => congrArg₂ (· * ·) ?_ ?_)
  · blk_ext [iblk8, idx8 t]
  · blk_ext [iblk8, idx8 t]

/-! ### The keys and values -/

theorem kv_pay (x : Vec Ideal S256x2048 .bf16) (w : Vec Ideal S1x2048x512 .bf16) (r : Fin 256) (l : Fin 512) :
    k1_pay1 (F := Ideal) x w (ix2 r l) = ∑ n : Fin 2048, (x (ix2 r n) * w (ix3 0 n l) : EReal) := by
  pointwise [k1_pay1]

theorem kv_out (x : Vec Ideal S256x2048 .bf16) (w : Vec Ideal S1x2048x512 .bf16) (y : S256x512.Idx) :
    out1_2 x w y = ∑ n : Fin 2048, (x (ix2 (y 0) n) * w (ix3 0 n (y 1)) : EReal) := by
  frame_out
  exact (congrArg _ (ix2_eta y).symm).trans (kv_pay ..)

theorem idx1 : ∀ t : Fin cfg1.N, win1_0.index t = ![0, 0] ∧ win1_1.index t = ![t.val, 0, 0] ∧ win1_2.index t = ![0, t.val] :=
  (by decide +kernel : ∀ t : Fin grid1.N, win1_0.index t = ![0, 0] ∧ win1_1.index t = ![t.val, 0, 0] ∧ win1_2.index t = ![0, t.val])

/-- Region 1's result array. -/
theorem kv_array : (dat1 V c).arrAt 2 cfg1.N = joint (V c main_arg1) (V c main_arg3) := by
  refine (dat1 V c).arrAt_eq_of_covers 2 _ (by decide +kernel) fun t hf y => ?_
  blk_simp
  rw [after1_2]
  refine (kv_out _ _ y).trans (Finset.sum_congr (M := EReal) rfl fun n _ => congrArg₂ (· * ·) ?_ ?_)
  · blk_ext [iblk1, idx1 t]
  · unfold blockOf placeOf
    blk_ext [iblk1, idx1 t]

/-! ### The gradient of the joint projection's weights -/

theorem dwKv_pay (x : Vec Ideal S256x1024 .bf16) (d : Vec Ideal S256x512 .bf16) (z : Fin 1) (r : Fin 1024) (l : Fin 512) :
    k9_pay1 (F := Ideal) x d (ix3 z r l) = ∑ n : Fin 256, (x (ix2 n r) * d (ix2 n l) : EReal) := by
  pointwise [k9_pay1]

theorem dwKv_out (x : Vec Ideal S256x1024 .bf16) (d : Vec Ideal S256x512 .bf16) (y : S1x1024x512.Idx) :
    out9_2 x d y = ∑ n : Fin 256, (x (ix2 n (y 1)) * d (ix2 n (y 2)) : EReal) := by
  frame_out
  exact (congrArg _ (ix3_eta y).symm).trans (dwKv_pay ..)

theorem idx9 : ∀ t : Fin cfg9.N, win9_0.index t = ![0, t.val / 8] ∧ win9_1.index t = ![0, t.val % 8]
    ∧ win9_2.index t = ![t.val % 8, t.val / 8, 0] :=
  (by decide +kernel : ∀ t : Fin grid9.N, win9_0.index t = ![0, t.val / 8] ∧ win9_1.index t = ![0, t.val % 8]
    ∧ win9_2.index t = ![t.val % 8, t.val / 8, 0])

/-- Region 9's result array. -/
theorem dwKv_array : (dat9 V c).arrAt 2 cfg9.N = jointW (V c main_arg1) (V c main_v7) := by
  refine (dat9 V c).arrAt_eq_of_covers 2 _ (by decide +kernel) fun t hf y => ?_
  blk_simp
  rw [after9_2]
  refine (dwKv_out _ _ y).trans (Finset.sum_congr (M := EReal) rfl fun n _ => congrArg₂ (· * ·) ?_ ?_)
  · blk_ext [iblk9, idx9 t]
  · unfold colOf
    blk_ext [iblk9, idx9 t]

/-! ### The gradient of the memory rows -/

/-- One block of columns' part of an element. -/
def part (x : Vec Ideal S256x512 .bf16) (w : Vec Ideal S1x1024x512 .bf16) (r : Fin 256) (j : Fin 1024) : EReal :=
  ∑ l : Fin 512, x (ix2 r l) * w (ix3 0 j l)

section Pay
variable (a0 a1 a2 a3 a4 a5 a6 a7 : Vec Ideal S256x512 .bf16) (b0 b1 b2 b3 b4 b5 b6 b7 : Vec Ideal S1x1024x512 .bf16)

theorem four_pay (r : Fin 256) (j : Fin 1024) : k10_pay2 (F := Ideal) a0 b0 a1 b1 a2 b2 a3 b3 (ix2 r j)
    = part a0 b0 r j + part a1 b1 r j + part a2 b2 r j + part a3 b3 r j := by
  unfold part
  pointwise [k10_pay2]

theorem eight_pay (r : Fin 256) (j : Fin 1024) :
    k10_pay1 (F := Ideal) (k10_pay2 a0 b0 a1 b1 a2 b2 a3 b3) (k10_pay3 a4) (k10_pay4 b4) (constant S256x1024 .f32 0x00000000#32)
      a5 b5 a6 b6 a7 b7 (ix2 r j)
    = part a0 b0 r j + part a1 b1 r j + part a2 b2 r j + part a3 b3 r j + part a4 b4 r j + part a5 b5 r j + part a6 b6 r j
      + part a7 b7 r j := by
  rw [← four_pay]
  unfold part
  pointwise [k10_pay1, k10_pay3, k10_pay4]
end Pay

/-- A block's part over what was loaded of the two arrays. -/
theorem part_ld (x0 : Vec Ideal S256x4096 .bf16) (x1 : Vec Ideal S8x1024x512 .bf16) (r : Fin 256) (j : Fin 1024) (b : Fin 8)
    (o p : Nat) (i1) (i2) (ho : o = b.val * 512) (hp : p = b.val) :
    part (View.ld x0 (Rect.unit ![0, o] ![256, 512] i1)) (View.ld x1 (Rect.unit ![p, 0, 0] ![1, 1024, 512] i2)) r j
      = ∑ l : Fin 512, (x0 (ix2 r (colOf b l)) * x1 (ix3 b j l) : EReal) := by
  subst ho hp
  refine Finset.sum_congr (M := EReal) rfl fun l _ => congrArg₂ (fun a b : EReal => a * b) ?_ ?_
  · exact View.ld_unit_apply_of x0 _ _ i1 _ (ix2 r (colOf b l)) fun a => by fin_cases a <;> simp [colOf]
  · exact View.ld_unit_apply_of x1 _ _ i2 _ (ix3 b j l) fun a => by fin_cases a <;> simp

theorem dmem_out (x0 : Vec Ideal S256x4096 .bf16) (x1 : Vec Ideal S8x1024x512 .bf16) (y : S256x1024.Idx) :
    out10_2 x0 x1 y = ∑ b : Fin 8, ∑ l : Fin 512, (x0 (ix2 (y 0) (colOf b l)) * x1 (ix3 b (y 1) l) : EReal) := by
  frame_out
  refine ((congrArg _ (ix2_eta y).symm).trans (eight_pay ..)).trans ?_
  rw [Fin.sum_univ_eight]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (part_ld x0 x1 (y 0) (y 1) 0 0 0 _ _ rfl rfl)
    (part_ld x0 x1 (y 0) (y 1) 1 512 1 _ _ rfl rfl))
    (part_ld x0 x1 (y 0) (y 1) 2 1024 2 _ _ rfl rfl))
    (part_ld x0 x1 (y 0) (y 1) 3 1536 3 _ _ rfl rfl))
    (part_ld x0 x1 (y 0) (y 1) 4 2048 4 _ _ rfl rfl))
    (part_ld x0 x1 (y 0) (y 1) 5 2560 5 _ _ rfl rfl))
    (part_ld x0 x1 (y 0) (y 1) 6 3072 6 _ _ rfl rfl))
    (part_ld x0 x1 (y 0) (y 1) 7 3584 7 _ _ rfl rfl)

theorem idx10 : ∀ t : Fin cfg10.N, win10_0.index t = ![0, 0] ∧ win10_1.index t = ![0, t.val, 0] ∧ win10_2.index t = ![0, t.val] :=
  (by decide +kernel : ∀ t : Fin grid10.N, win10_0.index t = ![0, 0] ∧ win10_1.index t = ![0, t.val, 0] ∧ win10_2.index t = ![0, t.val])

/-- Region 10's result array. -/
theorem dmem_array : (dat10 V c).arrAt 2 cfg10.N = jointX (V c main_v7) (V c main_arg3) := by
  refine (dat10 V c).arrAt_eq_of_covers 2 _ (by decide +kernel) fun t hf y => ?_
  blk_simp
  rw [after10_2]
  refine (dmem_out _ _ y).trans (Finset.sum_congr (M := EReal) rfl fun b _ => Finset.sum_congr (M := EReal) rfl fun l _ =>
    congrArg₂ (· * ·) ?_ ?_)
  · unfold colOf
    blk_ext [iblk10, idx10 t]
  · blk_ext [iblk10, idx10 t]

end Cert.Attention
-- ==== Proof.Attention.Run.lean ====
/-
  The whole run of the attention layer's eleven calls: what each result array holds at the end, over the arguments.
-/
module

public import proofs.«01_k».proof.Proof.Attention.Arrays
public import proofs.«01_k».proof.Proof.Attention.Products

@[expose] public section

set_option maxRecDepth 16384

noncomputable section

namespace Cert.Attention

open Cert.CrossAttentionIdeal Cert.CrossAttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- Every array of a device ends as the last call's exit leaves it. -/
theorem run_exit : θ_run defs (onTc (τ := τ) (main (F := Ideal))) ⟨m, fun _ => 0, ρ⟩ (fun r => ∀ c : Dev nD,
    ∀ b ∈ Pipeline.ucRefs τ sig, r.2.mem ((c : Thread nD τ).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ => h)

variable (c : Dev nD)

/-- The layer's input on device `c`. -/
abbrev argH : Mat 4096 2048 := m ((c : Thread nD τ).loc main_arg0)
/-- The memory rows. -/
abbrev argMem : Mat 256 2048 := m ((c : Thread nD τ).loc main_arg1)
/-- The queries' weights. -/
abbrev argWq : Mat 2048 2048 := m ((c : Thread nD τ).loc main_arg2)
/-- The joint projection's weights. -/
abbrev argWkv : Blocks := m ((c : Thread nD τ).loc main_arg3)
/-- The output's weights. -/
abbrev argWo : Mat 2048 2048 := m ((c : Thread nD τ).loc main_arg4)
/-- The output's cotangent. -/
abbrev argDy : Mat 4096 2048 := m ((c : Thread nD τ).loc main_arg5)

/-- The queries. -/
abbrev theQ : Mat 4096 2048 := mul (argH m c) (argWq m c)
/-- The keys and values. -/
abbrev theKv : Mat 256 4096 := joint (argMem m c) (argWkv m c)
/-- The attention's result. -/
abbrev theO : Mat 4096 2048 := attn (theQ m c) (theKv m c)
/-- Its cotangent. -/
abbrev theG : Mat 4096 2048 := mulT (argDy m c) (argWo m c)
/-- The queries' gradient. -/
abbrev theDq : Mat 4096 2048 := attnDq (theQ m c) (theKv m c) (theG m c)
/-- The keys' and values' gradient. -/
abbrev theDkv : Mat 256 4096 := attnDkv (theQ m c) (theKv m c) (theG m c)

/-! ### Where each array is written, and that it stays until it is read -/

theorem exit_q : V1 m ρ c main_v0 = theQ m c := by
  refine (W1_arr m ρ c 2).trans ((q_array (V0 m ρ) c).trans ?_)
  rfl
theorem exit_kv : V2 m ρ c main_v1 = theKv m c := by
  refine (W2_arr m ρ c 2).trans ((kv_array (V1 m ρ) c).trans ?_)
  rw [show V1 m ρ c main_arg1 = argMem m c from W1_args m ρ c main_arg1 (by decide),
    show V1 m ρ c main_arg3 = argWkv m c from W1_args m ρ c main_arg3 (by decide)]
theorem exit_o : V3 m ρ c main_v2 = theO m c := by
  refine (W3_arr m ρ c 3).trans ((attn_array (V2 m ρ) c).trans ?_)
  unfold inQ inKV
  rw [show V2 m ρ c main_v0 = theQ m c from (W2_of m ρ c main_v0 (by decide)).trans (exit_q m ρ c),
    show V2 m ρ c main_v1 = theKv m c from exit_kv m ρ c]
theorem exit_y : V4 m ρ c main_v3 = mul (theO m c) (argWo m c) := by
  refine (W4_arr m ρ c 2).trans ((y_array (V3 m ρ) c).trans ?_)
  rw [show V3 m ρ c main_v2 = theO m c from exit_o m ρ c,
    show V3 m ρ c main_arg4 = argWo m c from W3_args m ρ c main_arg4 (by decide)]
theorem exit_g : V5 m ρ c main_v4 = theG m c := by
  refine (W5_arr m ρ c 2).trans ((do_array (V4 m ρ) c).trans ?_)
  rw [show V4 m ρ c main_arg5 = argDy m c from W4_args m ρ c main_arg5 (by decide),
    show V4 m ρ c main_arg4 = argWo m c from W4_args m ρ c main_arg4 (by decide)]
theorem exit_dwO : V6 m ρ c main_v5 = tMul (theO m c) (argDy m c) := by
  refine (W6_arr m ρ c 2).trans ((dwO_array (V5 m ρ) c).trans ?_)
  rw [show V5 m ρ c main_v2 = theO m c from (W5_of m ρ c main_v2 (by decide)).trans ((W4_of m ρ c main_v2 (by decide)).trans (exit_o m ρ c)),
    show V5 m ρ c main_arg5 = argDy m c from W5_args m ρ c main_arg5 (by decide)]
theorem exit_dq : V7 m ρ c main_v6_0 = theDq m c := by
  refine (W7_arr m ρ c 4).trans ((dq_array (V6 m ρ) c).trans ?_)
  unfold inQ inKV inG
  rw [show V6 m ρ c main_v0 = theQ m c from (W6_of m ρ c main_v0 (by decide)).trans ((W5_of m ρ c main_v0 (by decide)).trans ((W4_of m ρ c main_v0 (by decide)).trans ((W3_of m ρ c main_v0 (by decide)).trans ((W2_of m ρ c main_v0 (by decide)).trans (exit_q m ρ c))))),
    show V6 m ρ c main_v1 = theKv m c from (W6_of m ρ c main_v1 (by decide)).trans ((W5_of m ρ c main_v1 (by decide)).trans ((W4_of m ρ c main_v1 (by decide)).trans ((W3_of m ρ c main_v1 (by decide)).trans (exit_kv m ρ c)))),
    show V6 m ρ c main_v4 = theG m c from (W6_of m ρ c main_v4 (by decide)).trans (exit_g m ρ c)]
theorem exit_dkvWide : V7 m ρ c main_v6_1 = theDkv m c := by
  refine (W7_arr m ρ c 5).trans ((dkv_array (V6 m ρ) c).trans ?_)
  unfold inQ inKV inG
  rw [show V6 m ρ c main_v0 = theQ m c from (W6_of m ρ c main_v0 (by decide)).trans ((W5_of m ρ c main_v0 (by decide)).trans ((W4_of m ρ c main_v0 (by decide)).trans ((W3_of m ρ c main_v0 (by decide)).trans ((W2_of m ρ c main_v0 (by decide)).trans (exit_q m ρ c))))),
    show V6 m ρ c main_v1 = theKv m c from (W6_of m ρ c main_v1 (by decide)).trans ((W5_of m ρ c main_v1 (by decide)).trans ((W4_of m ρ c main_v1 (by decide)).trans ((W3_of m ρ c main_v1 (by decide)).trans (exit_kv m ρ c)))),
    show V6 m ρ c main_v4 = theG m c from (W6_of m ρ c main_v4 (by decide)).trans (exit_g m ρ c)]
theorem exit_dkv : V8 m ρ c main_v7 = theDkv m c := by
  refine Eq.trans ?_ (exit_dkvWide m ρ c)
  show StableHlo.after hostOps7 (W7 m ρ c) (Proc.devRef .tc main_v7) = _
  after_results_simp
  rfl
theorem exit_dh : V9 m ρ c main_v8 = mulT (theDq m c) (argWq m c) := by
  refine (W9_arr m ρ c 2).trans ((dh_array (V8 m ρ) c).trans ?_)
  rw [show V8 m ρ c main_v6_0 = theDq m c from (W8_of m ρ c main_v6_0 (by decide)).trans (exit_dq m ρ c),
    show V8 m ρ c main_arg2 = argWq m c from W8_args m ρ c main_arg2 (by decide)]
theorem exit_dwQ : V10 m ρ c main_v9 = tMul (argH m c) (theDq m c) := by
  refine (W10_arr m ρ c 2).trans ((dwQ_array (V9 m ρ) c).trans ?_)
  rw [show V9 m ρ c main_arg0 = argH m c from W9_args m ρ c main_arg0 (by decide),
    show V9 m ρ c main_v6_0 = theDq m c from (W9_of m ρ c main_v6_0 (by decide)).trans ((W8_of m ρ c main_v6_0 (by decide)).trans (exit_dq m ρ c))]
theorem exit_dwKv : V11 m ρ c main_v10 = jointW (argMem m c) (theDkv m c) := by
  refine (W11_arr m ρ c 2).trans ((dwKv_array (V10 m ρ) c).trans ?_)
  rw [show V10 m ρ c main_arg1 = argMem m c from W10_args m ρ c main_arg1 (by decide),
    show V10 m ρ c main_v7 = theDkv m c from (W10_of m ρ c main_v7 (by decide)).trans ((W9_of m ρ c main_v7 (by decide)).trans (exit_dkv m ρ c))]
theorem exit_dmem : V12 m ρ c main_v11 = jointX (theDkv m c) (argWkv m c) := by
  refine (W12_arr m ρ c 2).trans ((dmem_array (V11 m ρ) c).trans ?_)
  rw [show V11 m ρ c main_v7 = theDkv m c from (W11_of m ρ c main_v7 (by decide)).trans ((W10_of m ρ c main_v7 (by decide)).trans ((W9_of m ρ c main_v7 (by decide)).trans (exit_dkv m ρ c))),
    show V11 m ρ c main_arg3 = argWkv m c from W11_args m ρ c main_arg3 (by decide)]

/-! ### The results at the end -/

theorem end_y : W12 m ρ c (Proc.devRef .tc main_v3) = mul (theO m c) (argWo m c) :=
  (W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans (exit_y m ρ c))))))))
theorem end_dwO : W12 m ρ c (Proc.devRef .tc main_v5) = tMul (theO m c) (argDy m c) :=
  (W12_of m ρ c main_v5 (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)).trans (exit_dwO m ρ c))))))
theorem end_dh : W12 m ρ c (Proc.devRef .tc main_v8) = mulT (theDq m c) (argWq m c) :=
  (W12_of m ρ c main_v8 (by decide)).trans ((W11_of m ρ c main_v8 (by decide)).trans ((W10_of m ρ c main_v8 (by decide)).trans (exit_dh m ρ c)))
theorem end_dwQ : W12 m ρ c (Proc.devRef .tc main_v9) = tMul (argH m c) (theDq m c) :=
  (W12_of m ρ c main_v9 (by decide)).trans ((W11_of m ρ c main_v9 (by decide)).trans (exit_dwQ m ρ c))
theorem end_dwKv : W12 m ρ c (Proc.devRef .tc main_v10) = jointW (argMem m c) (theDkv m c) :=
  (W12_of m ρ c main_v10 (by decide)).trans (exit_dwKv m ρ c)
theorem end_dmem : W12 m ρ c (Proc.devRef .tc main_v11) = jointX (theDkv m c) (argWkv m c) :=
  exit_dmem m ρ c

end Cert.Attention
-- ==== Proof.Attention.Claims.lean ====
/-
  The claims about the attention layer: the reference's frame, and the equality of the two programs' six results where
  the arguments are finite.
-/
module

public import proofs.«01_k».proof.Proof.Attention.Pre
public import proofs.«01_k».proof.Proof.Attention.Ref
public import proofs.«01_k».proof.Proof.Attention.Run

@[expose] public section

set_option maxRecDepth 16384

noncomputable section

namespace Cert.Attention

open Idealize.ShloMosaic Idealize.ShloMosaic.TcCoe Idealize.SL.Sem

/-- The reference leaves its arguments and has no semaphore. -/
theorem ref_frame : Cert.quiescent_CrossAttentionReferenceIdeal := fun m ρ _ =>
  (θ_run Cert.CrossAttentionReferenceIdeal.defs _ _).mono
    (fun r h => ⟨fun c => (h c).2.2.2.2.2.2, sem_eq_zero_of_no_sems (by decide) r.2⟩) (Cert.CrossAttentionReferenceIdeal.Value.run m ρ)

section Kernel
open Cert.CrossAttentionIdeal Cert.CrossAttentionIdeal.Gen
variable (m : (ℓ : Loc nD τ sig) → Buf (Elt Ideal) ℓ) (ρ : Dev nD → PrngReg)

/-- The kernel's run: its six results over the arguments, and the arguments unchanged. -/
theorem kernel_run : θ_run defs (onTc (τ := τ) (main (F := Ideal))) ⟨m, fun _ => 0, ρ⟩ (fun r => ∀ c : Dev nD,
    r.2.mem ((c : Thread nD τ).loc main_v3) = mul (theO m c) (argWo m c)
    ∧ r.2.mem ((c : Thread nD τ).loc main_v5) = tMul (theO m c) (argDy m c)
    ∧ r.2.mem ((c : Thread nD τ).loc main_v8) = mulT (theDq m c) (argWq m c)
    ∧ r.2.mem ((c : Thread nD τ).loc main_v9) = tMul (argH m c) (theDq m c)
    ∧ r.2.mem ((c : Thread nD τ).loc main_v10) = jointW (argMem m c) (theDkv m c)
    ∧ r.2.mem ((c : Thread nD τ).loc main_v11) = jointX (theDkv m c) (argWkv m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) :=
  (θ_run defs _ _).mono (fun r h c => ⟨(h c _ (mem_uc main_v3 (by decide))).trans (end_y m ρ c),
    (h c _ (mem_uc main_v5 (by decide))).trans (end_dwO m ρ c),
    (h c _ (mem_uc main_v8 (by decide))).trans (end_dh m ρ c),
    (h c _ (mem_uc main_v9 (by decide))).trans (end_dwQ m ρ c),
    (h c _ (mem_uc main_v10 (by decide))).trans (end_dwKv m ρ c),
    (h c _ (mem_uc main_v11 (by decide))).trans (end_dmem m ρ c),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c)⟩) (run_exit m ρ)
end Kernel

theorem algebraic : Cert.algebraic_CrossAttentionIdeal_CrossAttentionReferenceIdeal_pre_finite_attention_inputs
    (hPre_finite_attention_inputs := preFacts) := by
  intro m ρ m' ρ' hpre hagree
  have hfin := fun c => @fn_finite preFacts _ _ _ _ _ _ (hpre c)
  refine ⟨_, _, _, _, _, _, kernel_run m ρ, ?_⟩
  refine (θ_run Cert.CrossAttentionReferenceIdeal.defs _ _).mono (fun r h c => ?_) (Cert.CrossAttentionReferenceIdeal.Value.run m' ρ')
  have e0 : Ref.a0 m' c = argH m c := (hagree c).1
  have e1 : Ref.a1 m' c = argMem m c := (hagree c).2.1
  have e2 : Ref.a2 m' c = argWq m c := (hagree c).2.2.1
  have e3 : Ref.a3 m' c = argWkv m c := (hagree c).2.2.2.1
  have e4 : Ref.a4 m' c = argWo m c := (hagree c).2.2.2.2.1
  have e5 : Ref.a5 m' c = argDy m c := (hagree c).2.2.2.2.2
  obtain ⟨fh, fm, fq, fk⟩ := hfin c
  have hq := queries_finite fh fq
  have hk := keys_finite fm fk
  obtain ⟨r0, r1, r2, r3, r4, r5, rest⟩ := h c
  refine ⟨r0.trans ?_, r1.trans ?_, r2.trans ?_, r3.trans ?_, r4.trans ?_, r5.trans ?_, rest⟩
  · refine (Ref.res0_eq m' c).trans ?_
    rw [e0, e1, e2, e3, e4]
    exact Ref.y_eq _ _ _ _ _
  · refine (Ref.res1_eq m' c).trans ?_
    rw [e0, e1, e2, e3, e5]
    exact Ref.dwO_eq _ _ _ _ _
  · refine (Ref.res2_eq m' c).trans ((Ref.dhr_eq _ _).trans ?_)
    rw [e0, e1, e2, e3, e4, e5]
    exact congrArg (mulT · _) (Ref.dqr_eq _ _ hq hk)
  · refine (Ref.res3_eq m' c).trans ((Ref.dwQr_eq _ _).trans ?_)
    rw [e0, e1, e2, e3, e4, e5]
    exact congrArg (tMul _) (Ref.dqr_eq _ _ hq hk)
  · refine (Ref.res4_eq m' c).trans ((Ref.dwKvr_eq _ _).trans ?_)
    rw [e0, e1, e2, e3, e4, e5]
    exact congrArg (jointW _) (Ref.dkvr_eq _ _ hq hk)
  · refine (Ref.res5_eq m' c).trans ((Ref.dmemr_eq _ _).trans ?_)
    rw [e0, e1, e2, e3, e4, e5]
    exact congrArg (jointX · _) (Ref.dkvr_eq _ _ hq hk)

end Cert.Attention
-- ==== Proof.ShortConv.Dense.lean ====
/-
  What the short convolution's mixer computes, as plain functions of arrays of extended reals: the products with the
  projection in eight blocks of columns, the three-tap causal convolution between two gates, and its gradients.
-/
module

public import proofs.«01_k».proof.Proof.Attention.Dense

@[expose] public section

set_option maxRecDepth 16384

noncomputable section

namespace Cert.Conv

open Idealize.ShloMosaic
open Cert.Attention (Mat)

/-- The projection's weights, in eight blocks of columns. -/
abbrev Blocks : Type := (⟨3, ![8, 2048, 768]⟩ : Shape).Idx → EReal

/-- The block a column of the projection lies in. -/
def blockOf (n : Fin 6144) : Fin 8 := ⟨n.val / 768, by omega⟩
/-- Its place in the block. -/
def placeOf (n : Fin 6144) : Fin 768 := ⟨n.val % 768, by omega⟩
/-- The column at place `l` of block `b`. -/
def colOf (b : Fin 8) (l : Fin 768) : Fin 6144 := ⟨b.val * 768 + l.val, by omega⟩

/-- The projected rows. -/
def proj (x : Mat 4096 2048) (w : Blocks) : Mat 4096 6144 := fun i =>
  ∑ k : Fin 2048, x (ix2 (i 0) k) * w (ix3 (blockOf (i 1)) k (placeOf (i 1)))
/-- The gradient of the projection's weights. -/
def projW (x : Mat 4096 2048) (d : Mat 4096 6144) : Blocks := fun i =>
  ∑ j : Fin 4096, x (ix2 j (i 1)) * d (ix2 j (colOf (i 0) (i 2)))
/-- The gradient of the rows. -/
def projX (d : Mat 4096 6144) (w : Blocks) : Mat 4096 2048 := fun i =>
  ∑ b : Fin 8, ∑ l : Fin 768, d (ix2 (i 0) (colOf b l)) * w (ix3 b (i 1) l)

/-! ## The convolution -/

/-- The gate's lane of the projected rows. -/
def gateLane (l : Fin 2048) : Fin 6144 := ⟨l.val, by omega⟩
/-- The lane of the first factor under the convolution. -/
def leftLane (l : Fin 2048) : Fin 6144 := ⟨2048 + l.val, by omega⟩
/-- The lane of the second factor. -/
def rightLane (l : Fin 2048) : Fin 6144 := ⟨4096 + l.val, by omega⟩

section
variable (p : Mat 4096 6144) (w : Mat 3 2048) (g : Mat 4096 2048)

/-- What the convolution runs over. -/
def under (t : Fin 4096) (l : Fin 2048) : EReal := p (ix2 t (leftLane l)) * p (ix2 t (rightLane l))
/-- It `s` rows earlier, zero before the first row. -/
def before (s : ℕ) (t : Fin 4096) (l : Fin 2048) : EReal := if s ≤ t.val then under p ⟨t.val - s, by omega⟩ l else 0
/-- The convolution. -/
def conv (t : Fin 4096) (l : Fin 2048) : EReal :=
  w (ix2 2 l) * before p 0 t l + w (ix2 1 l) * before p 1 t l + w (ix2 0 l) * before p 2 t l
/-- The gated convolution. -/
def mid : Mat 4096 2048 := fun i => p (ix2 (i 0) (gateLane (i 1))) * conv p w (i 0) (i 1)

/-- The convolution's cotangent. -/
def convCot (t : Fin 4096) (l : Fin 2048) : EReal := g (ix2 t l) * p (ix2 t (gateLane l))
/-- It `s` rows later, zero after the last row. -/
def later (s : ℕ) (t : Fin 4096) (l : Fin 2048) : EReal := if h : t.val + s < 4096 then convCot p g ⟨t.val + s, h⟩ l else 0
/-- The gradient of what the convolution runs over. -/
def underGrad (t : Fin 4096) (l : Fin 2048) : EReal :=
  w (ix2 2 l) * later p g 0 t l + w (ix2 1 l) * later p g 1 t l + w (ix2 0 l) * later p g 2 t l

/-- An element of the projected rows' gradient: of the gate, of the first factor, of the second. -/
def preGradAt (t : Fin 4096) (n : Fin 6144) : EReal :=
  if h : n.val < 2048 then g (ix2 t ⟨n.val, h⟩) * conv p w t ⟨n.val, h⟩
  else if h' : n.val < 4096 then underGrad p w g t ⟨n.val - 2048, by omega⟩ * p (ix2 t (rightLane ⟨n.val - 2048, by omega⟩))
  else underGrad p w g t ⟨n.val - 4096, by omega⟩ * p (ix2 t (leftLane ⟨n.val - 4096, by omega⟩))
/-- The projected rows' gradient. -/
def preGrad : Mat 4096 6144 := fun i => preGradAt p w g (i 0) (i 1)
/-- The taps' gradient. -/
def tapGrad : Mat 3 2048 := fun i => ∑ t, convCot p g t (i 1) * before p (2 - (i 0).val) t (i 1)
end

end Cert.Conv
-- ==== Proof.ShortConv.Ref.lean ====
/-
  The reference of the convolution layer: its five results, each read at an index and equal to the same function of the
  arguments as the kernel's.
-/
module

public import proofs.«01_k».proof.Proof.ShortConv.Dense
public import proofs.«01_k».proof.Proof.Attention.Softmax
public import proofs.«01_k».proof.Proof.Gen.ShortConvReferenceIdeal.Run

@[expose] public section

set_option maxRecDepth 16384

noncomputable section

namespace Cert.Conv.Ref

open Cert.ShortConvReferenceIdeal Cert.ShortConvReferenceIdeal.Value Cert.ShortConvReferenceIdeal.Gen
open Cert.Attention (Mat mul mulT tMul)
open Cert.Attention.Ref (ext2)
open Idealize.ShloMosaic Idealize.ShloMosaic.TcCoe Idealize.SL.Sem

variable (h : FVec Ideal S4096x2048 .bf16) (wi : FVec Ideal S8x2048x768 .bf16) (w : FVec Ideal S3x2048 .f32)
  (wo : FVec Ideal S2048x2048 .bf16) (dy : FVec Ideal S4096x2048 .bf16)

/-! ## The terms of the forward pass -/

/-- The number zero. -/
abbrev nought : FVec Ideal S_ .f32 := constant S_ .f32 0x00000000#32
/-- The projection's weights with their blocks side by side. -/
def wide : FVec Ideal S2048x6144 .f32 :=
  shapeCast _ (transpose S2048x8x768 [1, 0, 2] (extf .f32 wi bitsLt_bf16_f32) transposes_S8x2048x768_S2048x8x768_1_0_2) shapeCasts_S2048x8x768_S2048x6144
/-- The projected rows. -/
def pr : FVec Ideal S4096x6144 .f32 :=
  Host.dotGeneral dot_S4096x2048_S2048x6144_S4096x6144_1_0_0_1_n_n none (extf .f32 h bitsLt_bf16_f32) (wide wi)
/-- The cotangent of the gated convolution. -/
def gr : FVec Ideal S4096x2048 .f32 :=
  Host.dotGeneral dot_S4096x2048_S2048x2048_S4096x2048_1_1_0_0_n_n none (extf .f32 dy bitsLt_bf16_f32) (extf .f32 wo bitsLt_bf16_f32)

section Terms
variable (p : FVec Ideal S4096x6144 .f32) (g : FVec Ideal S4096x2048 .f32)
/-- The gate. -/
def gate : FVec Ideal S4096x2048 .f32 := extractStridedSlice S4096x2048 ![0, 0] p slices_S4096x6144_S4096x2048_0_0
/-- The first factor under the convolution. -/
def left : FVec Ideal S4096x2048 .f32 := extractStridedSlice S4096x2048 ![0, 2048] p slices_S4096x6144_S4096x2048_0_2048
/-- The second factor. -/
def right : FVec Ideal S4096x2048 .f32 := extractStridedSlice S4096x2048 ![0, 4096] p slices_S4096x6144_S4096x2048_0_4096
/-- What the convolution runs over, below two rows of zeros. -/
def ur : FVec Ideal S4098x2048 .f32 :=
  concatenate S4098x2048 0 [⟨S2x2048, broadcastInDim S2x2048 ![] bcast_S_S2x2048 nought⟩, ⟨S4096x2048, mulf (left p) (right p)⟩]
    concatenates_S2x2048_S4096x2048_S4098x2048_d0
/-- Its rows two earlier. -/
def u0 : FVec Ideal S4096x2048 .f32 := extractStridedSlice S4096x2048 ![0, 0] (ur p) slices_S4098x2048_S4096x2048_0_0
/-- Its rows one earlier. -/
def u1 : FVec Ideal S4096x2048 .f32 := extractStridedSlice S4096x2048 ![1, 0] (ur p) slices_S4098x2048_S4096x2048_1_0
/-- Its rows where they are. -/
def u2 : FVec Ideal S4096x2048 .f32 := extractStridedSlice S4096x2048 ![2, 0] (ur p) slices_S4098x2048_S4096x2048_2_0

/-- A row of taps, one for each row of the product. -/
def down (x : FVec Ideal S1x2048 .f32) : FVec Ideal S4096x2048 .f32 :=
  broadcastInDim S4096x2048 ![0, 1] bcast_S1x2048_S4096x2048_0_1
    (broadcastInDim S1x2048 ![1] bcast_S2048_S1x2048_1 (shapeCast _ x shapeCasts_S1x2048_S2048))
/-- The first tap. -/
def t0 : FVec Ideal S4096x2048 .f32 := down (extractStridedSlice S1x2048 ![0, 0] w slices_S3x2048_S1x2048_0_0)
/-- The second tap. -/
def t1 : FVec Ideal S4096x2048 .f32 := down (extractStridedSlice S1x2048 ![1, 0] w slices_S3x2048_S1x2048_1_0)
/-- The third tap. -/
def t2 : FVec Ideal S4096x2048 .f32 := down (extractStridedSlice S1x2048 ![2, 0] w slices_S3x2048_S1x2048_2_0)
/-- The convolution. -/
def cv : FVec Ideal S4096x2048 .f32 := addf (addf (mulf (u0 p) (t0 w)) (mulf (u1 p) (t1 w))) (mulf (u2 p) (t2 w))
/-- The gated convolution. -/
def md : FVec Ideal S4096x2048 .f32 := mulf (gate p) (cv w p)

/-! ## The terms of the gradients -/

/-- The convolution's cotangent. -/
def cot : FVec Ideal S4096x2048 .f32 := mulf (gate p) g
/-- An array's sum over its rows, as one row. -/
def rowSum (x : FVec Ideal S4096x2048 .f32) : FVec Ideal S1x2048 .f32 :=
  broadcastInDim S1x2048 ![1] bcast_S2048_S1x2048_1 (Host.reduceAdd (shapeCast _
    (Host.reduceAdd x nought reducesTo_S4096x2048_S2048_d0 h_S_) shapeCasts_S2048_S1x2048) nought reducesTo_S1x2048_S2048_d0 h_S_)
/-- The taps' gradient. -/
def dtaps : FVec Ideal S3x2048 .f32 :=
  addf (addf (pad S3x2048 ![2, 0] ![0, 0] ![0, 0] (rowSum (mulf (u2 p) (cot p g))) nought pads_S1x2048_S3x2048_200_000 h_S_)
      (pad S3x2048 ![1, 0] ![1, 0] ![0, 0] (rowSum (mulf (u1 p) (cot p g))) nought pads_S1x2048_S3x2048_110_000 h_S_))
    (pad S3x2048 ![0, 0] ![2, 0] ![0, 0] (rowSum (mulf (u0 p) (cot p g))) nought pads_S1x2048_S3x2048_020_000 h_S_)
/-- The gradient of what the convolution runs over. -/
def du : FVec Ideal S4096x2048 .f32 :=
  extractStridedSlice S4096x2048 ![2, 0]
    (addf (addf (pad S4098x2048 ![2, 0] ![0, 0] ![0, 0] (mulf (cot p g) (t2 w)) nought pads_S4096x2048_S4098x2048_200_000 h_S_)
      (pad S4098x2048 ![1, 0] ![1, 0] ![0, 0] (mulf (cot p g) (t1 w)) nought pads_S4096x2048_S4098x2048_110_000 h_S_))
    (pad S4098x2048 ![0, 0] ![2, 0] ![0, 0] (mulf (cot p g) (t0 w)) nought pads_S4096x2048_S4098x2048_020_000 h_S_))
    slices_S4098x2048_S4096x2048_2_0
/-- The gradient of the projected rows. -/
def dpre : FVec Ideal S4096x6144 .f32 :=
  concatenate S4096x6144 1 [⟨S4096x2048, mulf g (cv w p)⟩, ⟨S4096x2048, mulf (du w p g) (right p)⟩, ⟨S4096x2048, mulf (left p) (du w p g)⟩]
    concatenates_S4096x2048_S4096x2048_S4096x2048_S4096x6144_d1
end Terms

section Around
variable (o : FVec Ideal S4096x2048 .f32) (d : FVec Ideal S4096x6144 .f32)
/-- The layer's output. -/
def yr : FVec Ideal S4096x2048 .bf16 :=
  truncf .bf16 (Host.dotGeneral dot_S4096x2048_S2048x2048_S4096x2048_1_0_0_1_n_n none o (extf .f32 wo bitsLt_bf16_f32)) bitsLt_bf16_f32
/-- The gradient of the output's weights. -/
def dwOr : FVec Ideal S2048x2048 .bf16 :=
  truncf .bf16 (transpose S2048x2048 [1, 0] (Host.dotGeneral dot_S4096x2048_S4096x2048_S2048x2048_0_0_1_1_n_n none (extf .f32 dy bitsLt_bf16_f32) o) transposes_S2048x2048_S2048x2048_1_0) bitsLt_bf16_f32
/-- The gradient of the layer's input. -/
def dhr : FVec Ideal S4096x2048 .bf16 :=
  truncf .bf16 (Host.dotGeneral dot_S4096x6144_S2048x6144_S4096x2048_1_1_0_0_n_n none d (wide wi)) bitsLt_bf16_f32
/-- The gradient of the projection's weights. -/
def dwIr : FVec Ideal S8x2048x768 .bf16 :=
  truncf .bf16 (transpose S8x2048x768 [1, 0, 2] (shapeCast _ (transpose S2048x6144 [1, 0]
    (Host.dotGeneral dot_S4096x6144_S4096x2048_S6144x2048_0_0_1_1_n_n none d (extf .f32 h bitsLt_bf16_f32))
    transposes_S6144x2048_S2048x6144_1_0) shapeCasts_S2048x6144_S2048x8x768) transposes_S2048x8x768_S8x2048x768_1_0_2) bitsLt_bf16_f32

/-! ## The products at an index -/

theorem gr_eq : gr wo dy = mulT dy wo := ext2 fun t l => by pointwise [gr]; rfl
theorem yr_eq : yr wo o = mul o wo := ext2 fun t l => by pointwise [yr]; rfl
theorem dwOr_eq : dwOr dy o = tMul o dy := ext2 fun n l => by
  pointwise [dwOr]
  exact Finset.sum_congr rfl fun t _ => mul_comm _ _

theorem wide_at (k : Fin 2048) (n : Fin 6144) : wide wi (ix2 k n) = wi (ix3 (blockOf n) k (placeOf n)) := by
  pointwise [wide]
  rfl
theorem pr_eq : pr h wi = proj h wi := ext2 fun j n => by
  pointwise [pr]
  simp only [wide_at]
  rfl
theorem dwIr_eq : dwIr h d = projW h d := funext fun i => by
  obtain ⟨b, k, l, rfl⟩ : ∃ b k l, i = ix3 b k l := ⟨_, _, _, eq_ix3 i⟩
  pointwise [dwIr]
  exact Finset.sum_congr rfl fun t _ => mul_comm _ _

/-- A sum over all columns, block by block. -/
theorem sum_wide (f : Fin 6144 → EReal) : ∑ x, f x = ∑ b : Fin 8, ∑ l : Fin 768, f (colOf b l) := by
  rw [← Finset.sum_product', Finset.univ_product_univ]
  refine (Equiv.sum_comp (finProdFinEquiv (m := 8) (n := 768)) f).symm.trans (Finset.sum_congr rfl fun z _ => ?_)
  exact congrArg f (Fin.ext (by show z.2.val + 768 * z.1.val = z.1.val * 768 + z.2.val; omega))

theorem wide_block (k : Fin 2048) (b : Fin 8) (l : Fin 768) : wide wi (ix2 k (colOf b l)) = wi (ix3 b k l) := by
  have eb : blockOf (colOf b l) = b := Fin.ext (show (b.val * 768 + l.val) / 768 = b.val by omega)
  have el : placeOf (colOf b l) = l := Fin.ext (show (b.val * 768 + l.val) % 768 = l.val by omega)
  rw [wide_at, eb, el]
theorem dhr_eq : dhr wi d = projX d wi := ext2 fun j k => by
  pointwise [dhr]
  rw [sum_wide]
  simp only [wide_block]
  rfl
end Around

/-! ## The convolution at an index -/

section Conv
variable (p : FVec Ideal S4096x6144 .f32) (g : FVec Ideal S4096x2048 .f32) (t : Fin 4096) (l : Fin 2048)

theorem gate_at : gate p (ix2 t l) = p (ix2 t (gateLane l)) := by pointwise [gate]; rfl
theorem left_at : left p (ix2 t l) = p (ix2 t (leftLane l)) := by pointwise [left]; rfl
theorem right_at : right p (ix2 t l) = p (ix2 t (rightLane l)) := by pointwise [right]; rfl
theorem down_at (x : FVec Ideal S1x2048 .f32) : down x (ix2 t l) = x (ix2 0 l) := by pointwise [down]
theorem t0_at : t0 w (ix2 t l) = w (ix2 0 l) := by rw [t0, down_at]; pointwise []
theorem t1_at : t1 w (ix2 t l) = w (ix2 1 l) := by rw [t1, down_at]; pointwise []
theorem t2_at : t2 w (ix2 t l) = w (ix2 2 l) := by rw [t2, down_at]; pointwise []

theorem ur_at (q : Fin 4098) : ur p (ix2 q l) = if h : 2 ≤ q.val then under p ⟨q.val - 2, by omega⟩ l else 0 := by
  pointwise [ur]
  by_cases hq : 2 ≤ q.val
  · rw [dif_pos hq, dif_neg (by omega), left_at, right_at]
    rfl
  · rw [dif_neg hq, dif_pos (by omega)]
/-- A row of it, counted from the convolution's own row. -/
theorem ur_before (s : ℕ) (q : Fin 4098) (hq : q.val + s = t.val + 2) (hs : s ≤ 2) : ur p (ix2 q l) = before p s t l := by
  rw [ur_at, before]
  by_cases hc : s ≤ t.val
  · rw [dif_pos (by omega), if_pos hc]
    exact congrArg (under p · l) (Fin.ext (by show q.val - 2 = t.val - s; omega))
  · rw [dif_neg (by omega), if_neg hc]
theorem u0_at : u0 p (ix2 t l) = before p 2 t l := by
  pointwise [u0]
  exact ur_before p t l 2 _ rfl le_rfl
theorem u1_at : u1 p (ix2 t l) = before p 1 t l := by
  pointwise [u1]
  exact ur_before p t l 1 _ (by show 1 + t.val + 1 = t.val + 2; omega) (by decide)
theorem u2_at : u2 p (ix2 t l) = before p 0 t l := by
  pointwise [u2]
  exact ur_before p t l 0 _ (Nat.add_comm 2 t.val) (by decide)
theorem cv_at : cv w p (ix2 t l) = conv p w t l := by
  show u0 p (ix2 t l) * t0 w (ix2 t l) + u1 p (ix2 t l) * t1 w (ix2 t l) + u2 p (ix2 t l) * t2 w (ix2 t l) = _
  rw [u0_at, u1_at, u2_at, t0_at, t1_at, t2_at, conv, mul_comm (before p 2 t l), mul_comm (before p 1 t l),
    mul_comm (before p 0 t l), add_comm (_ + _), ← add_assoc, add_right_comm]
theorem md_eq : md w p = mid p w := ext2 fun t l => by
  show gate p (ix2 t l) * cv w p (ix2 t l) = _
  rw [gate_at, cv_at]
  rfl

theorem cot_at : cot p g (ix2 t l) = convCot p g t l := by
  show gate p (ix2 t l) * g (ix2 t l) = _
  rw [gate_at, mul_comm]
  rfl
theorem rowSum_at (x : FVec Ideal S4096x2048 .f32) (k : Fin 1) : rowSum x (ix2 k l) = ∑ t : Fin 4096, x (ix2 t l) := by
  pointwise [rowSum]
  exact Fin.sum_univ_one _
/-- One tap's row of the gradient, the convolution's rows `s` earlier being `u`. -/
theorem tapRow_at (u : FVec Ideal S4096x2048 .f32) (s : ℕ) (hu : ∀ t, u (ix2 t l) = before p s t l) (k : Fin 1) :
    rowSum (mulf u (cot p g)) (ix2 k l) = ∑ t : Fin 4096, convCot p g t l * before p s t l :=
  (rowSum_at l _ k).trans (Finset.sum_congr rfl fun t _ => by
    show u (ix2 t l) * cot p g (ix2 t l) = _
    rw [hu, cot_at, mul_comm])
theorem dtaps_eq : dtaps p g = tapGrad p g := ext2 fun s l => by
  pointwise [dtaps]
  simp only [tapRow_at p g l (u2 p) 0 (fun t => u2_at p t l), tapRow_at p g l (u1 p) 1 (fun t => u1_at p t l),
    tapRow_at p g l (u0 p) 2 (fun t => u0_at p t l)]
  have hs : s = 0 ∨ s = 1 ∨ s = 2 := by revert s; decide
  rcases hs with rfl | rfl | rfl
  · rw [dif_neg (by decide), dif_neg (by decide), dif_pos (by decide), zero_add, zero_add]
    rfl
  · rw [dif_neg (by decide), dif_pos (by decide), dif_neg (by decide), zero_add, add_zero]
    rfl
  · rw [dif_pos (by decide), dif_neg (by decide), dif_neg (by decide), add_zero, add_zero]
    rfl

/-- The cotangent at a row counted from `t`. -/
theorem cot_later (s : ℕ) (q : Fin 4096) (hq : q.val = t.val + s) : cot p g (ix2 q l) = later p g s t l := by
  rw [cot_at, later, dif_pos (hq ▸ q.isLt)]
  exact congrArg (convCot p g · l) (Fin.ext hq)
theorem later_zero (s : ℕ) (hq : ¬ t.val + s < 4096) : later p g s t l = 0 := dif_neg hq
theorem du_at : du w p g (ix2 t l) = underGrad p w g t l := by
  pointwise [du]
  simp only [t0_at, t1_at, t2_at]
  rw [underGrad]
  refine congrArg₂ (· + ·) (congrArg₂ (· + ·) ?_ ?_) ?_
  · rw [cot_later p g t l 0 t rfl, mul_comm]
  · by_cases hc : t.val + 1 < 4096
    · rw [dif_pos (by omega), cot_later p g t l 1 _ (by show 2 + t.val - 1 = t.val + 1; omega), mul_comm]
    · rw [dif_neg (by omega), later_zero p g t l 1 hc, mul_zero]
  · by_cases hc : t.val + 2 < 4096
    · rw [dif_pos (by omega), cot_later p g t l 2 _ (Nat.add_comm 2 t.val), mul_comm]
    · rw [dif_neg (by omega), later_zero p g t l 2 hc, mul_zero]
theorem dpre_eq : dpre w p g = preGrad p w g := ext2 fun t n => by
  pointwise [dpre]
  simp only [cv_at, du_at, left_at, right_at]
  show _ = preGradAt p w g t n
  rw [preGradAt]
  by_cases h1 : n.val < 2048
  · rw [dif_pos h1, dif_pos h1]
  · rw [dif_neg h1, dif_neg h1]
    by_cases h2 : n.val < 4096
    · rw [dif_pos h2, dif_pos (by omega)]
    · have e : n.val - 2048 - 2048 = n.val - 4096 := by omega
      rw [dif_neg h2, dif_neg (by omega), mul_comm]
      simp only [e]
end Conv

/-! ## The results over the arguments -/

section Results
variable (m : (ℓ : Loc nD τ sig) → Buf (Elt Ideal) ℓ) (c : Dev nD)
/-- The layer's input. -/
abbrev a0 : FVec Ideal S4096x2048 .bf16 := m ((c.tc : Thread nD τ).loc main_arg0)
/-- The projection's weights. -/
abbrev a1 : FVec Ideal S8x2048x768 .bf16 := m ((c.tc : Thread nD τ).loc main_arg1)
/-- The taps. -/
abbrev a2 : FVec Ideal S3x2048 .f32 := m ((c.tc : Thread nD τ).loc main_arg2)
/-- The output's weights. -/
abbrev a3 : FVec Ideal S2048x2048 .bf16 := m ((c.tc : Thread nD τ).loc main_arg3)
/-- The output's cotangent. -/
abbrev a4 : FVec Ideal S4096x2048 .bf16 := m ((c.tc : Thread nD τ).loc main_arg4)

theorem res0_eq : res_out0 m c = yr (a3 m c) (md (a2 m c) (pr (a0 m c) (a1 m c))) := rfl
theorem res1_eq : res_out1 m c = dwOr (a4 m c) (md (a2 m c) (pr (a0 m c) (a1 m c))) := rfl
theorem res2_eq : res_out2 m c = dtaps (pr (a0 m c) (a1 m c)) (gr (a3 m c) (a4 m c)) := rfl
theorem res3_eq : res_out3 m c = dhr (a1 m c) (dpre (a2 m c) (pr (a0 m c) (a1 m c)) (gr (a3 m c) (a4 m c))) := rfl
theorem res4_eq : res_out4 m c = dwIr (a0 m c) (dpre (a2 m c) (pr (a0 m c) (a1 m c)) (gr (a3 m c) (a4 m c))) := rfl
end Results

end Cert.Conv.Ref
-- ==== Proof.ShortConv.Taps.lean ====
/-
  The convolution's arithmetic on one group of 512 lanes: what the bodies of regions 1 and 5 store, read at an index.
  A window is 288 rows, of which the bodies read 256 at a distance of at most two rows.
-/
module

public import proofs.«01_k».proof.Proof.Gen.ShortConvIdeal.Skeleton
public import Idealize.ShloMosaic.Lib.Pointwise

@[expose] public section

set_option maxRecDepth 16384

noncomputable section

namespace Cert.Conv

open Cert.ShortConvIdeal Cert.ShortConvIdeal.Gen Idealize.ShloMosaic

/-- A window of rows. -/
abbrev Win : Type := Vec Ideal S288x512 .f32
/-- The rows of a block, one group of lanes, as read. -/
abbrev Part : Type := Vec Ideal S256x512 .bf16
/-- The same, worked on. -/
abbrev Work : Type := Vec Ideal S256x512 .f32
/-- The 32 rows beside a block, one group of lanes. -/
abbrev Edge : Type := Vec Ideal S32x512 .bf16
/-- A tap's weights, one group of lanes. -/
abbrev Tap : Type := Vec Ideal S1x512 .f32

variable (W D : Win) (r : Fin 256) (d : Fin 512) (u v w old : Tap) (b g x y : Part)

/-- The window's row `s` before row `r` of the block that starts at its row 32. -/
def back (s : Fin 3) : EReal := W (ix2 ⟨32 + r.val - s.val, by omega⟩ d)
/-- The window's row `s` after row `r`. -/
def ahead (s : Fin 3) : EReal := W (ix2 ⟨r.val + s.val, by omega⟩ d)

/-- A window at two equal rows. -/
theorem win_row {m n : ℕ} (hm : m < 288) (hn : n < 288) (e : m = n) : W (ix2 ⟨m, hm⟩ d) = W (ix2 ⟨n, hn⟩ d) := by
  subst e; rfl

/-- Three taps over the rows before. -/
def tapsBack : EReal :=
  u (ix2 0 d) * back W r d 0 + v (ix2 0 d) * back W r d 1 + w (ix2 0 d) * back W r d 2
/-- Three taps over the rows after. -/
def tapsAhead : EReal :=
  u (ix2 0 d) * ahead W r d 0 + v (ix2 0 d) * ahead W r d 1 + w (ix2 0 d) * ahead W r d 2
/-- The cotangent's product with the rows `s` before, summed over the block. -/
def tapSum (s : Fin 3) : EReal := ∑ r : Fin 256, x (ix2 r d) * b (ix2 r d) * back W r d s

theorem back_one : W (ix2 ⟨(32 + r.val + 288 - 1) % 288, by omega⟩ d) = back W r d 1 :=
  win_row W d _ _ (show (32 + r.val + 288 - 1) % 288 = 32 + r.val - 1 by omega)
theorem back_two : W (ix2 ⟨(32 + r.val + 288 - 2) % 288, by omega⟩ d) = back W r d 2 :=
  win_row W d _ _ (show (32 + r.val + 288 - 2) % 288 = 32 + r.val - 2 by omega)
theorem ahead_one : W (ix2 ⟨(r.val + 288 - 287) % 288, by omega⟩ d) = ahead W r d 1 :=
  win_row W d _ _ (show (r.val + 288 - 287) % 288 = r.val + 1 by omega)
theorem ahead_two : W (ix2 ⟨(r.val + 288 - 286) % 288, by omega⟩ d) = ahead W r d 2 :=
  win_row W d _ _ (show (r.val + 288 - 286) % 288 = r.val + 2 by omega)

/-- The taps as the bodies spell them, by rolling the window. -/
theorem taps_back : u (ix2 0 d) * W (ix2 ⟨32 + r.val, by omega⟩ d) + v (ix2 0 d) * W (ix2 ⟨(32 + r.val + 288 - 1) % 288, by omega⟩ d)
      + w (ix2 0 d) * W (ix2 ⟨(32 + r.val + 288 - 2) % 288, by omega⟩ d) = tapsBack W r d u v w := by
  rw [back_one W, back_two W]; rfl
theorem taps_ahead : u (ix2 0 d) * W (ix2 ⟨r.val, by omega⟩ d) + v (ix2 0 d) * W (ix2 ⟨(r.val + 288 - 287) % 288, by omega⟩ d)
      + w (ix2 0 d) * W (ix2 ⟨(r.val + 288 - 286) % 288, by omega⟩ d) = tapsAhead W r d u v w := by
  rw [ahead_one W, ahead_two W]; rfl

/-! ## Region 1: the gated convolution of a group -/

theorem gated0 : k1_pay6 (F := Ideal) W (k1_pay4 W u) (k1_pay5 W v) w b (ix2 r d) = b (ix2 r d) * tapsBack W r d u v w := by
  pointwise [k1_pay6, k1_pay4, k1_pay5]; rw [taps_back]
theorem gated1 : k1_pay9 (F := Ideal) W u v w b (ix2 r d) = b (ix2 r d) * tapsBack W r d u v w := by
  pointwise [k1_pay9]; rw [taps_back]
theorem gated2 : k1_pay13 (F := Ideal) W u v w b (ix2 r d) = b (ix2 r d) * tapsBack W r d u v w := by
  pointwise [k1_pay13]; rw [taps_back]
theorem gated3 : k1_pay1 (F := Ideal) W (k1_pay16 W u) (k1_pay17 W v) w b (ix2 r d) = b (ix2 r d) * tapsBack W r d u v w := by
  pointwise [k1_pay1, k1_pay16, k1_pay17]; rw [taps_back]

/-! ## The rows beside a block -/

variable (c z : Edge) (q : Fin 32)

/-- The product of the two factors in the rows before a block, zero before the first block. -/
def edgeBefore (n : ℕ) : EReal := if 0 < n then c (ix2 q d) * z (ix2 q d) else 0
/-- The cotangent in the rows after a block, zero after the last block. -/
def edgeAfter (n : ℕ) : EReal := if n < 15 then c (ix2 q d) * z (ix2 q d) else 0

theorem select_before (e : EReal) : ∀ n : Fin 16,
    Scalar.select (Scalar.cmpi .sgt (BitVec.ofNat 32 n.val) 0#32) e 0 = if 0 < n.val then e else 0 := fun n => by
  rw [(by decide +kernel : ∀ n : Fin 16, Scalar.cmpi .sgt (BitVec.ofNat 32 n.val) 0#32 = if 0 < n.val then 1#1 else 0#1) n]
  split <;> rfl
theorem select_after (e : EReal) : ∀ n : Fin 16,
    Scalar.select (Scalar.cmpi .slt (BitVec.ofNat 32 n.val) 15#32) e 0 = if n.val < 15 then e else 0 := fun n => by
  rw [(by decide +kernel : ∀ n : Fin 16, Scalar.cmpi .slt (BitVec.ofNat 32 n.val) 15#32 = if n.val < 15 then 1#1 else 0#1) n]
  split <;> rfl

variable (i : grid1.Coords) (j : grid5.Coords)

theorem edge1_0 : k1_pay2 (F := Ideal) i c z (ix2 q d) = edgeBefore d c z q (i 0).val := by
  pointwise [k1_pay2]; exact select_before _ (i 0)
theorem edge1_1 : k1_pay7 (F := Ideal) (BitVec.ofNat 32 (i 0).val) c z (ix2 q d) = edgeBefore d c z q (i 0).val := by
  pointwise [k1_pay7]; exact select_before _ (i 0)
theorem edge1_2 : k1_pay11 (F := Ideal) (k1_pay10 (BitVec.ofNat 32 (i 0).val) c z) (ix2 q d) = edgeBefore d c z q (i 0).val := by
  pointwise [k1_pay11, k1_pay10]; exact select_before _ (i 0)
theorem edge1_3 : k1_pay14 (F := Ideal) (BitVec.ofNat 32 (i 0).val) c z (ix2 q d) = edgeBefore d c z q (i 0).val := by
  pointwise [k1_pay14]; exact select_before _ (i 0)

theorem body1_0 : k1_pay3 (F := Ideal) x y (ix2 r d) = x (ix2 r d) * y (ix2 r d) := by pointwise [k1_pay3]
theorem body1_1 : k1_pay8 (F := Ideal) x y (ix2 r d) = x (ix2 r d) * y (ix2 r d) := by pointwise [k1_pay8]
theorem body1_2 : k1_pay12 (F := Ideal) x y (ix2 r d) = x (ix2 r d) * y (ix2 r d) := by pointwise [k1_pay12]
theorem body1_3 : k1_pay15 (F := Ideal) x y (ix2 r d) = x (ix2 r d) * y (ix2 r d) := by pointwise [k1_pay15]

/-! ## Region 5 -/

theorem edge5_0 : k5_pay6 (F := Ideal) j c z (ix2 q d) = edgeBefore d c z q (j 0).val := by
  pointwise [k5_pay6]; exact select_before _ (j 0)
theorem edge5_1 : k5_pay30 (F := Ideal) (k5_pay29 (BitVec.ofNat 32 (j 0).val) c z) (ix2 q d) = edgeBefore d c z q (j 0).val := by
  pointwise [k5_pay30, k5_pay29]; exact select_before _ (j 0)
theorem edge5_2 : k5_pay55 (F := Ideal) (BitVec.ofNat 32 (j 0).val) c z (ix2 q d) = edgeBefore d c z q (j 0).val := by
  pointwise [k5_pay55]; exact select_before _ (j 0)
theorem edge5_3 : k5_pay75 (F := Ideal) (BitVec.ofNat 32 (j 0).val) c z (ix2 q d) = edgeBefore d c z q (j 0).val := by
  pointwise [k5_pay75]; exact select_before _ (j 0)
theorem next5_0 : k5_pay10 (F := Ideal) (BitVec.ofNat 32 (j 0).val) c z (ix2 q d) = edgeAfter d c z q (j 0).val := by
  pointwise [k5_pay10]; exact select_after _ (j 0)
theorem next5_1 : k5_pay34 (F := Ideal) (BitVec.ofNat 32 (j 0).val) c z (ix2 q d) = edgeAfter d c z q (j 0).val := by
  pointwise [k5_pay34]; exact select_after _ (j 0)
theorem next5_2 : k5_pay59 (F := Ideal) (BitVec.ofNat 32 (j 0).val) c z (ix2 q d) = edgeAfter d c z q (j 0).val := by
  pointwise [k5_pay59]; exact select_after _ (j 0)
theorem next5_3 : k5_pay80 (F := Ideal) (BitVec.ofNat 32 (j 0).val) (k5_pay78 c z) 15#32 (ix2 q d) = edgeAfter d c z q (j 0).val := by
  pointwise [k5_pay80, k5_pay78]; exact select_after _ (j 0)

theorem body5_0 : k5_pay7 (F := Ideal) x y (ix2 r d) = x (ix2 r d) * y (ix2 r d) := by pointwise [k5_pay7, k5_pay3, k5_pay4]
theorem body5_1 : k5_pay31 (F := Ideal) (k5_pay25 x) (k5_pay26 y) (ix2 r d) = x (ix2 r d) * y (ix2 r d) := by
  pointwise [k5_pay31, k5_pay25, k5_pay26]
theorem body5_2 : k5_pay56 (F := Ideal) (k5_pay51 x) (k5_pay52 y) (ix2 r d) = x (ix2 r d) * y (ix2 r d) := by
  pointwise [k5_pay56, k5_pay51, k5_pay52]
theorem body5_3 : k5_pay76 (F := Ideal) (k5_pay72 x) y (ix2 r d) = x (ix2 r d) * y (ix2 r d) := by
  pointwise [k5_pay76, k5_pay72, k5_pay73]
theorem cot5_0 : k5_pay9 (F := Ideal) (k5_pay8 y x) (ix2 r d) = x (ix2 r d) * y (ix2 r d) := by pointwise [k5_pay9, k5_pay8, k5_pay5]
theorem cot5_1 : k5_pay33 (F := Ideal) (k5_pay27 y) (k5_pay28 x) (ix2 r d) = x (ix2 r d) * y (ix2 r d) := by
  pointwise [k5_pay33, k5_pay32, k5_pay27, k5_pay28]
theorem cot5_2 : k5_pay58 (F := Ideal) (k5_pay53 y) (k5_pay54 x) (ix2 r d) = x (ix2 r d) * y (ix2 r d) := by
  pointwise [k5_pay58, k5_pay57, k5_pay53, k5_pay54]
theorem cot5_3 : k5_pay79 (F := Ideal) y x (ix2 r d) = x (ix2 r d) * y (ix2 r d) := by pointwise [k5_pay79, k5_pay77, k5_pay74]

/-! ### The three results of a group -/

theorem gate5_0 : k5_pay22 (F := Ideal) (k5_pay5 g) (k5_pay17 W (k5_pay14 W u v) w) (ix2 r d)
    = g (ix2 r d) * tapsBack W r d u v w := by
  pointwise [k5_pay22, k5_pay5, k5_pay17, k5_pay14, k5_pay11, k5_pay13, k5_pay16]; rw [taps_back]
theorem gate5_1 : k5_pay48 (F := Ideal) (k5_pay28 g) (k5_pay43 W (k5_pay36 W u) v w) (ix2 r d)
    = g (ix2 r d) * tapsBack W r d u v w := by
  pointwise [k5_pay48, k5_pay28, k5_pay43, k5_pay36, k5_pay35, k5_pay40, k5_pay42]; rw [taps_back]
theorem gate5_2 : k5_pay69 (F := Ideal) (k5_pay54 g) (k5_pay66 k5_pay60 W u v w) (ix2 r d)
    = g (ix2 r d) * tapsBack W r d u v w := by
  pointwise [k5_pay69, k5_pay54, k5_pay66, k5_pay60, k5_pay61, k5_pay63, k5_pay65]; rw [taps_back]
theorem gate5_3 : k5_pay89 (F := Ideal) (k5_pay74 g) (k5_pay84 W u v) (k5_pay86 W) w (ix2 r d)
    = g (ix2 r d) * tapsBack W r d u v w := by
  pointwise [k5_pay89, k5_pay74, k5_pay84, k5_pay86, k5_pay81, k5_pay83]; rw [taps_back]

theorem left5_0 : k5_pay23 (F := Ideal) (k5_pay4 x) (k5_pay19 D u v) (k5_pay20 D) w (ix2 r d)
    = tapsAhead D r d u v w * x (ix2 r d) := by
  pointwise [k5_pay23, k5_pay4, k5_pay19, k5_pay20, k5_pay21]; rw [taps_ahead]
theorem left5_1 : k5_pay49 (F := Ideal) (k5_pay26 x) k5_pay45 D (k5_pay46 D u) v w (ix2 r d)
    = tapsAhead D r d u v w * x (ix2 r d) := by
  pointwise [k5_pay49, k5_pay26, k5_pay45, k5_pay46, k5_pay47]; rw [taps_ahead]
theorem left5_2 : k5_pay70 (F := Ideal) (k5_pay52 x) D u v w (ix2 r d) = tapsAhead D r d u v w * x (ix2 r d) := by
  pointwise [k5_pay70, k5_pay52, k5_pay68]; rw [taps_ahead]
theorem left5_3 : k5_pay90 (F := Ideal) (k5_pay73 x) D u v w (ix2 r d) = tapsAhead D r d u v w * x (ix2 r d) := by
  pointwise [k5_pay90, k5_pay73, k5_pay88]; rw [taps_ahead]
theorem right5_0 : k5_pay24 (F := Ideal) (k5_pay3 x) (k5_pay19 D u v) (k5_pay20 D) w (ix2 r d)
    = tapsAhead D r d u v w * x (ix2 r d) := by
  pointwise [k5_pay24, k5_pay3, k5_pay19, k5_pay20, k5_pay21]; rw [taps_ahead]
theorem right5_1 : k5_pay50 (F := Ideal) (k5_pay25 x) k5_pay45 D (k5_pay46 D u) v w (ix2 r d)
    = tapsAhead D r d u v w * x (ix2 r d) := by
  pointwise [k5_pay50, k5_pay25, k5_pay45, k5_pay46, k5_pay47]; rw [taps_ahead]
theorem right5_2 : k5_pay71 (F := Ideal) (k5_pay51 x) D u v w (ix2 r d) = tapsAhead D r d u v w * x (ix2 r d) := by
  pointwise [k5_pay71, k5_pay51, k5_pay68]; rw [taps_ahead]
theorem right5_3 : k5_pay1 (F := Ideal) (k5_pay72 x) (k5_pay88 D u v w) (ix2 r d) = tapsAhead D r d u v w * x (ix2 r d) := by
  pointwise [k5_pay1, k5_pay72, k5_pay88]; rw [taps_ahead]

/-! ### The taps' gradient of a group: what was there and this block's rows -/

/-- A sum over the rows of a window rolled by one, and by two. -/
theorem sum_zero : (∑ r : Fin 256, x (ix2 r d) * b (ix2 r d) * W (ix2 ⟨32 + r.val, by omega⟩ d)) = tapSum W d b x 0 := rfl
theorem sum_one : (∑ r : Fin 256, x (ix2 r d) * b (ix2 r d) * W (ix2 ⟨(32 + r.val + 288 - 1) % 288, by omega⟩ d)) = tapSum W d b x 1 :=
  Finset.sum_congr rfl fun r _ => congrArg (_ * ·) (back_one W r d)
theorem sum_two : (∑ r : Fin 256, x (ix2 r d) * b (ix2 r d) * W (ix2 ⟨(32 + r.val + 288 - 2) % 288, by omega⟩ d)) = tapSum W d b x 2 :=
  Finset.sum_congr rfl fun r _ => congrArg (_ * ·) (back_two W r d)

theorem tap5_00 : k5_pay12 (F := Ideal) (k5_pay8 b x) W old (ix2 0 d) = old (ix2 0 d) + tapSum W d b x 0 := by
  pointwise [k5_pay12, k5_pay8, k5_pay5, k5_pay11]; exact congrArg (_ + ·) (sum_zero W d b x)
theorem tap5_01 : k5_pay15 (F := Ideal) (k5_pay8 b x) (k5_pay13 W) old (ix2 0 d) = old (ix2 0 d) + tapSum W d b x 1 := by
  pointwise [k5_pay15, k5_pay8, k5_pay5, k5_pay13]; exact congrArg (_ + ·) (sum_one W d b x)
theorem tap5_02 : k5_pay18 (F := Ideal) (k5_pay8 b x) W old (ix2 0 d) = old (ix2 0 d) + tapSum W d b x 2 := by
  pointwise [k5_pay18, k5_pay8, k5_pay5, k5_pay16]; exact congrArg (_ + ·) (sum_two W d b x)
theorem tap5_10 : k5_pay39 (F := Ideal) (k5_pay37 old) (k5_pay38 (k5_pay27 b) (k5_pay28 x) W) (ix2 0 d)
    = old (ix2 0 d) + tapSum W d b x 0 := by
  pointwise [k5_pay39, k5_pay37, k5_pay38, k5_pay32, k5_pay27, k5_pay28, k5_pay35]; exact congrArg (_ + ·) (sum_zero W d b x)
theorem tap5_11 : k5_pay41 (F := Ideal) (k5_pay32 (k5_pay27 b) (k5_pay28 x)) W old (ix2 0 d) = old (ix2 0 d) + tapSum W d b x 1 := by
  pointwise [k5_pay41, k5_pay32, k5_pay27, k5_pay28, k5_pay40]; exact congrArg (_ + ·) (sum_one W d b x)
theorem tap5_12 : k5_pay44 (F := Ideal) (k5_pay32 (k5_pay27 b) (k5_pay28 x)) W old (ix2 0 d) = old (ix2 0 d) + tapSum W d b x 2 := by
  pointwise [k5_pay44, k5_pay32, k5_pay27, k5_pay28, k5_pay42]; exact congrArg (_ + ·) (sum_two W d b x)
theorem tap5_20 : k5_pay62 (F := Ideal) (k5_pay57 (k5_pay53 b) (k5_pay54 x)) W old (ix2 0 d) = old (ix2 0 d) + tapSum W d b x 0 := by
  pointwise [k5_pay62, k5_pay57, k5_pay53, k5_pay54, k5_pay61]; exact congrArg (_ + ·) (sum_zero W d b x)
theorem tap5_21 : k5_pay64 (F := Ideal) (k5_pay57 (k5_pay53 b) (k5_pay54 x)) W old (ix2 0 d) = old (ix2 0 d) + tapSum W d b x 1 := by
  pointwise [k5_pay64, k5_pay57, k5_pay53, k5_pay54, k5_pay63]; exact congrArg (_ + ·) (sum_one W d b x)
theorem tap5_22 : k5_pay67 (F := Ideal) (k5_pay57 (k5_pay53 b) (k5_pay54 x)) W old (ix2 0 d) = old (ix2 0 d) + tapSum W d b x 2 := by
  pointwise [k5_pay67, k5_pay57, k5_pay53, k5_pay54, k5_pay65]; exact congrArg (_ + ·) (sum_two W d b x)
theorem tap5_30 : k5_pay82 (F := Ideal) (k5_pay77 b x) W old (ix2 0 d) = old (ix2 0 d) + tapSum W d b x 0 := by
  pointwise [k5_pay82, k5_pay77, k5_pay74, k5_pay81]; exact congrArg (_ + ·) (sum_zero W d b x)
theorem tap5_31 : k5_pay85 (F := Ideal) (k5_pay77 b x) W old (ix2 0 d) = old (ix2 0 d) + tapSum W d b x 1 := by
  pointwise [k5_pay85, k5_pay77, k5_pay74, k5_pay83]; exact congrArg (_ + ·) (sum_one W d b x)
theorem tap5_32 : k5_pay87 (F := Ideal) (k5_pay77 b x) (k5_pay86 W) old (ix2 0 d) = old (ix2 0 d) + tapSum W d b x 2 := by
  pointwise [k5_pay87, k5_pay77, k5_pay74, k5_pay86]; exact congrArg (_ + ·) (sum_two W d b x)

end Cert.Conv
-- ==== Proof.ShortConv.Window.lean ====
/-
  A block's window: the 256 rows of a block and the 32 rows before or after them, over all lanes, and which rows of the
  whole arrays they are.
-/
module

public import Idealize.ShloMosaic.Lib.Pipeline.ValueKit
public import Idealize.ShloMosaic.Lib.Pipeline.ReadBack
public import proofs.«01_k».proof.Proof.ShortConv.Dense
public import proofs.«01_k».proof.Proof.ShortConv.Taps

@[expose] public section

set_option maxRecDepth 16384

noncomputable section

namespace Cert.Conv

open Cert.ShortConvIdeal Idealize.ShloMosaic
open Cert.Attention (Mat)

/-- A block of 256 rows. -/
abbrev Blk : Type := Vec Ideal S256x2048 .bf16
/-- The 32 rows beside a block. -/
abbrev Side : Type := Vec Ideal S32x2048 .bf16
/-- The taps. -/
abbrev Taps : Type := Vec Ideal S3x2048 .f32

/-! ## A window read back -/

/-- 32 rows and then 256, at a row and a lane. -/
def joinedRow (H : Vec Ideal S32x512 .f32) (P : Work) (q : Fin 288) (d : Fin 512) : EReal :=
  if h : q.val < 32 then H (ix2 ⟨q.val, h⟩ d) else P (ix2 ⟨q.val - 32, by omega⟩ d)
/-- 32 rows and then 256. -/
def joined (H : Vec Ideal S32x512 .f32) (P : Work) : Win := fun j => joinedRow H P (j 0) (j 1)
/-- 256 rows and then 32, at a row and a lane. -/
def joinedAfterRow (P : Work) (H : Vec Ideal S32x512 .f32) (q : Fin 288) (d : Fin 512) : EReal :=
  if h : q.val < 256 then P (ix2 ⟨q.val, h⟩ d) else H (ix2 ⟨q.val - 256, by omega⟩ d)
/-- 256 rows and then 32. -/
def joinedAfter (P : Work) (H : Vec Ideal S32x512 .f32) : Win := fun j => joinedAfterRow P H (j 0) (j 1)

/-- A store of whole rows agrees with a function where it agrees row by row. -/
theorem rows_piece (G : Win) (o n : ℕ) (hn : o + n ≤ 288) (ib : ∀ a : Fin 2, ![o, 0] a + ![n, 512] a ≤ S288x512.size a)
    (f : (⟨2, ![n, 512]⟩ : Shape).Idx → EReal) (hf : ∀ (q : Fin n) (d : Fin 512), f (ix2 q d) = G (ix2 ⟨o + q.val, by omega⟩ d))
    (x : (⟨2, ![n, 512]⟩ : Shape).Idx) : f x = G ((Rect.unit (s := S288x512) ![o, 0] ![n, 512] ib).emb x) := by
  obtain ⟨q, d, rfl⟩ : ∃ q d, x = ix2 q d := ⟨_, _, eq_ix2 x⟩
  refine (hf q d).trans (congrArg G (funext fun a => Fin.ext ?_))
  rw [ValueKit.rect_emb_unit_val]
  fin_cases a
  · rfl
  · exact (Nat.zero_add _).symm

/-- A whole load of a window after two stores of rows that are one function's, over whatever was there. -/
theorem rows_load {κ : Kind} {sp : Space} {sg : RefSig} (m : View sg κ sp S288x512 .f32) (iw) (G : Win)
    (p p' : View.Piece (Elt Ideal) S288x512 .f32) (L : List (View.Piece (Elt Ideal) S288x512 .f32)) (h : View.PiecesOf G [p, p'])
    (hc : ∀ q d, ∃ s ∈ [p, p'], ix2 q d ∈ s.1.set) :
    m.readCov (p :: p' :: L) (Rect.unit ![0, 0] S288x512.size iw).toLoadRect = G := by
  rw [View.readCov_eq_canon']
  funext j
  obtain ⟨q, d, rfl⟩ : ∃ q d, j = ix2 q d := ⟨_, _, eq_ix2 j⟩
  rw [show (Rect.unit ![0, 0] S288x512.size iw).toLoadRect.idx (ix2 q d) = ix2 q d from
    funext fun a => Fin.ext (by fin_cases a <;> simp)]
  exact View.canon_append_of_piecesOf G L [p, p'] h _ (hc q d)

/-- An index of a window lies in the rows stored from row `o` on. -/
theorem mem_rows (o n : ℕ) (ib : ∀ a : Fin 2, ![o, 0] a + ![n, 512] a ≤ S288x512.size a) (q : Fin 288) (d : Fin 512)
    (h0 : o ≤ q.val) (h1 : q.val < o + n) : ix2 q d ∈ (Rect.unit (s := S288x512) ![o, 0] ![n, 512] ib).set :=
  Rect.mem_set_unit.mpr fun a => by
    fin_cases a
    · exact ⟨h0, h1⟩
    · exact ⟨Nat.zero_le _, d.isLt.trans_le (Nat.zero_add _).ge⟩

/-- A window stored as 32 rows and then the 256 below them, over whatever was there, reads back as the two joined. -/
theorem win_load {κ : Kind} {sp : Space} {sg : RefSig} (m : View sg κ sp S288x512 .f32) (ib ih iw) (P : Work)
    (H : Vec Ideal S32x512 .f32) (L : List (View.Piece (Elt Ideal) S288x512 .f32)) :
    m.readCov (⟨Rect.unit ![32, 0] S256x512.size ib, P⟩ :: ⟨Rect.unit ![0, 0] S32x512.size ih, H⟩ :: L)
      (Rect.unit ![0, 0] S288x512.size iw).toLoadRect = joined H P := by
  refine rows_load m iw _ _ _ L ⟨rows_piece _ 32 256 (by omega) ib _ fun q d => ?_, rows_piece _ 0 32 (by omega) ih _ fun q d => ?_, trivial⟩
    fun q d => ?_
  · show P (ix2 q d) = joinedRow H P ⟨32 + q.val, by omega⟩ d
    unfold joinedRow
    rw [dif_neg (show ¬ 32 + q.val < 32 by omega)]
    exact congrArg (fun n => P (ix2 n d)) (Fin.ext (show q.val = 32 + q.val - 32 by omega))
  · show H (ix2 q d) = joinedRow H P ⟨0 + q.val, by omega⟩ d
    unfold joinedRow
    rw [dif_pos (show 0 + q.val < 32 by omega)]
    exact congrArg (fun n => H (ix2 n d)) (Fin.ext (show q.val = 0 + q.val by omega))
  · rcases Nat.lt_or_ge q.val 32 with h | h
    · exact ⟨_, List.mem_cons_of_mem _ (List.mem_singleton_self _), mem_rows 0 32 ih q d (by omega) (by omega)⟩
    · exact ⟨_, List.mem_cons_self, mem_rows 32 256 ib q d h (by omega)⟩

/-- A window stored as 256 rows and then the 32 below them, likewise. -/
theorem win_load_after {κ : Kind} {sp : Space} {sg : RefSig} (m : View sg κ sp S288x512 .f32) (ib ih iw) (P : Work)
    (H : Vec Ideal S32x512 .f32) (L : List (View.Piece (Elt Ideal) S288x512 .f32)) :
    m.readCov (⟨Rect.unit ![256, 0] S32x512.size ih, H⟩ :: ⟨Rect.unit ![0, 0] S256x512.size ib, P⟩ :: L)
      (Rect.unit ![0, 0] S288x512.size iw).toLoadRect = joinedAfter P H := by
  refine rows_load m iw _ _ _ L ⟨rows_piece _ 256 32 (by omega) ih _ fun q d => ?_, rows_piece _ 0 256 (by omega) ib _ fun q d => ?_, trivial⟩
    fun q d => ?_
  · show H (ix2 q d) = joinedAfterRow P H ⟨256 + q.val, by omega⟩ d
    unfold joinedAfterRow
    rw [dif_neg (show ¬ 256 + q.val < 256 by omega)]
    exact congrArg (fun n => H (ix2 n d)) (Fin.ext (show q.val = 256 + q.val - 256 by omega))
  · show P (ix2 q d) = joinedAfterRow P H ⟨0 + q.val, by omega⟩ d
    unfold joinedAfterRow
    rw [dif_pos (show 0 + q.val < 256 by omega)]
    exact congrArg (fun n => P (ix2 n d)) (Fin.ext (show q.val = 0 + q.val by omega))
  · rcases Nat.lt_or_ge q.val 256 with h | h
    · exact ⟨_, List.mem_cons_of_mem _ (List.mem_singleton_self _), mem_rows 0 256 ib q d (by omega) (by omega)⟩
    · exact ⟨_, List.mem_cons_self, mem_rows 256 32 ih q d h (by omega)⟩

/-! ## A window's rows over all lanes -/

variable (n : ℕ) (b c z : Blk) (hc hz : Side) (w : Taps) (d : Blk) (hd hb : Side)

/-- The rows the convolution runs over, of the `n`-th block: the 32 before it, zero before the first block, and its own. -/
def rowsBack (q : Fin 288) (l : Fin 2048) : EReal :=
  if h : q.val < 32 then if 0 < n then hc (ix2 ⟨q.val, h⟩ l) * hz (ix2 ⟨q.val, h⟩ l) else 0
  else c (ix2 ⟨q.val - 32, by omega⟩ l) * z (ix2 ⟨q.val - 32, by omega⟩ l)
/-- The cotangent's rows: the block's own and the 32 after it, zero after the last block. -/
def rowsAhead (q : Fin 288) (l : Fin 2048) : EReal :=
  if h : q.val < 256 then d (ix2 ⟨q.val, h⟩ l) * b (ix2 ⟨q.val, h⟩ l)
  else if n < 15 then hd (ix2 ⟨q.val - 256, by omega⟩ l) * hb (ix2 ⟨q.val - 256, by omega⟩ l) else 0

/-- The convolution of the block's row `r`. -/
def convBack (r : Fin 256) (l : Fin 2048) : EReal :=
  w (ix2 2 l) * rowsBack n c z hc hz ⟨32 + r.val - 0, by omega⟩ l + w (ix2 1 l) * rowsBack n c z hc hz ⟨32 + r.val - 1, by omega⟩ l
    + w (ix2 0 l) * rowsBack n c z hc hz ⟨32 + r.val - 2, by omega⟩ l
/-- The gradient of what it runs over. -/
def convAhead (r : Fin 256) (l : Fin 2048) : EReal :=
  w (ix2 2 l) * rowsAhead n b d hd hb ⟨r.val + 0, by omega⟩ l + w (ix2 1 l) * rowsAhead n b d hd hb ⟨r.val + 1, by omega⟩ l
    + w (ix2 0 l) * rowsAhead n b d hd hb ⟨r.val + 2, by omega⟩ l

/-! ## A group of lanes of a window -/

/-- A load of a group's lanes of some rows. -/
theorem ld_lanes {N M : ℕ} {e : EltTy} (x : Vec Ideal (⟨2, ![N, 2048]⟩ : Shape) e) (o off : ℕ)
    (inb : ∀ a : Fin 2, ![o, off] a + ![M, 512] a ≤ ![N, 2048] a) (r : Fin M) (k : Fin 512) (r' : Fin N) (l : Fin 2048)
    (e0 : r'.val = o + r.val) (e1 : l.val = off + k.val) :
    View.ld x (Rect.unit (s := (⟨2, ![N, 2048]⟩ : Shape)) ![o, off] ![M, 512] inb) (ix2 r k) = x (ix2 r' l) :=
  View.ld_unit_apply_of x _ _ inb _ (ix2 r' l) fun a => by
    fin_cases a
    · exact e0
    · exact e1

section
variable (off : ℕ) (ixb : ∀ a : Fin 2, ![0, off] a + ![256, 512] a ≤ ![256, 2048] a)
  (ihb : ∀ a : Fin 2, ![0, off] a + ![32, 512] a ≤ ![32, 2048] a)
  (i0 : ∀ a : Fin 2, ![0, off] a + ![1, 512] a ≤ ![3, 2048] a) (i1 : ∀ a : Fin 2, ![1, off] a + ![1, 512] a ≤ ![3, 2048] a)
  (i2 : ∀ a : Fin 2, ![2, off] a + ![1, 512] a ≤ ![3, 2048] a)

/-- A group's lanes of a block. -/
abbrev part (x : Blk) : Part := View.ld x (Rect.unit (s := S256x2048) ![0, off] ![256, 512] ixb)
/-- A group's lanes of the rows beside a block. -/
abbrev edge (x : Side) : Edge := View.ld x (Rect.unit (s := S32x2048) ![0, off] ![32, 512] ihb)
/-- A group's lanes of each tap. -/
abbrev tap0 : Tap := View.ld w (Rect.unit (s := S3x2048) ![0, off] ![1, 512] i0)
abbrev tap1 : Tap := View.ld w (Rect.unit (s := S3x2048) ![1, off] ![1, 512] i1)
abbrev tap2 : Tap := View.ld w (Rect.unit (s := S3x2048) ![2, off] ![1, 512] i2)

variable (H : Vec Ideal S32x512 .f32) (P : Work) (r : Fin 256) (k : Fin 512) (l : Fin 2048) (e1 : l.val = off + k.val)
include e1

theorem ld_part (x : Blk) : part off ixb x (ix2 r k) = x (ix2 r l) := ld_lanes x 0 off ixb r k r l (Nat.zero_add _).symm e1
theorem ld_edge (x : Side) (q : Fin 32) : edge off ihb x (ix2 q k) = x (ix2 q l) :=
  ld_lanes x 0 off ihb q k q l (Nat.zero_add _).symm e1
theorem ld_tap0 : tap0 w off i0 (ix2 0 k) = w (ix2 0 l) := ld_lanes w 0 off i0 0 k 0 l rfl e1
theorem ld_tap1 : tap1 w off i1 (ix2 0 k) = w (ix2 1 l) := ld_lanes w 1 off i1 0 k 1 l rfl e1
theorem ld_tap2 : tap2 w off i2 (ix2 0 k) = w (ix2 2 l) := ld_lanes w 2 off i2 0 k 2 l rfl e1

theorem joined_rows (hH : ∀ q, H (ix2 q k) = edgeBefore k (edge off ihb hc) (edge off ihb hz) q n)
    (hP : ∀ r, P (ix2 r k) = part off ixb c (ix2 r k) * part off ixb z (ix2 r k)) (q : Fin 288) :
    joined H P (ix2 q k) = rowsBack n c z hc hz q l := by
  show joinedRow H P q k = _
  unfold joinedRow rowsBack
  by_cases h : q.val < 32
  · rw [dif_pos h, dif_pos h, hH, edgeBefore, ld_edge off ihb k l e1, ld_edge off ihb k l e1]
  · rw [dif_neg h, dif_neg h, hP, ld_part off ixb _ k l e1, ld_part off ixb _ k l e1]

theorem joinedAfter_rows (hP : ∀ r, P (ix2 r k) = part off ixb d (ix2 r k) * part off ixb b (ix2 r k))
    (hH : ∀ q, H (ix2 q k) = edgeAfter k (edge off ihb hd) (edge off ihb hb) q n) (q : Fin 288) :
    joinedAfter P H (ix2 q k) = rowsAhead n b d hd hb q l := by
  show joinedAfterRow P H q k = _
  unfold joinedAfterRow rowsAhead
  by_cases h : q.val < 256
  · rw [dif_pos h, dif_pos h, hP, ld_part off ixb _ k l e1, ld_part off ixb _ k l e1]
  · rw [dif_neg h, dif_neg h, hH, edgeAfter, ld_edge off ihb k l e1, ld_edge off ihb k l e1]

/-- The taps over a group of a window are the convolution's lanes of that group. -/
theorem tapsBack_group (W : Win) (hW : ∀ q, W (ix2 q k) = rowsBack n c z hc hz q l) :
    tapsBack W r k (tap2 w off i2) (tap1 w off i1) (tap0 w off i0) = convBack n c z hc hz w r l := by
  unfold tapsBack convBack back
  rw [ld_tap0 w off i0 k l e1, ld_tap1 w off i1 k l e1, ld_tap2 w off i2 k l e1, hW, hW, hW]
  rfl
theorem tapsAhead_group (W : Win) (hW : ∀ q, W (ix2 q k) = rowsAhead n b d hd hb q l) :
    tapsAhead W r k (tap2 w off i2) (tap1 w off i1) (tap0 w off i0) = convAhead n b w d hd hb r l := by
  unfold tapsAhead convAhead ahead
  rw [ld_tap0 w off i0 k l e1, ld_tap1 w off i1 k l e1, ld_tap2 w off i2 k l e1, hW, hW, hW]
  rfl
end

/-! ## Which rows of the whole arrays they are -/

section
variable (p : Mat 4096 6144) (g : Mat 4096 2048) (hn : n < 16)

/-- A block's rows of the lanes `lane`. -/
abbrev IsBlk (x : Blk) (lane : Fin 2048 → Fin 6144) : Prop :=
  ∀ (r : Fin 256) (l : Fin 2048), x (ix2 r l) = p (ix2 ⟨256 * n + r.val, by omega⟩ (lane l))
/-- The 32 rows before a block that is not the first. -/
abbrev IsBefore (x : Side) (lane : Fin 2048 → Fin 6144) : Prop :=
  0 < n → ∀ (q : Fin 32) (l : Fin 2048), x (ix2 q l) = p (ix2 ⟨256 * n - 32 + q.val, by omega⟩ (lane l))

theorem rowsBack_eq (h1 : IsBlk n p hn c leftLane) (h2 : IsBlk n p hn z rightLane) (h3 : IsBefore n p hn hc leftLane)
    (h4 : IsBefore n p hn hz rightLane) (s : ℕ) (hs : s ≤ 2) (r : Fin 256) (l : Fin 2048) :
    rowsBack n c z hc hz ⟨32 + r.val - s, by omega⟩ l = before p s ⟨256 * n + r.val, by omega⟩ l := by
  unfold rowsBack before under
  by_cases h : 32 + r.val - s < 32
  · rw [dif_pos h]
    by_cases h0 : 0 < n
    · rw [if_pos h0, if_pos (show s ≤ 256 * n + r.val by omega), h3 h0, h4 h0]
      have e : 256 * n - 32 + (32 + r.val - s) = 256 * n + r.val - s := by omega
      simp only [e]
    · rw [if_neg h0, if_neg (show ¬ s ≤ 256 * n + r.val by omega)]
  · rw [dif_neg h, if_pos (show s ≤ 256 * n + r.val by omega), h1, h2]
    have e : 256 * n + (32 + r.val - s - 32) = 256 * n + r.val - s := by omega
    simp only [e]

theorem convBack_eq (h1 : IsBlk n p hn c leftLane) (h2 : IsBlk n p hn z rightLane) (h3 : IsBefore n p hn hc leftLane)
    (h4 : IsBefore n p hn hz rightLane) (r : Fin 256) (l : Fin 2048) :
    convBack n c z hc hz w r l = conv p w ⟨256 * n + r.val, by omega⟩ l := by
  unfold convBack conv
  rw [rowsBack_eq n c z hc hz p hn h1 h2 h3 h4 0 (by omega), rowsBack_eq n c z hc hz p hn h1 h2 h3 h4 1 (by omega),
    rowsBack_eq n c z hc hz p hn h1 h2 h3 h4 2 (by omega)]

theorem rowsAhead_eq (h1 : IsBlk n p hn b gateLane)
    (h2 : ∀ (r : Fin 256) (l : Fin 2048), d (ix2 r l) = g (ix2 ⟨256 * n + r.val, by omega⟩ l))
    (h3 : ∀ h : n < 15, ∀ (q : Fin 32) (l : Fin 2048), hb (ix2 q l) = p (ix2 ⟨256 * n + 256 + q.val, by omega⟩ (gateLane l)))
    (h4 : ∀ h : n < 15, ∀ (q : Fin 32) (l : Fin 2048), hd (ix2 q l) = g (ix2 ⟨256 * n + 256 + q.val, by omega⟩ l))
    (s : ℕ) (hs : s ≤ 2) (r : Fin 256) (l : Fin 2048) :
    rowsAhead n b d hd hb ⟨r.val + s, by omega⟩ l = later p g s ⟨256 * n + r.val, by omega⟩ l := by
  unfold rowsAhead later convCot
  by_cases h : r.val + s < 256
  · rw [dif_pos h, dif_pos (show 256 * n + r.val + s < 4096 by omega), h1, h2]
    have e : 256 * n + (r.val + s) = 256 * n + r.val + s := by omega
    simp only [e]
  · rw [dif_neg h]
    by_cases h0 : n < 15
    · rw [if_pos h0, dif_pos (show 256 * n + r.val + s < 4096 by omega), h3 h0, h4 h0]
      have e : 256 * n + 256 + (r.val + s - 256) = 256 * n + r.val + s := by omega
      simp only [e]
    · rw [if_neg h0, dif_neg (show ¬ 256 * n + r.val + s < 4096 by omega)]

theorem convAhead_eq (h1 : IsBlk n p hn b gateLane)
    (h2 : ∀ (r : Fin 256) (l : Fin 2048), d (ix2 r l) = g (ix2 ⟨256 * n + r.val, by omega⟩ l))
    (h3 : ∀ h : n < 15, ∀ (q : Fin 32) (l : Fin 2048), hb (ix2 q l) = p (ix2 ⟨256 * n + 256 + q.val, by omega⟩ (gateLane l)))
    (h4 : ∀ h : n < 15, ∀ (q : Fin 32) (l : Fin 2048), hd (ix2 q l) = g (ix2 ⟨256 * n + 256 + q.val, by omega⟩ l))
    (r : Fin 256) (l : Fin 2048) :
    convAhead n b w d hd hb r l = underGrad p w g ⟨256 * n + r.val, by omega⟩ l := by
  unfold convAhead underGrad
  rw [rowsAhead_eq n b d hd hb p g hn h1 h2 h3 h4 0 (by omega), rowsAhead_eq n b d hd hb p g hn h1 h2 h3 h4 1 (by omega),
    rowsAhead_eq n b d hd hb p g hn h1 h2 h3 h4 2 (by omega)]
end

end Cert.Conv
-- ==== Proof.ShortConv.Forward.lean ====
/-
  What the forward convolution (region 1 of the kernel) leaves in its result array: the gated convolution.
-/
module

public import proofs.«01_k».proof.Proof.Gen.ShortConvIdeal.Frame.Region1
public import Idealize.ShloMosaic.Lib.Pipeline.ValueKit
public import Idealize.ShloMosaic.Lib.Pipeline.ReadBack
public import proofs.«01_k».proof.Proof.ShortConv.Dense
public import proofs.«01_k».proof.Proof.ShortConv.Window

@[expose] public section

set_option maxRecDepth 16384

noncomputable section

namespace Cert.Conv

open Cert.ShortConvIdeal Cert.ShortConvIdeal.Gen Idealize.ShloMosaic Idealize.ShloMosaic.TcCoe Idealize.SL.Sem
open Cert.Attention (Mat)

variable (c : Dev nD) (i : grid1.Coords) (arg1 : Memref sig .tc .vmem S256x2048 .bf16) (harg1 : arg1.IsWhole)
  (arg2 : Memref sig .tc .vmem S256x2048 .bf16) (harg2 : arg2.IsWhole) (arg3 : Memref sig .tc .vmem S256x2048 .bf16)
  (harg3 : arg3.IsWhole) (arg4 : Memref sig .tc .vmem S32x2048 .bf16) (harg4 : arg4.IsWhole)
  (arg5 : Memref sig .tc .vmem S32x2048 .bf16) (harg5 : arg5.IsWhole) (arg6 : Memref sig .tc .vmem S3x2048 .f32)
  (harg6 : arg6.IsWhole) (arg7 : Memref sig .tc .vmem S256x2048 .bf16) (harg7 : arg7.IsWhole)
  (arg8 : Memref sig .tc .vmem S288x512 .f32) (harg8 : arg8.IsWhole)

/-- What is stored for one group of lanes is that group of the gated convolution. -/
theorem mid_group (x0 x1 x2 : Blk) (x3 x4 : Side) (x5 : Taps) (off : ℕ) (ixb ihb i0 i1 i2) (n : ℕ)
    (H : Vec Ideal S32x512 .f32) (P : Work) (f : S256x512.Idx → EReal)
    (hf : ∀ r k, f (ix2 r k) = part off ixb x0 (ix2 r k) * tapsBack (joined H P) r k (tap2 x5 off i2) (tap1 x5 off i1) (tap0 x5 off i0))
    (hH : ∀ k q, H (ix2 q k) = edgeBefore k (edge off ihb x3) (edge off ihb x4) q n)
    (hP : ∀ k r, P (ix2 r k) = part off ixb x1 (ix2 r k) * part off ixb x2 (ix2 r k))
    (x : S256x512.Idx) (r : Fin 256) (l : Fin 2048) (e0 : r.val = (x 0).val) (e1 : l.val = off + (x 1).val) :
    f x = x0 (ix2 r l) * convBack n x1 x2 x3 x4 x5 r l := by
  obtain ⟨q, k, rfl⟩ : ∃ q k, x = ix2 q k := ⟨_, _, eq_ix2 x⟩
  obtain rfl : r = q := Fin.ext e0
  rw [hf, ld_part off ixb r k l e1, tapsBack_group n x1 x2 x3 x4 x5 off i0 i1 i2 r k l e1 _
    fun q => joined_rows n x1 x2 x3 x4 off ixb ihb H P k l e1 (hH k) (hP k) q]

/-- The gated convolution's block. -/
theorem out_mid (x0 x1 x2 : Blk) (x3 x4 : Side) (x5 : Taps) (y : S256x2048.Idx) :
    out1_A_6 c i arg1 harg1 arg2 harg2 arg3 harg3 arg4 harg4 arg5 harg5 arg6 harg6 arg7 harg7 arg8 harg8 x0 x1 x2 x3 x4 x5 y
      = x0 (ix2 (y 0) (y 1)) * convBack (i 0).val x1 x2 x3 x4 x5 (y 0) (y 1) := by
  frame_open
  simp only [↓ win_load]
  frame_out
  canon_tiles x h
  · exact mid_group x0 x1 x2 x3 x4 x5 1536 _ _ _ _ _ _ _ _ _ (fun r k => gated3 _ r k _ _ _ _) (fun k q => edge1_3 k _ _ q i)
      (fun k r => body1_3 r k _ _) x (y 0) (y 1) h0 h1
  · exact mid_group x0 x1 x2 x3 x4 x5 1024 _ _ _ _ _ _ _ _ _ (fun r k => gated2 _ r k _ _ _ _) (fun k q => edge1_2 k _ _ q i)
      (fun k r => body1_2 r k _ _) x (y 0) (y 1) h0 h1
  · exact mid_group x0 x1 x2 x3 x4 x5 512 _ _ _ _ _ _ _ _ _ (fun r k => gated1 _ r k _ _ _ _) (fun k q => edge1_1 k _ _ q i)
      (fun k r => body1_1 r k _ _) x (y 0) (y 1) h0 h1
  · exact mid_group x0 x1 x2 x3 x4 x5 0 _ _ _ _ _ _ _ _ _ (fun r k => gated0 _ r k _ _ _ _) (fun k q => edge1_0 k _ _ q i)
      (fun k r => body1_0 r k _ _) x (y 0) (y 1) h0 (h1.trans (Nat.zero_add _).symm)

variable (V : (c : Dev nD) → (b : Ref sig .tc) → Buf (Elt Ideal) ((c : Thread nD τ).loc b)) (c : Dev nD)

theorem idx1 : ∀ t : Fin cfg1.N, win1_0.index t = ![t.val, 0] ∧ win1_1.index t = ![t.val, 1] ∧ win1_2.index t = ![t.val, 2]
    ∧ win1_3.index t = ![8 * t.val - 1, 1] ∧ win1_4.index t = ![8 * t.val - 1, 2] ∧ win1_5.index t = ![0, 0]
    ∧ win1_6.index t = ![t.val, 0] ∧ (grid1.coords t 0).val = t.val ∧ t.val < 16 :=
  (by decide +kernel : ∀ t : Fin grid1.N, win1_0.index t = ![t.val, 0] ∧ win1_1.index t = ![t.val, 1] ∧ win1_2.index t = ![t.val, 2]
    ∧ win1_3.index t = ![8 * t.val - 1, 1] ∧ win1_4.index t = ![8 * t.val - 1, 2] ∧ win1_5.index t = ![0, 0]
    ∧ win1_6.index t = ![t.val, 0] ∧ (grid1.coords t 0).val = t.val ∧ t.val < 16)

/-- The taps' window is the whole array. -/
theorem taps_block (t : Fin cfg1.N) : iblk1 V c 5 t = V c main_arg2 := by
  funext x
  blk_ext [iblk1, idx1 t]

/-- Region 1's result array. -/
theorem mid_array : (dat1 V c).arrAt 6 cfg1.N = mid (V c main_v0) (V c main_arg2) := by
  refine (dat1 V c).arrAt_eq_of_covers 6 _ (by decide +kernel) fun t hf y => ?_
  obtain ⟨_, _, _, _, _, _, _, ht, hlt⟩ := idx1 t
  blk_simp
  rw [after1_6, outsAt1]
  refine (out_mid c _ _ _ _ _ _ _ _ _ _ _ _ _ _ _ _ _ _ _ _ _ _ _ y).trans ?_
  rw [ht, taps_block V c t]
  refine (congrArg (fun e : EReal => _ * e) (convBack_eq t.val _ _ _ _ _ (V c main_v0) hlt ?_ ?_ ?_ ?_ (y 0) (y 1))).trans ?_
  · intro r l
    unfold leftLane
    blk_ext [iblk1, idx1 t]
  · intro r l
    unfold rightLane
    blk_ext [iblk1, idx1 t]
  · intro h0 q l
    unfold leftLane
    blk_ext [iblk1, idx1 t]
  · intro h0 q l
    unfold rightLane
    blk_ext [iblk1, idx1 t]
  · unfold mid
    refine congrArg₂ (fun a b : EReal => a * b) ?_ (congrArg₂ (conv _ _) ?_ ?_)
    · unfold gateLane
      blk_ext [iblk1, idx1 t]
    · refine Fin.ext ?_
      blk_simp [idx1 t]
      exact congrArg (· + (y 0).val) (Nat.mul_comm 256 t.val)
    · refine Fin.ext ?_
      blk_simp [idx1 t]

end Cert.Conv
-- ==== Proof.ShortConv.GradPre.lean ====
/-
  What the backward convolution (region 5 of the kernel) leaves in its first result array: the projected rows' gradient.
-/
module

public import proofs.«01_k».proof.Proof.Gen.ShortConvIdeal.Frame.Region5
public import Idealize.ShloMosaic.Lib.Pipeline.ValueKit
public import Idealize.ShloMosaic.Lib.Pipeline.ReadBack
public import proofs.«01_k».proof.Proof.ShortConv.Dense
public import proofs.«01_k».proof.Proof.ShortConv.Window

@[expose] public section

set_option maxRecDepth 16384

noncomputable section

namespace Cert.Conv

open Cert.ShortConvIdeal Cert.ShortConvIdeal.Gen Idealize.ShloMosaic Idealize.ShloMosaic.TcCoe Idealize.SL.Sem
open Cert.Attention (Mat)

/-! ## One block -/

section
variable (n : ℕ) (x0 x1 x2 : Blk) (x3 x4 x5 : Side) (x6 : Blk) (x7 : Side) (x8 : Taps)

/-- The block's gradient: of the gate, of the first factor, of the second. -/
def preBlk (r : Fin 256) (m : Fin 6144) : EReal :=
  if h : m.val < 2048 then x6 (ix2 r ⟨m.val, h⟩) * convBack n x1 x2 x3 x4 x8 r ⟨m.val, h⟩
  else if h' : m.val < 4096 then convAhead n x0 x8 x6 x7 x5 r ⟨m.val - 2048, by omega⟩ * x2 (ix2 r ⟨m.val - 2048, by omega⟩)
  else convAhead n x0 x8 x6 x7 x5 r ⟨m.val - 4096, by omega⟩ * x1 (ix2 r ⟨m.val - 4096, by omega⟩)

theorem preBlk_gate (r : Fin 256) (m : Fin 6144) (l : Fin 2048) (e : m.val = l.val) :
    preBlk n x0 x1 x2 x3 x4 x5 x6 x7 x8 r m = x6 (ix2 r l) * convBack n x1 x2 x3 x4 x8 r l := by
  obtain rfl : m = ⟨l.val, by clear e; omega⟩ := Fin.ext e
  unfold preBlk
  rw [dif_pos (show l.val < 2048 by omega)]
theorem preBlk_left (r : Fin 256) (m : Fin 6144) (l : Fin 2048) (e : m.val = 2048 + l.val) :
    preBlk n x0 x1 x2 x3 x4 x5 x6 x7 x8 r m = convAhead n x0 x8 x6 x7 x5 r l * x2 (ix2 r l) := by
  obtain rfl : m = ⟨2048 + l.val, by clear e; omega⟩ := Fin.ext e
  unfold preBlk
  rw [dif_neg (show ¬ 2048 + l.val < 2048 by omega), dif_pos (show 2048 + l.val < 4096 by omega)]
  simp only [Nat.add_sub_cancel_left]
theorem preBlk_right (r : Fin 256) (m : Fin 6144) (l : Fin 2048) (e : m.val = 4096 + l.val) :
    preBlk n x0 x1 x2 x3 x4 x5 x6 x7 x8 r m = convAhead n x0 x8 x6 x7 x5 r l * x1 (ix2 r l) := by
  obtain rfl : m = ⟨4096 + l.val, by clear e; omega⟩ := Fin.ext e
  unfold preBlk
  rw [dif_neg (show ¬ 4096 + l.val < 2048 by omega), dif_neg (show ¬ 4096 + l.val < 4096 by omega)]
  simp only [Nat.add_sub_cancel_left]

variable (off : ℕ) (ho : off + 512 ≤ 2048) (ixb : ∀ a : Fin 2, ![0, off] a + ![256, 512] a ≤ ![256, 2048] a)
  (ihb : ∀ a : Fin 2, ![0, off] a + ![32, 512] a ≤ ![32, 2048] a)
  (i0 : ∀ a : Fin 2, ![0, off] a + ![1, 512] a ≤ ![3, 2048] a) (i1 : ∀ a : Fin 2, ![1, off] a + ![1, 512] a ≤ ![3, 2048] a)
  (i2 : ∀ a : Fin 2, ![2, off] a + ![1, 512] a ≤ ![3, 2048] a)
  (H : Vec Ideal S32x512 .f32) (P : Work) (f : S256x512.Idx → EReal)
include ho

/-- A group of the gate's gradient. -/
theorem gate_group
    (hf : ∀ r k, f (ix2 r k) = part off ixb x6 (ix2 r k) * tapsBack (joined H P) r k (tap2 x8 off i2) (tap1 x8 off i1) (tap0 x8 off i0))
    (hH : ∀ k q, H (ix2 q k) = edgeBefore k (edge off ihb x3) (edge off ihb x4) q n)
    (hP : ∀ k r, P (ix2 r k) = part off ixb x1 (ix2 r k) * part off ixb x2 (ix2 r k))
    (x : S256x512.Idx) (r : Fin 256) (m : Fin 6144) (e0 : r.val = (x 0).val) (e1 : m.val = off + (x 1).val) :
    f x = preBlk n x0 x1 x2 x3 x4 x5 x6 x7 x8 r m := by
  obtain ⟨q, k, rfl⟩ : ∃ q k, x = ix2 q k := ⟨_, _, eq_ix2 x⟩
  obtain rfl : r = q := Fin.ext e0
  rw [preBlk_gate n x0 x1 x2 x3 x4 x5 x6 x7 x8 r m ⟨off + k.val, by omega⟩ e1, hf, ld_part off ixb r k ⟨off + k.val, by omega⟩ rfl,
    tapsBack_group n x1 x2 x3 x4 x8 off i0 i1 i2 r k ⟨off + k.val, by omega⟩ rfl _
      fun q => joined_rows n x1 x2 x3 x4 off ixb ihb H P k _ rfl (hH k) (hP k) q]

/-- The taps over a group of the cotangent's window, times a factor. -/
theorem ahead_group (y : Blk)
    (hf : ∀ r k, f (ix2 r k) = tapsAhead (joinedAfter P H) r k (tap2 x8 off i2) (tap1 x8 off i1) (tap0 x8 off i0) * part off ixb y (ix2 r k))
    (hH : ∀ k q, H (ix2 q k) = edgeAfter k (edge off ihb x7) (edge off ihb x5) q n)
    (hP : ∀ k r, P (ix2 r k) = part off ixb x6 (ix2 r k) * part off ixb x0 (ix2 r k)) (r : Fin 256) (k : Fin 512) :
    f (ix2 r k) = convAhead n x0 x8 x6 x7 x5 r ⟨off + k.val, by omega⟩ * y (ix2 r ⟨off + k.val, by omega⟩) := by
  rw [hf, ld_part off ixb r k ⟨off + k.val, by omega⟩ rfl,
    tapsAhead_group n x0 x8 x6 x7 x5 off i0 i1 i2 r k ⟨off + k.val, by omega⟩ rfl _
      fun q => joinedAfter_rows n x0 x6 x7 x5 off ixb ihb H P k _ rfl (hP k) (hH k) q]

/-- A group of the first factor's gradient. -/
theorem left_group
    (hf : ∀ r k, f (ix2 r k) = tapsAhead (joinedAfter P H) r k (tap2 x8 off i2) (tap1 x8 off i1) (tap0 x8 off i0) * part off ixb x2 (ix2 r k))
    (hH : ∀ k q, H (ix2 q k) = edgeAfter k (edge off ihb x7) (edge off ihb x5) q n)
    (hP : ∀ k r, P (ix2 r k) = part off ixb x6 (ix2 r k) * part off ixb x0 (ix2 r k))
    (x : S256x512.Idx) (r : Fin 256) (m : Fin 6144) (e0 : r.val = (x 0).val) (e1 : m.val = 2048 + off + (x 1).val) :
    f x = preBlk n x0 x1 x2 x3 x4 x5 x6 x7 x8 r m := by
  obtain ⟨q, k, rfl⟩ : ∃ q k, x = ix2 q k := ⟨_, _, eq_ix2 x⟩
  obtain rfl : r = q := Fin.ext e0
  rw [preBlk_left n x0 x1 x2 x3 x4 x5 x6 x7 x8 r m ⟨off + k.val, by omega⟩ (e1.trans (Nat.add_assoc ..))]
  exact ahead_group n x0 x5 x6 x7 x8 off ho ixb ihb i0 i1 i2 H P f x2 hf hH hP r k
/-- A group of the second factor's gradient. -/
theorem right_group
    (hf : ∀ r k, f (ix2 r k) = tapsAhead (joinedAfter P H) r k (tap2 x8 off i2) (tap1 x8 off i1) (tap0 x8 off i0) * part off ixb x1 (ix2 r k))
    (hH : ∀ k q, H (ix2 q k) = edgeAfter k (edge off ihb x7) (edge off ihb x5) q n)
    (hP : ∀ k r, P (ix2 r k) = part off ixb x6 (ix2 r k) * part off ixb x0 (ix2 r k))
    (x : S256x512.Idx) (r : Fin 256) (m : Fin 6144) (e0 : r.val = (x 0).val) (e1 : m.val = 4096 + off + (x 1).val) :
    f x = preBlk n x0 x1 x2 x3 x4 x5 x6 x7 x8 r m := by
  obtain ⟨q, k, rfl⟩ : ∃ q k, x = ix2 q k := ⟨_, _, eq_ix2 x⟩
  obtain rfl : r = q := Fin.ext e0
  rw [preBlk_right n x0 x1 x2 x3 x4 x5 x6 x7 x8 r m ⟨off + k.val, by omega⟩ (e1.trans (Nat.add_assoc ..))]
  exact ahead_group n x0 x5 x6 x7 x8 off ho ixb ihb i0 i1 i2 H P f x1 hf hH hP r k
end

/-! ## What a point stores -/

section
variable (c : Dev nD) (i : grid5.Coords) (arg1 : Memref sig .tc .vmem S256x2048 .bf16) (harg1 : arg1.IsWhole)
  (arg2 : Memref sig .tc .vmem S256x2048 .bf16) (harg2 : arg2.IsWhole) (arg3 : Memref sig .tc .vmem S256x2048 .bf16)
  (harg3 : arg3.IsWhole) (arg4 : Memref sig .tc .vmem S32x2048 .bf16) (harg4 : arg4.IsWhole)
  (arg5 : Memref sig .tc .vmem S32x2048 .bf16) (harg5 : arg5.IsWhole) (arg6 : Memref sig .tc .vmem S32x2048 .bf16) (harg6 : arg6.IsWhole)
  (arg7 : Memref sig .tc .vmem S256x2048 .bf16) (harg7 : arg7.IsWhole) (arg8 : Memref sig .tc .vmem S32x2048 .bf16) (harg8 : arg8.IsWhole)
  (arg9 : Memref sig .tc .vmem S3x2048 .f32) (harg9 : arg9.IsWhole) (arg10 : Memref sig .tc .vmem S256x6144 .bf16) (harg10 : arg10.IsWhole)
  (arg11 : Memref sig .tc .vmem S3x2048 .f32) (harg11 : arg11.IsWhole)
  (arg12 : Memref sig .tc .vmem S288x512 .f32) (harg12 : arg12.IsWhole) (arg13 : Memref sig .tc .vmem S288x512 .f32) (harg13 : arg13.IsWhole)
  (x0 x1 x2 : Blk) (x3 x4 x5 : Side) (x6 : Blk) (x7 : Side) (x8 : Taps)

/-- The block's gradient at the first point. -/
theorem out_A_pre (hc0 : cond5_0 i) (y : S256x6144.Idx) :
    out5_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y
      = preBlk (i 0).val x0 x1 x2 x3 x4 x5 x6 x7 x8 (y 0) (y 1) := by
  frame_open
  simp only [↓ win_load, ↓ win_load_after]
  frame_out
  canon_tiles x h
  · exact right_group _ _ _ _ _ _ _ _ _ _ 1536 (by omega) _ _ _ _ _ _ _ _ (fun r k => right5_3 _ r k _ _ _ _)
      (fun k q => next5_3 k _ _ q i) (fun k r => cot5_3 r k _ _) x (y 0) (y 1) h0 h1
  · exact left_group _ _ _ _ _ _ _ _ _ _ 1536 (by omega) _ _ _ _ _ _ _ _ (fun r k => left5_3 _ r k _ _ _ _)
      (fun k q => next5_3 k _ _ q i) (fun k r => cot5_3 r k _ _) x (y 0) (y 1) h0 h1
  · exact gate_group _ _ _ _ _ _ _ _ _ _ 1536 (by omega) _ _ _ _ _ _ _ _ (fun r k => gate5_3 _ r k _ _ _ _)
      (fun k q => edge5_3 k _ _ q i) (fun k r => body5_3 r k _ _) x (y 0) (y 1) h0 h1
  · exact right_group _ _ _ _ _ _ _ _ _ _ 1024 (by omega) _ _ _ _ _ _ _ _ (fun r k => right5_2 _ r k _ _ _ _)
      (fun k q => next5_2 k _ _ q i) (fun k r => cot5_2 r k _ _) x (y 0) (y 1) h0 h1
  · exact left_group _ _ _ _ _ _ _ _ _ _ 1024 (by omega) _ _ _ _ _ _ _ _ (fun r k => left5_2 _ r k _ _ _ _)
      (fun k q => next5_2 k _ _ q i) (fun k r => cot5_2 r k _ _) x (y 0) (y 1) h0 h1
  · exact gate_group _ _ _ _ _ _ _ _ _ _ 1024 (by omega) _ _ _ _ _ _ _ _ (fun r k => gate5_2 _ r k _ _ _ _)
      (fun k q => edge5_2 k _ _ q i) (fun k r => body5_2 r k _ _) x (y 0) (y 1) h0 h1
  · exact right_group _ _ _ _ _ _ _ _ _ _ 512 (by omega) _ _ _ _ _ _ _ _ (fun r k => right5_1 _ r k _ _ _ _)
      (fun k q => next5_1 k _ _ q i) (fun k r => cot5_1 r k _ _) x (y 0) (y 1) h0 h1
  · exact left_group _ _ _ _ _ _ _ _ _ _ 512 (by omega) _ _ _ _ _ _ _ _ (fun r k => left5_1 _ r k _ _ _ _)
      (fun k q => next5_1 k _ _ q i) (fun k r => cot5_1 r k _ _) x (y 0) (y 1) h0 h1
  · exact gate_group _ _ _ _ _ _ _ _ _ _ 512 (by omega) _ _ _ _ _ _ _ _ (fun r k => gate5_1 _ r k _ _ _ _)
      (fun k q => edge5_1 k _ _ q i) (fun k r => body5_1 r k _ _) x (y 0) (y 1) h0 h1
  · exact right_group _ _ _ _ _ _ _ _ _ _ 0 (by omega) _ _ _ _ _ _ _ _ (fun r k => right5_0 _ r k _ _ _ _)
      (fun k q => next5_0 k _ _ q i) (fun k r => cot5_0 r k _ _) x (y 0) (y 1) h0 h1
  · exact left_group _ _ _ _ _ _ _ _ _ _ 0 (by omega) _ _ _ _ _ _ _ _ (fun r k => left5_0 _ r k _ _ _ _)
      (fun k q => next5_0 k _ _ q i) (fun k r => cot5_0 r k _ _) x (y 0) (y 1) h0 h1
  · exact gate_group _ _ _ _ _ _ _ _ _ _ 0 (by omega) _ _ _ _ _ _ _ _ (fun r k => gate5_0 _ r k _ _ _ _)
      (fun k q => edge5_0 k _ _ q i) (fun k r => body5_0 r k _ _) x (y 0) (y 1) h0 (h1.trans (Nat.zero_add _).symm)

/-- The block's gradient at a later point. -/
theorem out_B_pre (hc0 : ¬cond5_0 i) (xo : Taps) (y : S256x6144.Idx) :
    out5_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo y
      = preBlk (i 0).val x0 x1 x2 x3 x4 x5 x6 x7 x8 (y 0) (y 1) := by
  frame_open
  simp only [↓ win_load, ↓ win_load_after]
  frame_out
  canon_tiles x h
  · exact right_group _ _ _ _ _ _ _ _ _ _ 1536 (by omega) _ _ _ _ _ _ _ _ (fun r k => right5_3 _ r k _ _ _ _)
      (fun k q => next5_3 k _ _ q i) (fun k r => cot5_3 r k _ _) x (y 0) (y 1) h0 h1
  · exact left_group _ _ _ _ _ _ _ _ _ _ 1536 (by omega) _ _ _ _ _ _ _ _ (fun r k => left5_3 _ r k _ _ _ _)
      (fun k q => next5_3 k _ _ q i) (fun k r => cot5_3 r k _ _) x (y 0) (y 1) h0 h1
  · exact gate_group _ _ _ _ _ _ _ _ _ _ 1536 (by omega) _ _ _ _ _ _ _ _ (fun r k => gate5_3 _ r k _ _ _ _)
      (fun k q => edge5_3 k _ _ q i) (fun k r => body5_3 r k _ _) x (y 0) (y 1) h0 h1
  · exact right_group _ _ _ _ _ _ _ _ _ _ 1024 (by omega) _ _ _ _ _ _ _ _ (fun r k => right5_2 _ r k _ _ _ _)
      (fun k q => next5_2 k _ _ q i) (fun k r => cot5_2 r k _ _) x (y 0) (y 1) h0 h1
  · exact left_group _ _ _ _ _ _ _ _ _ _ 1024 (by omega) _ _ _ _ _ _ _ _ (fun r k => left5_2 _ r k _ _ _ _)
      (fun k q => next5_2 k _ _ q i) (fun k r => cot5_2 r k _ _) x (y 0) (y 1) h0 h1
  · exact gate_group _ _ _ _ _ _ _ _ _ _ 1024 (by omega) _ _ _ _ _ _ _ _ (fun r k => gate5_2 _ r k _ _ _ _)
      (fun k q => edge5_2 k _ _ q i) (fun k r => body5_2 r k _ _) x (y 0) (y 1) h0 h1
  · exact right_group _ _ _ _ _ _ _ _ _ _ 512 (by omega) _ _ _ _ _ _ _ _ (fun r k => right5_1 _ r k _ _ _ _)
      (fun k q => next5_1 k _ _ q i) (fun k r => cot5_1 r k _ _) x (y 0) (y 1) h0 h1
  · exact left_group _ _ _ _ _ _ _ _ _ _ 512 (by omega) _ _ _ _ _ _ _ _ (fun r k => left5_1 _ r k _ _ _ _)
      (fun k q => next5_1 k _ _ q i) (fun k r => cot5_1 r k _ _) x (y 0) (y 1) h0 h1
  · exact gate_group _ _ _ _ _ _ _ _ _ _ 512 (by omega) _ _ _ _ _ _ _ _ (fun r k => gate5_1 _ r k _ _ _ _)
      (fun k q => edge5_1 k _ _ q i) (fun k r => body5_1 r k _ _) x (y 0) (y 1) h0 h1
  · exact right_group _ _ _ _ _ _ _ _ _ _ 0 (by omega) _ _ _ _ _ _ _ _ (fun r k => right5_0 _ r k _ _ _ _)
      (fun k q => next5_0 k _ _ q i) (fun k r => cot5_0 r k _ _) x (y 0) (y 1) h0 h1
  · exact left_group _ _ _ _ _ _ _ _ _ _ 0 (by omega) _ _ _ _ _ _ _ _ (fun r k => left5_0 _ r k _ _ _ _)
      (fun k q => next5_0 k _ _ q i) (fun k r => cot5_0 r k _ _) x (y 0) (y 1) h0 h1
  · exact gate_group _ _ _ _ _ _ _ _ _ _ 0 (by omega) _ _ _ _ _ _ _ _ (fun r k => gate5_0 _ r k _ _ _ _)
      (fun k q => edge5_0 k _ _ q i) (fun k r => body5_0 r k _ _) x (y 0) (y 1) h0 (h1.trans (Nat.zero_add _).symm)

end

/-! ## The whole array -/

variable (V : (c : Dev nD) → (b : Ref sig .tc) → Buf (Elt Ideal) ((c : Thread nD τ).loc b)) (c : Dev nD)

theorem idx5 : ∀ t : Fin cfg5.N, win5_0.index t = ![t.val, 0] ∧ win5_1.index t = ![t.val, 1] ∧ win5_2.index t = ![t.val, 2]
    ∧ win5_3.index t = ![8 * t.val - 1, 1] ∧ win5_4.index t = ![8 * t.val - 1, 2] ∧ win5_5.index t = ![min (8 * t.val + 8) 127, 0]
    ∧ win5_6.index t = ![t.val, 0] ∧ win5_7.index t = ![min (8 * t.val + 8) 127, 0] ∧ win5_8.index t = ![0, 0]
    ∧ win5_9.index t = ![t.val, 0] ∧ (grid5.coords t 0).val = t.val ∧ t.val < 16 :=
  (by decide +kernel : ∀ t : Fin grid5.N, win5_0.index t = ![t.val, 0] ∧ win5_1.index t = ![t.val, 1] ∧ win5_2.index t = ![t.val, 2]
    ∧ win5_3.index t = ![8 * t.val - 1, 1] ∧ win5_4.index t = ![8 * t.val - 1, 2] ∧ win5_5.index t = ![min (8 * t.val + 8) 127, 0]
    ∧ win5_6.index t = ![t.val, 0] ∧ win5_7.index t = ![min (8 * t.val + 8) 127, 0] ∧ win5_8.index t = ![0, 0]
    ∧ win5_9.index t = ![t.val, 0] ∧ (grid5.coords t 0).val = t.val ∧ t.val < 16)

/-- The taps' window is the whole array. -/
theorem taps_block5 (t : Fin cfg5.N) : iblk5 V c 8 t = V c main_arg2 := by
  funext x
  blk_ext [iblk5, idx5 t]

theorem blk5_gate (t : Fin cfg5.N) (hn : t.val < 16) : IsBlk t.val (V c main_v0) hn (iblk5 V c 0 t) gateLane := fun r l => by
  unfold gateLane
  blk_ext [iblk5, idx5 t]
theorem blk5_left (t : Fin cfg5.N) (hn : t.val < 16) : IsBlk t.val (V c main_v0) hn (iblk5 V c 1 t) leftLane := fun r l => by
  unfold leftLane
  blk_ext [iblk5, idx5 t]
theorem blk5_right (t : Fin cfg5.N) (hn : t.val < 16) : IsBlk t.val (V c main_v0) hn (iblk5 V c 2 t) rightLane := fun r l => by
  unfold rightLane
  blk_ext [iblk5, idx5 t]
theorem side5_left (t : Fin cfg5.N) (hn : t.val < 16) : IsBefore t.val (V c main_v0) hn (iblk5 V c 3 t) leftLane := fun h0 q l => by
  unfold leftLane
  blk_ext [iblk5, idx5 t]
theorem side5_right (t : Fin cfg5.N) (hn : t.val < 16) : IsBefore t.val (V c main_v0) hn (iblk5 V c 4 t) rightLane := fun h0 q l => by
  unfold rightLane
  blk_ext [iblk5, idx5 t]
theorem side5_gate (t : Fin cfg5.N) (h : t.val < 15) (q : Fin 32) (l : Fin 2048) :
    iblk5 V c 5 t (ix2 q l) = V c main_v0 (ix2 ⟨256 * t.val + 256 + q.val, by omega⟩ (gateLane l)) := by
  unfold gateLane
  blk_ext [iblk5, idx5 t]
theorem blk5_cot (t : Fin cfg5.N) (hn : t.val < 16) (r : Fin 256) (l : Fin 2048) :
    iblk5 V c 6 t (ix2 r l) = V c main_v3 (ix2 ⟨256 * t.val + r.val, by omega⟩ l) := by
  blk_ext [iblk5, idx5 t]
theorem side5_cot (t : Fin cfg5.N) (h : t.val < 15) (q : Fin 32) (l : Fin 2048) :
    iblk5 V c 7 t (ix2 q l) = V c main_v3 (ix2 ⟨256 * t.val + 256 + q.val, by omega⟩ l) := by
  blk_ext [iblk5, idx5 t]

/-- The convolution of a block's rows. -/
theorem conv5 (t : Fin cfg5.N) (hn : t.val < 16) (r : Fin 256) (l : Fin 2048) :
    convBack t.val (iblk5 V c 1 t) (iblk5 V c 2 t) (iblk5 V c 3 t) (iblk5 V c 4 t) (V c main_arg2) r l
      = conv (V c main_v0) (V c main_arg2) ⟨256 * t.val + r.val, by omega⟩ l :=
  convBack_eq t.val _ _ _ _ _ (V c main_v0) hn (blk5_left V c t hn) (blk5_right V c t hn) (side5_left V c t hn) (side5_right V c t hn) r l
/-- The gradient of what the convolution runs over, of a block's rows. -/
theorem under5 (t : Fin cfg5.N) (hn : t.val < 16) (r : Fin 256) (l : Fin 2048) :
    convAhead t.val (iblk5 V c 0 t) (V c main_arg2) (iblk5 V c 6 t) (iblk5 V c 7 t) (iblk5 V c 5 t) r l
      = underGrad (V c main_v0) (V c main_arg2) (V c main_v3) ⟨256 * t.val + r.val, by omega⟩ l :=
  convAhead_eq t.val _ _ _ _ _ (V c main_v0) (V c main_v3) hn (blk5_gate V c t hn) (blk5_cot V c t hn) (side5_gate V c t)
    (side5_cot V c t) r l

/-- A block's gradient is the whole one's rows. -/
theorem preBlk_eq (t : Fin cfg5.N) (hn : t.val < 16) (r : Fin 256) (m : Fin 6144) :
    preBlk t.val (iblk5 V c 0 t) (iblk5 V c 1 t) (iblk5 V c 2 t) (iblk5 V c 3 t) (iblk5 V c 4 t) (iblk5 V c 5 t) (iblk5 V c 6 t)
      (iblk5 V c 7 t) (V c main_arg2) r m
      = preGradAt (V c main_v0) (V c main_arg2) (V c main_v3) ⟨256 * t.val + r.val, by omega⟩ m := by
  unfold preBlk preGradAt
  simp only [conv5 V c t hn, under5 V c t hn, blk5_left V c t hn r, blk5_right V c t hn r, blk5_cot V c t hn r]

/-- The block's gradient after any point. -/
theorem outs_pre (t : Fin cfg5.N) (y : S256x6144.Idx) : (outsAt5 V c t.val t.isLt).1 y
    = preBlk (grid5.coords t 0).val (iblk5 V c 0 t) (iblk5 V c 1 t) (iblk5 V c 2 t) (iblk5 V c 3 t) (iblk5 V c 4 t) (iblk5 V c 5 t)
      (iblk5 V c 6 t) (iblk5 V c 7 t) (iblk5 V c 8 t) (y 0) (y 1) := by
  by_cases h : t.val % 16 = 0
  · rw [outsAt5_A V c t h]; dsimp only; rw [out_A_pre]
  · rw [outsAt5_B V c t h]; dsimp only; rw [out_B_pre]

/-- THE PROJECTED ROWS' GRADIENT as the kernel leaves it. -/
theorem pre_grad_array : (dat5 V c).arrAt 9 cfg5.N = preGrad (V c main_v0) (V c main_arg2) (V c main_v3) := by
  refine (dat5 V c).arrAt_eq_of_covers 9 _ (by decide +kernel) fun t hf y => ?_
  obtain ⟨_, _, _, _, _, _, _, _, _, _, ht, hlt⟩ := idx5 t
  blk_simp
  rw [after5_9, outs_pre, taps_block5, ht]
  refine (preBlk_eq V c t hlt (y 0) (y 1)).trans ?_
  unfold preGrad
  refine congrArg₂ (preGradAt _ _ _) (Fin.ext ?_) (Fin.ext ?_)
  · blk_simp [idx5 t]
    exact congrArg (· + (y 0).val) (Nat.mul_comm 256 t.val)
  · blk_simp [idx5 t]

end Cert.Conv
-- ==== Proof.ShortConv.GradTaps.lean ====
/-
  What the backward convolution (region 5 of the kernel) leaves in its second result array: the taps' gradient,
  accumulated over the blocks.
-/
module

public import proofs.«01_k».proof.Proof.Gen.ShortConvIdeal.Frame.Region5
public import Idealize.ShloMosaic.Lib.Pipeline.ValueKit
public import Idealize.ShloMosaic.Lib.Pipeline.ReadBack
public import proofs.«01_k».proof.Proof.ShortConv.Dense
public import proofs.«01_k».proof.Proof.ShortConv.GradPre

@[expose] public section

set_option maxRecDepth 16384

noncomputable section

namespace Cert.Conv

open Cert.ShortConvIdeal Cert.ShortConvIdeal.Gen Idealize.ShloMosaic Idealize.ShloMosaic.TcCoe Idealize.SL.Sem
open Cert.Attention (Mat)

/-! ## One block -/

section
variable (n : ℕ) (x0 x1 x2 : Blk) (x3 x4 : Side) (x6 : Blk)

/-- What a block of rows adds to tap `s`. -/
def tapBlk (s : Fin 3) (l : Fin 2048) : EReal :=
  ∑ r : Fin 256, x6 (ix2 r l) * x0 (ix2 r l) * rowsBack n x1 x2 x3 x4 ⟨32 + r.val - (2 - s.val), by omega⟩ l

/-- A stored group's index, placed. -/
theorem placed3 (s off : ℕ) (inb : ∀ b : Fin 2, ![s, off] b + ![1, 512] b ≤ S3x2048.size b) (x : S1x512.Idx) :
    ((Rect.unit (s := S3x2048) ![s, off] ![1, 512] inb).emb x 0).val = s + (x 0).val
      ∧ ((Rect.unit (s := S3x2048) ![s, off] ![1, 512] inb).emb x 1).val = off + (x 1).val :=
  ⟨by rw [ValueKit.rect_emb_unit_val]; rfl, by rw [ValueKit.rect_emb_unit_val]; rfl⟩

/-- One stored group of one tap: what was there and this block's rows. -/
theorem tap_piece (a : Taps) (s : ℕ) (v : Fin 3) (hv : v.val = 2 - s) (hs : s < 3) (off : ℕ) (ho : off + 512 ≤ 2048) (ixb ihb)
    (inb : ∀ b : Fin 2, ![s, off] b + ![1, 512] b ≤ S3x2048.size b) (H : Vec Ideal S32x512 .f32) (P : Work) (f : S1x512.Idx → EReal)
    (hf : ∀ k, f (ix2 0 k) = View.ld a (Rect.unit (s := S3x2048) ![s, off] ![1, 512] inb) (ix2 0 k)
      + tapSum (joined H P) k (part off ixb x0) (part off ixb x6) v)
    (hH : ∀ k q, H (ix2 q k) = edgeBefore k (edge off ihb x3) (edge off ihb x4) q n)
    (hP : ∀ k r, P (ix2 r k) = part off ixb x1 (ix2 r k) * part off ixb x2 (ix2 r k)) (x : S1x512.Idx) :
    f x = a ((Rect.unit (s := S3x2048) ![s, off] ![1, 512] inb).emb x)
      + tapBlk n x0 x1 x2 x3 x4 x6 ((Rect.unit (s := S3x2048) ![s, off] ![1, 512] inb).emb x 0)
          ((Rect.unit (s := S3x2048) ![s, off] ![1, 512] inb).emb x 1) := by
  obtain ⟨q, k, rfl⟩ : ∃ q k, x = ix2 q k := ⟨_, _, eq_ix2 x⟩
  obtain rfl : q = 0 := Subsingleton.elim _ _
  have h0 : ((Rect.unit (s := S3x2048) ![s, off] ![1, 512] inb).emb (ix2 0 k) 0) = (⟨s, hs⟩ : Fin 3) :=
    Fin.ext (placed3 s off inb (ix2 0 k)).1
  have h1 : ((Rect.unit (s := S3x2048) ![s, off] ![1, 512] inb).emb (ix2 0 k) 1) = (⟨off + k.val, by omega⟩ : Fin 2048) :=
    Fin.ext (placed3 s off inb (ix2 0 k)).2
  rw [h0, h1, hf]
  refine congrArg (View.ld a (Rect.unit (s := S3x2048) ![s, off] ![1, 512] inb) (ix2 0 k) + ·) (Finset.sum_congr rfl fun r _ => ?_)
  rw [ld_part off ixb r k ⟨off + k.val, by omega⟩ rfl, ld_part off ixb r k ⟨off + k.val, by omega⟩ rfl]
  unfold back
  rw [joined_rows n x1 x2 x3 x4 off ixb ihb H P k ⟨off + k.val, by omega⟩ rfl (hH k) (hP k)]
  simp only [hv]
end

/-! ## What a point stores -/

section
variable (c : Dev nD) (i : grid5.Coords) (arg1 : Memref sig .tc .vmem S256x2048 .bf16) (harg1 : arg1.IsWhole)
  (arg2 : Memref sig .tc .vmem S256x2048 .bf16) (harg2 : arg2.IsWhole) (arg3 : Memref sig .tc .vmem S256x2048 .bf16)
  (harg3 : arg3.IsWhole) (arg4 : Memref sig .tc .vmem S32x2048 .bf16) (harg4 : arg4.IsWhole)
  (arg5 : Memref sig .tc .vmem S32x2048 .bf16) (harg5 : arg5.IsWhole) (arg6 : Memref sig .tc .vmem S32x2048 .bf16) (harg6 : arg6.IsWhole)
  (arg7 : Memref sig .tc .vmem S256x2048 .bf16) (harg7 : arg7.IsWhole) (arg8 : Memref sig .tc .vmem S32x2048 .bf16) (harg8 : arg8.IsWhole)
  (arg9 : Memref sig .tc .vmem S3x2048 .f32) (harg9 : arg9.IsWhole) (arg10 : Memref sig .tc .vmem S256x6144 .bf16) (harg10 : arg10.IsWhole)
  (arg11 : Memref sig .tc .vmem S3x2048 .f32) (harg11 : arg11.IsWhole)
  (arg12 : Memref sig .tc .vmem S288x512 .f32) (harg12 : arg12.IsWhole) (arg13 : Memref sig .tc .vmem S288x512 .f32) (harg13 : arg13.IsWhole)
  (x0 x1 x2 : Blk) (x3 x4 x5 : Side) (x6 : Blk) (x7 : Side) (x8 : Taps)

/-- The twelve pieces a point stores into the taps' gradient, over the contents `a` it found there. -/
def tapPieces (a : Taps) : List (View.Piece (Elt Ideal) S3x2048 .f32) :=
  let A (s off : ℕ) (inb) : Tap := View.ld a (Rect.unit ![s, off] ![1, 512] inb)
  let L (x : Blk) (off : ℕ) (inb) : Part := View.ld x (Rect.unit ![0, off] ![256, 512] inb)
  let E (x : Side) (off : ℕ) (inb) : Edge := View.ld x (Rect.unit ![0, off] ![32, 512] inb)
  let W0 : Win := joined (k5_pay6 i (E x3 0 inb_S32x2048_S32x512_0_0) (E x4 0 inb_S32x2048_S32x512_0_0))
        (k5_pay7 (L x1 0 inb_S256x2048_S256x512_0_0) (L x2 0 inb_S256x2048_S256x512_0_0))
  let W1 : Win := joined (k5_pay30 (k5_pay29 (BitVec.ofNat 32 (i 0).val) (E x3 512 inb_S32x2048_S32x512_0_512) (E x4 512 inb_S32x2048_S32x512_0_512)))
        (k5_pay31 (k5_pay25 (L x1 512 inb_S256x2048_S256x512_0_512)) (k5_pay26 (L x2 512 inb_S256x2048_S256x512_0_512)))
  let W2 : Win := joined (k5_pay55 (BitVec.ofNat 32 (i 0).val) (E x3 1024 inb_S32x2048_S32x512_0_1024) (E x4 1024 inb_S32x2048_S32x512_0_1024))
        (k5_pay56 (k5_pay51 (L x1 1024 inb_S256x2048_S256x512_0_1024)) (k5_pay52 (L x2 1024 inb_S256x2048_S256x512_0_1024)))
  let W3 : Win := joined (k5_pay75 (BitVec.ofNat 32 (i 0).val) (E x3 1536 inb_S32x2048_S32x512_0_1536) (E x4 1536 inb_S32x2048_S32x512_0_1536))
        (k5_pay76 (k5_pay72 (L x1 1536 inb_S256x2048_S256x512_0_1536)) (L x2 1536 inb_S256x2048_S256x512_0_1536))
  let D0 : Work := k5_pay8 (L x0 0 inb_S256x2048_S256x512_0_0) (L x6 0 inb_S256x2048_S256x512_0_0)
  let D2 : Work := k5_pay57 (k5_pay53 (L x0 1024 inb_S256x2048_S256x512_0_1024)) (k5_pay54 (L x6 1024 inb_S256x2048_S256x512_0_1024))
  let D3 : Work := k5_pay77 (L x0 1536 inb_S256x2048_S256x512_0_1536) (L x6 1536 inb_S256x2048_S256x512_0_1536)
  let B1 : Work := k5_pay27 (L x0 512 inb_S256x2048_S256x512_0_512)
  let C1 : Work := k5_pay28 (L x6 512 inb_S256x2048_S256x512_0_512)
  [⟨Rect.unit ![0, 1536] ![1, 512] inb_S3x2048_S1x512_0_1536, k5_pay87 D3 (k5_pay86 W3) (A 0 1536 inb_S3x2048_S1x512_0_1536)⟩,
    ⟨Rect.unit ![1, 1536] ![1, 512] inb_S3x2048_S1x512_1_1536, k5_pay85 D3 W3 (A 1 1536 inb_S3x2048_S1x512_1_1536)⟩,
    ⟨Rect.unit ![2, 1536] ![1, 512] inb_S3x2048_S1x512_2_1536, k5_pay82 D3 W3 (A 2 1536 inb_S3x2048_S1x512_2_1536)⟩,
    ⟨Rect.unit ![0, 1024] ![1, 512] inb_S3x2048_S1x512_0_1024, k5_pay67 D2 W2 (A 0 1024 inb_S3x2048_S1x512_0_1024)⟩,
    ⟨Rect.unit ![1, 1024] ![1, 512] inb_S3x2048_S1x512_1_1024, k5_pay64 D2 W2 (A 1 1024 inb_S3x2048_S1x512_1_1024)⟩,
    ⟨Rect.unit ![2, 1024] ![1, 512] inb_S3x2048_S1x512_2_1024, k5_pay62 D2 W2 (A 2 1024 inb_S3x2048_S1x512_2_1024)⟩,
    ⟨Rect.unit ![0, 512] ![1, 512] inb_S3x2048_S1x512_0_512, k5_pay44 (k5_pay32 B1 C1) W1 (A 0 512 inb_S3x2048_S1x512_0_512)⟩,
    ⟨Rect.unit ![1, 512] ![1, 512] inb_S3x2048_S1x512_1_512, k5_pay41 (k5_pay32 B1 C1) W1 (A 1 512 inb_S3x2048_S1x512_1_512)⟩,
    ⟨Rect.unit ![2, 512] ![1, 512] inb_S3x2048_S1x512_2_512, k5_pay39 (k5_pay37 (A 2 512 inb_S3x2048_S1x512_2_512)) (k5_pay38 B1 C1 W1)⟩,
    ⟨Rect.unit ![0, 0] ![1, 512] inb_S3x2048_S1x512_0_0, k5_pay18 D0 W0 (A 0 0 inb_S3x2048_S1x512_0_0)⟩,
    ⟨Rect.unit ![1, 0] ![1, 512] inb_S3x2048_S1x512_1_0, k5_pay15 D0 (k5_pay13 W0) (A 1 0 inb_S3x2048_S1x512_1_0)⟩,
    ⟨Rect.unit ![2, 0] ![1, 512] inb_S3x2048_S1x512_2_0, k5_pay12 D0 W0 (A 2 0 inb_S3x2048_S1x512_2_0)⟩]

/-- Each piece is its part of what was there and this block's rows. -/
theorem tapPieces_of (a : Taps) :
    View.PiecesOf (fun y => a y + tapBlk (i 0).val x0 x1 x2 x3 x4 x6 (y 0) (y 1)) (tapPieces i x0 x1 x2 x3 x4 x6 a) :=
  ⟨tap_piece _ _ _ _ _ _ _ a 0 2 rfl (by omega) 1536 (by omega) _ _ _ _ _ _ (fun k => tap5_32 _ k _ _ _) (fun k q => edge5_3 k _ _ q i) (fun k r => body5_3 r k _ _),
    tap_piece _ _ _ _ _ _ _ a 1 1 rfl (by omega) 1536 (by omega) _ _ _ _ _ _ (fun k => tap5_31 _ k _ _ _) (fun k q => edge5_3 k _ _ q i) (fun k r => body5_3 r k _ _),
    tap_piece _ _ _ _ _ _ _ a 2 0 rfl (by omega) 1536 (by omega) _ _ _ _ _ _ (fun k => tap5_30 _ k _ _ _) (fun k q => edge5_3 k _ _ q i) (fun k r => body5_3 r k _ _),
    tap_piece _ _ _ _ _ _ _ a 0 2 rfl (by omega) 1024 (by omega) _ _ _ _ _ _ (fun k => tap5_22 _ k _ _ _) (fun k q => edge5_2 k _ _ q i) (fun k r => body5_2 r k _ _),
    tap_piece _ _ _ _ _ _ _ a 1 1 rfl (by omega) 1024 (by omega) _ _ _ _ _ _ (fun k => tap5_21 _ k _ _ _) (fun k q => edge5_2 k _ _ q i) (fun k r => body5_2 r k _ _),
    tap_piece _ _ _ _ _ _ _ a 2 0 rfl (by omega) 1024 (by omega) _ _ _ _ _ _ (fun k => tap5_20 _ k _ _ _) (fun k q => edge5_2 k _ _ q i) (fun k r => body5_2 r k _ _),
    tap_piece _ _ _ _ _ _ _ a 0 2 rfl (by omega) 512 (by omega) _ _ _ _ _ _ (fun k => tap5_12 _ k _ _ _) (fun k q => edge5_1 k _ _ q i) (fun k r => body5_1 r k _ _),
    tap_piece _ _ _ _ _ _ _ a 1 1 rfl (by omega) 512 (by omega) _ _ _ _ _ _ (fun k => tap5_11 _ k _ _ _) (fun k q => edge5_1 k _ _ q i) (fun k r => body5_1 r k _ _),
    tap_piece _ _ _ _ _ _ _ a 2 0 rfl (by omega) 512 (by omega) _ _ _ _ _ _ (fun k => tap5_10 _ k _ _ _) (fun k q => edge5_1 k _ _ q i) (fun k r => body5_1 r k _ _),
    tap_piece _ _ _ _ _ _ _ a 0 2 rfl (by omega) 0 (by omega) _ _ _ _ _ _ (fun k => tap5_02 _ k _ _ _) (fun k q => edge5_0 k _ _ q i) (fun k r => body5_0 r k _ _),
    tap_piece _ _ _ _ _ _ _ a 1 1 rfl (by omega) 0 (by omega) _ _ _ _ _ _ (fun k => tap5_01 _ k _ _ _) (fun k q => edge5_0 k _ _ q i) (fun k r => body5_0 r k _ _),
    tap_piece _ _ _ _ _ _ _ a 2 0 rfl (by omega) 0 (by omega) _ _ _ _ _ _ (fun k => tap5_00 _ k _ _ _) (fun k q => edge5_0 k _ _ q i) (fun k r => body5_0 r k _ _), trivial⟩

/-- The twelve pieces, over any earlier store, leave what was there and this block's rows. -/
theorem canon_tapPieces (a : Taps) (L : List (View.Piece (Elt Ideal) S3x2048 .f32)) (y : S3x2048.Idx) :
    View.canon (tapPieces i x0 x1 x2 x3 x4 x6 a ++ L) y = a y + tapBlk (i 0).val x0 x1 x2 x3 x4 x6 (y 0) (y 1) :=
  View.canon_append_of_piecesOf _ L _ (tapPieces_of i x0 x1 x2 x3 x4 x6 a) y
    (View.cover_of_tiledL (tapPieces i x0 x1 x2 x3 x4 x6 a) ![1, 512] (by sl_kernel_rfl) y)

/-- The taps' gradient at a later point: what was there and this block's rows. -/
theorem out_B_tap (hc0 : ¬cond5_0 i) (xo : Taps) (y : S3x2048.Idx) :
    out5_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo y
      = xo y + tapBlk (i 0).val x0 x1 x2 x3 x4 x6 (y 0) (y 1) := by
  frame_open
  simp (disch := decide) only [↓ win_load, ↓ win_load_after, ↓ View.readCov_skip, ↓ View.readCov_cons_toLoadRect, ↓ View.readCov_fill]
  frame_out
  exact canon_tapPieces i x0 x1 x2 x3 x4 x6 xo [] y

/-- The taps' gradient at the first point: zero and this block's rows. -/
theorem out_A_tap (hc0 : cond5_0 i) (y : S3x2048.Idx) :
    out5_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y
      = 0 + tapBlk (i 0).val x0 x1 x2 x3 x4 x6 (y 0) (y 1) := by
  frame_open
  simp (disch := decide) only [↓ win_load, ↓ win_load_after, ↓ View.readCov_skip, ↓ View.readCov_cons_toLoadRect, ↓ View.readCov_fill]
  frame_out
  have e : (k5_pay2 (F := Ideal) y : EReal) = 0 := by
    obtain ⟨r, l, rfl⟩ : ∃ r l, y = ix2 r l := ⟨_, _, eq_ix2 y⟩
    pointwise [k5_pay2]
  have h := canon_tapPieces i x0 x1 x2 x3 x4 x6 (k5_pay2 (F := Ideal))
    [⟨Rect.unit ![0, 0] ![3, 2048] inb_S3x2048_S3x2048_0_0, k5_pay2 (F := Ideal)⟩] y
  rw [e] at h
  simp only [tapPieces, List.cons_append, List.nil_append] at h
  exact h
end

/-! ## The whole array -/

variable (V : (c : Dev nD) → (b : Ref sig .tc) → Buf (Elt Ideal) ((c : Thread nD τ).loc b)) (c : Dev nD)

/-- The taps' gradient after the first point. -/
theorem outs_tap_first (t : Fin cfg5.N) (h : t.val % 16 = 0) (y : S3x2048.Idx) : (outsAt5 V c t.val t.isLt).2 y
    = 0 + tapBlk (grid5.coords t 0).val (iblk5 V c 0 t) (iblk5 V c 1 t) (iblk5 V c 2 t) (iblk5 V c 3 t) (iblk5 V c 4 t)
      (iblk5 V c 6 t) (y 0) (y 1) := by
  rw [outsAt5_A V c t h]
  dsimp only
  rw [out_A_tap]

/-- The taps' gradient after a later point. -/
theorem outs_tap_next (t : Fin cfg5.N) (h : ¬t.val % 16 = 0) (y : S3x2048.Idx) : (outsAt5 V c t.val t.isLt).2 y
    = (outsAt5 V c (t.val - 1) (Nat.lt_of_le_of_lt (Nat.sub_le _ _) t.isLt)).2 y
      + tapBlk (grid5.coords t 0).val (iblk5 V c 0 t) (iblk5 V c 1 t) (iblk5 V c 2 t) (iblk5 V c 3 t) (iblk5 V c 4 t)
      (iblk5 V c 6 t) (y 0) (y 1) := by
  rw [outsAt5_B V c t h]
  dsimp only
  rw [out_B_tap]

/-- Row `r` of point `t`'s block, in the whole array. -/
def rowIn (t : Fin cfg5.N) (r : Fin 256) : Fin 4096 :=
  ⟨t.val * 256 + r.val, by have : t.val < 16 := t.isLt; omega⟩

/-- What a block adds to a tap, from the whole arrays. -/
theorem tapBlk_eq (t : Fin cfg5.N) (s : Fin 3) (l : Fin 2048) :
    tapBlk (grid5.coords t 0).val (iblk5 V c 0 t) (iblk5 V c 1 t) (iblk5 V c 2 t) (iblk5 V c 3 t) (iblk5 V c 4 t) (iblk5 V c 6 t) s l
      = ∑ r : Fin 256, convCot (V c main_v0) (V c main_v3) (rowIn t r) l * before (V c main_v0) (2 - s.val) (rowIn t r) l := by
  obtain ⟨_, _, _, _, _, _, _, _, _, _, ht, hlt⟩ := idx5 t
  rw [ht]
  unfold tapBlk
  refine Finset.sum_congr rfl fun r _ => ?_
  have e : rowIn t r = ⟨256 * t.val + r.val, by omega⟩ := Fin.ext (congrArg (· + r.val) (Nat.mul_comm t.val 256))
  rw [e, rowsBack_eq t.val _ _ _ _ (V c main_v0) hlt (blk5_left V c t hlt) (blk5_right V c t hlt) (side5_left V c t hlt)
    (side5_right V c t hlt) (2 - s.val) (by omega), blk5_gate V c t hlt, blk5_cot V c t hlt]
  rfl

/-- THE TAPS' GRADIENT as the kernel leaves it. -/
theorem tap_array : (dat5 V c).arrAt 10 cfg5.N = tapGrad (V c main_v0) (V c main_v3) := by
  refine (dat5 V c).arrAt_eq_of_after_last 10 t5_15 (by decide +kernel) _ fun j => ?_
  blk_simp
  rw [after5_10]
  refine (Pipeline.eq_sum_fin_of_reset_step_apply_last (fun n h => (outsAt5 V c n h).2) 16 (fun _ => (0 : EReal)) _
    (fun t h y => outs_tap_first V c t h y) (fun t h y => outs_tap_next V c t h y) (by decide) t5_15 rfl j).trans ?_
  rw [zero_add]
  refine (Finset.sum_congr rfl fun t _ => tapBlk_eq V c t (j 0) (j 1)).trans ?_
  exact Fin.sum_mul_add_congr (fun s k hl => rfl)

end Cert.Conv
-- ==== Proof.ShortConv.Products.lean ====
/-
  The products of the short convolution's mixer, each block by block and then whole: regions 0, 2, 3, 4, 6 and 7.
-/
module

public import proofs.«01_k».proof.Proof.Gen.ShortConvIdeal.Frame
public import Idealize.ShloMosaic.Lib.Pipeline.ValueKit
public import Idealize.ShloMosaic.Lib.Pipeline.ReadBack
public import proofs.«01_k».proof.Proof.ShortConv.Dense

@[expose] public section

set_option maxRecDepth 16384

noncomputable section

namespace Cert.Conv

open Cert.ShortConvIdeal Cert.ShortConvIdeal.Gen Idealize.ShloMosaic Idealize.ShloMosaic.TcCoe Idealize.SL.Sem
open Idealize.ShloMosaic.Pipeline (Dat)
open Cert.Attention (mul mulT tMul)

variable (V : (c : Dev nD) → (b : Ref sig .tc) → Buf (Elt Ideal) ((c : Thread nD τ).loc b)) (c : Dev nD)

/-! ### The projected rows -/

theorem pre_pay (x : Vec Ideal S1024x2048 .bf16) (w : Vec Ideal S1x2048x768 .bf16) (r : Fin 1024) (l : Fin 768) :
    k0_pay1 (F := Ideal) x w (ix2 r l) = ∑ n : Fin 2048, (x (ix2 r n) * w (ix3 0 n l) : EReal) := by
  pointwise [k0_pay1]

theorem pre_out (x : Vec Ideal S1024x2048 .bf16) (w : Vec Ideal S1x2048x768 .bf16) (y : S1024x768.Idx) :
    out0_2 x w y = ∑ n : Fin 2048, (x (ix2 (y 0) n) * w (ix3 0 n (y 1)) : EReal) := by
  frame_out
  exact (congrArg _ (ix2_eta y).symm).trans (pre_pay ..)

theorem idx0 : ∀ t : Fin cfg0.N, win0_0.index t = ![t.val / 8, 0] ∧ win0_1.index t = ![t.val % 8, 0, 0]
    ∧ win0_2.index t = ![t.val / 8, t.val % 8] :=
  (by decide +kernel : ∀ t : Fin grid0.N, win0_0.index t = ![t.val / 8, 0] ∧ win0_1.index t = ![t.val % 8, 0, 0]
    ∧ win0_2.index t = ![t.val / 8, t.val % 8])

/-- Region 0's result array. -/
theorem pre_array : (dat0 V c).arrAt 2 cfg0.N = proj (V c main_arg0) (V c main_arg1) := by
  refine (dat0 V c).arrAt_eq_of_covers 2 _ (by decide +kernel) fun t hf y => ?_
  blk_simp
  rw [after0_2]
  refine (pre_out _ _ y).trans (Finset.sum_congr (M := EReal) rfl fun n _ => congrArg₂ (· * ·) ?_ ?_)
  · blk_ext [iblk0, idx0 t]
  · unfold blockOf placeOf
    blk_ext [iblk0, idx0 t]

/-! ### The output -/

theorem y_pay (x : Vec Ideal S1024x2048 .bf16) (w : Vec Ideal S2048x1024 .bf16) (r : Fin 1024) (l : Fin 1024) :
    k2_pay1 (F := Ideal) x w (ix2 r l) = ∑ n : Fin 2048, (x (ix2 r n) * w (ix2 n l) : EReal) := by
  pointwise [k2_pay1]

theorem y_out (x : Vec Ideal S1024x2048 .bf16) (w : Vec Ideal S2048x1024 .bf16) (y : S1024x1024.Idx) :
    out2_2 x w y = ∑ n : Fin 2048, (x (ix2 (y 0) n) * w (ix2 n (y 1)) : EReal) := by
  frame_out
  exact (congrArg _ (ix2_eta y).symm).trans (y_pay ..)

theorem idx2 : ∀ t : Fin cfg2.N, win2_0.index t = ![t.val / 2, 0] ∧ win2_1.index t = ![0, t.val % 2]
    ∧ win2_2.index t = ![t.val / 2, t.val % 2] :=
  (by decide +kernel : ∀ t : Fin grid2.N, win2_0.index t = ![t.val / 2, 0] ∧ win2_1.index t = ![0, t.val % 2]
    ∧ win2_2.index t = ![t.val / 2, t.val % 2])

/-- Region 2's result array. -/
theorem y_array : (dat2 V c).arrAt 2 cfg2.N = mul (V c main_v1) (V c main_arg3) := by
  refine (dat2 V c).arrAt_eq_of_covers 2 _ (by decide +kernel) fun t hf y => ?_
  blk_simp
  rw [after2_2]
  refine (y_out _ _ y).trans (Finset.sum_congr (M := EReal) rfl fun n _ => congrArg₂ (· * ·) ?_ ?_)
  · blk_ext [iblk2, idx2 t]
  · blk_ext [iblk2, idx2 t]

/-! ### The cotangent of the gated convolution -/

theorem dmid_pay (x : Vec Ideal S1024x2048 .bf16) (w : Vec Ideal S1024x2048 .bf16) (r : Fin 1024) (l : Fin 1024) :
    k3_pay1 (F := Ideal) x w (ix2 r l) = ∑ n : Fin 2048, (x (ix2 r n) * w (ix2 l n) : EReal) := by
  pointwise [k3_pay1]

theorem dmid_out (x : Vec Ideal S1024x2048 .bf16) (w : Vec Ideal S1024x2048 .bf16) (y : S1024x1024.Idx) :
    out3_2 x w y = ∑ n : Fin 2048, (x (ix2 (y 0) n) * w (ix2 (y 1) n) : EReal) := by
  frame_out
  exact (congrArg _ (ix2_eta y).symm).trans (dmid_pay ..)

theorem idx3 : ∀ t : Fin cfg3.N, win3_0.index t = ![t.val / 2, 0] ∧ win3_1.index t = ![t.val % 2, 0]
    ∧ win3_2.index t = ![t.val / 2, t.val % 2] :=
  (by decide +kernel : ∀ t : Fin grid3.N, win3_0.index t = ![t.val / 2, 0] ∧ win3_1.index t = ![t.val % 2, 0]
    ∧ win3_2.index t = ![t.val / 2, t.val % 2])

/-- Region 3's result array. -/
theorem dmid_array : (dat3 V c).arrAt 2 cfg3.N = mulT (V c main_arg4) (V c main_arg3) := by
  refine (dat3 V c).arrAt_eq_of_covers 2 _ (by decide +kernel) fun t hf y => ?_
  blk_simp
  rw [after3_2]
  refine (dmid_out _ _ y).trans (Finset.sum_congr (M := EReal) rfl fun n _ => congrArg₂ (· * ·) ?_ ?_)
  · blk_ext [iblk3, idx3 t]
  · blk_ext [iblk3, idx3 t]

/-! ### The gradient of the output's weights -/

theorem dwOut_pay (x : Vec Ideal S4096x1024 .bf16) (w : Vec Ideal S4096x1024 .bf16) (r : Fin 1024) (l : Fin 1024) :
    k4_pay1 (F := Ideal) x w (ix2 r l) = ∑ n : Fin 4096, (x (ix2 n r) * w (ix2 n l) : EReal) := by
  pointwise [k4_pay1]

theorem dwOut_out (x : Vec Ideal S4096x1024 .bf16) (w : Vec Ideal S4096x1024 .bf16) (y : S1024x1024.Idx) :
    out4_2 x w y = ∑ n : Fin 4096, (x (ix2 n (y 0)) * w (ix2 n (y 1)) : EReal) := by
  frame_out
  exact (congrArg _ (ix2_eta y).symm).trans (dwOut_pay ..)

theorem idx4 : ∀ t : Fin cfg4.N, win4_0.index t = ![0, t.val / 2] ∧ win4_1.index t = ![0, t.val % 2]
    ∧ win4_2.index t = ![t.val / 2, t.val % 2] :=
  (by decide +kernel : ∀ t : Fin grid4.N, win4_0.index t = ![0, t.val / 2] ∧ win4_1.index t = ![0, t.val % 2]
    ∧ win4_2.index t = ![t.val / 2, t.val % 2])

/-- Region 4's result array. -/
theorem dwOut_array : (dat4 V c).arrAt 2 cfg4.N = tMul (V c main_v1) (V c main_arg4) := by
  refine (dat4 V c).arrAt_eq_of_covers 2 _ (by decide +kernel) fun t hf y => ?_
  blk_simp
  rw [after4_2]
  refine (dwOut_out _ _ y).trans (Finset.sum_congr (M := EReal) rfl fun n _ => congrArg₂ (· * ·) ?_ ?_)
  · blk_ext [iblk4, idx4 t]
  · blk_ext [iblk4, idx4 t]

/-! ### The gradient of the mixer's input -/

/-- One block of columns' part of an element. -/
def blockSum (x : Vec Ideal S512x768 .bf16) (w : Vec Ideal S1x1024x768 .bf16) (r : Fin 512) (j : Fin 1024) : EReal :=
  ∑ l : Fin 768, x (ix2 r l) * w (ix3 0 j l)

section Pay
variable (a0 a1 a2 a3 a4 a5 a6 a7 : Vec Ideal S512x768 .bf16) (b0 b1 b2 b3 b4 b5 b6 b7 : Vec Ideal S1x1024x768 .bf16)

theorem four_pay (r : Fin 512) (j : Fin 1024) : k6_pay2 (F := Ideal) a0 b0 a1 b1 a2 b2 a3 b3 (ix2 r j)
    = blockSum a0 b0 r j + blockSum a1 b1 r j + blockSum a2 b2 r j + blockSum a3 b3 r j := by
  unfold blockSum
  pointwise [k6_pay2]

theorem eight_pay (r : Fin 512) (j : Fin 1024) :
    k6_pay1 (F := Ideal) (k6_pay2 a0 b0 a1 b1 a2 b2 a3 b3) (k6_pay3 a4) (k6_pay4 b4) (constant S512x1024 .f32 0x00000000#32)
      a5 b5 a6 b6 a7 b7 (ix2 r j)
    = blockSum a0 b0 r j + blockSum a1 b1 r j + blockSum a2 b2 r j + blockSum a3 b3 r j + blockSum a4 b4 r j + blockSum a5 b5 r j + blockSum a6 b6 r j
      + blockSum a7 b7 r j := by
  rw [← four_pay]
  unfold blockSum
  pointwise [k6_pay1, k6_pay3, k6_pay4]
end Pay

/-- A block's part over what was loaded of the two arrays. -/
theorem part_ld (x0 : Vec Ideal S512x6144 .bf16) (x1 : Vec Ideal S8x1024x768 .bf16) (r : Fin 512) (j : Fin 1024) (b : Fin 8)
    (o p : Nat) (i1) (i2) (ho : o = b.val * 768) (hp : p = b.val) :
    blockSum (View.ld x0 (Rect.unit ![0, o] ![512, 768] i1)) (View.ld x1 (Rect.unit ![p, 0, 0] ![1, 1024, 768] i2)) r j
      = ∑ l : Fin 768, (x0 (ix2 r (colOf b l)) * x1 (ix3 b j l) : EReal) := by
  subst ho hp
  refine Finset.sum_congr (M := EReal) rfl fun l _ => congrArg₂ (fun a b : EReal => a * b) ?_ ?_
  · exact View.ld_unit_apply_of x0 _ _ i1 _ (ix2 r (colOf b l)) fun a => by fin_cases a <;> simp [colOf]
  · exact View.ld_unit_apply_of x1 _ _ i2 _ (ix3 b j l) fun a => by fin_cases a <;> simp

theorem dh_out (x0 : Vec Ideal S512x6144 .bf16) (x1 : Vec Ideal S8x1024x768 .bf16) (y : S512x1024.Idx) :
    out6_2 x0 x1 y = ∑ b : Fin 8, ∑ l : Fin 768, (x0 (ix2 (y 0) (colOf b l)) * x1 (ix3 b (y 1) l) : EReal) := by
  frame_out
  refine ((congrArg _ (ix2_eta y).symm).trans (eight_pay ..)).trans ?_
  rw [Fin.sum_univ_eight]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (part_ld x0 x1 (y 0) (y 1) 0 0 0 _ _ rfl rfl)
    (part_ld x0 x1 (y 0) (y 1) 1 768 1 _ _ rfl rfl))
    (part_ld x0 x1 (y 0) (y 1) 2 1536 2 _ _ rfl rfl))
    (part_ld x0 x1 (y 0) (y 1) 3 2304 3 _ _ rfl rfl))
    (part_ld x0 x1 (y 0) (y 1) 4 3072 4 _ _ rfl rfl))
    (part_ld x0 x1 (y 0) (y 1) 5 3840 5 _ _ rfl rfl))
    (part_ld x0 x1 (y 0) (y 1) 6 4608 6 _ _ rfl rfl))
    (part_ld x0 x1 (y 0) (y 1) 7 5376 7 _ _ rfl rfl)

theorem idx6 : ∀ t : Fin cfg6.N, win6_0.index t = ![t.val / 2, 0] ∧ win6_1.index t = ![0, t.val % 2, 0]
    ∧ win6_2.index t = ![t.val / 2, t.val % 2] :=
  (by decide +kernel : ∀ t : Fin grid6.N, win6_0.index t = ![t.val / 2, 0] ∧ win6_1.index t = ![0, t.val % 2, 0]
    ∧ win6_2.index t = ![t.val / 2, t.val % 2])

/-- Region 6's result array. -/
theorem dh_array : (dat6 V c).arrAt 2 cfg6.N = projX (V c main_v5_0) (V c main_arg1) := by
  refine (dat6 V c).arrAt_eq_of_covers 2 _ (by decide +kernel) fun t hf y => ?_
  blk_simp
  rw [after6_2]
  refine (dh_out _ _ y).trans (Finset.sum_congr (M := EReal) rfl fun b _ => Finset.sum_congr (M := EReal) rfl fun l _ =>
    congrArg₂ (· * ·) ?_ ?_)
  · unfold colOf
    blk_ext [iblk6, idx6 t]
  · blk_ext [iblk6, idx6 t]

/-! ### The gradient of the projection's weights -/

theorem dwIn_pay (x : Vec Ideal S4096x1024 .bf16) (d : Vec Ideal S4096x768 .bf16) (z : Fin 1) (r : Fin 1024) (l : Fin 768) :
    k7_pay1 (F := Ideal) x d (ix3 z r l) = ∑ n : Fin 4096, (x (ix2 n r) * d (ix2 n l) : EReal) := by
  pointwise [k7_pay1]

theorem dwIn_out (x : Vec Ideal S4096x1024 .bf16) (d : Vec Ideal S4096x768 .bf16) (y : S1x1024x768.Idx) :
    out7_2 x d y = ∑ n : Fin 4096, (x (ix2 n (y 1)) * d (ix2 n (y 2)) : EReal) := by
  frame_out
  exact (congrArg _ (ix3_eta y).symm).trans (dwIn_pay ..)

theorem idx7 : ∀ t : Fin cfg7.N, win7_0.index t = ![0, t.val / 8] ∧ win7_1.index t = ![0, t.val % 8]
    ∧ win7_2.index t = ![t.val % 8, t.val / 8, 0] :=
  (by decide +kernel : ∀ t : Fin grid7.N, win7_0.index t = ![0, t.val / 8] ∧ win7_1.index t = ![0, t.val % 8]
    ∧ win7_2.index t = ![t.val % 8, t.val / 8, 0])

/-- Region 7's result array. -/
theorem dwIn_array : (dat7 V c).arrAt 2 cfg7.N = projW (V c main_arg0) (V c main_v5_0) := by
  refine (dat7 V c).arrAt_eq_of_covers 2 _ (by decide +kernel) fun t hf y => ?_
  blk_simp
  rw [after7_2]
  refine (dwIn_out _ _ y).trans (Finset.sum_congr (M := EReal) rfl fun n _ => congrArg₂ (· * ·) ?_ ?_)
  · blk_ext [iblk7, idx7 t]
  · unfold colOf
    blk_ext [iblk7, idx7 t]

end Cert.Conv
-- ==== Proof.ShortConv.Run.lean ====
/-
  The whole run of the convolution layer's eight calls: what each result array holds at the end, over the arguments.
-/
module

public import proofs.«01_k».proof.Proof.ShortConv.Forward
public import proofs.«01_k».proof.Proof.ShortConv.GradTaps
public import proofs.«01_k».proof.Proof.ShortConv.Products

@[expose] public section

set_option maxRecDepth 16384

noncomputable section

namespace Cert.Conv

open Cert.Attention (Mat mul mulT tMul)
open Cert.ShortConvIdeal Cert.ShortConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- Every array of a device ends as the last call's exit leaves it. -/
theorem run_exit : θ_run defs (onTc (τ := τ) (main (F := Ideal))) ⟨m, fun _ => 0, ρ⟩ (fun r => ∀ c : Dev nD,
    ∀ b ∈ Pipeline.ucRefs τ sig, r.2.mem ((c : Thread nD τ).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

variable (c : Dev nD)

/-- The layer's input on device `c`. -/
abbrev argH : Mat 4096 2048 := m ((c : Thread nD τ).loc main_arg0)
/-- The projection's weights. -/
abbrev argWin : Blocks := m ((c : Thread nD τ).loc main_arg1)
/-- The taps. -/
abbrev argTaps : Mat 3 2048 := m ((c : Thread nD τ).loc main_arg2)
/-- The output's weights. -/
abbrev argWout : Mat 2048 2048 := m ((c : Thread nD τ).loc main_arg3)
/-- The output's cotangent. -/
abbrev argDy : Mat 4096 2048 := m ((c : Thread nD τ).loc main_arg4)

/-- The projected rows. -/
abbrev thePre : Mat 4096 6144 := proj (argH m c) (argWin m c)
/-- The gated convolution. -/
abbrev theMid : Mat 4096 2048 := mid (thePre m c) (argTaps m c)
/-- Its cotangent. -/
abbrev theG : Mat 4096 2048 := mulT (argDy m c) (argWout m c)
/-- The projected rows' gradient. -/
abbrev theDpre : Mat 4096 6144 := preGrad (thePre m c) (argTaps m c) (theG m c)

/-! ### Where each array is written, and that it stays until it is read -/

theorem exit_pre : V1 m ρ c main_v0 = thePre m c := by
  refine (W1_arr m ρ c 2).trans ((pre_array (V0 m ρ) c).trans ?_)
  rfl
theorem exit_mid : V2 m ρ c main_v1 = theMid m c := by
  refine (W2_arr m ρ c 6).trans ((mid_array (V1 m ρ) c).trans ?_)
  rw [show V1 m ρ c main_v0 = thePre m c from exit_pre m ρ c,
    show V1 m ρ c main_arg2 = argTaps m c from W1_args m ρ c main_arg2 (by decide)]
theorem exit_y : V3 m ρ c main_v2 = mul (theMid m c) (argWout m c) := by
  refine (W3_arr m ρ c 2).trans ((y_array (V2 m ρ) c).trans ?_)
  rw [show V2 m ρ c main_v1 = theMid m c from exit_mid m ρ c,
    show V2 m ρ c main_arg3 = argWout m c from W2_args m ρ c main_arg3 (by decide)]
theorem exit_dmid : V4 m ρ c main_v3 = theG m c := by
  refine (W4_arr m ρ c 2).trans ((dmid_array (V3 m ρ) c).trans ?_)
  rw [show V3 m ρ c main_arg4 = argDy m c from W3_args m ρ c main_arg4 (by decide),
    show V3 m ρ c main_arg3 = argWout m c from W3_args m ρ c main_arg3 (by decide)]
theorem exit_dwOut : V5 m ρ c main_v4 = tMul (theMid m c) (argDy m c) := by
  refine (W5_arr m ρ c 2).trans ((dwOut_array (V4 m ρ) c).trans ?_)
  rw [show V4 m ρ c main_v1 = theMid m c from (W4_of m ρ c main_v1 (by decide)).trans ((W3_of m ρ c main_v1 (by decide)).trans (exit_mid m ρ c)),
    show V4 m ρ c main_arg4 = argDy m c from W4_args m ρ c main_arg4 (by decide)]
theorem exit_dpre : V6 m ρ c main_v5_0 = theDpre m c := by
  refine (W6_arr m ρ c 9).trans ((pre_grad_array (V5 m ρ) c).trans ?_)
  rw [show V5 m ρ c main_v0 = thePre m c from (W5_of m ρ c main_v0 (by decide)).trans ((W4_of m ρ c main_v0 (by decide)).trans ((W3_of m ρ c main_v0 (by decide)).trans ((W2_of m ρ c main_v0 (by decide)).trans (exit_pre m ρ c)))),
    show V5 m ρ c main_arg2 = argTaps m c from W5_args m ρ c main_arg2 (by decide),
    show V5 m ρ c main_v3 = theG m c from (W5_of m ρ c main_v3 (by decide)).trans (exit_dmid m ρ c)]
theorem exit_dtaps : V6 m ρ c main_v5_1 = tapGrad (thePre m c) (theG m c) := by
  refine (W6_arr m ρ c 10).trans ((tap_array (V5 m ρ) c).trans ?_)
  rw [show V5 m ρ c main_v0 = thePre m c from (W5_of m ρ c main_v0 (by decide)).trans ((W4_of m ρ c main_v0 (by decide)).trans ((W3_of m ρ c main_v0 (by decide)).trans ((W2_of m ρ c main_v0 (by decide)).trans (exit_pre m ρ c)))),
    show V5 m ρ c main_v3 = theG m c from (W5_of m ρ c main_v3 (by decide)).trans (exit_dmid m ρ c)]
theorem exit_dh : V7 m ρ c main_v6 = projX (theDpre m c) (argWin m c) := by
  refine (W7_arr m ρ c 2).trans ((dh_array (V6 m ρ) c).trans ?_)
  rw [show V6 m ρ c main_v5_0 = theDpre m c from exit_dpre m ρ c,
    show V6 m ρ c main_arg1 = argWin m c from W6_args m ρ c main_arg1 (by decide)]
theorem exit_dwIn : V8 m ρ c main_v7 = projW (argH m c) (theDpre m c) := by
  refine (W8_arr m ρ c 2).trans ((dwIn_array (V7 m ρ) c).trans ?_)
  rw [show V7 m ρ c main_arg0 = argH m c from W7_args m ρ c main_arg0 (by decide),
    show V7 m ρ c main_v5_0 = theDpre m c from (W7_of m ρ c main_v5_0 (by decide)).trans (exit_dpre m ρ c)]

/-! ### The results at the end -/

theorem end_y : W8 m ρ c (Proc.devRef .tc main_v2) = mul (theMid m c) (argWout m c) :=
  (W8_of m ρ c main_v2 (by decide)).trans ((W7_of m ρ c main_v2 (by decide)).trans ((W6_of m ρ c main_v2 (by decide)).trans ((W5_of m ρ c main_v2 (by decide)).trans ((W4_of m ρ c main_v2 (by decide)).trans (exit_y m ρ c)))))
theorem end_dwOut : W8 m ρ c (Proc.devRef .tc main_v4) = tMul (theMid m c) (argDy m c) :=
  (W8_of m ρ c main_v4 (by decide)).trans ((W7_of m ρ c main_v4 (by decide)).trans ((W6_of m ρ c main_v4 (by decide)).trans (exit_dwOut m ρ c)))
theorem end_dtaps : W8 m ρ c (Proc.devRef .tc main_v5_1) = tapGrad (thePre m c) (theG m c) :=
  (W8_of m ρ c main_v5_1 (by decide)).trans ((W7_of m ρ c main_v5_1 (by decide)).trans (exit_dtaps m ρ c))
theorem end_dh : W8 m ρ c (Proc.devRef .tc main_v6) = projX (theDpre m c) (argWin m c) :=
  (W8_of m ρ c main_v6 (by decide)).trans (exit_dh m ρ c)
theorem end_dwIn : W8 m ρ c (Proc.devRef .tc main_v7) = projW (argH m c) (theDpre m c) :=
  exit_dwIn m ρ c

end Cert.Conv
-- ==== Proof.ShortConv.Claims.lean ====
/-
  The claims about the convolution layer: the reference's frame, and the equality of the two programs' five results, for
  any arguments.
-/
module

public import proofs.«01_k».proof.Defs
public import proofs.«01_k».proof.Proof.ShortConv.Ref
public import proofs.«01_k».proof.Proof.ShortConv.Run

@[expose] public section

set_option maxRecDepth 16384

noncomputable section

namespace Cert.Conv

open Cert.Attention (Mat mul mulT tMul)
open Idealize.ShloMosaic Idealize.ShloMosaic.TcCoe Idealize.SL.Sem

/-- The reference leaves its arguments and has no semaphore. -/
theorem ref_frame : Cert.quiescent_ShortConvReferenceIdeal := fun m ρ _ =>
  (θ_run Cert.ShortConvReferenceIdeal.defs _ _).mono
    (fun r h => ⟨fun c => (h c).2.2.2.2.2, sem_eq_zero_of_no_sems (by decide) r.2⟩) (Cert.ShortConvReferenceIdeal.Value.run m ρ)

section Kernel
open Cert.ShortConvIdeal Cert.ShortConvIdeal.Gen
variable (m : (ℓ : Loc nD τ sig) → Buf (Elt Ideal) ℓ) (ρ : Dev nD → PrngReg)

/-- The eight calls' run: the layer's results over its arguments, which stay as they were. -/
theorem kernel_run : θ_run defs (onTc (τ := τ) (main (F := Ideal))) ⟨m, fun _ => 0, ρ⟩ (fun r => ∀ c : Dev nD,
    r.2.mem ((c : Thread nD τ).loc main_v2) = mul (theMid m c) (argWout m c)
    ∧ r.2.mem ((c : Thread nD τ).loc main_v4) = tMul (theMid m c) (argDy m c)
    ∧ r.2.mem ((c : Thread nD τ).loc main_v5_1) = tapGrad (thePre m c) (theG m c)
    ∧ r.2.mem ((c : Thread nD τ).loc main_v6) = projX (theDpre m c) (argWin m c)
    ∧ r.2.mem ((c : Thread nD τ).loc main_v7) = projW (argH m c) (theDpre m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun r h c => ⟨(h c _ (mem_uc main_v2 (by decide))).trans (end_y m ρ c),
    (h c _ (mem_uc main_v4 (by decide))).trans (end_dwOut m ρ c),
    (h c _ (mem_uc main_v5_1 (by decide))).trans (end_dtaps m ρ c),
    (h c _ (mem_uc main_v6 (by decide))).trans (end_dh m ρ c),
    (h c _ (mem_uc main_v7 (by decide))).trans (end_dwIn m ρ c),
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c)⟩) (run_exit m ρ)
end Kernel

theorem algebraic : Cert.algebraic_ShortConvIdeal_ShortConvReferenceIdeal := by
  intro m ρ m' ρ' _ hagree
  refine ⟨_, _, _, _, _, kernel_run m ρ, ?_⟩
  refine (θ_run Cert.ShortConvReferenceIdeal.defs _ _).mono (fun r h c => ?_) (Cert.ShortConvReferenceIdeal.Value.run m' ρ')
  have e0 : Ref.a0 m' c = argH m c := (hagree c).1
  have e1 : Ref.a1 m' c = argWin m c := (hagree c).2.1
  have e2 : Ref.a2 m' c = argTaps m c := (hagree c).2.2.1
  have e3 : Ref.a3 m' c = argWout m c := (hagree c).2.2.2.1
  have e4 : Ref.a4 m' c = argDy m c := (hagree c).2.2.2.2
  obtain ⟨r0, r1, r2, r3, r4, rest⟩ := h c
  refine ⟨r0.trans ?_, r1.trans ?_, r2.trans ?_, r3.trans ?_, r4.trans ?_, rest⟩
  · refine (Ref.res0_eq m' c).trans ?_
    rw [e0, e1, e2, e3, Ref.pr_eq, Ref.md_eq, Ref.yr_eq]
  · refine (Ref.res1_eq m' c).trans ?_
    rw [e0, e1, e2, e4, Ref.pr_eq, Ref.md_eq, Ref.dwOr_eq]
  · refine (Ref.res2_eq m' c).trans ?_
    rw [e0, e1, e3, e4, Ref.pr_eq, Ref.gr_eq, Ref.dtaps_eq]
  · refine (Ref.res3_eq m' c).trans ?_
    rw [e0, e1, e2, e3, e4, Ref.pr_eq, Ref.gr_eq, Ref.dpre_eq, Ref.dhr_eq]
  · refine (Ref.res4_eq m' c).trans ?_
    rw [e0, e1, e2, e3, e4, Ref.pr_eq, Ref.gr_eq, Ref.dpre_eq, Ref.dwIr_eq]

end Cert.Conv
-- ==== Proof.MixerProducts.Ref.lean ====
/-
  The reference of the products around a mixer: its six results, each read at an index and equal to the same function of the
  arguments as the kernel's. Those with square weights are the same terms as in the cross-attention's reference.
-/
module

public import proofs.«01_k».proof.Proof.Attention.Ref
public import proofs.«01_k».proof.Proof.Gen.MixerProductsReferenceIdeal.Run

@[expose] public section

set_option maxRecDepth 16384

noncomputable section

namespace Cert.Mix.Ref

open Cert.MixerProductsReferenceIdeal Cert.MixerProductsReferenceIdeal.Value Cert.MixerProductsReferenceIdeal.Gen
open Cert.Attention (mul mulT tMul joint jointW jointX)
open Cert.Attention.Ref (ext2 wide wide_at wide_col sum_cols)
open Idealize.ShloMosaic Idealize.ShloMosaic.TcCoe Idealize.SL.Sem

variable (h : FVec Ideal S4096x2048 .bf16) (wi : FVec Ideal S8x2048x512 .bf16) (d : FVec Ideal S4096x4096 .bf16)

/-- The projected rows. -/
def pr : FVec Ideal S4096x4096 .bf16 :=
  truncf .bf16 (Host.dotGeneral dot_S4096x2048_S2048x4096_S4096x4096_1_0_0_1_n_n none (extf .f32 h bitsLt_bf16_f32) (wide wi)) bitsLt_bf16_f32
/-- The gradient of the mixer's input. -/
def dhr : FVec Ideal S4096x2048 .bf16 :=
  truncf .bf16 (Host.dotGeneral dot_S4096x4096_S2048x4096_S4096x2048_1_1_0_0_n_n none (extf .f32 d bitsLt_bf16_f32) (wide wi)) bitsLt_bf16_f32
/-- The gradient of the projection's weights. -/
def dwIr : FVec Ideal S8x2048x512 .bf16 :=
  truncf .bf16 (transpose S8x2048x512 [1, 0, 2] (shapeCast _ (transpose S2048x4096 [1, 0]
    (Host.dotGeneral dot_S4096x4096_S4096x2048_S4096x2048_0_0_1_1_n_n none (extf .f32 d bitsLt_bf16_f32) (extf .f32 h bitsLt_bf16_f32))
    transposes_S4096x2048_S2048x4096_1_0) shapeCasts_S2048x4096_S2048x8x512) transposes_S2048x8x512_S8x2048x512_1_0_2) bitsLt_bf16_f32

theorem pr_eq : pr h wi = joint h wi := ext2 fun j n => by
  pointwise [pr]
  simp only [wide_at]
  rfl
theorem dhr_eq : dhr wi d = jointX d wi := ext2 fun j k => by
  pointwise [dhr]
  rw [sum_cols]
  simp only [wide_col]
  rfl
theorem dwIr_eq : dwIr h d = jointW h d := funext fun i => by
  obtain ⟨b, k, l, rfl⟩ : ∃ b k l, i = ix3 b k l := ⟨_, _, _, eq_ix3 i⟩
  pointwise [dwIr]
  exact Finset.sum_congr rfl fun t _ => mul_comm _ _

/-! ## The products with the output's weights -/

variable (o dy : FVec Ideal S4096x2048 .bf16) (wo : FVec Ideal S2048x2048 .bf16)

theorem y_eq : truncf .bf16 (Host.dotGeneral dot_S4096x2048_S2048x2048_S4096x2048_1_0_0_1_n_n none (extf .f32 o bitsLt_bf16_f32)
    (extf .f32 wo bitsLt_bf16_f32)) bitsLt_bf16_f32 = mul o wo :=
  Cert.Attention.Ref.yr_eq wo (extf .f32 o bitsLt_bf16_f32)
theorem dmid_eq : truncf .bf16 (Host.dotGeneral dot_S4096x2048_S2048x2048_S4096x2048_1_1_0_0_n_n none (extf .f32 dy bitsLt_bf16_f32)
    (extf .f32 wo bitsLt_bf16_f32)) bitsLt_bf16_f32 = mulT dy wo :=
  Cert.Attention.Ref.dhr_eq wo (extf .f32 dy bitsLt_bf16_f32)
theorem dwOut_eq : truncf .bf16 (transpose S2048x2048 [1, 0] (Host.dotGeneral dot_S4096x2048_S4096x2048_S2048x2048_0_0_1_1_n_n none
    (extf .f32 dy bitsLt_bf16_f32) (extf .f32 o bitsLt_bf16_f32)) transposes_S2048x2048_S2048x2048_1_0) bitsLt_bf16_f32 = tMul o dy :=
  Cert.Attention.Ref.dwOr_eq dy (extf .f32 o bitsLt_bf16_f32)

/-! ## The results over the arguments -/

variable (m : (ℓ : Loc nD τ sig) → Buf (Elt Ideal) ℓ) (c : Dev nD)
/-- The mixer's input. -/
abbrev a0 : FVec Ideal S4096x2048 .bf16 := m ((c.tc : Thread nD τ).loc main_arg0)
/-- The projection's weights. -/
abbrev a1 : FVec Ideal S8x2048x512 .bf16 := m ((c.tc : Thread nD τ).loc main_arg1)
/-- What the output's weights multiply. -/
abbrev a2 : FVec Ideal S4096x2048 .bf16 := m ((c.tc : Thread nD τ).loc main_arg2)
/-- The output's weights. -/
abbrev a3 : FVec Ideal S2048x2048 .bf16 := m ((c.tc : Thread nD τ).loc main_arg3)
/-- The output's cotangent. -/
abbrev a4 : FVec Ideal S4096x2048 .bf16 := m ((c.tc : Thread nD τ).loc main_arg4)
/-- The projected rows' cotangent. -/
abbrev a5 : FVec Ideal S4096x4096 .bf16 := m ((c.tc : Thread nD τ).loc main_arg5)

end Cert.Mix.Ref
-- ==== Proof.MixerProducts.Products.lean ====
/-
  The products around the other two mixers, each block by block and then whole: the six regions of their program.
-/
module

public import proofs.«01_k».proof.Proof.Gen.MixerProductsIdeal.Frame
public import Idealize.ShloMosaic.Lib.Pipeline.ValueKit
public import Idealize.ShloMosaic.Lib.Pipeline.ReadBack
public import proofs.«01_k».proof.Proof.Attention.Dense

@[expose] public section

set_option maxRecDepth 16384

noncomputable section

namespace Cert.Mix

open Cert.MixerProductsIdeal Cert.MixerProductsIdeal.Gen Idealize.ShloMosaic Idealize.ShloMosaic.TcCoe Idealize.SL.Sem
open Idealize.ShloMosaic.Pipeline (Dat)
open Cert.Attention (mul mulT tMul joint jointW jointX blockOf placeOf colOf)

variable (V : (c : Dev nD) → (b : Ref sig .tc) → Buf (Elt Ideal) ((c : Thread nD τ).loc b)) (c : Dev nD)

/-! ### The products with the projection's weights -/

theorem pre_pay (x : Vec Ideal S1024x2048 .bf16) (w : Vec Ideal S1x2048x512 .bf16) (r : Fin 1024) (l : Fin 512) :
    k0_pay1 (F := Ideal) x w (ix2 r l) = ∑ n : Fin 2048, (x (ix2 r n) * w (ix3 0 n l) : EReal) := by
  pointwise [k0_pay1]

theorem pre_out (x : Vec Ideal S1024x2048 .bf16) (w : Vec Ideal S1x2048x512 .bf16) (y : S1024x512.Idx) :
    out0_2 x w y = ∑ n : Fin 2048, (x (ix2 (y 0) n) * w (ix3 0 n (y 1)) : EReal) := by
  frame_out
  exact (congrArg _ (ix2_eta y).symm).trans (pre_pay ..)

theorem idx0 : ∀ t : Fin cfg0.N, win0_0.index t = ![t.val / 8, 0] ∧ win0_1.index t = ![t.val % 8, 0, 0]
    ∧ win0_2.index t = ![t.val / 8, t.val % 8] :=
  (by decide +kernel : ∀ t : Fin grid0.N, win0_0.index t = ![t.val / 8, 0] ∧ win0_1.index t = ![t.val % 8, 0, 0]
    ∧ win0_2.index t = ![t.val / 8, t.val % 8])

/-- The projected rows. -/
theorem pre_array : (dat0 V c).arrAt 2 cfg0.N = joint (V c main_arg0) (V c main_arg1) := by
  refine (dat0 V c).arrAt_eq_of_covers 2 _ (by decide +kernel) fun t hf y => ?_
  blk_simp
  rw [after0_2]
  refine (pre_out _ _ y).trans (Finset.sum_congr (M := EReal) rfl fun n _ => congrArg₂ (· * ·) ?_ ?_)
  · blk_ext [iblk0, idx0 t]
  · unfold blockOf placeOf
    blk_ext [iblk0, idx0 t]

/-- What column block `b` adds to an element of the input's gradient. -/
def slab (d : Vec Ideal S1024x512 .bf16) (w : Vec Ideal S1x1024x512 .bf16) (r : Fin 1024) (j : Fin 1024) : EReal :=
  ∑ l : Fin 512, d (ix2 r l) * w (ix3 0 j l)

section Slabs
variable (d0 d1 d2 d3 d4 d5 d6 d7 : Vec Ideal S1024x512 .bf16) (w0 w1 w2 w3 w4 w5 w6 w7 : Vec Ideal S1x1024x512 .bf16)

theorem first_slabs (r : Fin 1024) (j : Fin 1024) : k4_pay2 (F := Ideal) d0 w0 d1 w1 d2 w2 d3 w3 d4 w4 (ix2 r j)
    = slab d0 w0 r j + slab d1 w1 r j + slab d2 w2 r j + slab d3 w3 r j + slab d4 w4 r j := by
  unfold slab
  pointwise [k4_pay2]

theorem all_slabs (r : Fin 1024) (j : Fin 1024) :
    k4_pay1 (F := Ideal) (k4_pay2 d0 w0 d1 w1 d2 w2 d3 w3 d4 w4) d5 w5 d6 w6 d7 w7 (ix2 r j)
    = slab d0 w0 r j + slab d1 w1 r j + slab d2 w2 r j + slab d3 w3 r j + slab d4 w4 r j + slab d5 w5 r j + slab d6 w6 r j
      + slab d7 w7 r j := by
  rw [← first_slabs]
  unfold slab
  pointwise [k4_pay1]
end Slabs

/-- A column block's share, of what is loaded of the two arrays. -/
theorem slab_ld (d : Vec Ideal S1024x4096 .bf16) (w : Vec Ideal S8x1024x512 .bf16) (r : Fin 1024) (j : Fin 1024) (b : Fin 8)
    (o p : Nat) (i1) (i2) (ho : o = b.val * 512) (hp : p = b.val) :
    slab (View.ld d (Rect.unit ![0, o] ![1024, 512] i1)) (View.ld w (Rect.unit ![p, 0, 0] ![1, 1024, 512] i2)) r j
      = ∑ l : Fin 512, (d (ix2 r (colOf b l)) * w (ix3 b j l) : EReal) := by
  subst ho hp
  refine Finset.sum_congr (M := EReal) rfl fun l _ => congrArg₂ (fun a b : EReal => a * b) ?_ ?_
  · exact View.ld_unit_apply_of d _ _ i1 _ (ix2 r (colOf b l)) fun a => by fin_cases a <;> simp [colOf]
  · exact View.ld_unit_apply_of w _ _ i2 _ (ix3 b j l) fun a => by fin_cases a <;> simp

/-- Equal summands have equal sums. -/
theorem plus {a b x y : EReal} (h : a = b) (k : x = y) : a + x = b + y := by rw [h, k]

theorem dh_out (d : Vec Ideal S1024x4096 .bf16) (w : Vec Ideal S8x1024x512 .bf16) (y : S1024x1024.Idx) :
    out4_2 d w y = ∑ b : Fin 8, ∑ l : Fin 512, (d (ix2 (y 0) (colOf b l)) * w (ix3 b (y 1) l) : EReal) := by
  frame_out
  refine ((congrArg _ (ix2_eta y).symm).trans (all_slabs ..)).trans ?_
  rw [Fin.sum_univ_eight]
  exact plus (plus (plus (plus (plus (plus (plus (slab_ld d w (y 0) (y 1) 0 0 0 _ _ rfl rfl)
    (slab_ld d w (y 0) (y 1) 1 512 1 _ _ rfl rfl))
    (slab_ld d w (y 0) (y 1) 2 1024 2 _ _ rfl rfl))
    (slab_ld d w (y 0) (y 1) 3 1536 3 _ _ rfl rfl))
    (slab_ld d w (y 0) (y 1) 4 2048 4 _ _ rfl rfl))
    (slab_ld d w (y 0) (y 1) 5 2560 5 _ _ rfl rfl))
    (slab_ld d w (y 0) (y 1) 6 3072 6 _ _ rfl rfl))
    (slab_ld d w (y 0) (y 1) 7 3584 7 _ _ rfl rfl)

theorem idx4 : ∀ t : Fin cfg4.N, win4_0.index t = ![t.val / 2, 0] ∧ win4_1.index t = ![0, t.val % 2, 0]
    ∧ win4_2.index t = ![t.val / 2, t.val % 2] :=
  (by decide +kernel : ∀ t : Fin grid4.N, win4_0.index t = ![t.val / 2, 0] ∧ win4_1.index t = ![0, t.val % 2, 0]
    ∧ win4_2.index t = ![t.val / 2, t.val % 2])

/-- The gradient of the mixer's input. -/
theorem dh_array : (dat4 V c).arrAt 2 cfg4.N = jointX (V c main_arg5) (V c main_arg1) := by
  refine (dat4 V c).arrAt_eq_of_covers 2 _ (by decide +kernel) fun t hf y => ?_
  blk_simp
  rw [after4_2]
  refine (dh_out _ _ y).trans (Finset.sum_congr (M := EReal) rfl fun b _ => Finset.sum_congr (M := EReal) rfl fun l _ =>
    congrArg₂ (· * ·) ?_ ?_)
  · unfold colOf
    blk_ext [iblk4, idx4 t]
  · blk_ext [iblk4, idx4 t]

theorem dwIn_pay (x : Vec Ideal S4096x1024 .bf16) (d : Vec Ideal S4096x512 .bf16) (z : Fin 1) (r : Fin 1024) (l : Fin 512) :
    k5_pay1 (F := Ideal) x d (ix3 z r l) = ∑ n : Fin 4096, (x (ix2 n r) * d (ix2 n l) : EReal) := by
  pointwise [k5_pay1]

theorem dwIn_out (x : Vec Ideal S4096x1024 .bf16) (d : Vec Ideal S4096x512 .bf16) (y : S1x1024x512.Idx) :
    out5_2 x d y = ∑ n : Fin 4096, (x (ix2 n (y 1)) * d (ix2 n (y 2)) : EReal) := by
  frame_out
  exact (congrArg _ (ix3_eta y).symm).trans (dwIn_pay ..)

theorem idx5 : ∀ t : Fin cfg5.N, win5_0.index t = ![0, t.val / 8] ∧ win5_1.index t = ![0, t.val % 8]
    ∧ win5_2.index t = ![t.val % 8, t.val / 8, 0] :=
  (by decide +kernel : ∀ t : Fin grid5.N, win5_0.index t = ![0, t.val / 8] ∧ win5_1.index t = ![0, t.val % 8]
    ∧ win5_2.index t = ![t.val % 8, t.val / 8, 0])

/-- The gradient of the projection's weights. -/
theorem dwIn_array : (dat5 V c).arrAt 2 cfg5.N = jointW (V c main_arg0) (V c main_arg5) := by
  refine (dat5 V c).arrAt_eq_of_covers 2 _ (by decide +kernel) fun t hf y => ?_
  blk_simp
  rw [after5_2]
  refine (dwIn_out _ _ y).trans (Finset.sum_congr (M := EReal) rfl fun n _ => congrArg₂ (· * ·) ?_ ?_)
  · blk_ext [iblk5, idx5 t]
  · unfold colOf
    blk_ext [iblk5, idx5 t]

/-! ### The products with the output's weights -/

theorem y_pay (x : Vec Ideal S1024x2048 .bf16) (w : Vec Ideal S2048x1024 .bf16) (r l : Fin 1024) :
    k1_pay1 (F := Ideal) x w (ix2 r l) = ∑ n : Fin 2048, (x (ix2 r n) * w (ix2 n l) : EReal) := by
  pointwise [k1_pay1]

theorem y_out (x : Vec Ideal S1024x2048 .bf16) (w : Vec Ideal S2048x1024 .bf16) (y : S1024x1024.Idx) :
    out1_2 x w y = ∑ n : Fin 2048, (x (ix2 (y 0) n) * w (ix2 n (y 1)) : EReal) := by
  frame_out
  exact (congrArg _ (ix2_eta y).symm).trans (y_pay ..)

theorem idx1 : ∀ t : Fin cfg1.N, win1_0.index t = ![t.val / 2, 0] ∧ win1_1.index t = ![0, t.val % 2]
    ∧ win1_2.index t = ![t.val / 2, t.val % 2] :=
  (by decide +kernel : ∀ t : Fin grid1.N, win1_0.index t = ![t.val / 2, 0] ∧ win1_1.index t = ![0, t.val % 2]
    ∧ win1_2.index t = ![t.val / 2, t.val % 2])

/-- The mixer's output. -/
theorem y_array : (dat1 V c).arrAt 2 cfg1.N = mul (V c main_arg2) (V c main_arg3) := by
  refine (dat1 V c).arrAt_eq_of_covers 2 _ (by decide +kernel) fun t hf y => ?_
  blk_simp
  rw [after1_2]
  refine (y_out _ _ y).trans (Finset.sum_congr (M := EReal) rfl fun n _ => congrArg₂ (· * ·) ?_ ?_)
  · blk_ext [iblk1, idx1 t]
  · blk_ext [iblk1, idx1 t]

theorem dmid_pay (x w : Vec Ideal S1024x2048 .bf16) (r l : Fin 1024) :
    k2_pay1 (F := Ideal) x w (ix2 r l) = ∑ n : Fin 2048, (x (ix2 r n) * w (ix2 l n) : EReal) := by
  pointwise [k2_pay1]

theorem dmid_out (x w : Vec Ideal S1024x2048 .bf16) (y : S1024x1024.Idx) :
    out2_2 x w y = ∑ n : Fin 2048, (x (ix2 (y 0) n) * w (ix2 (y 1) n) : EReal) := by
  frame_out
  exact (congrArg _ (ix2_eta y).symm).trans (dmid_pay ..)

theorem idx2 : ∀ t : Fin cfg2.N, win2_0.index t = ![t.val / 2, 0] ∧ win2_1.index t = ![t.val % 2, 0]
    ∧ win2_2.index t = ![t.val / 2, t.val % 2] :=
  (by decide +kernel : ∀ t : Fin grid2.N, win2_0.index t = ![t.val / 2, 0] ∧ win2_1.index t = ![t.val % 2, 0]
    ∧ win2_2.index t = ![t.val / 2, t.val % 2])

/-- The cotangent of what the output's weights multiply. -/
theorem dmid_array : (dat2 V c).arrAt 2 cfg2.N = mulT (V c main_arg4) (V c main_arg3) := by
  refine (dat2 V c).arrAt_eq_of_covers 2 _ (by decide +kernel) fun t hf y => ?_
  blk_simp
  rw [after2_2]
  refine (dmid_out _ _ y).trans (Finset.sum_congr (M := EReal) rfl fun n _ => congrArg₂ (· * ·) ?_ ?_)
  · blk_ext [iblk2, idx2 t]
  · blk_ext [iblk2, idx2 t]

theorem dwOut_pay (x d : Vec Ideal S4096x1024 .bf16) (r l : Fin 1024) :
    k3_pay1 (F := Ideal) x d (ix2 r l) = ∑ n : Fin 4096, (x (ix2 n r) * d (ix2 n l) : EReal) := by
  pointwise [k3_pay1]

theorem dwOut_out (x d : Vec Ideal S4096x1024 .bf16) (y : S1024x1024.Idx) :
    out3_2 x d y = ∑ n : Fin 4096, (x (ix2 n (y 0)) * d (ix2 n (y 1)) : EReal) := by
  frame_out
  exact (congrArg _ (ix2_eta y).symm).trans (dwOut_pay ..)

theorem idx3 : ∀ t : Fin cfg3.N, win3_0.index t = ![0, t.val / 2] ∧ win3_1.index t = ![0, t.val % 2]
    ∧ win3_2.index t = ![t.val / 2, t.val % 2] :=
  (by decide +kernel : ∀ t : Fin grid3.N, win3_0.index t = ![0, t.val / 2] ∧ win3_1.index t = ![0, t.val % 2]
    ∧ win3_2.index t = ![t.val / 2, t.val % 2])

/-- The gradient of the output's weights. -/
theorem dwOut_array : (dat3 V c).arrAt 2 cfg3.N = tMul (V c main_arg2) (V c main_arg4) := by
  refine (dat3 V c).arrAt_eq_of_covers 2 _ (by decide +kernel) fun t hf y => ?_
  blk_simp
  rw [after3_2]
  refine (dwOut_out _ _ y).trans (Finset.sum_congr (M := EReal) rfl fun n _ => congrArg₂ (· * ·) ?_ ?_)
  · blk_ext [iblk3, idx3 t]
  · blk_ext [iblk3, idx3 t]

end Cert.Mix
-- ==== Proof.MixerProducts.Run.lean ====
/-
  The whole run of the six products around a mixer: what each result array holds at the end, over the arguments.
-/
module

public import proofs.«01_k».proof.Proof.MixerProducts.Products

@[expose] public section

set_option maxRecDepth 16384

noncomputable section

namespace Cert.Mix

open Cert.Attention (Mat mul mulT tMul joint jointW jointX)
open Cert.MixerProductsIdeal Cert.MixerProductsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- Every array of a device ends as the last call's exit leaves it. -/
theorem run_exit : θ_run defs (onTc (τ := τ) (main (F := Ideal))) ⟨m, fun _ => 0, ρ⟩ (fun r => ∀ c : Dev nD,
    ∀ b ∈ Pipeline.ucRefs τ sig, r.2.mem ((c : Thread nD τ).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

variable (c : Dev nD)

/-- The mixer's input on device `c`. -/
abbrev argH : Mat 4096 2048 := m ((c : Thread nD τ).loc main_arg0)
/-- The projection's weights. -/
abbrev argWin : Cert.Attention.Blocks := m ((c : Thread nD τ).loc main_arg1)
/-- What the output's weights multiply. -/
abbrev argMid : Mat 4096 2048 := m ((c : Thread nD τ).loc main_arg2)
/-- The output's weights. -/
abbrev argWout : Mat 2048 2048 := m ((c : Thread nD τ).loc main_arg3)
/-- The output's cotangent. -/
abbrev argDy : Mat 4096 2048 := m ((c : Thread nD τ).loc main_arg4)
/-- The projected rows' cotangent. -/
abbrev argDpre : Mat 4096 4096 := m ((c : Thread nD τ).loc main_arg5)

/-! ### The results at the end: each is written by its call, from arguments, and stays -/

theorem end_pre : W6 m ρ c (Proc.devRef .tc main_v0) = joint (argH m c) (argWin m c) := by
  refine (W6_of m ρ c main_v0 (by decide)).trans ((W5_of m ρ c main_v0 (by decide)).trans ((W4_of m ρ c main_v0 (by decide)).trans ((W3_of m ρ c main_v0 (by decide)).trans ((W2_of m ρ c main_v0 (by decide)).trans ((W1_arr m ρ c 2).trans ((pre_array (V0 m ρ) c).trans ?_))))))
  rfl
theorem end_y : W6 m ρ c (Proc.devRef .tc main_v1) = mul (argMid m c) (argWout m c) := by
  refine (W6_of m ρ c main_v1 (by decide)).trans ((W5_of m ρ c main_v1 (by decide)).trans ((W4_of m ρ c main_v1 (by decide)).trans ((W3_of m ρ c main_v1 (by decide)).trans ((W2_arr m ρ c 2).trans ((y_array (V1 m ρ) c).trans ?_)))))
  rw [show V1 m ρ c main_arg2 = argMid m c from W1_args m ρ c main_arg2 (by decide),
    show V1 m ρ c main_arg3 = argWout m c from W1_args m ρ c main_arg3 (by decide)]
theorem end_dmid : W6 m ρ c (Proc.devRef .tc main_v2) = mulT (argDy m c) (argWout m c) := by
  refine (W6_of m ρ c main_v2 (by decide)).trans ((W5_of m ρ c main_v2 (by decide)).trans ((W4_of m ρ c main_v2 (by decide)).trans ((W3_arr m ρ c 2).trans ((dmid_array (V2 m ρ) c).trans ?_))))
  rw [show V2 m ρ c main_arg4 = argDy m c from W2_args m ρ c main_arg4 (by decide),
    show V2 m ρ c main_arg3 = argWout m c from W2_args m ρ c main_arg3 (by decide)]
theorem end_dwOut : W6 m ρ c (Proc.devRef .tc main_v3) = tMul (argMid m c) (argDy m c) := by
  refine (W6_of m ρ c main_v3 (by decide)).trans ((W5_of m ρ c main_v3 (by decide)).trans ((W4_arr m ρ c 2).trans ((dwOut_array (V3 m ρ) c).trans ?_)))
  rw [show V3 m ρ c main_arg2 = argMid m c from W3_args m ρ c main_arg2 (by decide),
    show V3 m ρ c main_arg4 = argDy m c from W3_args m ρ c main_arg4 (by decide)]
theorem end_dh : W6 m ρ c (Proc.devRef .tc main_v4) = jointX (argDpre m c) (argWin m c) := by
  refine (W6_of m ρ c main_v4 (by decide)).trans ((W5_arr m ρ c 2).trans ((dh_array (V4 m ρ) c).trans ?_))
  rw [show V4 m ρ c main_arg5 = argDpre m c from W4_args m ρ c main_arg5 (by decide),
    show V4 m ρ c main_arg1 = argWin m c from W4_args m ρ c main_arg1 (by decide)]
theorem end_dwIn : W6 m ρ c (Proc.devRef .tc main_v5) = jointW (argH m c) (argDpre m c) := by
  refine (W6_arr m ρ c 2).trans ((dwIn_array (V5 m ρ) c).trans ?_)
  rw [show V5 m ρ c main_arg0 = argH m c from W5_args m ρ c main_arg0 (by decide),
    show V5 m ρ c main_arg5 = argDpre m c from W5_args m ρ c main_arg5 (by decide)]

end Cert.Mix
-- ==== Proof.MixerProducts.Claims.lean ====
/-
  The claims about the products around a mixer: the reference's frame, and the equality of the two programs' six results,
  for any arguments.
-/
module

public import proofs.«01_k».proof.Defs
public import proofs.«01_k».proof.Proof.MixerProducts.Ref
public import proofs.«01_k».proof.Proof.MixerProducts.Run

@[expose] public section

set_option maxRecDepth 16384

noncomputable section

namespace Cert.Mix

open Cert.Attention (mul mulT tMul joint jointW jointX)
open Idealize.ShloMosaic Idealize.ShloMosaic.TcCoe Idealize.SL.Sem

/-- The reference leaves its arguments and has no semaphore. -/
theorem ref_frame : Cert.quiescent_MixerProductsReferenceIdeal := fun m ρ _ =>
  (θ_run Cert.MixerProductsReferenceIdeal.defs _ _).mono
    (fun r h => ⟨fun c => (h c).2.2.2.2.2.2, sem_eq_zero_of_no_sems (by decide) r.2⟩) (Cert.MixerProductsReferenceIdeal.Value.run m ρ)

section Kernel
open Cert.MixerProductsIdeal Cert.MixerProductsIdeal.Gen
variable (m : (ℓ : Loc nD τ sig) → Buf (Elt Ideal) ℓ) (ρ : Dev nD → PrngReg)

/-- The six products' run: each result over the arguments, which stay as they were. -/
theorem kernel_run : θ_run defs (onTc (τ := τ) (main (F := Ideal))) ⟨m, fun _ => 0, ρ⟩ (fun r => ∀ c : Dev nD,
    r.2.mem ((c : Thread nD τ).loc main_v0) = joint (argH m c) (argWin m c)
    ∧ r.2.mem ((c : Thread nD τ).loc main_v1) = mul (argMid m c) (argWout m c)
    ∧ r.2.mem ((c : Thread nD τ).loc main_v2) = mulT (argDy m c) (argWout m c)
    ∧ r.2.mem ((c : Thread nD τ).loc main_v3) = tMul (argMid m c) (argDy m c)
    ∧ r.2.mem ((c : Thread nD τ).loc main_v4) = jointX (argDpre m c) (argWin m c)
    ∧ r.2.mem ((c : Thread nD τ).loc main_v5) = jointW (argH m c) (argDpre m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) :=
  (θ_run defs _ _).mono (fun r h c => ⟨(h c _ (mem_uc main_v0 (by decide))).trans (end_pre m ρ c),
    (h c _ (mem_uc main_v1 (by decide))).trans (end_y m ρ c),
    (h c _ (mem_uc main_v2 (by decide))).trans (end_dmid m ρ c),
    (h c _ (mem_uc main_v3 (by decide))).trans (end_dwOut m ρ c),
    (h c _ (mem_uc main_v4 (by decide))).trans (end_dh m ρ c),
    (h c _ (mem_uc main_v5 (by decide))).trans (end_dwIn m ρ c),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c)⟩) (run_exit m ρ)
end Kernel

theorem algebraic : Cert.algebraic_MixerProductsIdeal_MixerProductsReferenceIdeal := by
  intro m ρ m' ρ' _ hagree
  refine ⟨_, _, _, _, _, _, kernel_run m ρ, ?_⟩
  refine (θ_run Cert.MixerProductsReferenceIdeal.defs _ _).mono (fun r h c => ?_) (Cert.MixerProductsReferenceIdeal.Value.run m' ρ')
  have e0 : Ref.a0 m' c = argH m c := (hagree c).1
  have e1 : Ref.a1 m' c = argWin m c := (hagree c).2.1
  have e2 : Ref.a2 m' c = argMid m c := (hagree c).2.2.1
  have e3 : Ref.a3 m' c = argWout m c := (hagree c).2.2.2.1
  have e4 : Ref.a4 m' c = argDy m c := (hagree c).2.2.2.2.1
  have e5 : Ref.a5 m' c = argDpre m c := (hagree c).2.2.2.2.2
  obtain ⟨r0, r1, r2, r3, r4, r5, rest⟩ := h c
  exact ⟨r0.trans ((Ref.pr_eq (Ref.a0 m' c) (Ref.a1 m' c)).trans (congrArg₂ joint e0 e1)),
    r1.trans ((Ref.y_eq (Ref.a2 m' c) (Ref.a3 m' c)).trans (congrArg₂ mul e2 e3)),
    r2.trans ((Ref.dmid_eq (Ref.a4 m' c) (Ref.a3 m' c)).trans (congrArg₂ mulT e4 e3)),
    r3.trans ((Ref.dwOut_eq (Ref.a2 m' c) (Ref.a4 m' c)).trans (congrArg₂ tMul e2 e4)),
    r4.trans ((Ref.dhr_eq (Ref.a1 m' c) (Ref.a5 m' c)).trans (congrArg₂ jointX e5 e1)),
    r5.trans ((Ref.dwIr_eq (Ref.a0 m' c) (Ref.a5 m' c)).trans (congrArg₂ jointW e0 e5)), rest⟩

end Cert.Mix
-- ==== Proof.Update.Dense.lean ====
/-
  The optimiser's step on whole arrays: the sum of the eight parts of a gradient, and what one step of AdamW makes of a
  weight and its two moments. Each constant is the number that both programs write, as its bits.
-/
module

public import Idealize.ShloMosaic.Lib.Pointwise
public import Idealize.ShloMosaic.Lib.Pipeline.ValueKit
public import Idealize.ShloMosaic.Lib.Pipeline.ReadBack

@[expose] public section

set_option maxRecDepth 16384

noncomputable section

namespace Cert.Adam

open Idealize.ShloMosaic Idealize.ShloMosaic.TcCoe

/-- An array of `l` slices of `r` rows and `k` columns. -/
abbrev Arr (l r k : ℕ) : Type := (⟨3, ![l, r, k]⟩ : Shape).Idx → EReal

/-- A constant by its bits. -/
abbrev num (b : BitVec 32) : EReal := Ideal.ofBits .f32 b

/-- The first moment after a step. -/
def nextM (m g : EReal) : EReal := num 0x3F666666#32 * m + num 0x3DCCCCCD#32 * g
/-- The second moment after a step. -/
def nextV (v g : EReal) : EReal := num 0x3F7FBE77#32 * v + num 0x3A83126F#32 * (g * g)
/-- What a step adds to a weight. -/
def change (w g m v : EReal) : EReal :=
  num 0xBA83126F#32 * (Ideal.div (Ideal.div (nextM m g) (num 0x3F26BD02#32))
    (Ideal.sqrt (Ideal.div (nextV v g) (num 0x3C231ACC#32)) + num 0x322BCC77#32) + num 0x3C23D70A#32 * w)

theorem change_congr {w w' g g' m m' v v' : EReal} (hw : w = w') (hg : g = g') (hm : m = m') (hv : v = v') :
    change w g m v = change w' g' m' v' := by rw [hw, hg, hm, hv]

section
variable {r k : ℕ}

/-- The sum of a gradient's eight parts. -/
def summed (x : Arr 8 r k) : Arr 1 r k := fun i => ∑ s : Fin 8, x (ix3 s (i 1) (i 2))
/-- The first moments after a step. -/
def newM (m g : Arr 1 r k) : Arr 1 r k := fun i => nextM (m i) (g i)
/-- The second moments after a step. -/
def newV (v g : Arr 1 r k) : Arr 1 r k := fun i => nextV (v i) (g i)
/-- What a step adds to the weights. -/
def delta (w g m v : Arr 1 r k) : Arr 1 r k := fun i => change (w i) (g i) (m i) (v i)

theorem delta_of {w w' g g' m m' v v' : Arr 1 r k} (hw : w = w') (hg : g = g') (hm : m = m') (hv : v = v') :
    delta w g m v = delta w' g' m' v' := by rw [hw, hg, hm, hv]

/-- A step at an element, for a tile and for the array that it is cut from: where they hold the same, so do their results. -/
theorem step_at {r' k' : ℕ} {p : Arr 8 r k} {P : Arr 8 r' k'} {w m v : Arr 1 r k} {W M N : Arr 1 r' k'}
    {y : (⟨3, ![1, r, k]⟩ : Shape).Idx} {i : (⟨3, ![1, r', k']⟩ : Shape).Idx}
    (hp : ∀ s, p (ix3 s (y 1) (y 2)) = P (ix3 s (i 1) (i 2))) (hw : w y = W i) (hm : m y = M i) (hv : v y = N i) :
    summed p y = summed P i ∧ delta w (summed p) m v y = delta W (summed P) M N i
      ∧ newM m (summed p) y = newM M (summed P) i ∧ newV v (summed p) y = newV N (summed P) i := by
  have hg : summed p y = summed P i := Finset.sum_congr (M := EReal) rfl fun s _ => hp s
  exact ⟨hg, change_congr hw hg hm hv, congrArg₂ nextM hm hg, congrArg₂ nextV hv hg⟩
end

end Cert.Adam
-- ==== Proof.Update.Ref.lean ====
/-
  The optimiser's reference: each of its results is the same function of the arguments as the kernel's. The gradient is the
  received parts' sum, and everything else is made of it element by element.
-/
module

public import proofs.«01_k».proof.Proof.Update.Dense
public import proofs.«01_k».proof.Proof.Gen.UpdateOneReferenceIdeal.Run

@[expose] public section

set_option maxRecDepth 16384

noncomputable section

namespace Cert.Adam.Ref

open Cert.UpdateOneReferenceIdeal Cert.UpdateOneReferenceIdeal.Value Cert.UpdateOneReferenceIdeal.Gen
open Idealize.ShloMosaic Idealize.ShloMosaic.TcCoe Idealize.SL.Sem

/-! ### A step on arrays of any one shape -/

section Step
variable {r k : ℕ} (b : S_.BroadcastsInDim (⟨3, ![1, r, k]⟩ : Shape) (![] : Fin 0 → Fin 3)) (w g m v : FVec Ideal (⟨3, ![1, r, k]⟩ : Shape) .f32)

/-- A constant everywhere. -/
def every (x : BitVec 32) : FVec Ideal (⟨3, ![1, r, k]⟩ : Shape) .f32 := broadcastInDim _ ![] b (constant S_ .f32 x)
/-- The first moments after a step. -/
def firsts : FVec Ideal (⟨3, ![1, r, k]⟩ : Shape) .f32 := addf (mulf (every b 0x3F666666#32) m) (mulf (every b 0x3DCCCCCD#32) g)
/-- The second moments after a step. -/
def seconds : FVec Ideal (⟨3, ![1, r, k]⟩ : Shape) .f32 := addf (mulf (every b 0x3F7FBE77#32) v) (mulf (every b 0x3A83126F#32) (mulf g g))
/-- What a step adds to the weights. -/
def changes : FVec Ideal (⟨3, ![1, r, k]⟩ : Shape) .f32 :=
  mulf (every b 0xBA83126F#32) (addf (Host.divf (Host.divf (firsts b g m) (every b 0x3F26BD02#32))
    (addf (Host.sqrt (Host.divf (seconds b g v) (every b 0x3C231ACC#32))) (every b 0x322BCC77#32))) (mulf (every b 0x3C23D70A#32) w))

theorem firsts_eq : firsts b g m = newM m g := funext fun i => by
  unfold newM nextM
  pointwise [firsts, every]
theorem seconds_eq : seconds b g v = newV v g := funext fun i => by
  unfold newV nextV
  pointwise [seconds, every]
theorem changes_eq : changes b w g m v = delta w g m v := funext fun i => by
  unfold delta change nextM nextV
  pointwise [changes, firsts, seconds, every]
end Step

/-! ### The gradients -/

/-- The gradient of an input projection's weights. -/
def gradIn (p : FVec Ideal S8x2048x512 .bf16) : FVec Ideal S1x2048x512 .f32 :=
  broadcastInDim S1x2048x512 ![1, 2] bcast_S2048x512_S1x2048x512_1_2
    (Host.reduceAdd (extf .f32 p bitsLt_bf16_f32) (constant S_ .f32 0x00000000#32) reducesTo_S8x2048x512_S2048x512_d0 h_S_)
/-- The gradient of an output projection's weights. -/
def gradOut (p : FVec Ideal S8x256x2048 .bf16) : FVec Ideal S1x256x2048 .f32 :=
  broadcastInDim S1x256x2048 ![1, 2] bcast_S256x2048_S1x256x2048_1_2
    (Host.reduceAdd (extf .f32 p bitsLt_bf16_f32) (constant S_ .f32 0x00000000#32) reducesTo_S8x256x2048_S256x2048_d0 h_S_)

theorem gradIn_eq (p : FVec Ideal S8x2048x512 .bf16) : gradIn p = summed p := funext fun i => by
  obtain ⟨z, a, b, rfl⟩ : ∃ z a b, i = ix3 z a b := ⟨_, _, _, eq_ix3 i⟩
  pointwise [gradIn]
  rfl
theorem gradOut_eq (p : FVec Ideal S8x256x2048 .bf16) : gradOut p = summed p := funext fun i => by
  obtain ⟨z, a, b, rfl⟩ : ∃ z a b, i = ix3 z a b := ⟨_, _, _, eq_ix3 i⟩
  pointwise [gradOut]
  rfl

/-! ## The arguments -/

variable (m : (ℓ : Loc nD τ sig) → Buf (Elt Ideal) ℓ) (c : Dev nD)
/-- What the devices sent of the input projection's gradient. -/
abbrev a0 : FVec Ideal S8x2048x512 .bf16 := m ((c.tc : Thread nD τ).loc main_arg0)
/-- The input projection's weights. -/
abbrev a1 : FVec Ideal S1x2048x512 .f32 := m ((c.tc : Thread nD τ).loc main_arg1)
/-- Their first moments. -/
abbrev a2 : FVec Ideal S1x2048x512 .f32 := m ((c.tc : Thread nD τ).loc main_arg2)
/-- Their second moments. -/
abbrev a3 : FVec Ideal S1x2048x512 .f32 := m ((c.tc : Thread nD τ).loc main_arg3)
/-- What the devices sent of the output projection's gradient. -/
abbrev a4 : FVec Ideal S8x256x2048 .bf16 := m ((c.tc : Thread nD τ).loc main_arg4)
/-- The output projection's weights. -/
abbrev a5 : FVec Ideal S1x256x2048 .f32 := m ((c.tc : Thread nD τ).loc main_arg5)
/-- Their first moments. -/
abbrev a6 : FVec Ideal S1x256x2048 .f32 := m ((c.tc : Thread nD τ).loc main_arg6)
/-- Their second moments. -/
abbrev a7 : FVec Ideal S1x256x2048 .f32 := m ((c.tc : Thread nD τ).loc main_arg7)

end Cert.Adam.Ref
-- ==== Proof.Update.Blocks.lean ====
/-
  What the two optimiser calls leave in their result arrays. Each tile's gradient is the sum of the eight parts read, and the
  weight's change and the moments are made of it element by element.
-/
module

public import proofs.«01_k».proof.Proof.Gen.UpdateOneIdeal.Frame
public import proofs.«01_k».proof.Proof.Update.Dense

@[expose] public section

set_option maxRecDepth 16384

noncomputable section

namespace Cert.Adam

open Cert.UpdateOneIdeal Cert.UpdateOneIdeal.Gen Idealize.ShloMosaic Idealize.ShloMosaic.TcCoe Idealize.SL.Sem

/-! ### The eight parts, as they are loaded -/

section
variable {r k : ℕ} (x : Vec Ideal (⟨3, ![8, r, k]⟩ : Shape) .bf16) (a : Fin r) (b : Fin k)

/-- One part, of what is loaded. -/
abbrev part (o : ℕ) (i : ∀ d : Fin 3, ![o, 0, 0] d + ![1, r, k] d ≤ ![8, r, k] d) : Vec Ideal (⟨3, ![1, r, k]⟩ : Shape) .bf16 :=
  View.ld x (Rect.unit ![o, 0, 0] ![1, r, k] i)

theorem part_at (s : Fin 8) (o : ℕ) (i) (ho : o = s.val) : part x o i (ix3 0 a b) = x (ix3 s a b) := by
  subst ho
  exact View.ld_unit_apply_of x _ _ i _ (ix3 s a b) fun d => by fin_cases d <;> simp

/-- The loaded parts' sum. -/
theorem parts_sum (i0 i1 i2 i3 i4 i5 i6 i7) :
    (part x 0 i0 (ix3 0 a b) + part x 1 i1 (ix3 0 a b) + part x 2 i2 (ix3 0 a b) + part x 3 i3 (ix3 0 a b) + part x 4 i4 (ix3 0 a b)
      + part x 5 i5 (ix3 0 a b) + part x 6 i6 (ix3 0 a b) + part x 7 i7 (ix3 0 a b) : EReal) = ∑ s : Fin 8, x (ix3 s a b) := by
  rw [Fin.sum_univ_eight, part_at x a b 0 0 i0 rfl, part_at x a b 1 1 i1 rfl, part_at x a b 2 2 i2 rfl, part_at x a b 3 3 i3 rfl,
    part_at x a b 4 4 i4 rfl, part_at x a b 5 5 i5 rfl, part_at x a b 6 6 i6 rfl, part_at x a b 7 7 i7 rfl]
end

variable (V : (c : Dev nD) → (b : Ref sig .tc) → Buf (Elt Ideal) ((c : Thread nD τ).loc b)) (c : Dev nD)

/-! ### The input projection's weights: four tiles of 512 rows -/

section
variable (p0 p1 p2 p3 p4 p5 p6 p7 : Vec Ideal S1x512x512 .bf16) (g : FVec Ideal S512x512 .f32) (w m v : Vec Ideal S1x512x512 .f32)
  (a b : Fin 512)

theorem sum0 : k0_pay3 (F := Ideal) p0 p1 p2 p3 p4 p5 p6 p7 (ix2 a b) = (p0 (ix3 0 a b) + p1 (ix3 0 a b) + p2 (ix3 0 a b) + p3 (ix3 0 a b)
    + p4 (ix3 0 a b) + p5 (ix3 0 a b) + p6 (ix3 0 a b) + p7 (ix3 0 a b) : EReal) := by
  pointwise [k0_pay3]
/-- The four stored tiles at an element, over the gradient's. -/
theorem stored0 : k0_pay7 (F := Ideal) g (ix3 0 a b) = g (ix2 a b)
    ∧ k0_pay8 (F := Ideal) g (k0_pay4 m) v w (ix3 0 a b) = change (w (ix3 0 a b)) (g (ix2 a b)) (m (ix3 0 a b)) (v (ix3 0 a b))
    ∧ k0_pay1 (F := Ideal) (k0_pay5 g (k0_pay4 m)) (ix3 0 a b) = nextM (m (ix3 0 a b)) (g (ix2 a b))
    ∧ k0_pay2 (F := Ideal) (k0_pay6 g v) (ix3 0 a b) = nextV (v (ix3 0 a b)) (g (ix2 a b)) := by
  unfold change nextM nextV
  refine ⟨?_, ?_, ?_, ?_⟩
  · pointwise [k0_pay7]
  · pointwise [k0_pay8, k0_pay5, k0_pay6, k0_pay4]
  · pointwise [k0_pay1, k0_pay5, k0_pay4]
  · pointwise [k0_pay2, k0_pay6]
end

/-- A tile's four results: a step on the tiles read. -/
theorem outs0 (t : Fin cfg0.N) (y : S1x512x512.Idx) :
    (outsAt0 V c t).1 y = summed (iblk0 V c 0 t) y
    ∧ (outsAt0 V c t).2.1 y = delta (iblk0 V c 1 t) (summed (iblk0 V c 0 t)) (iblk0 V c 2 t) (iblk0 V c 3 t) y
    ∧ (outsAt0 V c t).2.2.1 y = newM (iblk0 V c 2 t) (summed (iblk0 V c 0 t)) y
    ∧ (outsAt0 V c t).2.2.2 y = newV (iblk0 V c 3 t) (summed (iblk0 V c 0 t)) y := by
  obtain ⟨z, a, b, rfl⟩ : ∃ z a b, y = ix3 z a b := ⟨_, _, _, eq_ix3 y⟩
  obtain rfl := Subsingleton.elim z 0
  have hg := fun i0 i1 i2 i3 i4 i5 i6 i7 => (sum0 _ _ _ _ _ _ _ _ a b).trans (parts_sum (iblk0 V c 0 t) a b i0 i1 i2 i3 i4 i5 i6 i7)
  have h := fun g => stored0 g (iblk0 V c 1 t) (iblk0 V c 2 t) (iblk0 V c 3 t) a b
  unfold outsAt0
  refine ⟨?_, ?_, ?_, ?_⟩ <;> dsimp only <;> frame_open <;> frame_out
  · exact (h _).1.trans (hg ..)
  · exact (h _).2.1.trans (change_congr rfl (hg ..) rfl rfl)
  · exact (h _).2.2.1.trans (congrArg (nextM _) (hg ..))
  · exact (h _).2.2.2.trans (congrArg (nextV _) (hg ..))

theorem idx0 : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0])

/-- A tile's four results at their places in the arrays. -/
theorem placed0 (t : Fin cfg0.N) (y : S1x512x512.Idx) (i : (⟨3, ![1, 2048, 512]⟩ : Shape).Idx)
    (h1 : (i 1).val = t.val * 512 + (y 1).val) (h2 : (i 2).val = (y 2).val) :
    (outsAt0 V c t).1 y = summed (V c main_arg0) i
    ∧ (outsAt0 V c t).2.1 y = delta (V c main_arg1) (summed (V c main_arg0)) (V c main_arg2) (V c main_arg3) i
    ∧ (outsAt0 V c t).2.2.1 y = newM (V c main_arg2) (summed (V c main_arg0)) i
    ∧ (outsAt0 V c t).2.2.2 y = newV (V c main_arg3) (summed (V c main_arg0)) i := by
  have h0 : (i 0).val = (y 0).val := (Nat.lt_one_iff.mp (i 0).isLt).trans (Nat.lt_one_iff.mp (y 0).isLt).symm
  rw [(outs0 V c t y).1, (outs0 V c t y).2.1, (outs0 V c t y).2.2.1, (outs0 V c t y).2.2.2]
  refine step_at (fun s => ?_) ?_ ?_ ?_ <;> blk_ext [iblk0, idx0 t]

theorem grad0_array : (dat0 V c).arrAt 4 cfg0.N = summed (V c main_arg0) := by
  refine (dat0 V c).arrAt_eq_of_covers 4 _ (by decide +kernel) fun t hf y => ?_
  blk_simp
  rw [after0_4]
  refine (placed0 V c t y _ ?_ ?_).1 <;> blk_simp [idx0 t]
theorem delta0_array : (dat0 V c).arrAt 5 cfg0.N = delta (V c main_arg1) (summed (V c main_arg0)) (V c main_arg2) (V c main_arg3) := by
  refine (dat0 V c).arrAt_eq_of_covers 5 _ (by decide +kernel) fun t hf y => ?_
  blk_simp
  rw [after0_5]
  refine (placed0 V c t y _ ?_ ?_).2.1 <;> blk_simp [idx0 t]
theorem newM0_array : (dat0 V c).arrAt 6 cfg0.N = newM (V c main_arg2) (summed (V c main_arg0)) := by
  refine (dat0 V c).arrAt_eq_of_covers 6 _ (by decide +kernel) fun t hf y => ?_
  blk_simp
  rw [after0_6]
  refine (placed0 V c t y _ ?_ ?_).2.2.1 <;> blk_simp [idx0 t]
theorem newV0_array : (dat0 V c).arrAt 7 cfg0.N = newV (V c main_arg3) (summed (V c main_arg0)) := by
  refine (dat0 V c).arrAt_eq_of_covers 7 _ (by decide +kernel) fun t hf y => ?_
  blk_simp
  rw [after0_7]
  refine (placed0 V c t y _ ?_ ?_).2.2.2 <;> blk_simp [idx0 t]

/-! ### The output projection's weights: two tiles of 128 rows -/

section
variable (p0 p1 p2 p3 p4 p5 p6 p7 : Vec Ideal S1x128x2048 .bf16) (g : FVec Ideal S128x2048 .f32) (w m v : Vec Ideal S1x128x2048 .f32)
  (a : Fin 128) (b : Fin 2048)

theorem sum1 : k1_pay3 (F := Ideal) p0 p1 p2 p3 p4 p5 p6 p7 (ix2 a b) = (p0 (ix3 0 a b) + p1 (ix3 0 a b) + p2 (ix3 0 a b) + p3 (ix3 0 a b)
    + p4 (ix3 0 a b) + p5 (ix3 0 a b) + p6 (ix3 0 a b) + p7 (ix3 0 a b) : EReal) := by
  pointwise [k1_pay3]
/-- The four stored tiles at an element, over the gradient's. -/
theorem stored1 : k1_pay7 (F := Ideal) g (ix3 0 a b) = g (ix2 a b)
    ∧ k1_pay8 (F := Ideal) g (k1_pay4 m) v w (ix3 0 a b) = change (w (ix3 0 a b)) (g (ix2 a b)) (m (ix3 0 a b)) (v (ix3 0 a b))
    ∧ k1_pay1 (F := Ideal) (k1_pay5 g (k1_pay4 m)) (ix3 0 a b) = nextM (m (ix3 0 a b)) (g (ix2 a b))
    ∧ k1_pay2 (F := Ideal) (k1_pay6 g v) (ix3 0 a b) = nextV (v (ix3 0 a b)) (g (ix2 a b)) := by
  unfold change nextM nextV
  refine ⟨?_, ?_, ?_, ?_⟩
  · pointwise [k1_pay7]
  · pointwise [k1_pay8, k1_pay5, k1_pay6, k1_pay4]
  · pointwise [k1_pay1, k1_pay5, k1_pay4]
  · pointwise [k1_pay2, k1_pay6]
end

/-- A tile's four results: a step on the tiles read. -/
theorem outs1 (t : Fin cfg1.N) (y : S1x128x2048.Idx) :
    (outsAt1 V c t).1 y = summed (iblk1 V c 0 t) y
    ∧ (outsAt1 V c t).2.1 y = delta (iblk1 V c 1 t) (summed (iblk1 V c 0 t)) (iblk1 V c 2 t) (iblk1 V c 3 t) y
    ∧ (outsAt1 V c t).2.2.1 y = newM (iblk1 V c 2 t) (summed (iblk1 V c 0 t)) y
    ∧ (outsAt1 V c t).2.2.2 y = newV (iblk1 V c 3 t) (summed (iblk1 V c 0 t)) y := by
  obtain ⟨z, a, b, rfl⟩ : ∃ z a b, y = ix3 z a b := ⟨_, _, _, eq_ix3 y⟩
  obtain rfl := Subsingleton.elim z 0
  have hg := fun i0 i1 i2 i3 i4 i5 i6 i7 => (sum1 _ _ _ _ _ _ _ _ a b).trans (parts_sum (iblk1 V c 0 t) a b i0 i1 i2 i3 i4 i5 i6 i7)
  have h := fun g => stored1 g (iblk1 V c 1 t) (iblk1 V c 2 t) (iblk1 V c 3 t) a b
  unfold outsAt1
  refine ⟨?_, ?_, ?_, ?_⟩ <;> dsimp only <;> frame_open <;> frame_out
  · exact (h _).1.trans (hg ..)
  · exact (h _).2.1.trans (change_congr rfl (hg ..) rfl rfl)
  · exact (h _).2.2.1.trans (congrArg (nextM _) (hg ..))
  · exact (h _).2.2.2.trans (congrArg (nextV _) (hg ..))

theorem idx1 : ∀ t : Fin cfg1.N, win1_0.index t = ![0, t.val, 0] ∧ win1_1.index t = ![0, t.val, 0] ∧ win1_2.index t = ![0, t.val, 0]
    ∧ win1_3.index t = ![0, t.val, 0] ∧ win1_4.index t = ![0, t.val, 0] ∧ win1_5.index t = ![0, t.val, 0]
    ∧ win1_6.index t = ![0, t.val, 0] ∧ win1_7.index t = ![0, t.val, 0] :=
  (by decide +kernel : ∀ t : Fin grid1.N, win1_0.index t = ![0, t.val, 0] ∧ win1_1.index t = ![0, t.val, 0] ∧ win1_2.index t = ![0, t.val, 0]
    ∧ win1_3.index t = ![0, t.val, 0] ∧ win1_4.index t = ![0, t.val, 0] ∧ win1_5.index t = ![0, t.val, 0]
    ∧ win1_6.index t = ![0, t.val, 0] ∧ win1_7.index t = ![0, t.val, 0])

/-- A tile's four results at their places in the arrays. -/
theorem placed1 (t : Fin cfg1.N) (y : S1x128x2048.Idx) (i : (⟨3, ![1, 256, 2048]⟩ : Shape).Idx)
    (h1 : (i 1).val = t.val * 128 + (y 1).val) (h2 : (i 2).val = (y 2).val) :
    (outsAt1 V c t).1 y = summed (V c main_arg4) i
    ∧ (outsAt1 V c t).2.1 y = delta (V c main_arg5) (summed (V c main_arg4)) (V c main_arg6) (V c main_arg7) i
    ∧ (outsAt1 V c t).2.2.1 y = newM (V c main_arg6) (summed (V c main_arg4)) i
    ∧ (outsAt1 V c t).2.2.2 y = newV (V c main_arg7) (summed (V c main_arg4)) i := by
  have h0 : (i 0).val = (y 0).val := (Nat.lt_one_iff.mp (i 0).isLt).trans (Nat.lt_one_iff.mp (y 0).isLt).symm
  rw [(outs1 V c t y).1, (outs1 V c t y).2.1, (outs1 V c t y).2.2.1, (outs1 V c t y).2.2.2]
  refine step_at (fun s => ?_) ?_ ?_ ?_ <;> blk_ext [iblk1, idx1 t]

theorem grad1_array : (dat1 V c).arrAt 4 cfg1.N = summed (V c main_arg4) := by
  refine (dat1 V c).arrAt_eq_of_covers 4 _ (by decide +kernel) fun t hf y => ?_
  blk_simp
  rw [after1_4]
  refine (placed1 V c t y _ ?_ ?_).1 <;> blk_simp [idx1 t]
theorem delta1_array : (dat1 V c).arrAt 5 cfg1.N = delta (V c main_arg5) (summed (V c main_arg4)) (V c main_arg6) (V c main_arg7) := by
  refine (dat1 V c).arrAt_eq_of_covers 5 _ (by decide +kernel) fun t hf y => ?_
  blk_simp
  rw [after1_5]
  refine (placed1 V c t y _ ?_ ?_).2.1 <;> blk_simp [idx1 t]
theorem newM1_array : (dat1 V c).arrAt 6 cfg1.N = newM (V c main_arg6) (summed (V c main_arg4)) := by
  refine (dat1 V c).arrAt_eq_of_covers 6 _ (by decide +kernel) fun t hf y => ?_
  blk_simp
  rw [after1_6]
  refine (placed1 V c t y _ ?_ ?_).2.2.1 <;> blk_simp [idx1 t]
theorem newV1_array : (dat1 V c).arrAt 7 cfg1.N = newV (V c main_arg7) (summed (V c main_arg4)) := by
  refine (dat1 V c).arrAt_eq_of_covers 7 _ (by decide +kernel) fun t hf y => ?_
  blk_simp
  rw [after1_7]
  refine (placed1 V c t y _ ?_ ?_).2.2.2 <;> blk_simp [idx1 t]

end Cert.Adam
-- ==== Proof.Update.Run.lean ====
/-
  The whole run of the two optimiser calls: what each result array holds at the end, over the arguments.
-/
module

public import proofs.«01_k».proof.Proof.Update.Blocks

@[expose] public section

set_option maxRecDepth 16384

noncomputable section

namespace Cert.Adam

open Cert.UpdateOneIdeal Cert.UpdateOneIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- Every array of a device ends as the last call's exit leaves it. -/
theorem run_exit : θ_run defs (onTc (τ := τ) (main (F := Ideal))) ⟨m, fun _ => 0, ρ⟩ (fun r => ∀ c : Dev nD,
    ∀ b ∈ Pipeline.ucRefs τ sig, r.2.mem ((c : Thread nD τ).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

variable (c : Dev nD)

/-- What the devices sent of the input projection's gradient. -/
abbrev partsIn : Arr 8 2048 512 := m ((c : Thread nD τ).loc main_arg0)
/-- The input projection's weights. -/
abbrev wIn : Arr 1 2048 512 := m ((c : Thread nD τ).loc main_arg1)
/-- Their first moments. -/
abbrev mIn : Arr 1 2048 512 := m ((c : Thread nD τ).loc main_arg2)
/-- Their second moments. -/
abbrev vIn : Arr 1 2048 512 := m ((c : Thread nD τ).loc main_arg3)
/-- What the devices sent of the output projection's gradient. -/
abbrev partsOut : Arr 8 256 2048 := m ((c : Thread nD τ).loc main_arg4)
/-- The output projection's weights. -/
abbrev wOut : Arr 1 256 2048 := m ((c : Thread nD τ).loc main_arg5)
/-- Their first moments. -/
abbrev mOut : Arr 1 256 2048 := m ((c : Thread nD τ).loc main_arg6)
/-- Their second moments. -/
abbrev vOut : Arr 1 256 2048 := m ((c : Thread nD τ).loc main_arg7)

/-! ### The first call's results, which the second call leaves -/

theorem end_gIn : W2 m ρ c (Proc.devRef .tc main_v0_0) = summed (partsIn m c) :=
  (W2_of m ρ c main_v0_0 (by decide)).trans ((W1_arr m ρ c 4).trans (grad0_array (V0 m ρ) c))
theorem end_dIn : W2 m ρ c (Proc.devRef .tc main_v0_1) = delta (wIn m c) (summed (partsIn m c)) (mIn m c) (vIn m c) :=
  (W2_of m ρ c main_v0_1 (by decide)).trans ((W1_arr m ρ c 5).trans (delta0_array (V0 m ρ) c))
theorem end_mIn : W2 m ρ c (Proc.devRef .tc main_v0_2) = newM (mIn m c) (summed (partsIn m c)) :=
  (W2_of m ρ c main_v0_2 (by decide)).trans ((W1_arr m ρ c 6).trans (newM0_array (V0 m ρ) c))
theorem end_vIn : W2 m ρ c (Proc.devRef .tc main_v0_3) = newV (vIn m c) (summed (partsIn m c)) :=
  (W2_of m ρ c main_v0_3 (by decide)).trans ((W1_arr m ρ c 7).trans (newV0_array (V0 m ρ) c))

/-! ### The second call's results, of arguments that the first call leaves -/

theorem end_gOut : W2 m ρ c (Proc.devRef .tc main_v1_0) = summed (partsOut m c) := by
  refine (W2_arr m ρ c 4).trans ((grad1_array (V1 m ρ) c).trans ?_)
  rw [show V1 m ρ c main_arg4 = partsOut m c from W1_args m ρ c main_arg4 (by decide)]
theorem end_dOut : W2 m ρ c (Proc.devRef .tc main_v1_1) = delta (wOut m c) (summed (partsOut m c)) (mOut m c) (vOut m c) := by
  refine (W2_arr m ρ c 5).trans ((delta1_array (V1 m ρ) c).trans ?_)
  rw [show V1 m ρ c main_arg4 = partsOut m c from W1_args m ρ c main_arg4 (by decide),
    show V1 m ρ c main_arg5 = wOut m c from W1_args m ρ c main_arg5 (by decide),
    show V1 m ρ c main_arg6 = mOut m c from W1_args m ρ c main_arg6 (by decide),
    show V1 m ρ c main_arg7 = vOut m c from W1_args m ρ c main_arg7 (by decide)]
theorem end_mOut : W2 m ρ c (Proc.devRef .tc main_v1_2) = newM (mOut m c) (summed (partsOut m c)) := by
  refine (W2_arr m ρ c 6).trans ((newM1_array (V1 m ρ) c).trans ?_)
  rw [show V1 m ρ c main_arg4 = partsOut m c from W1_args m ρ c main_arg4 (by decide),
    show V1 m ρ c main_arg6 = mOut m c from W1_args m ρ c main_arg6 (by decide)]
theorem end_vOut : W2 m ρ c (Proc.devRef .tc main_v1_3) = newV (vOut m c) (summed (partsOut m c)) := by
  refine (W2_arr m ρ c 7).trans ((newV1_array (V1 m ρ) c).trans ?_)
  rw [show V1 m ρ c main_arg4 = partsOut m c from W1_args m ρ c main_arg4 (by decide),
    show V1 m ρ c main_arg7 = vOut m c from W1_args m ρ c main_arg7 (by decide)]

end Cert.Adam
-- ==== Proof.Update.Claims.lean ====
/-
  The claims about the optimiser's step of a mixer's weights: the reference's frame, and the equality of the two programs' eight
  results, for any arguments.
-/
module

public import proofs.«01_k».proof.Defs
public import proofs.«01_k».proof.Proof.Update.Ref
public import proofs.«01_k».proof.Proof.Update.Run

@[expose] public section

set_option maxRecDepth 16384

noncomputable section

namespace Cert.Adam

open Idealize.ShloMosaic Idealize.ShloMosaic.TcCoe Idealize.SL.Sem

/-- The reference leaves its arguments and has no semaphore. -/
theorem ref_frame : Cert.quiescent_UpdateOneReferenceIdeal := fun m ρ _ =>
  (θ_run Cert.UpdateOneReferenceIdeal.defs _ _).mono
    (fun r h => ⟨fun c => (h c).2.2.2.2.2.2.2.2, sem_eq_zero_of_no_sems (by decide) r.2⟩) (Cert.UpdateOneReferenceIdeal.Value.run m ρ)

section Kernel
open Cert.UpdateOneIdeal Cert.UpdateOneIdeal.Gen
variable (m : (ℓ : Loc nD τ sig) → Buf (Elt Ideal) ℓ) (ρ : Dev nD → PrngReg)

/-- The two calls' run: each result over the arguments, which stay as they were. -/
theorem kernel_run : θ_run defs (onTc (τ := τ) (main (F := Ideal))) ⟨m, fun _ => 0, ρ⟩ (fun r => ∀ c : Dev nD,
    r.2.mem ((c : Thread nD τ).loc main_v0_0) = summed (partsIn m c)
    ∧ r.2.mem ((c : Thread nD τ).loc main_v0_1) = delta (wIn m c) (summed (partsIn m c)) (mIn m c) (vIn m c)
    ∧ r.2.mem ((c : Thread nD τ).loc main_v0_2) = newM (mIn m c) (summed (partsIn m c))
    ∧ r.2.mem ((c : Thread nD τ).loc main_v0_3) = newV (vIn m c) (summed (partsIn m c))
    ∧ r.2.mem ((c : Thread nD τ).loc main_v1_0) = summed (partsOut m c)
    ∧ r.2.mem ((c : Thread nD τ).loc main_v1_1) = delta (wOut m c) (summed (partsOut m c)) (mOut m c) (vOut m c)
    ∧ r.2.mem ((c : Thread nD τ).loc main_v1_2) = newM (mOut m c) (summed (partsOut m c))
    ∧ r.2.mem ((c : Thread nD τ).loc main_v1_3) = newV (vOut m c) (summed (partsOut m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) :=
  (θ_run defs _ _).mono (fun r h c => ⟨(h c _ (mem_uc main_v0_0 (by decide))).trans (end_gIn m ρ c),
    (h c _ (mem_uc main_v0_1 (by decide))).trans (end_dIn m ρ c),
    (h c _ (mem_uc main_v0_2 (by decide))).trans (end_mIn m ρ c),
    (h c _ (mem_uc main_v0_3 (by decide))).trans (end_vIn m ρ c),
    (h c _ (mem_uc main_v1_0 (by decide))).trans (end_gOut m ρ c),
    (h c _ (mem_uc main_v1_1 (by decide))).trans (end_dOut m ρ c),
    (h c _ (mem_uc main_v1_2 (by decide))).trans (end_mOut m ρ c),
    (h c _ (mem_uc main_v1_3 (by decide))).trans (end_vOut m ρ c),
    (h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c),
    (h c _ (mem_uc main_arg3 (by decide))).trans (W2_main_arg3 m ρ c),
    (h c _ (mem_uc main_arg4 (by decide))).trans (W2_main_arg4 m ρ c),
    (h c _ (mem_uc main_arg5 (by decide))).trans (W2_main_arg5 m ρ c),
    (h c _ (mem_uc main_arg6 (by decide))).trans (W2_main_arg6 m ρ c),
    (h c _ (mem_uc main_arg7 (by decide))).trans (W2_main_arg7 m ρ c)⟩) (run_exit m ρ)
end Kernel

theorem algebraic : Cert.algebraic_UpdateOneIdeal_UpdateOneReferenceIdeal := by
  intro m ρ m' ρ' _ hagree
  refine ⟨_, _, _, _, _, _, _, _, kernel_run m ρ, ?_⟩
  refine (θ_run Cert.UpdateOneReferenceIdeal.defs _ _).mono (fun r h c => ?_) (Cert.UpdateOneReferenceIdeal.Value.run m' ρ')
  obtain ⟨e0, e1, e2, e3, e4, e5, e6, e7⟩ := hagree c
  have gi : Ref.gradIn (Ref.a0 m' c) = summed (partsIn m c) := (Ref.gradIn_eq _).trans (congrArg summed e0)
  have go : Ref.gradOut (Ref.a4 m' c) = summed (partsOut m c) := (Ref.gradOut_eq _).trans (congrArg summed e4)
  obtain ⟨r0, r1, r2, r3, r4, r5, r6, r7, rest⟩ := h c
  refine ⟨r0.trans gi, r1.trans ?_, r2.trans ?_, r3.trans ?_, r4.trans go, r5.trans ?_, r6.trans ?_, r7.trans ?_, rest⟩
  · exact (Ref.changes_eq _ (Ref.a1 m' c) (Ref.gradIn (Ref.a0 m' c)) (Ref.a2 m' c) (Ref.a3 m' c)).trans (delta_of e1 gi e2 e3)
  · exact (Ref.firsts_eq _ (Ref.gradIn (Ref.a0 m' c)) (Ref.a2 m' c)).trans (congrArg₂ newM e2 gi)
  · exact (Ref.seconds_eq _ (Ref.gradIn (Ref.a0 m' c)) (Ref.a3 m' c)).trans (congrArg₂ newV e3 gi)
  · exact (Ref.changes_eq _ (Ref.a5 m' c) (Ref.gradOut (Ref.a4 m' c)) (Ref.a6 m' c) (Ref.a7 m' c)).trans (delta_of e5 go e6 e7)
  · exact (Ref.firsts_eq _ (Ref.gradOut (Ref.a4 m' c)) (Ref.a6 m' c)).trans (congrArg₂ newM e6 go)
  · exact (Ref.seconds_eq _ (Ref.gradOut (Ref.a4 m' c)) (Ref.a7 m' c)).trans (congrArg₂ newV e7 go)

end Cert.Adam
-- ==== Proof.lean ====
/- The proof of the certificate's claim, put together from the modules under Proof/. -/
module

public import proofs.«01_k».proof.Defs
public import proofs.«01_k».proof.Proof.FeedForward.Claims
public import proofs.«01_k».proof.Proof.FeedForwardDh.Claims
public import proofs.«01_k».proof.Proof.Attention.Claims
public import proofs.«01_k».proof.Proof.ShortConv.Claims
public import proofs.«01_k».proof.Proof.MixerProducts.Claims
public import proofs.«01_k».proof.Proof.Update.Claims
public import proofs.«01_k».proof.Proof.Gen.FeedForward.Frame
public import proofs.«01_k».proof.Proof.Gen.FeedForwardIdeal.Frame
public import proofs.«01_k».proof.Proof.Gen.FeedForwardDh.Frame
public import proofs.«01_k».proof.Proof.Gen.CrossAttention.Frame
public import proofs.«01_k».proof.Proof.Gen.ShortConv.Frame
public import proofs.«01_k».proof.Proof.Gen.MixerProducts.Frame
public import proofs.«01_k».proof.Proof.Gen.UpdateOne.Frame
public import Idealize.ShloMosaic.Adequacy
public import Idealize.ShloMosaic.Init

@[expose] public section

noncomputable section

namespace Cert.Proof

open Idealize.ShloMosaic Idealize.SL.Sem

theorem claim : Cert.Claim :=
  ⟨Cert.FeedForward.Gen.facts, Cert.FeedForwardIdeal.Gen.facts, Cert.FeedForwardReferenceIdeal.Gen.facts,
    Cert.FeedForwardDh.Gen.facts, Cert.FeedForwardDhIdeal.Gen.facts, Cert.FeedForwardDhReferenceIdeal.Gen.facts,
    Cert.CrossAttention.Gen.facts, Cert.CrossAttentionIdeal.Gen.facts, Cert.CrossAttentionReferenceIdeal.Gen.facts,
    Cert.ShortConv.Gen.facts, Cert.ShortConvIdeal.Gen.facts, Cert.ShortConvReferenceIdeal.Gen.facts,
    Cert.MixerProducts.Gen.facts, Cert.MixerProductsIdeal.Gen.facts, Cert.MixerProductsReferenceIdeal.Gen.facts,
    Cert.UpdateOne.Gen.facts, Cert.UpdateOneIdeal.Gen.facts, Cert.UpdateOneReferenceIdeal.Gen.facts,
    Cert.Ffn.preFacts, Cert.Attention.preFacts,
    fun m ρ _ => Cert.FeedForward.Gen.frame m ρ,
    fun m ρ _ => Cert.FeedForwardIdeal.Gen.frame m ρ,
    fun m ρ _ => Cert.FeedForwardIdeal.Gen.frame m ρ,
    Cert.Ffn.ref_frame,
    fun m ρ _ => Cert.Ffn.ref_frame m ρ trivial,
    fun m ρ _ => Cert.FeedForwardDh.Gen.frame m ρ,
    fun m ρ _ => Cert.FeedForwardDhIdeal.Gen.frame m ρ,
    Cert.FfnDh.ref_frame,
    fun m ρ _ => Cert.CrossAttention.Gen.frame m ρ,
    fun m ρ _ => Cert.CrossAttentionIdeal.Gen.frame m ρ,
    fun m ρ _ => Cert.CrossAttentionIdeal.Gen.frame m ρ,
    Cert.Attention.ref_frame,
    fun m ρ _ => Cert.Attention.ref_frame m ρ trivial,
    fun m ρ _ => Cert.ShortConv.Gen.frame m ρ,
    fun m ρ _ => Cert.ShortConvIdeal.Gen.frame m ρ,
    Cert.Conv.ref_frame,
    fun m ρ _ => Cert.MixerProducts.Gen.frame m ρ,
    fun m ρ _ => Cert.MixerProductsIdeal.Gen.frame m ρ,
    Cert.Mix.ref_frame,
    fun m ρ _ => Cert.UpdateOne.Gen.frame m ρ,
    fun m ρ _ => Cert.UpdateOneIdeal.Gen.frame m ρ,
    Cert.Adam.ref_frame,
    trivial,
    Cert.Ffn.algebraic,
    trivial,
    Cert.FfnDh.algebraic,
    trivial,
    Cert.Attention.algebraic,
    trivial,
    Cert.Conv.algebraic,
    trivial,
    Cert.Mix.algebraic,
    trivial,
    Cert.Adam.algebraic⟩

end Cert.Proof

end
